-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v8) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S6x4096x512 : Shape := ⟨3, ![6, 4096, 512]⟩
abbrev S4096x512 : Shape := ⟨2, ![4096, 512]⟩
abbrev S3x4096x512 : Shape := ⟨3, ![3, 4096, 512]⟩
abbrev S_ : Shape := ⟨0, ![]⟩

class Facts : Prop where
  slices_S6x4096x512_S3x4096x512_3_0_0 : S6x4096x512.Slices ![3, 0, 0] S3x4096x512
  bitsLt_bf16_f32 : FTy.bits .bf16 < FTy.bits .f32
  bcast_S_S3x4096x512 : S_.BroadcastsInDim S3x4096x512 (![] : Fin 0 → Fin S3x4096x512.rank)
  reducesTo_S3x4096x512_S_d0_1_2 : S3x4096x512.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S6x4096x512 .bf16) (main_arg1 : FVec F S4096x512 .f32) : IVec S_ 1 :=
  let main_v0 : FVec F S3x4096x512 .bf16 := (extractStridedSlice S3x4096x512 ![3, 0, 0] · slices_S6x4096x512_S3x4096x512_3_0_0) main_arg0
  let main_v1 : FVec F S3x4096x512 .f32 := (extf .f32 · bitsLt_bf16_f32) main_v0
  let main_v2 : FVec F S3x4096x512 .f32 := Host.absf main_v1
  let main_cst : FVec F S_ .f32 := constant S_ .f32 0x7F800000#32
  let main_v3 : FVec F S3x4096x512 .f32 := broadcastInDim S3x4096x512 ![] bcast_S_S3x4096x512 main_cst
  let main_v4 : IVec S3x4096x512 1 := cmpf .olt main_v2 main_v3
  let main_c : IVec S_ 1 := constantI S_ 1 1#1
  let main_v5 : IVec S_ 1 := (fun x v => Host.reduce IntOp.andi x v reducesTo_S3x4096x512_S_d0_1_2 h_S_) main_v4 main_c
  let main_v6 : FVec F S4096x512 .f32 := Host.absf main_arg1
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v5 main_v9
  main_v10
-- ==== Kernel.lean ====
abbrev S6x4096x512 : Shape := ⟨3, ![6, 4096, 512]⟩
abbrev S4096x512 : Shape := ⟨2, ![4096, 512]⟩
abbrev S1x4096x512 : Shape := ⟨3, ![1, 4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S4x2x4096x1 : Shape := ⟨4, ![4, 2, 4096, 1]⟩
abbrev S4x4096x2x1 : Shape := ⟨4, ![4, 4096, 2, 1]⟩
abbrev S4x4096x2x64 : Shape := ⟨4, ![4, 4096, 2, 64]⟩
abbrev S4x4096x128 : Shape := ⟨3, ![4, 4096, 128]⟩
abbrev S1x512x128 : Shape := ⟨3, ![1, 512, 128]⟩
abbrev S1x4096x128 : Shape := ⟨3, ![1, 4096, 128]⟩
abbrev S512x128 : Shape := ⟨2, ![512, 128]⟩
abbrev S4096x128 : Shape := ⟨2, ![4096, 128]⟩
abbrev S64x64x128 : Shape := ⟨3, ![64, 64, 128]⟩
abbrev S256x128 : Shape := ⟨2, ![256, 128]⟩
abbrev S1x512x64 : Shape := ⟨3, ![1, 512, 64]⟩
abbrev S512x64 : Shape := ⟨2, ![512, 64]⟩
abbrev S64x64 : Shape := ⟨2, ![64, 64]⟩
abbrev S64x512 : Shape := ⟨2, ![64, 512]⟩
abbrev S1x512x1 : Shape := ⟨3, ![1, 512, 1]⟩
abbrev S512x1 : Shape := ⟨2, ![512, 1]⟩
abbrev S128x64 : Shape := ⟨2, ![128, 64]⟩
abbrev S1x128x64 : Shape := ⟨3, ![1, 128, 64]⟩
abbrev S128x128 : Shape := ⟨2, ![128, 128]⟩
abbrev S512x256 : Shape := ⟨2, ![512, 256]⟩
abbrev S1x64x128 : Shape := ⟨3, ![1, 64, 128]⟩
abbrev S64x128 : Shape := ⟨2, ![64, 128]⟩
abbrev S384x128 : Shape := ⟨2, ![384, 128]⟩
abbrev S384x256 : Shape := ⟨2, ![384, 256]⟩
abbrev S384x1 : Shape := ⟨2, ![384, 1]⟩
abbrev S64x384 : Shape := ⟨2, ![64, 384]⟩
abbrev S384x64 : Shape := ⟨2, ![384, 64]⟩
abbrev S128x1 : Shape := ⟨2, ![128, 1]⟩
abbrev S256x256 : Shape := ⟨2, ![256, 256]⟩
abbrev S256x1 : Shape := ⟨2, ![256, 1]⟩
abbrev S64x256 : Shape := ⟨2, ![64, 256]⟩
abbrev S256x64 : Shape := ⟨2, ![256, 64]⟩
abbrev S128x256 : Shape := ⟨2, ![128, 256]⟩

abbrev nBuf : Space → Nat
  | .hbm => 53
  | .vmem => 18
  | .smem => 0
  | _ => 0

abbrev bufTy : (tb : Table) → Fin (tcTables nBuf tb) → BufTy
  | .hbm, ⟨0, _⟩ => ⟨S6x4096x512, .bf16⟩
  | .hbm, ⟨1, _⟩ => ⟨S4096x512, .f32⟩
  | .hbm, ⟨2, _⟩ => ⟨S1x4096x512, .bf16⟩
  | .hbm, ⟨3, _⟩ => ⟨S4096x512, .bf16⟩
  | .hbm, ⟨4, _⟩ => ⟨S4096x512, .f32⟩
  | .hbm, ⟨5, _⟩ => ⟨S4096x8x64, .f32⟩
  | .hbm, ⟨6, _⟩ => ⟨S1x4096x512, .bf16⟩
  | .hbm, ⟨7, _⟩ => ⟨S4096x512, .bf16⟩
  | .hbm, ⟨8, _⟩ => ⟨S4096x512, .f32⟩
  | .hbm, ⟨9, _⟩ => ⟨S4096x8x64, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S4x2x4096x1, .f32⟩
  | .hbm, ⟨47, _⟩ => ⟨S4x4096x2x1, .f32⟩
  | .hbm, ⟨48, _⟩ => ⟨S4x4096x2x64, .f32⟩
  | .hbm, ⟨49, _⟩ => ⟨S4x4096x128, .f32⟩
  | .hbm, ⟨50, _⟩ => ⟨S4096x512, .bf16⟩
  | .hbm, ⟨51, _⟩ => ⟨S4096x512, .bf16⟩
  | .hbm, ⟨52, _⟩ => ⟨S4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .f32⟩
  | .local _ .vmem, ⟨7, _⟩ => ⟨S1x512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S64x64x128, .f32⟩
  | .local _ .vmem, ⟨17, _⟩ => ⟨S64x64x128, .f32⟩
  | _, _ => ⟨S6x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_42 : BitVec 32 := 1#32
  ⟨c0_i32_40, v98, c1_i32_42⟩
def k0_mult1 (i : grid0.Coords) (k0_t1 : Fin (k0_t1_loop i).trips) : BitVec 32 :=
  let c0_i32_40 : BitVec 32 := 0#32
  let c1_i32_42 : BitVec 32 := 1#32
  let arg12 : BitVec 32 := Scf.iv c0_i32_40 c1_i32_42 k0_t1
  let c4_i32 : BitVec 32 := 4#32
  let v990 : BitVec 32 := Scalar.muli arg12 c4_i32
  let c0_i32_327 : BitVec 32 := 0#32
  let v991 : BitVec 32 := Scalar.addi v990 c0_i32_327
  let c128_i32_328 : BitVec 32 := 128#32
  let v992 : BitVec 32 := Scalar.muli v991 c128_i32_328
  v992
def k0_off1 (i : grid0.Coords) (k0_t1 : Fin (k0_t1_loop i).trips) (c0_i32_327 : BitVec 32) : Fin 3 → Nat :=
  let c0_329 : Index := 0#32
  let c0_i32_40 : BitVec 32 := 0#32
  let c1_i32_42 : BitVec 32 := 1#32
  let arg12 : BitVec 32 := Scf.iv c0_i32_40 c1_i32_42 k0_t1
  let c4_i32 : BitVec 32 := 4#32
  let v990 : BitVec 32 := Scalar.muli arg12 c4_i32
  let v991 : BitVec 32 := Scalar.addi v990 c0_i32_327
  let c128_i32_328 : BitVec 32 := 128#32
  let v992 : BitVec 32 := Scalar.muli v991 c128_i32_328
  let v993 : BitVec 32 := v992
  let v994 : Index := Scalar.indexCast v993
  let c0_330 : Index := 0#32
  ![0, v994.toNat, 0]
def k0_off2 (i : grid0.Coords) (k0_t1 : Fin (k0_t1_loop i).trips) (c0_i32_339 : BitVec 32) (c0_i32_327 : BitVec 32) : Fin 3 → Nat :=
  let c0_i32_40 : BitVec 32 := 0#32
  let c1_i32_42 : BitVec 32 := 1#32
  let arg12 : BitVec 32 := Scf.iv c0_i32_40 c1_i32_42 k0_t1
  let c4_i32 : BitVec 32 := 4#32
  let v990 : BitVec 32 := Scalar.muli arg12 c4_i32
  let v991 : BitVec 32 := Scalar.addi v990 c0_i32_327
  let v1042 : BitVec 32 := Scalar.addi c0_i32_339 v991
  let v1043 : Index := Scalar.indexCast v1042
  let c0_340 : Index := 0#32
  let c0_341 : Index := 0#32
  ![v1043.toNat, 0, 0]
def k0_mult2 (i : grid0.Coords) (k0_t1 : Fin (k0_t1_loop i).trips) : BitVec 32 :=
  let c0_i32_40 : BitVec 32 := 0#32
  let c1_i32_42 : BitVec 32 := 1#32
  let arg12 : BitVec 32 := Scf.iv c0_i32_40 c1_i32_42 k0_t1
  let c4_i32_352 : BitVec 32 := 4#32
  let v1067 : BitVec 32 := Scalar.muli arg12 c4_i32_352
  let c0_i32_353 : BitVec 32 := 0#32
  let v1068 : BitVec 32 := Scalar.addi v1067 c0_i32_353
  let c128_i32_354 : BitVec 32 := 128#32
  let v1069 : BitVec 32 := Scalar.muli v1068 c128_i32_354
  v1069
def k0_off3 (i : grid0.Coords) (k0_t1 : Fin (k0_t1_loop i).trips) (c0_i32_353 : BitVec 32) : Fin 3 → Nat :=
  let c0_355 : Index := 0#32
  let c0_i32_40 : BitVec 32 := 0#32
  let c1_i32_42 : BitVec 32 := 1#32
  let arg12 : BitVec 32 := Scf.iv c0_i32_40 c1_i32_42 k0_t1
  let c4_i32_352 : BitVec 32 := 4#32
  let v1067 : BitVec 32 := Scalar.muli arg12 c4_i32_352
  let v1068 : BitVec 32 := Scalar.addi v1067 c0_i32_353
  let c128_i32_354 : BitVec 32 := 128#32
  let v1069 : BitVec 32 := Scalar.muli v1068 c128_i32_354
  let v1070 : BitVec 32 := v1069
  let v1071 : Index := Scalar.indexCast v1070
  let c64_356 : Index := 64#32
  ![0, v1071.toNat, 64]
def k0_mult3 (i : grid0.Coords) (k0_t1 : Fin (k0_t1_loop i).trips) : BitVec 32 :=
  let c0_i32_40 : BitVec 32 := 0#32
  let c1_i32_42 : BitVec 32 := 1#32
  let arg12 : BitVec 32 := Scf.iv c0_i32_40 c1_i32_42 k0_t1
  let c4_i32_378 : BitVec 32 := 4#32
  let v1144 : BitVec 32 := Scalar.muli arg12 c4_i32_378
  let c1_i32_379 : BitVec 32 := 1#32
  let v1145 : BitVec 32 := Scalar.addi v1144 c1_i32_379
  let c128_i32_380 : BitVec 32 := 128#32
  let v1146 : BitVec 32 := Scalar.muli v1145 c128_i32_380
  v1146
def k0_mult4 (i : grid0.Coords) (k0_t1 : Fin (k0_t1_loop i).trips) : BitVec 32 :=
  let c0_i32_40 : BitVec 32 := 0#32
  let c1_i32_42 : BitVec 32 := 1#32
  let arg12 : BitVec 32 := Scf.iv c0_i32_40 c1_i32_42 k0_t1
  let c4_i32_404 : BitVec 32 := 4#32
  let v1221 : BitVec 32 := Scalar.muli arg12 c4_i32_404
  let c1_i32_405 : BitVec 32 := 1#32
  let v1222 : BitVec 32 := Scalar.addi v1221 c1_i32_405
  let c128_i32_406 : BitVec 32 := 128#32
  let v1223 : BitVec 32 := Scalar.muli v1222 c128_i32_406
  v1223
def k0_mult5 (i : grid0.Coords) (k0_t1 : Fin (k0_t1_loop i).trips) : BitVec 32 :=
  let c0_i32_40 : BitVec 32 := 0#32
  let c1_i32_42 : BitVec 32 := 1#32
  let arg12 : BitVec 32 := Scf.iv c0_i32_40 c1_i32_42 k0_t1
  let c4_i32_430 : BitVec 32 := 4#32
  let v1298 : BitVec 32 := Scalar.muli arg12 c4_i32_430
  let c2_i32_431 : BitVec 32 := 2#32
  let v1299 : BitVec 32 := Scalar.addi v1298 c2_i32_431
  let c128_i32_432 : BitVec 32 := 128#32
  let v1300 : BitVec 32 := Scalar.muli v1299 c128_i32_432
  v1300
def k0_mult6 (i : grid0.Coords) (k0_t1 : Fin (k0_t1_loop i).trips) : BitVec 32 :=
  let c0_i32_40 : BitVec 32 := 0#32
  let c1_i32_42 : BitVec 32 := 1#32
  let arg12 : BitVec 32 := Scf.iv c0_i32_40 c1_i32_42 k0_t1
  let c4_i32_456 : BitVec 32 := 4#32
  let v1375 : BitVec 32 := Scalar.muli arg12 c4_i32_456
  let c2_i32_457 : BitVec 32 := 2#32
  let v1376 : BitVec 32 := Scalar.addi v1375 c2_i32_457
  let c128_i32_458 : BitVec 32 := 128#32
  let v1377 : BitVec 32 := Scalar.muli v1376 c128_i32_458
  v1377
def k0_mult7 (i : grid0.Coords) (k0_t1 : Fin (k0_t1_loop i).trips) : BitVec 32 :=
  let c0_i32_40 : BitVec 32 := 0#32
  let c1_i32_42 : BitVec 32 := 1#32
  let arg12 : BitVec 32 := Scf.iv c0_i32_40 c1_i32_42 k0_t1
  let c4_i32_482 : BitVec 32 := 4#32
  let v1452 : BitVec 32 := Scalar.muli arg12 c4_i32_482
  let c3_i32_483 : BitVec 32 := 3#32
  let v1453 : BitVec 32 := Scalar.addi v1452 c3_i32_483
  let c128_i32_484 : BitVec 32 := 128#32
  let v1454 : BitVec 32 := Scalar.muli v1453 c128_i32_484
  v1454
def k0_mult8 (i : grid0.Coords) (k0_t1 : Fin (k0_t1_loop i).trips) : BitVec 32 :=
  let c0_i32_40 : BitVec 32 := 0#32
  let c1_i32_42 : BitVec 32 := 1#32
  let arg12 : BitVec 32 := Scf.iv c0_i32_40 c1_i32_42 k0_t1
  let c4_i32_508 : BitVec 32 := 4#32
  let v1529 : BitVec 32 := Scalar.muli arg12 c4_i32_508
  let c3_i32_509 : BitVec 32 := 3#32
  let v1530 : BitVec 32 := Scalar.addi v1529 c3_i32_509
  let c128_i32_510 : BitVec 32 := 128#32
  let v1531 : BitVec 32 := Scalar.muli v1530 c128_i32_510
  v1531
@[reducible] def k0_t2_loop (i : grid0.Coords) : Scf.Loop 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let v95 : BitVec 32 := Scalar.addi c0_i32_40 v94
  let c1_i32_43 : BitVec 32 := 1#32
  ⟨v98, v95, c1_i32_43⟩
def k0_mult9 (i : grid0.Coords) (k0_t2 : Fin (k0_t2_loop i).trips) : BitVec 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32 : BitVec 32 := 4#32
  let v990 : BitVec 32 := Scalar.muli arg12 c4_i32
  let c0_i32_327 : BitVec 32 := 0#32
  let v991 : BitVec 32 := Scalar.addi v990 c0_i32_327
  let c128_i32_328 : BitVec 32 := 128#32
  let v992 : BitVec 32 := Scalar.muli v991 c128_i32_328
  v992
def k0_off4 (i : grid0.Coords) (k0_t2 : Fin (k0_t2_loop i).trips) (c0_i32_327 : BitVec 32) : Fin 3 → Nat :=
  let c0_329 : Index := 0#32
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32 : BitVec 32 := 4#32
  let v990 : BitVec 32 := Scalar.muli arg12 c4_i32
  let v991 : BitVec 32 := Scalar.addi v990 c0_i32_327
  let c128_i32_328 : BitVec 32 := 128#32
  let v992 : BitVec 32 := Scalar.muli v991 c128_i32_328
  let v993 : BitVec 32 := v992
  let v994 : Index := Scalar.indexCast v993
  let c0_330 : Index := 0#32
  ![0, v994.toNat, 0]
def k0_off5 (i : grid0.Coords) (k0_t2 : Fin (k0_t2_loop i).trips) (c0_i32_339 : BitVec 32) (c0_i32_327 : BitVec 32) : Fin 3 → Nat :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32 : BitVec 32 := 4#32
  let v990 : BitVec 32 := Scalar.muli arg12 c4_i32
  let v991 : BitVec 32 := Scalar.addi v990 c0_i32_327
  let v1042 : BitVec 32 := Scalar.addi c0_i32_339 v991
  let v1043 : Index := Scalar.indexCast v1042
  let c0_340 : Index := 0#32
  let c0_341 : Index := 0#32
  ![v1043.toNat, 0, 0]
def k0_mult10 (i : grid0.Coords) (k0_t2 : Fin (k0_t2_loop i).trips) : BitVec 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32_352 : BitVec 32 := 4#32
  let v1067 : BitVec 32 := Scalar.muli arg12 c4_i32_352
  let c0_i32_353 : BitVec 32 := 0#32
  let v1068 : BitVec 32 := Scalar.addi v1067 c0_i32_353
  let c128_i32_354 : BitVec 32 := 128#32
  let v1069 : BitVec 32 := Scalar.muli v1068 c128_i32_354
  v1069
def k0_off6 (i : grid0.Coords) (k0_t2 : Fin (k0_t2_loop i).trips) (c0_i32_353 : BitVec 32) : Fin 3 → Nat :=
  let c0_355 : Index := 0#32
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32_352 : BitVec 32 := 4#32
  let v1067 : BitVec 32 := Scalar.muli arg12 c4_i32_352
  let v1068 : BitVec 32 := Scalar.addi v1067 c0_i32_353
  let c128_i32_354 : BitVec 32 := 128#32
  let v1069 : BitVec 32 := Scalar.muli v1068 c128_i32_354
  let v1070 : BitVec 32 := v1069
  let v1071 : Index := Scalar.indexCast v1070
  let c64_356 : Index := 64#32
  ![0, v1071.toNat, 64]
def k0_mult11 (i : grid0.Coords) (k0_t2 : Fin (k0_t2_loop i).trips) : BitVec 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32_378 : BitVec 32 := 4#32
  let v1144 : BitVec 32 := Scalar.muli arg12 c4_i32_378
  let c1_i32_379 : BitVec 32 := 1#32
  let v1145 : BitVec 32 := Scalar.addi v1144 c1_i32_379
  let c128_i32_380 : BitVec 32 := 128#32
  let v1146 : BitVec 32 := Scalar.muli v1145 c128_i32_380
  v1146
def k0_mult12 (i : grid0.Coords) (k0_t2 : Fin (k0_t2_loop i).trips) : BitVec 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32_404 : BitVec 32 := 4#32
  let v1221 : BitVec 32 := Scalar.muli arg12 c4_i32_404
  let c1_i32_405 : BitVec 32 := 1#32
  let v1222 : BitVec 32 := Scalar.addi v1221 c1_i32_405
  let c128_i32_406 : BitVec 32 := 128#32
  let v1223 : BitVec 32 := Scalar.muli v1222 c128_i32_406
  v1223
def k0_mult13 (i : grid0.Coords) (k0_t2 : Fin (k0_t2_loop i).trips) : BitVec 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32_430 : BitVec 32 := 4#32
  let v1298 : BitVec 32 := Scalar.muli arg12 c4_i32_430
  let c2_i32_431 : BitVec 32 := 2#32
  let v1299 : BitVec 32 := Scalar.addi v1298 c2_i32_431
  let c128_i32_432 : BitVec 32 := 128#32
  let v1300 : BitVec 32 := Scalar.muli v1299 c128_i32_432
  v1300
def k0_mult14 (i : grid0.Coords) (k0_t2 : Fin (k0_t2_loop i).trips) : BitVec 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32_456 : BitVec 32 := 4#32
  let v1375 : BitVec 32 := Scalar.muli arg12 c4_i32_456
  let c2_i32_457 : BitVec 32 := 2#32
  let v1376 : BitVec 32 := Scalar.addi v1375 c2_i32_457
  let c128_i32_458 : BitVec 32 := 128#32
  let v1377 : BitVec 32 := Scalar.muli v1376 c128_i32_458
  v1377
def k0_mult15 (i : grid0.Coords) (k0_t2 : Fin (k0_t2_loop i).trips) : BitVec 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32_482 : BitVec 32 := 4#32
  let v1452 : BitVec 32 := Scalar.muli arg12 c4_i32_482
  let c3_i32_483 : BitVec 32 := 3#32
  let v1453 : BitVec 32 := Scalar.addi v1452 c3_i32_483
  let c128_i32_484 : BitVec 32 := 128#32
  let v1454 : BitVec 32 := Scalar.muli v1453 c128_i32_484
  v1454
def k0_mult16 (i : grid0.Coords) (k0_t2 : Fin (k0_t2_loop i).trips) : BitVec 32 :=
  let c0_i32_40 : BitVec 32 := 0#32
  let arg1 : BitVec 32 := BitVec.ofNat 32 (i 1).val
  let c512_i32 : BitVec 32 := 512#32
  let v0 : BitVec 32 := Scalar.muli arg1 c512_i32
  let c0_i32_35 : BitVec 32 := 0#32
  let v78 : BitVec 1 := Scalar.cmpi .sgt v0 c0_i32_35
  let v79 : BitVec 32 := Scalar.extui v78
  let c0_i32_36 : BitVec 32 := 0#32
  let v80 : BitVec 1 := Scalar.cmpi .slt v0 c0_i32_36
  let v81 : BitVec 32 := Scalar.extui v80
  let v82 : BitVec 32 := Scalar.subi v79 v81
  let c512_i32_34 : BitVec 32 := 512#32
  let c0_i32_37 : BitVec 32 := 0#32
  let v83 : BitVec 1 := Scalar.cmpi .sgt c512_i32_34 c0_i32_37
  let v84 : BitVec 32 := Scalar.extui v83
  let c0_i32_38 : BitVec 32 := 0#32
  let v85 : BitVec 1 := Scalar.cmpi .slt c512_i32_34 c0_i32_38
  let v86 : BitVec 32 := Scalar.extui v85
  let v87 : BitVec 32 := Scalar.subi v84 v86
  let v88 : BitVec 1 := Scalar.cmpi .ne v82 v87
  let v89 : BitVec 32 := Scalar.remsi v0 c512_i32_34
  let c0_i32_39 : BitVec 32 := 0#32
  let v90 : BitVec 1 := Scalar.cmpi .ne v89 c0_i32_39
  let v91 : BitVec 1 := Scalar.andi v88 v90
  let v77 : BitVec 32 := Scalar.divsi v0 c512_i32_34
  let c1_i32 : BitVec 32 := 1#32
  let v92 : BitVec 32 := Scalar.subi v77 c1_i32
  let v93 : BitVec 32 := Scalar.select v91 v92 v77
  let v94 : BitVec 32 := Scalar.subi v93 c0_i32_40
  let c1_i32_41 : BitVec 32 := 1#32
  let v96 : BitVec 32 := Scalar.divsi v94 c1_i32_41
  let v97 : BitVec 32 := Scalar.muli v96 c1_i32_41
  let v98 : BitVec 32 := Scalar.addi c0_i32_40 v97
  let c1_i32_43 : BitVec 32 := 1#32
  let arg12 : BitVec 32 := Scf.iv v98 c1_i32_43 k0_t2
  let c4_i32_508 : BitVec 32 := 4#32
  let v1529 : BitVec 32 := Scalar.muli arg12 c4_i32_508
  let c3_i32_509 : BitVec 32 := 3#32
  let v1530 : BitVec 32 := Scalar.addi v1529 c3_i32_509
  let c128_i32_510 : BitVec 32 := 128#32
  let v1531 : BitVec 32 := Scalar.muli v1530 c128_i32_510
  v1531
def k0_mult17 (i : grid0.Coords) : BitVec 32 :=
  let arg1 : BitVec 32 := BitVec.ofNat 32 (i 1).val
  let c512_i32 : BitVec 32 := 512#32
  let v0 : BitVec 32 := Scalar.muli arg1 c512_i32
  let c0_i32_44 : BitVec 32 := 0#32
  let v102 : BitVec 1 := Scalar.cmpi .sgt v0 c0_i32_44
  let v103 : BitVec 32 := Scalar.extui v102
  let c0_i32_45 : BitVec 32 := 0#32
  let v104 : BitVec 1 := Scalar.cmpi .slt v0 c0_i32_45
  let v105 : BitVec 32 := Scalar.extui v104
  let v106 : BitVec 32 := Scalar.subi v103 v105
  let c128_i32 : BitVec 32 := 128#32
  let c0_i32_46 : BitVec 32 := 0#32
  let v107 : BitVec 1 := Scalar.cmpi .sgt c128_i32 c0_i32_46
  let v108 : BitVec 32 := Scalar.extui v107
  let c0_i32_47 : BitVec 32 := 0#32
  let v109 : BitVec 1 := Scalar.cmpi .slt c128_i32 c0_i32_47
  let v110 : BitVec 32 := Scalar.extui v109
  let v111 : BitVec 32 := Scalar.subi v108 v110
  let v112 : BitVec 1 := Scalar.cmpi .ne v106 v111
  let v113 : BitVec 32 := Scalar.remsi v0 c128_i32
  let c0_i32_48 : BitVec 32 := 0#32
  let v114 : BitVec 1 := Scalar.cmpi .ne v113 c0_i32_48
  let v115 : BitVec 1 := Scalar.andi v112 v114
  let v101 : BitVec 32 := Scalar.divsi v0 c128_i32
  let c1_i32_49 : BitVec 32 := 1#32
  let v116 : BitVec 32 := Scalar.subi v101 c1_i32_49
  let v117 : BitVec 32 := Scalar.select v115 v116 v101
  let c0_i32_50 : BitVec 32 := 0#32
  let v118 : BitVec 32 := Scalar.addi v117 c0_i32_50
  let c128_i32_51 : BitVec 32 := 128#32
  let v119 : BitVec 32 := Scalar.muli v118 c128_i32_51
  v119
def k0_off7 (i : grid0.Coords) (c0_i32_50 : BitVec 32) : Fin 3 → Nat :=
  let c0_52 : Index := 0#32
  let arg1 : BitVec 32 := BitVec.ofNat 32 (i 1).val
  let c512_i32 : BitVec 32 := 512#32
  let v0 : BitVec 32 := Scalar.muli arg1 c512_i32
  let c0_i32_44 : BitVec 32 := 0#32
  let v102 : BitVec 1 := Scalar.cmpi .sgt v0 c0_i32_44
  let v103 : BitVec 32 := Scalar.extui v102
  let c0_i32_45 : BitVec 32 := 0#32
  let v104 : BitVec 1 := Scalar.cmpi .slt v0 c0_i32_45
  let v105 : BitVec 32 := Scalar.extui v104
  let v106 : BitVec 32 := Scalar.subi v103 v105
  let c128_i32 : BitVec 32 := 128#32
  let c0_i32_46 : BitVec 32 := 0#32
  let v107 : BitVec 1 := Scalar.cmpi .sgt c128_i32 c0_i32_46
  let v108 : BitVec 32 := Scalar.extui v107
  let c0_i32_47 : BitVec 32 := 0#32
  let v109 : BitVec 1 := Scalar.cmpi .slt c128_i32 c0_i32_47
  let v110 : BitVec 32 := Scalar.extui v109
  let v111 : BitVec 32 := Scalar.subi v108 v110
  let v112 : BitVec 1 := Scalar.cmpi .ne v106 v111
  let v113 : BitVec 32 := Scalar.remsi v0 c128_i32
  let c0_i32_48 : BitVec 32 := 0#32
  let v114 : BitVec 1 := Scalar.cmpi .ne v113 c0_i32_48
  let v115 : BitVec 1 := Scalar.andi v112 v114
  let v101 : BitVec 32 := Scalar.divsi v0 c128_i32
  let c1_i32_49 : BitVec 32 := 1#32
  let v116 : BitVec 32 := Scalar.subi v101 c1_i32_49
  let v117 : BitVec 32 := Scalar.select v115 v116 v101
  let v118 : BitVec 32 := Scalar.addi v117 c0_i32_50
  let c128_i32_51 : BitVec 32 := 128#32
  let v119 : BitVec 32 := Scalar.muli v118 c128_i32_51
  let v120 : BitVec 32 := v119
  let v121 : Index := Scalar.indexCast v120
  let c0_53 : Index := 0#32
  ![0, v121.toNat, 0]
def k0_off8 (i : grid0.Coords) (c0_i32_65 : BitVec 32) (c0_i32_50 : BitVec 32) : Fin 3 → Nat :=
  let arg1 : BitVec 32 := BitVec.ofNat 32 (i 1).val
  let c512_i32 : BitVec 32 := 512#32
  let v0 : BitVec 32 := Scalar.muli arg1 c512_i32
  let c0_i32_44 : BitVec 32 := 0#32
  let v102 : BitVec 1 := Scalar.cmpi .sgt v0 c0_i32_44
  let v103 : BitVec 32 := Scalar.extui v102
  let c0_i32_45 : BitVec 32 := 0#32
  let v104 : BitVec 1 := Scalar.cmpi .slt v0 c0_i32_45
  let v105 : BitVec 32 := Scalar.extui v104
  let v106 : BitVec 32 := Scalar.subi v103 v105
  let c128_i32 : BitVec 32 := 128#32
  let c0_i32_46 : BitVec 32 := 0#32
  let v107 : BitVec 1 := Scalar.cmpi .sgt c128_i32 c0_i32_46
  let v108 : BitVec 32 := Scalar.extui v107
  let c0_i32_47 : BitVec 32 := 0#32
  let v109 : BitVec 1 := Scalar.cmpi .slt c128_i32 c0_i32_47
  let v110 : BitVec 32 := Scalar.extui v109
  let v111 : BitVec 32 := Scalar.subi v108 v110
  let v112 : BitVec 1 := Scalar.cmpi .ne v106 v111
  let v113 : BitVec 32 := Scalar.remsi v0 c128_i32
  let c0_i32_48 : BitVec 32 := 0#32
  let v114 : BitVec 1 := Scalar.cmpi .ne v113 c0_i32_48
  let v115 : BitVec 1 := Scalar.andi v112 v114
  let v101 : BitVec 32 := Scalar.divsi v0 c128_i32
  let c1_i32_49 : BitVec 32 := 1#32
  let v116 : BitVec 32 := Scalar.subi v101 c1_i32_49
  let v117 : BitVec 32 := Scalar.select v115 v116 v101
  let v118 : BitVec 32 := Scalar.addi v117 c0_i32_50
  let v176 : BitVec 32 := Scalar.addi c0_i32_65 v118
  let v177 : Index := Scalar.indexCast v176
  let c0_66 : Index := 0#32
  let c0_67 : Index := 0#32
  ![v177.toNat, 0, 0]
def k0_mult18 (i : grid0.Coords) : BitVec 32 :=
  let arg1 : BitVec 32 := BitVec.ofNat 32 (i 1).val
  let c512_i32 : BitVec 32 := 512#32
  let v0 : BitVec 32 := Scalar.muli arg1 c512_i32
  let c0_i32_79 : BitVec 32 := 0#32
  let v202 : BitVec 1 := Scalar.cmpi .sgt v0 c0_i32_79
  let v203 : BitVec 32 := Scalar.extui v202
  let c0_i32_80 : BitVec 32 := 0#32
  let v204 : BitVec 1 := Scalar.cmpi .slt v0 c0_i32_80
  let v205 : BitVec 32 := Scalar.extui v204
  let v206 : BitVec 32 := Scalar.subi v203 v205
  let c128_i32_78 : BitVec 32 := 128#32
  let c0_i32_81 : BitVec 32 := 0#32
  let v207 : BitVec 1 := Scalar.cmpi .sgt c128_i32_78 c0_i32_81
  let v208 : BitVec 32 := Scalar.extui v207
  let c0_i32_82 : BitVec 32 := 0#32
  let v209 : BitVec 1 := Scalar.cmpi .slt c128_i32_78 c0_i32_82
  let v210 : BitVec 32 := Scalar.extui v209
  let v211 : BitVec 32 := Scalar.subi v208 v210
  let v212 : BitVec 1 := Scalar.cmpi .ne v206 v211
  let v213 : BitVec 32 := Scalar.remsi v0 c128_i32_78
  let c0_i32_83 : BitVec 32 := 0#32
  let v214 : BitVec 1 := Scalar.cmpi .ne v213 c0_i32_83
  let v215 : BitVec 1 := Scalar.andi v212 v214
  let v201 : BitVec 32 := Scalar.divsi v0 c128_i32_78
  let c1_i32_84 : BitVec 32 := 1#32
  let v216 : BitVec 32 := Scalar.subi v201 c1_i32_84
  let v217 : BitVec 32 := Scalar.select v215 v216 v201
  let c0_i32_85 : BitVec 32 := 0#32
  let v218 : BitVec 32 := Scalar.addi v217 c0_i32_85
  let c128_i32_86 : BitVec 32 := 128#32
  let v219 : BitVec 32 := Scalar.muli v218 c128_i32_86
  v219
def k0_off9 (i : grid0.Coords) (c0_i32_85 : BitVec 32) : Fin 3 → Nat :=
  let c0_87 : Index := 0#32
  let arg1 : BitVec 32 := BitVec.ofNat 32 (i 1).val
  let c512_i32 : BitVec 32 := 512#32
  let v0 : BitVec 32 := Scalar.muli arg1 c512_i32
  let c0_i32_79 : BitVec 32 := 0#32
  let v202 : BitVec 1 := Scalar.cmpi .sgt v0 c0_i32_79
  let v203 : BitVec 32 := Scalar.extui v202
  let c0_i32_80 : BitVec 32 := 0#32
  let v204 : BitVec 1 := Scalar.cmpi .slt v0 c0_i32_80
  let v205 : BitVec 32 := Scalar.extui v204
  let v206 : BitVec 32 := Scalar.subi v203 v205
  let c128_i32_78 : BitVec 32 := 128#32
  let c0_i32_81 : BitVec 32 := 0#32
  let v207 : BitVec 1 := Scalar.cmpi .sgt c128_i32_78 c0_i32_81
  let v208 : BitVec 32 := Scalar.extui v207
  let c0_i32_82 : BitVec 32 := 0#32
  let v209 : BitVec 1 := Scalar.cmpi .slt c128_i32_78 c0_i32_82
  let v210 : BitVec 32 := Scalar.extui v209
  let v211 : BitVec 32 := Scalar.subi v208 v210
  let v212 : BitVec 1 := Scalar.cmpi .ne v206 v211
  let v213 : BitVec 32 := Scalar.remsi v0 c128_i32_78
  let c0_i32_83 : BitVec 32 := 0#32
  let v214 : BitVec 1 := Scalar.cmpi .ne v213 c0_i32_83
  let v215 : BitVec 1 := Scalar.andi v212 v214
  let v201 : BitVec 32 := Scalar.divsi v0 c128_i32_78
  let c1_i32_84 : BitVec 32 := 1#32
  let v216 : BitVec 32 := Scalar.subi v201 c1_i32_84
  let v217 : BitVec 32 := Scalar.select v215 v216 v201
  let v218 : BitVec 32 := Scalar.addi v217 c0_i32_85
  let c128_i32_86 : BitVec 32 := 128#32
  let v219 : BitVec 32 := Scalar.muli v218 c128_i32_86
  let v220 : BitVec 32 := v219
  let v221 : Index := Scalar.indexCast v220
  let c64_88 : Index := 64#32
  ![0, v221.toNat, 64]
def k0_mult19 (i : grid0.Coords) : BitVec 32 :=
  let arg1 : BitVec 32 := BitVec.ofNat 32 (i 1).val
  let c512_i32 : BitVec 32 := 512#32
  let v0 : BitVec 32 := Scalar.muli arg1 c512_i32
  let c0_i32_113 : BitVec 32 := 0#32
  let v302 : BitVec 1 := Scalar.cmpi .sgt v0 c0_i32_113
  let v303 : BitVec 32 := Scalar.extui v302
  let c0_i32_114 : BitVec 32 := 0#32
  let v304 : BitVec 1 := Scalar.cmpi .slt v0 c0_i32_114
  let v305 : BitVec 32 := Scalar.extui v304
  let v306 : BitVec 32 := Scalar.subi v303 v305
  let c128_i32_112 : BitVec 32 := 128#32
  let c0_i32_115 : BitVec 32 := 0#32
  let v307 : BitVec 1 := Scalar.cmpi .sgt c128_i32_112 c0_i32_115
  let v308 : BitVec 32 := Scalar.extui v307
  let c0_i32_116 : BitVec 32 := 0#32
  let v309 : BitVec 1 := Scalar.cmpi .slt c128_i32_112 c0_i32_116
  let v310 : BitVec 32 := Scalar.extui v309
  let v311 : BitVec 32 := Scalar.subi v308 v310
  let v312 : BitVec 1 := Scalar.cmpi .ne v306 v311
  let v313 : BitVec 32 := Scalar.remsi v0 c128_i32_112
  let c0_i32_117 : BitVec 32 := 0#32
  let v314 : BitVec 1 := Scalar.cmpi .ne v313 c0_i32_117
  let v315 : BitVec 1 := Scalar.andi v312 v314
  let v301 : BitVec 32 := Scalar.divsi v0 c128_i32_112
  let c1_i32_118 : BitVec 32 := 1#32
  let v316 : BitVec 32 := Scalar.subi v301 c1_i32_118
  let v317 : BitVec 32 := Scalar.select v315 v316 v301
  let c1_i32_119 : BitVec 32 := 1#32
  let v318 : BitVec 32 := Scalar.addi v317 c1_i32_119
  let c128_i32_120 : BitVec 32 := 128#32
  let v319 : BitVec 32 := Scalar.muli v318 c128_i32_120
  v319
def k0_mult20 (i : grid0.Coords) : BitVec 32 :=
  let arg1 : BitVec 32 := BitVec.ofNat 32 (i 1).val
  let c512_i32 : BitVec 32 := 512#32
  let v0 : BitVec 32 := Scalar.muli arg1 c512_i32
  let c0_i32_148 : BitVec 32 := 0#32
  let v417 : BitVec 1 := Scalar.cmpi .sgt v0 c0_i32_148
  let v418 : BitVec 32 := Scalar.extui v417
  let c0_i32_149 : BitVec 32 := 0#32
  let v419 : BitVec 1 := Scalar.cmpi .slt v0 c0_i32_149
  let v420 : BitVec 32 := Scalar.extui v419
  let v421 : BitVec 32 := Scalar.subi v418 v420
  let c128_i32_147 : BitVec 32 := 128#32
  let c0_i32_150 : BitVec 32 := 0#32
  let v422 : BitVec 1 := Scalar.cmpi .sgt c128_i32_147 c0_i32_150
  let v423 : BitVec 32 := Scalar.extui v422
  let c0_i32_151 : BitVec 32 := 0#32
  let v424 : BitVec 1 := Scalar.cmpi .slt c128_i32_147 c0_i32_151
  let v425 : BitVec 32 := Scalar.extui v424
  let v426 : BitVec 32 := Scalar.subi v423 v425
  let v427 : BitVec 1 := Scalar.cmpi .ne v421 v426
  let v428 : BitVec 32 := Scalar.remsi v0 c128_i32_147
  let c0_i32_152 : BitVec 32 := 0#32
  let v429 : BitVec 1 := Scalar.cmpi .ne v428 c0_i32_152
  let v430 : BitVec 1 := Scalar.andi v427 v429
  let v416 : BitVec 32 := Scalar.divsi v0 c128_i32_147
  let c1_i32_153 : BitVec 32 := 1#32
  let v431 : BitVec 32 := Scalar.subi v416 c1_i32_153
  let v432 : BitVec 32 := Scalar.select v430 v431 v416
  let c1_i32_154 : BitVec 32 := 1#32
  let v433 : BitVec 32 := Scalar.addi v432 c1_i32_154
  let c128_i32_155 : BitVec 32 := 128#32
  let v434 : BitVec 32 := Scalar.muli v433 c128_i32_155
  v434
def k0_mult21 (i : grid0.Coords) : BitVec 32 :=
  let arg1 : BitVec 32 := BitVec.ofNat 32 (i 1).val
  let c512_i32 : BitVec 32 := 512#32
  let v0 : BitVec 32 := Scalar.muli arg1 c512_i32
  let c0_i32_183 : BitVec 32 := 0#32
  let v532 : BitVec 1 := Scalar.cmpi .sgt v0 c0_i32_183
  let v533 : BitVec 32 := Scalar.extui v532
  let c0_i32_184 : BitVec 32 := 0#32
  let v534 : BitVec 1 := Scalar.cmpi .slt v0 c0_i32_184
  let v535 : BitVec 32 := Scalar.extui v534
  let v536 : BitVec 32 := Scalar.subi v533 v535
  let c128_i32_182 : BitVec 32 := 128#32
  let c0_i32_185 : BitVec 32 := 0#32
  let v537 : BitVec 1 := Scalar.cmpi .sgt c128_i32_182 c0_i32_185
  let v538 : BitVec 32 := Scalar.extui v537
  let c0_i32_186 : BitVec 32 := 0#32
  let v539 : BitVec 1 := Scalar.cmpi .slt c128_i32_182 c0_i32_186
  let v540 : BitVec 32 := Scalar.extui v539
  let v541 : BitVec 32 := Scalar.subi v538 v540
  let v542 : BitVec 1 := Scalar.cmpi .ne v536 v541
  let v543 : BitVec 32 := Scalar.remsi v0 c128_i32_182
  let c0_i32_187 : BitVec 32 := 0#32
  let v544 : BitVec 1 := Scalar.cmpi .ne v543 c0_i32_187
  let v545 : BitVec 1 := Scalar.andi v542 v544
  let v531 : BitVec 32 := Scalar.divsi v0 c128_i32_182
  let c1_i32_188 : BitVec 32 := 1#32
  let v546 : BitVec 32 := Scalar.subi v531 c1_i32_188
  let v547 : BitVec 32 := Scalar.select v545 v546 v531
  let c2_i32 : BitVec 32 := 2#32
  let v548 : BitVec 32 := Scalar.addi v547 c2_i32
  let c128_i32_189 : BitVec 32 := 128#32
  let v549 : BitVec 32 := Scalar.muli v548 c128_i32_189
  v549
def k0_mult22 (i : grid0.Coords) : BitVec 32 :=
  let arg1 : BitVec 32 := BitVec.ofNat 32 (i 1).val
  let c512_i32 : BitVec 32 := 512#32
  let v0 : BitVec 32 := Scalar.muli arg1 c512_i32
  let c0_i32_217 : BitVec 32 := 0#32
  let v647 : BitVec 1 := Scalar.cmpi .sgt v0 c0_i32_217
  let v648 : BitVec 32 := Scalar.extui v647
  let c0_i32_218 : BitVec 32 := 0#32
  let v649 : BitVec 1 := Scalar.cmpi .slt v0 c0_i32_218
  let v650 : BitVec 32 := Scalar.extui v649
  let v651 : BitVec 32 := Scalar.subi v648 v650
  let c128_i32_216 : BitVec 32 := 128#32
  let c0_i32_219 : BitVec 32 := 0#32
  let v652 : BitVec 1 := Scalar.cmpi .sgt c128_i32_216 c0_i32_219
  let v653 : BitVec 32 := Scalar.extui v652
  let c0_i32_220 : BitVec 32 := 0#32
  let v654 : BitVec 1 := Scalar.cmpi .slt c128_i32_216 c0_i32_220
  let v655 : BitVec 32 := Scalar.extui v654
  let v656 : BitVec 32 := Scalar.subi v653 v655
  let v657 : BitVec 1 := Scalar.cmpi .ne v651 v656
  let v658 : BitVec 32 := Scalar.remsi v0 c128_i32_216
  let c0_i32_221 : BitVec 32 := 0#32
  let v659 : BitVec 1 := Scalar.cmpi .ne v658 c0_i32_221
  let v660 : BitVec 1 := Scalar.andi v657 v659
  let v646 : BitVec 32 := Scalar.divsi v0 c128_i32_216
  let c1_i32_222 : BitVec 32 := 1#32
  let v661 : BitVec 32 := Scalar.subi v646 c1_i32_222
  let v662 : BitVec 32 := Scalar.select v660 v661 v646
  let c2_i32_223 : BitVec 32 := 2#32
  let v663 : BitVec 32 := Scalar.addi v662 c2_i32_223
  let c128_i32_224 : BitVec 32 := 128#32
  let v664 : BitVec 32 := Scalar.muli v663 c128_i32_224
  v664
def k0_mult23 (i : grid0.Coords) : BitVec 32 :=
  let arg1 : BitVec 32 := BitVec.ofNat 32 (i 1).val
  let c512_i32 : BitVec 32 := 512#32
  let v0 : BitVec 32 := Scalar.muli arg1 c512_i32
  let c0_i32_252 : BitVec 32 := 0#32
  let v762 : BitVec 1 := Scalar.cmpi .sgt v0 c0_i32_252
  let v763 : BitVec 32 := Scalar.extui v762
  let c0_i32_253 : BitVec 32 := 0#32
  let v764 : BitVec 1 := Scalar.cmpi .slt v0 c0_i32_253
  let v765 : BitVec 32 := Scalar.extui v764
  let v766 : BitVec 32 := Scalar.subi v763 v765
  let c128_i32_251 : BitVec 32 := 128#32
  let c0_i32_254 : BitVec 32 := 0#32
  let v767 : BitVec 1 := Scalar.cmpi .sgt c128_i32_251 c0_i32_254
  let v768 : BitVec 32 := Scalar.extui v767
  let c0_i32_255 : BitVec 32 := 0#32
  let v769 : BitVec 1 := Scalar.cmpi .slt c128_i32_251 c0_i32_255
  let v770 : BitVec 32 := Scalar.extui v769
  let v771 : BitVec 32 := Scalar.subi v768 v770
  let v772 : BitVec 1 := Scalar.cmpi .ne v766 v771
  let v773 : BitVec 32 := Scalar.remsi v0 c128_i32_251
  let c0_i32_256 : BitVec 32 := 0#32
  let v774 : BitVec 1 := Scalar.cmpi .ne v773 c0_i32_256
  let v775 : BitVec 1 := Scalar.andi v772 v774
  let v761 : BitVec 32 := Scalar.divsi v0 c128_i32_251
  let c1_i32_257 : BitVec 32 := 1#32
  let v776 : BitVec 32 := Scalar.subi v761 c1_i32_257
  let v777 : BitVec 32 := Scalar.select v775 v776 v761
  let c3_i32 : BitVec 32 := 3#32
  let v778 : BitVec 32 := Scalar.addi v777 c3_i32
  let c128_i32_258 : BitVec 32 := 128#32
  let v779 : BitVec 32 := Scalar.muli v778 c128_i32_258
  v779
def k0_mult24 (i : grid0.Coords) : BitVec 32 :=
  let arg1 : BitVec 32 := BitVec.ofNat 32 (i 1).val
  let c512_i32 : BitVec 32 := 512#32
  let v0 : BitVec 32 := Scalar.muli arg1 c512_i32
  let c0_i32_286 : BitVec 32 := 0#32
  let v871 : BitVec 1 := Scalar.cmpi .sgt v0 c0_i32_286
  let v872 : BitVec 32 := Scalar.extui v871
  let c0_i32_287 : BitVec 32 := 0#32
  let v873 : BitVec 1 := Scalar.cmpi .slt v0 c0_i32_287
  let v874 : BitVec 32 := Scalar.extui v873
  let v875 : BitVec 32 := Scalar.subi v872 v874
  let c128_i32_285 : BitVec 32 := 128#32
  let c0_i32_288 : BitVec 32 := 0#32
  let v876 : BitVec 1 := Scalar.cmpi .sgt c128_i32_285 c0_i32_288
  let v877 : BitVec 32 := Scalar.extui v876
  let c0_i32_289 : BitVec 32 := 0#32
  let v878 : BitVec 1 := Scalar.cmpi .slt c128_i32_285 c0_i32_289
  let v879 : BitVec 32 := Scalar.extui v878
  let v880 : BitVec 32 := Scalar.subi v877 v879
  let v881 : BitVec 1 := Scalar.cmpi .ne v875 v880
  let v882 : BitVec 32 := Scalar.remsi v0 c128_i32_285
  let c0_i32_290 : BitVec 32 := 0#32
  let v883 : BitVec 1 := Scalar.cmpi .ne v882 c0_i32_290
  let v884 : BitVec 1 := Scalar.andi v881 v883
  let v870 : BitVec 32 := Scalar.divsi v0 c128_i32_285
  let c1_i32_291 : BitVec 32 := 1#32
  let v885 : BitVec 32 := Scalar.subi v870 c1_i32_291
  let v886 : BitVec 32 := Scalar.select v884 v885 v870
  let c3_i32_292 : BitVec 32 := 3#32
  let v887 : BitVec 32 := Scalar.addi v886 c3_i32_292
  let c128_i32_293 : BitVec 32 := 128#32
  let v888 : BitVec 32 := Scalar.muli v887 c128_i32_293
  v888
def k0_cond2 (i : grid0.Coords) : BitVec 1 :=
  let arg1 : BitVec 32 := BitVec.ofNat 32 (i 1).val
  let c7_i32 : BitVec 32 := 7#32
  let v987 : BitVec 1 := Scalar.cmpi .eq arg1 c7_i32
  let v988 : BitVec 32 := Scalar.extui v987
  let c0_i32_326 : BitVec 32 := 0#32
  let v989 : BitVec 1 := Scalar.cmpi .ne v988 c0_i32_326
  v989

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S6x4096x512 : Shape := ⟨3, ![6, 4096, 512]⟩
abbrev S4096x512 : Shape := ⟨2, ![4096, 512]⟩
abbrev S1x4096x512 : Shape := ⟨3, ![1, 4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 183
  | .vmem => 0
  | .smem => 0
  | _ => 0

abbrev hbmTy0_0 (i : Nat) : BufTy := match i % 128 with
  | 0 => ⟨S6x4096x512, .bf16⟩
  | 1 => ⟨S4096x512, .f32⟩
  | 2 => ⟨S1x4096x512, .bf16⟩
  | 3 => ⟨S4096x512, .bf16⟩
  | 4 => ⟨S4096x512, .f32⟩
  | 5 => ⟨S1x4096x512, .bf16⟩
  | 6 => ⟨S4096x512, .bf16⟩
  | 7 => ⟨S4096x512, .f32⟩
  | 8 => ⟨S1x4096x512, .bf16⟩
  | 9 => ⟨S4096x512, .bf16⟩
  | 10 => ⟨S4096x512, .f32⟩
  | 11 => ⟨S4096x8x64, .f32⟩
  | 12 => ⟨S4096x8x64, .f32⟩
  | 13 => ⟨S4096x8x64, .f32⟩
  | 14 => ⟨S8x4096x4096, .f32⟩
  | 15 => ⟨S_, .f32⟩
  | 16 => ⟨S8x4096x4096, .f32⟩
  | 17 => ⟨S8x4096x4096, .f32⟩
  | 18 => ⟨S4096, .i32⟩
  | 19 => ⟨S4096x1, .i32⟩
  | 20 => ⟨S4096, .i32⟩
  | 21 => ⟨S1x4096, .i32⟩
  | 22 => ⟨S4096x4096, .i32⟩
  | 23 => ⟨S4096x4096, .i32⟩
  | 24 => ⟨S4096x4096, .i1⟩
  | 25 => ⟨S8x4096x4096, .f32⟩
  | 26 => ⟨S_, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .i1⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .i1⟩
  | 43 => ⟨S_, .f32⟩
  | 44 => ⟨S8x4096x4096, .f32⟩
  | 45 => ⟨S8x4096x4096, .f32⟩
  | 46 => ⟨S_, .f32⟩
  | 47 => ⟨S8x4096x4096, .f32⟩
  | 48 => ⟨S8x4096x4096, .i1⟩
  | 49 => ⟨S_, .f32⟩
  | 50 => ⟨S8x4096x4096, .f32⟩
  | 51 => ⟨S8x4096x4096, .f32⟩
  | 52 => ⟨S8x4096x4096, .f32⟩
  | 53 => ⟨S8x4096x4096, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x4096x4096, .f32⟩
  | 62 => ⟨S8x4096x4096, .i1⟩
  | 63 => ⟨S_, .f32⟩
  | 64 => ⟨S8x4096x4096, .f32⟩
  | 65 => ⟨S8x4096x4096, .f32⟩
  | 66 => ⟨S8x4096x4096, .f32⟩
  | 67 => ⟨S8x4096x4096, .f32⟩
  | 68 => ⟨S8x4096x4096, .f32⟩
  | 69 => ⟨S_, .f32⟩
  | 70 => ⟨S8x4096x4096, .f32⟩
  | 71 => ⟨S8x4096x4096, .f32⟩
  | 72 => ⟨S8x4096x4096, .f32⟩
  | 73 => ⟨S8x4096x4096, .f32⟩
  | 74 => ⟨S8x4096x4096, .f32⟩
  | 75 => ⟨S_, .f32⟩
  | 76 => ⟨S8x4096x4096, .f32⟩
  | 77 => ⟨S8x4096x4096, .f32⟩
  | 78 => ⟨S8x4096x4096, .f32⟩
  | 79 => ⟨S8x4096x4096, .f32⟩
  | 80 => ⟨S8x4096x4096, .i1⟩
  | 81 => ⟨S8x4096x4096, .f32⟩
  | 82 => ⟨S8x4096x4096, .f32⟩
  | 83 => ⟨S8x4096x4096, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .f32⟩
  | 89 => ⟨S_, .f32⟩
  | 90 => ⟨S8x4096x4096, .f32⟩
  | 91 => ⟨S8x4096x4096, .i1⟩
  | 92 => ⟨S_, .f32⟩
  | 93 => ⟨S8x4096x4096, .f32⟩
  | 94 => ⟨S8x4096x4096, .f32⟩
  | 95 => ⟨S_, .f32⟩
  | 96 => ⟨S8x4096x4096, .f32⟩
  | 97 => ⟨S8x4096x4096, .i1⟩
  | 98 => ⟨S_, .f32⟩
  | 99 => ⟨S8x4096x4096, .f32⟩
  | 100 => ⟨S8x4096x4096, .f32⟩
  | 101 => ⟨S8x4096x4096, .f32⟩
  | 102 => ⟨S8x4096x4096, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S8x4096x4096, .f32⟩
  | 111 => ⟨S8x4096x4096, .i1⟩
  | 112 => ⟨S_, .f32⟩
  | 113 => ⟨S8x4096x4096, .f32⟩
  | 114 => ⟨S8x4096x4096, .f32⟩
  | 115 => ⟨S8x4096x4096, .f32⟩
  | 116 => ⟨S8x4096x4096, .f32⟩
  | 117 => ⟨S8x4096x4096, .f32⟩
  | 118 => ⟨S_, .f32⟩
  | 119 => ⟨S8x4096x4096, .f32⟩
  | 120 => ⟨S8x4096x4096, .f32⟩
  | 121 => ⟨S8x4096x4096, .f32⟩
  | 122 => ⟨S_, .f32⟩
  | 123 => ⟨S_, .f32⟩
  | 124 => ⟨S8x4096x4096, .i1⟩
  | 125 => ⟨S8x4096x4096, .f32⟩
  | 126 => ⟨S8x4096x4096, .f32⟩
  | 127 => ⟨S_, .f32⟩
  | _ => ⟨S6x4096x512, .bf16⟩

abbrev hbmTy0_1 (i : Nat) : BufTy := match i % 128 with
  | 0 => ⟨S8x4096x4096, .f32⟩
  | 1 => ⟨S_, .f32⟩
  | 2 => ⟨S_, .f32⟩
  | 3 => ⟨S8x4096x4096, .f32⟩
  | 4 => ⟨S8x4096x4096, .f32⟩
  | 5 => ⟨S8x4096x4096, .f32⟩
  | 6 => ⟨S8x4096x4096, .f32⟩
  | 7 => ⟨S_, .f32⟩
  | 8 => ⟨S_, .f32⟩
  | 9 => ⟨S8x4096x4096, .i1⟩
  | 10 => ⟨S8x4096x4096, .f32⟩
  | 11 => ⟨S8x4096x4096, .f32⟩
  | 12 => ⟨S_, .f32⟩
  | 13 => ⟨S8x4096x4096, .f32⟩
  | 14 => ⟨S8x64x4096, .f32⟩
  | 15 => ⟨S4096x8x64, .f32⟩
  | 16 => ⟨S4096x512, .f32⟩
  | 17 => ⟨S4096x8x64, .f32⟩
  | 18 => ⟨S8x64x4096, .f32⟩
  | 19 => ⟨S8x4096x4096, .f32⟩
  | 20 => ⟨S8x64x4096, .f32⟩
  | 21 => ⟨S4096x8x64, .f32⟩
  | 22 => ⟨S_, .f32⟩
  | 23 => ⟨S8x4096x4096, .f32⟩
  | 24 => ⟨S8x4096x4096, .f32⟩
  | 25 => ⟨S8x4096x4096, .f32⟩
  | 26 => ⟨S8x4096x4096, .f32⟩
  | 27 => ⟨S_, .f32⟩
  | 28 => ⟨S_, .f32⟩
  | 29 => ⟨S8x4096x4096, .f32⟩
  | 30 => ⟨S8x4096x4096, .f32⟩
  | 31 => ⟨S_, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S8x4096x4096, .f32⟩
  | 41 => ⟨S8x4096x4096, .f32⟩
  | 42 => ⟨S_, .f32⟩
  | 43 => ⟨S8x4096x4096, .f32⟩
  | 44 => ⟨S8x4096x4096, .f32⟩
  | 45 => ⟨S8x4096x64, .f32⟩
  | 46 => ⟨S4096x8x64, .f32⟩
  | 47 => ⟨S8x4096x64, .f32⟩
  | 48 => ⟨S4096x8x64, .f32⟩
  | 49 => ⟨S4096x512, .f32⟩
  | 50 => ⟨S4096x512, .f32⟩
  | 51 => ⟨S4096x512, .f32⟩
  | 52 => ⟨S4096x512, .bf16⟩
  | 53 => ⟨S4096x512, .bf16⟩
  | 54 => ⟨S4096x512, .bf16⟩
  | _ => ⟨S6x4096x512, .bf16⟩

abbrev hbmTy (i : Nat) : BufTy := match i / 128 with
  | 0 => hbmTy0_0 i
  | 1 => hbmTy0_1 i
  | _ => ⟨S6x4096x512, .bf16⟩

abbrev bufTy : (tb : Table) → Fin (tcTables nBuf tb) → BufTy
  | .hbm, ⟨i, _⟩ => hbmTy i
  | _, _ => ⟨S6x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_v23 : Ref sig .tc := ⟨.hbm, 73, rfl⟩
abbrev main_call1_v0 : Ref sig .tc := ⟨.hbm, 74, rfl⟩
abbrev main_call1_call0_cst : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_call0_v9 : Ref sig .tc := ⟨.hbm, 85, rfl⟩
abbrev main_call1_call0_v10 : Ref sig .tc := ⟨.hbm, 86, rfl⟩
abbrev main_call1_call0_v11 : Ref sig .tc := ⟨.hbm, 87, rfl⟩
abbrev main_call1_v1_0 : Ref sig .tc := ⟨.hbm, 88, rfl⟩
abbrev main_call1_call0_cst_0 : Ref sig .tc := ⟨.hbm, 89, rfl⟩
abbrev main_call1_call0_v13 : Ref sig .tc := ⟨.hbm, 90, rfl⟩
abbrev main_call1_call0_v14 : Ref sig .tc := ⟨.hbm, 91, rfl⟩
abbrev main_call1_call0_cst_1 : Ref sig .tc := ⟨.hbm, 92, rfl⟩
abbrev main_call1_call0_v15 : Ref sig .tc := ⟨.hbm, 93, rfl⟩
abbrev main_call1_call0_v16 : Ref sig .tc := ⟨.hbm, 94, rfl⟩
abbrev main_call1_call0_cst_2 : Ref sig .tc := ⟨.hbm, 95, rfl⟩
abbrev main_call1_call0_v17 : Ref sig .tc := ⟨.hbm, 96, rfl⟩
abbrev main_call1_call0_v18 : Ref sig .tc := ⟨.hbm, 97, rfl⟩
abbrev main_call1_call0_cst_3 : Ref sig .tc := ⟨.hbm, 98, rfl⟩
abbrev main_call1_call0_v19 : Ref sig .tc := ⟨.hbm, 99, rfl⟩
abbrev main_call1_call0_v20 : Ref sig .tc := ⟨.hbm, 100, rfl⟩
abbrev main_call1_call0_v21 : Ref sig .tc := ⟨.hbm, 101, rfl⟩
abbrev main_v24_1 : Ref sig .tc := ⟨.hbm, 102, rfl⟩
abbrev main_call1_call0_cst_4 : Ref sig .tc := ⟨.hbm, 103, rfl⟩
abbrev main_call1_call0_cst_5 : Ref sig .tc := ⟨.hbm, 104, rfl⟩
abbrev main_call1_call0_v23 : Ref sig .tc := ⟨.hbm, 105, rfl⟩
abbrev main_call1_call0_cst_6 : Ref sig .tc := ⟨.hbm, 106, rfl⟩
abbrev main_call1_call0_cst_7 : Ref sig .tc := ⟨.hbm, 107, rfl⟩
abbrev main_call1_call0_v24 : Ref sig .tc := ⟨.hbm, 108, rfl⟩
abbrev main_call1_call0_cst_8 : Ref sig .tc := ⟨.hbm, 109, rfl⟩
abbrev main_call1_call0_v25 : Ref sig .tc := ⟨.hbm, 110, rfl⟩
abbrev main_call1_call0_v26 : Ref sig .tc := ⟨.hbm, 111, rfl⟩
abbrev main_call1_call0_cst_9 : Ref sig .tc := ⟨.hbm, 112, rfl⟩
abbrev main_call1_call0_v27 : Ref sig .tc := ⟨.hbm, 113, rfl⟩
abbrev main_call1_call0_v28 : Ref sig .tc := ⟨.hbm, 114, rfl⟩
abbrev main_call1_call0_v29 : Ref sig .tc := ⟨.hbm, 115, rfl⟩
abbrev main_call1_call0_v30 : Ref sig .tc := ⟨.hbm, 116, rfl⟩
abbrev main_call1_call0_v31 : Ref sig .tc := ⟨.hbm, 117, rfl⟩
abbrev main_call1_call0_cst_10 : Ref sig .tc := ⟨.hbm, 118, rfl⟩
abbrev main_call1_call0_v32 : Ref sig .tc := ⟨.hbm, 119, rfl⟩
abbrev main_v24_2 : Ref sig .tc := ⟨.hbm, 120, rfl⟩
abbrev main_v24_0 : Ref sig .tc := ⟨.hbm, 121, rfl⟩
abbrev main_cst_0 : Ref sig .tc := ⟨.hbm, 122, rfl⟩
abbrev main_call2_v0 : Ref sig .tc := ⟨.hbm, 123, rfl⟩
abbrev main_v25_1 : Ref sig .tc := ⟨.hbm, 124, rfl⟩
abbrev main_call2_v2 : Ref sig .tc := ⟨.hbm, 125, rfl⟩
abbrev main_v25_0 : Ref sig .tc := ⟨.hbm, 126, rfl⟩
abbrev main_call2_cst : Ref sig .tc := ⟨.hbm, 127, rfl⟩
abbrev main_v25_2 : Ref sig .tc := ⟨.hbm, 128, rfl⟩
abbrev main_call3_cst : Ref sig .tc := ⟨.hbm, 129, rfl⟩
abbrev main_call3_v0 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_call5_cst : Ref sig .tc := ⟨.hbm, 150, rfl⟩
abbrev main_call5_v0 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_call6_cst : Ref sig .tc := ⟨.hbm, 155, rfl⟩
abbrev main_call6_v0 : Ref sig .tc := ⟨.hbm, 156, rfl⟩
abbrev main_v42 : Ref sig .tc := ⟨.hbm, 157, rfl⟩
abbrev main_v43 : Ref sig .tc := ⟨.hbm, 158, rfl⟩
abbrev main_call7_cst : Ref sig .tc := ⟨.hbm, 159, rfl⟩
abbrev main_call7_v0 : Ref sig .tc := ⟨.hbm, 160, rfl⟩
abbrev main_v44 : Ref sig .tc := ⟨.hbm, 161, rfl⟩
abbrev main_call8_v0 : Ref sig .tc := ⟨.hbm, 162, rfl⟩
abbrev main_call8_v1 : Ref sig .tc := ⟨.hbm, 163, rfl⟩
abbrev main_v45 : Ref sig .tc := ⟨.hbm, 164, rfl⟩
abbrev main_v46 : Ref sig .tc := ⟨.hbm, 165, rfl⟩
abbrev main_call9_v0 : Ref sig .tc := ⟨.hbm, 166, rfl⟩
abbrev main_call9_v1 : Ref sig .tc := ⟨.hbm, 167, rfl⟩
abbrev main_v47 : Ref sig .tc := ⟨.hbm, 168, rfl⟩
abbrev main_v48 : Ref sig .tc := ⟨.hbm, 169, rfl⟩
abbrev main_cst_2 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S5632x1024 : Shape := ⟨2, ![5632, 1024]⟩
abbrev S8x704x1024 : Shape := ⟨3, ![8, 704, 1024]⟩
abbrev S4096x8x704 : Shape := ⟨3, ![4096, 8, 704]⟩
abbrev S8x4096x704 : Shape := ⟨3, ![8, 4096, 704]⟩
abbrev S_ : Shape := ⟨0, ![]⟩
abbrev S8x128 : Shape := ⟨2, ![8, 128]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S4096x5632, .bf16⟩
  | .hbm, ⟨5, _⟩ => ⟨S4096x1024, .f32⟩
  | .hbm, ⟨6, _⟩ => ⟨S5632x1024, .f32⟩
  | .hbm, ⟨7, _⟩ => ⟨S5632x1024, .bf16⟩
  | .hbm, ⟨8, _⟩ => ⟨S8x704x1024, .bf16⟩
  | .hbm, ⟨9, _⟩ => ⟨S4096x8x704, .bf16⟩
  | .hbm, ⟨10, _⟩ => ⟨S8x4096x704, .bf16⟩
  | .hbm, ⟨11, _⟩ => ⟨S_, .f32⟩
  | .hbm, ⟨12, _⟩ => ⟨S8x128, .f32⟩
  | .hbm, ⟨13, _⟩ => ⟨S4096x1024, .f32⟩
  | .hbm, ⟨14, _⟩ => ⟨S1x1024, .f32⟩
  | .hbm, ⟨15, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![4, 8], ![false, false]⟩

def k0_cond4 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_11 : BitVec 32 := 0#32
  let v18 : BitVec 1 := Scalar.cmpi .ne v17 c0_i32_11
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x5632 : Shape := ⟨3, ![1, 4096, 5632]⟩
abbrev S1024 : Shape := ⟨1, ![1024]⟩
abbrev S4096 : Shape := ⟨1, ![4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5632, .f32⟩
  | .hbm, ⟨4, _⟩ => ⟨S4096x5632, .bf16⟩
  | .hbm, ⟨5, _⟩ => ⟨S4096x1024, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x5632, .f32⟩
  | .hbm, ⟨34, _⟩ => ⟨S4096x5632, .f32⟩
  | .hbm, ⟨35, _⟩ => ⟨S4096x5632, .f32⟩
  | .hbm, ⟨36, _⟩ => ⟨S1x4096x5632, .f32⟩
  | .hbm, ⟨37, _⟩ => ⟨S1x4096x1024, .f32⟩
  | .hbm, ⟨38, _⟩ => ⟨S_, .f32⟩
  | .hbm, ⟨39, _⟩ => ⟨S1x1024, .f32⟩
  | .hbm, ⟨40, _⟩ => ⟨S1x1x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S1x4096x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S1x4096x1024, .f32⟩
  | .hbm, ⟨49, _⟩ => ⟨S1x4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S1x4096x1024, .f32⟩
  | .hbm, ⟨54, _⟩ => ⟨S_, .f32⟩
  | .hbm, ⟨55, _⟩ => ⟨S1x4096, .f32⟩
  | .hbm, ⟨56, _⟩ => ⟨S1x4096x1, .f32⟩
  | .hbm, ⟨57, _⟩ => ⟨S1x4096x1024, .f32⟩
  | .hbm, ⟨58, _⟩ => ⟨S1x4096x1024, .f32⟩
  | .hbm, ⟨59, _⟩ => ⟨S1x4096x1, .f32⟩
  | .hbm, ⟨60, _⟩ => ⟨S_, .f32⟩
  | .hbm, ⟨61, _⟩ => ⟨S1x4096x1, .f32⟩
  | .hbm, ⟨62, _⟩ => ⟨S1x4096x1, .f32⟩
  | .hbm, ⟨63, _⟩ => ⟨S_, .f32⟩
  | .hbm, ⟨64, _⟩ => ⟨S4096, .f32⟩
  | .hbm, ⟨65, _⟩ => ⟨S1x4096, .f32⟩
  | .hbm, ⟨66, _⟩ => ⟨S1x4096x1024, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S_, .f32⟩
  | .hbm, ⟨72, _⟩ => ⟨S4096x1024, .f32⟩
  | .hbm, ⟨73, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S1x4096x1024 : Shape := ⟨3, ![1, 4096, 1024]⟩
abbrev S8x704x1024 : Shape := ⟨3, ![8, 704, 1024]⟩
abbrev S1x1024x704 : Shape := ⟨3, ![1, 1024, 704]⟩
abbrev S1x1024x1024 : Shape := ⟨3, ![1, 1024, 1024]⟩
abbrev S1x704x1024 : Shape := ⟨3, ![1, 704, 1024]⟩
abbrev S704x1024 : Shape := ⟨2, ![704, 1024]⟩
abbrev S1024x704 : Shape := ⟨2, ![1024, 704]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x8x704, .bf16⟩
  | .hbm, ⟨3, _⟩ => ⟨S8x4096x704, .bf16⟩
  | .hbm, ⟨4, _⟩ => ⟨S1x4096x1024, .bf16⟩
  | .hbm, ⟨5, _⟩ => ⟨S8x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x5632 : Shape := ⟨2, ![4096, 5632]⟩
abbrev S5632x1024 : Shape := ⟨2, ![5632, 1024]⟩
abbrev S1024x5632 : Shape := ⟨2, ![1024, 5632]⟩
abbrev S8x704x1024 : Shape := ⟨3, ![8, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S5632x1024, .f32⟩
  | .hbm, ⟨7, _⟩ => ⟨S8x704x1024, .f32⟩
  | .hbm, ⟨8, _⟩ => ⟨S8x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S4096x512 : Shape := ⟨2, ![4096, 512]⟩
abbrev S_ : Shape := ⟨0, ![]⟩
abbrev S8x128 : Shape := ⟨2, ![8, 128]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 18
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S4096x3072, .bf16⟩
  | .hbm, ⟨5, _⟩ => ⟨S4096x1024, .f32⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S1024x3072, .bf16⟩
  | .hbm, ⟨13, _⟩ => ⟨S_, .f32⟩
  | .hbm, ⟨14, _⟩ => ⟨S8x128, .f32⟩
  | .hbm, ⟨15, _⟩ => ⟨S4096x1024, .f32⟩
  | .hbm, ⟨16, _⟩ => ⟨S1x1024, .f32⟩
  | .hbm, ⟨17, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x3072, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x3072 : Shape := ⟨3, ![1, 4096, 3072]⟩
abbrev S1024 : Shape := ⟨1, ![1024]⟩
abbrev S4096 : Shape := ⟨1, ![4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x3072, .f32⟩
  | .hbm, ⟨4, _⟩ => ⟨S4096x3072, .bf16⟩
  | .hbm, ⟨5, _⟩ => ⟨S4096x1024, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x3072, .f32⟩
  | .hbm, ⟨34, _⟩ => ⟨S4096x3072, .f32⟩
  | .hbm, ⟨35, _⟩ => ⟨S4096x3072, .f32⟩
  | .hbm, ⟨36, _⟩ => ⟨S1x4096x3072, .f32⟩
  | .hbm, ⟨37, _⟩ => ⟨S1x4096x1024, .f32⟩
  | .hbm, ⟨38, _⟩ => ⟨S_, .f32⟩
  | .hbm, ⟨39, _⟩ => ⟨S1x1024, .f32⟩
  | .hbm, ⟨40, _⟩ => ⟨S1x1x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S1x4096x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S1x4096x1024, .f32⟩
  | .hbm, ⟨49, _⟩ => ⟨S1x4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S1x4096x1024, .f32⟩
  | .hbm, ⟨54, _⟩ => ⟨S_, .f32⟩
  | .hbm, ⟨55, _⟩ => ⟨S1x4096, .f32⟩
  | .hbm, ⟨56, _⟩ => ⟨S1x4096x1, .f32⟩
  | .hbm, ⟨57, _⟩ => ⟨S1x4096x1024, .f32⟩
  | .hbm, ⟨58, _⟩ => ⟨S1x4096x1024, .f32⟩
  | .hbm, ⟨59, _⟩ => ⟨S1x4096x1, .f32⟩
  | .hbm, ⟨60, _⟩ => ⟨S_, .f32⟩
  | .hbm, ⟨61, _⟩ => ⟨S1x4096x1, .f32⟩
  | .hbm, ⟨62, _⟩ => ⟨S1x4096x1, .f32⟩
  | .hbm, ⟨63, _⟩ => ⟨S_, .f32⟩
  | .hbm, ⟨64, _⟩ => ⟨S4096, .f32⟩
  | .hbm, ⟨65, _⟩ => ⟨S1x4096, .f32⟩
  | .hbm, ⟨66, _⟩ => ⟨S1x4096x1024, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S_, .f32⟩
  | .hbm, ⟨72, _⟩ => ⟨S4096x1024, .f32⟩
  | .hbm, ⟨73, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel5.lean ====
abbrev S4096x1024 : Shape := ⟨2, ![4096, 1024]⟩
abbrev S4096x3072 : Shape := ⟨2, ![4096, 3072]⟩
abbrev S4096x512 : Shape := ⟨2, ![4096, 512]⟩
abbrev S1024x3072 : Shape := ⟨2, ![1024, 3072]⟩
abbrev S1024x1024 : Shape := ⟨2, ![1024, 1024]⟩
abbrev S1024x512 : Shape := ⟨2, ![1024, 512]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x3072, .bf16⟩
  | .local _ .vmem, ⟨15, _⟩ => ⟨S1024x3072, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v57 : BitVec 1 := Scalar.cmpi .eq arg0 c3_i32
  let v58 : BitVec 32 := Scalar.extui v57
  let c0_i32_48 : BitVec 32 := 0#32
  let v59 : BitVec 1 := Scalar.cmpi .ne v58 c0_i32_48
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S4096x1024 : Shape := ⟨2, ![4096, 1024]⟩
abbrev S4096x3072 : Shape := ⟨2, ![4096, 3072]⟩
abbrev S3072x1024 : Shape := ⟨2, ![3072, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S3072x1024, .f32⟩
  | .hbm, ⟨5, _⟩ => ⟨S1024x3072, .f32⟩
  | .hbm, ⟨6, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S1x4096x1024 : Shape := ⟨3, ![1, 4096, 1024]⟩
abbrev S4x704x1024 : Shape := ⟨3, ![4, 704, 1024]⟩
abbrev S1x1024x704 : Shape := ⟨3, ![1, 1024, 704]⟩
abbrev S1x1024x1024 : Shape := ⟨3, ![1, 1024, 1024]⟩
abbrev S1x704x1024 : Shape := ⟨3, ![1, 704, 1024]⟩
abbrev S704x1024 : Shape := ⟨2, ![704, 1024]⟩
abbrev S1024x704 : Shape := ⟨2, ![1024, 704]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x4x704, .bf16⟩
  | .hbm, ⟨3, _⟩ => ⟨S4x4096x704, .bf16⟩
  | .hbm, ⟨4, _⟩ => ⟨S1x4096x1024, .bf16⟩
  | .hbm, ⟨5, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4x704x1024, .f32⟩
  | .hbm, ⟨7, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x4x704, .bf16⟩
  | .hbm, ⟨5, _⟩ => ⟨S4x4096x704, .bf16⟩
  | .hbm, ⟨6, _⟩ => ⟨S2816x1024, .bf16⟩
  | .hbm, ⟨7, _⟩ => ⟨S4x704x1024, .bf16⟩
  | .hbm, ⟨8, _⟩ => ⟨S4096x1024, .f32⟩
  | .hbm, ⟨9, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x4096x1024 : Shape := ⟨3, ![1, 4096, 1024]⟩
abbrev S1x1x1024 : Shape := ⟨3, ![1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S4096x1024, .f32⟩
  | .hbm, ⟨6, _⟩ => ⟨S1x4096x1024, .f32⟩
  | .hbm, ⟨7, _⟩ => ⟨S1x1x1024, .f32⟩
  | .hbm, ⟨8, _⟩ => ⟨S1x4096x1024, .f32⟩
  | .hbm, ⟨9, _⟩ => ⟨S1x4096x1024, .f32⟩
  | .hbm, ⟨10, _⟩ => ⟨S1x4096x1024, .f32⟩
  | .hbm, ⟨11, _⟩ => ⟨S1x4096x1024, .f32⟩
  | .hbm, ⟨12, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Math.lean ====
/-
  The mathematics of the backward pass of one head, over the reals: rows `t` of queries, rows `s` of keys, the key strictly
  before the query.
-/
module

public import Idealize.ShloMosaic.Lib.Pointwise

@[expose] public section
noncomputable section
namespace Cert.Attn

/-- The log of one plus the exponential. -/
def sp (x : ℝ) : ℝ := max x 0 + Real.log (1 + Real.exp (-|x|))

/-- The operands of a head: scaled queries, keys, values, gradient of the output. -/
structure Head where
  Q : ℕ → ℕ → ℝ
  K : ℕ → ℕ → ℝ
  V : ℕ → ℕ → ℝ
  D : ℕ → ℕ → ℝ

variable (x : Head)

/-- The logits. -/
def L (t s : ℕ) : ℝ := ∑ d ∈ Finset.range 64, x.Q t d * x.K s d
/-- The products of the output's gradient with the values. -/
def Z (t s : ℕ) : ℝ := ∑ d ∈ Finset.range 64, x.D t d * x.V s d
/-- How much a key that is passed takes away, in the log. -/
def m (t s : ℕ) : ℝ := if s < t then sp (L x t s) else 0
/-- Its sums over the first `n` keys. -/
def P (t n : ℕ) : ℝ := ∑ s ∈ Finset.range n, m x t s
/-- The weights. -/
def A (t s : ℕ) : ℝ := if s < t then Real.exp (L x t s - sp (L x t s) - P x t 4096 + P x t (s + 1)) else 0
/-- The gradient of the weights' logs. -/
def G (t s : ℕ) : ℝ := Z x t s * A x t s
/-- Its sums over the first `n` keys. -/
def PG (t n : ℕ) : ℝ := ∑ s ∈ Finset.range n, G x t s
/-- The gradient of the logits. -/
def E (t s : ℕ) : ℝ := if s < t then G x t s - PG x t (s + 1) * Real.exp (L x t s - sp (L x t s)) else 0
/-- The gradient of the scaled queries, of the first `n` keys. -/
def dQ (n t d : ℕ) : ℝ := ∑ s ∈ Finset.range n, E x t s * x.K s d
/-- The gradient of the keys, of the first `n` queries. -/
def dK (n s d : ℕ) : ℝ := ∑ t ∈ Finset.range n, x.Q t d * E x t s
/-- The gradient of the values, of the first `n` queries. -/
def dV (n s d : ℕ) : ℝ := ∑ t ∈ Finset.range n, x.D t d * A x t s

theorem m_of_le {t s : ℕ} (h : t ≤ s) : m x t s = 0 := if_neg (by omega)
theorem A_of_le {t s : ℕ} (h : t ≤ s) : A x t s = 0 := if_neg (by omega)
theorem G_of_le {t s : ℕ} (h : t ≤ s) : G x t s = 0 := by rw [G, A_of_le x h, mul_zero]
theorem E_of_le {t s : ℕ} (h : t ≤ s) : E x t s = 0 := if_neg (by omega)

theorem sum_add_of_zero (f : ℕ → ℝ) {a b : ℕ} (hab : a ≤ b) (h : ∀ s, a ≤ s → s < b → f s = 0) :
    ∑ s ∈ Finset.range b, f s = ∑ s ∈ Finset.range a, f s := by
  refine (Finset.sum_subset (Finset.range_mono hab) fun s hs hs' => ?_).symm
  exact h s (by simpa using hs') (by simpa using hs)

theorem P_of_le {t a b : ℕ} (h : t ≤ a) (hab : a ≤ b) : P x t b = P x t a :=
  sum_add_of_zero _ hab fun _ hs _ => m_of_le x (by omega)
theorem PG_of_le {t a b : ℕ} (h : t ≤ a) (hab : a ≤ b) : PG x t b = PG x t a :=
  sum_add_of_zero _ hab fun _ hs _ => G_of_le x (by omega)
theorem dQ_of_le {t a b d : ℕ} (h : t ≤ a) (hab : a ≤ b) : dQ x b t d = dQ x a t d :=
  sum_add_of_zero _ hab fun _ hs _ => by rw [E_of_le x (by omega), zero_mul]
theorem dK_of_le {s a b d : ℕ} (hab : a ≤ b) (h : b ≤ s + 1) : dK x b s d = dK x a s d :=
  sum_add_of_zero _ hab fun _ hs _ => by rw [E_of_le x (by omega), mul_zero]
theorem dV_of_le {s a b d : ℕ} (hab : a ≤ b) (h : b ≤ s + 1) : dV x b s d = dV x a s d :=
  sum_add_of_zero _ hab fun _ hs _ => by rw [A_of_le x (by omega), mul_zero]

theorem P_add (t a b : ℕ) : P x t (a + b) = P x t a + ∑ j ∈ Finset.range b, m x t (a + j) := Finset.sum_range_add _ a b
theorem PG_add (t a b : ℕ) : PG x t (a + b) = PG x t a + ∑ j ∈ Finset.range b, G x t (a + j) := Finset.sum_range_add _ a b
theorem dQ_add (t d a b : ℕ) : dQ x (a + b) t d = dQ x a t d + ∑ j ∈ Finset.range b, E x t (a + j) * x.K (a + j) d :=
  Finset.sum_range_add _ a b

theorem P_zero (t : ℕ) : P x t 0 = 0 := Finset.sum_range_zero _
theorem PG_zero (t : ℕ) : PG x t 0 = 0 := Finset.sum_range_zero _
theorem dQ_zero (t d : ℕ) : dQ x 0 t d = 0 := Finset.sum_range_zero _

/-- The queries before the last `512 - r` of a block of 512 add nothing to the gradient of a later key. -/
theorem dK_add {q r n s d : ℕ} (h : q + r ≤ s + 1) :
    dK x (q + (r + n)) s d = dK x q s d + ∑ i ∈ Finset.range n, x.Q (q + r + i) d * E x (q + r + i) s := by
  rw [← Nat.add_assoc, dK, Finset.sum_range_add, ← dK, dK_of_le x (Nat.le_add_right q r) h]
theorem dV_add {q r n s d : ℕ} (h : q + r ≤ s + 1) :
    dV x (q + (r + n)) s d = dV x q s d + ∑ i ∈ Finset.range n, x.D (q + r + i) d * A x (q + r + i) s := by
  rw [← Nat.add_assoc, dV, Finset.sum_range_add, ← dV, dV_of_le x (Nat.le_add_right q r) h]

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum over `Fin n` of reals is the real sum over `range n`. -/
theorem sum_fin {n : ℕ} (g : Fin n → EReal) (f : ℕ → ℝ) (h : ∀ i : Fin n, g i = (f i : EReal)) :
    ∑ i, g i = ((∑ i ∈ Finset.range n, f i : ℝ) : EReal) := by
  rw [Finset.sum_range, coe_sum]; exact Finset.sum_congr rfl fun i _ => h i

theorem sum_low (f : ℕ → ℝ) : ∑ c ∈ Finset.range 128, (if c < 64 then f c else 0) = ∑ c ∈ Finset.range 64, f c := by
  rw [← Finset.sum_filter]
  refine Finset.sum_congr ?_ fun _ _ => rfl
  ext i; simp only [Finset.mem_filter, Finset.mem_range]; omega

theorem sum_high (f : ℕ → ℝ) : ∑ c ∈ Finset.range 128, (if c < 64 then 0 else f (c - 64)) = ∑ c ∈ Finset.range 64, f c := by
  refine (Finset.sum_range_add _ 64 64).trans ?_
  rw [Finset.sum_eq_zero (fun i hi => if_pos (Finset.mem_range.mp hi)), zero_add]
  refine Finset.sum_congr rfl fun i _ => ?_
  rw [if_neg (by omega), Nat.add_sub_cancel_left]

theorem one_add_exp_pos (a : ℝ) : 0 < 1 + Real.exp a := add_pos one_pos (Real.exp_pos a)

end Cert.Attn
end
end
-- ==== Proof.Inputs.lean ====
/-
  The two arguments in the mathematics of `Math`: the heads that finite arguments hold.
-/
module

public import proofs.«01_k».proof.Proof.Math

@[expose] public section
noncomputable section
namespace Cert.Attn
open Idealize.ShloMosaic

/-- The projections of the step: of the second attention the queries are plane 3, the keys 4, the values 5. -/
abbrev Proj := (⟨3, ![6, 4096, 512]⟩ : Shape).Idx → EReal
/-- The gradient of the attention's output. -/
abbrev Grad := (⟨2, ![4096, 512]⟩ : Shape).Idx → EReal

variable (A : Proj) (D : Grad)

/-- A projection's entry as a real number. -/
def plane (i : Fin 6) (t e : ℕ) : ℝ := if h : t < 4096 ∧ e < 512 then (A (ix3 i ⟨t, h.1⟩ ⟨e, h.2⟩)).toReal else 0
/-- The gradient's entry as a real number. -/
def grad (t e : ℕ) : ℝ := if h : t < 4096 ∧ e < 512 then (D (ix2 ⟨t, h.1⟩ ⟨e, h.2⟩)).toReal else 0

/-- Head `h` of the arguments: its columns are `64 h, …, 64 h + 63`. -/
def headOf (h : ℕ) : Head where
  Q t d := plane A 3 t (64 * h + d) / 8
  K t d := plane A 4 t (64 * h + d)
  V t d := plane A 5 t (64 * h + d)
  D t d := grad D t (64 * h + d)

/-- The arguments that the call reads are finite. -/
structure Finite : Prop where
  plane : ∀ (i : Fin 6) (t : Fin 4096) (e : Fin 512), 3 ≤ i.val → ∃ r : ℝ, A (ix3 i t e) = (r : EReal)
  grad : ∀ (t : Fin 4096) (e : Fin 512), ∃ r : ℝ, D (ix2 t e) = (r : EReal)

variable {A D}

theorem Finite.plane_eq (hF : Finite A D) (i : Fin 6) (hi : 3 ≤ i.val) (t : Fin 4096) (e : Fin 512) {e' : ℕ} (he : e.val = e') :
    A (ix3 i t e) = (Attn.plane A i t e' : EReal) := by
  subst he
  obtain ⟨r, hr⟩ := hF.plane i t e hi
  rw [Attn.plane, dif_pos ⟨t.isLt, e.isLt⟩]
  show A (ix3 i t e) = ((A (ix3 i t e)).toReal : EReal)
  rw [hr, EReal.toReal_coe]

theorem Finite.grad_eq (hF : Finite A D) (t : Fin 4096) (e : Fin 512) {e' : ℕ} (he : e.val = e') :
    D (ix2 t e) = (Attn.grad D t e' : EReal) := by
  subst he
  obtain ⟨r, hr⟩ := hF.grad t e
  rw [Attn.grad, dif_pos ⟨t.isLt, e.isLt⟩]
  show D (ix2 t e) = ((D (ix2 t e)).toReal : EReal)
  rw [hr, EReal.toReal_coe]

/-! Numbers that both programs compute the same way -/

theorem sp_eq (a : ℝ) : sp a = Real.log (1 + Real.exp a) := by
  unfold sp
  rcases le_total a 0 with h | h
  · rw [max_eq_right h, abs_of_nonpos h, neg_neg, zero_add]
  · rw [max_eq_left h, abs_of_nonneg h]
    have e : 1 + Real.exp a = Real.exp a * (1 + Real.exp (-a)) := by
      rw [mul_add, mul_one, ← Real.exp_add, add_neg_cancel, Real.exp_zero, add_comm]
    rw [e, Real.log_mul (Real.exp_pos a).ne' (one_add_exp_pos _).ne', Real.log_exp]

theorem sp_neg (a : ℝ) : sp (-a) = sp a - a := by
  unfold sp
  rw [abs_neg]
  rcases le_total a 0 with h | h
  · rw [max_eq_right h, max_eq_left (by linarith)]; ring
  · rw [max_eq_left h, max_eq_right (by linarith)]; ring

/-- The logistic function and its complement add up to one. -/
theorem exp_split (a : ℝ) : Real.exp (-sp a) = 1 - Real.exp (a - sp a) := by
  have h := one_add_exp_pos a
  rw [sp_eq, Real.exp_neg, Real.exp_log h, Real.exp_sub, Real.exp_log h]
  field_simp
  ring

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The log of one plus the exponential, as it is computed. -/
theorem softplus_coe {x : EReal} {a : ℝ} (h : x = (a : EReal)) :
    (if x ≠ x then x else max x 0 + Ideal.log1p (Ideal.exp (-(FloatOps.absf (F := Ideal) (φ := .f32) x : EReal)))) = (sp a : EReal) := by
  rw [if_neg (by simp), h, Ideal.absf_def, ← EReal.coe_neg, max_coe, ← EReal.coe_neg, Ideal.exp_coe, Ideal.log1p,
    ← EReal.coe_one, ← EReal.coe_add, Ideal.log_coe, if_neg (not_le.mpr (one_add_exp_pos _)), ← EReal.coe_zero, max_coe, ← EReal.coe_add]
  rfl

theorem top_bits : Ideal.ofBits .f32 0x7F800000#32 = ⊤ := by
  simp [Ideal.ofBits, Ideal.ieee]

theorem eighth : Ideal.ofBits .f32 0x3E000000#32 = ((1 / 8 : ℝ) : EReal) := by
  simp [Ideal.ofBits, Ideal.ieee, -EReal.coe_mul]; norm_num

/-- Signed comparison of small words is comparison of numbers. -/
theorem sgt_small (a b : Fin 4096) : IntOp.cmpi .sgt (BitVec.ofNat 32 a.val) (BitVec.ofNat 32 b.val) = if b.val < a.val then 1#1 else 0#1 := by
  have ha := a.isLt
  have hb := b.isLt
  have h : BitVec.slt (BitVec.ofNat 32 b.val) (BitVec.ofNat 32 a.val) = decide (b.val < a.val) := by
    rw [BitVec.slt, BitVec.toInt_eq_toNat_of_lt (by simp; omega), BitVec.toInt_eq_toNat_of_lt (by simp; omega)]
    simp only [BitVec.toNat_ofNat, Nat.mod_eq_of_lt (show a.val < 2 ^ 32 by omega), Nat.mod_eq_of_lt (show b.val < 2 ^ 32 by omega)]
    simp
  show BitVec.ofBool (BitVec.slt (BitVec.ofNat 32 b.val) (BitVec.ofNat 32 a.val)) = _
  rw [h]; by_cases hab : b.val < a.val <;> simp [hab]

theorem select_bit {p : Prop} [Decidable p] (a b : EReal) : Scalar.select (if p then 1#1 else 0#1) a b = if p then a else b := by
  by_cases h : p
  · rw [if_pos h, if_pos h]; rfl
  · rw [if_neg h, if_neg h]; rfl

theorem ite_coe {p : Prop} [Decidable p] (a b : ℝ) : (if p then (a : EReal) else (b : EReal)) = ((if p then a else b : ℝ) : EReal) := by
  split <;> rfl

/-- The sum from a key on, of what vanishes nowhere in particular: all less those before. -/
theorem sum_from (f : ℕ → ℝ) {N s : ℕ} (hs : s < N) :
    ∑ n ∈ Finset.range N, (if s + n < N then f (s + n) else 0) = ∑ n ∈ Finset.range N, f n - ∑ n ∈ Finset.range s, f n := by
  obtain ⟨k, rfl⟩ : ∃ k, N = s + k := ⟨N - s, by omega⟩
  rw [Finset.sum_range_add f s k, add_sub_cancel_left, ← Finset.sum_filter]
  refine Finset.sum_congr ?_ fun _ _ => rfl
  ext i; simp only [Finset.mem_filter, Finset.mem_range]; omega

/-- The sum up to a key, as a window that ends there. -/
theorem sum_upto (f : ℕ → ℝ) {N s : ℕ} (hs : s < N) :
    ∑ n ∈ Finset.range N, (if N - 1 ≤ s + n then f (s + n - (N - 1)) else 0) = ∑ n ∈ Finset.range (s + 1), f n := by
  obtain ⟨k, rfl⟩ : ∃ k, N = k + (s + 1) := ⟨N - (s + 1), by omega⟩
  rw [Finset.sum_range_add _ k (s + 1), Finset.sum_eq_zero, zero_add]
  · refine Finset.sum_congr rfl fun i _ => ?_
    rw [if_pos (by omega)]
    congr 1; omega
  · intro i hi
    rw [Finset.mem_range] at hi
    exact if_neg (by omega)

end Cert.Attn
end
end
-- ==== Proof.FiniteArgs.lean ====
/-
  What the precondition says: the entries that the call reads are real numbers.
-/
module

public import proofs.«01_k».proof.Pre_finite
public import proofs.«01_k».proof.Proof.Inputs
public import Idealize.ShloMosaic.Lib.Pointwise

@[expose] public section
set_option maxRecDepth 16384
noncomputable section
namespace Cert.Attn
open Idealize.ShloMosaic

theorem real_of_abs_lt {x : EReal} (h : (FloatOps.absf (F := Ideal) (φ := .f32) x : EReal) < ⊤) : ∃ r : ℝ, x = (r : EReal) := by
  rw [Ideal.absf_def] at h
  induction x with
  | bot => simp at h
  | top => simp at h
  | coe r => exact ⟨r, rfl⟩

instance : Pre_finite.Facts where
  slices_S6x4096x512_S3x4096x512_3_0_0 := by decide
  bitsLt_bf16_f32 := by decide
  bcast_S_S3x4096x512 := by decide
  reducesTo_S3x4096x512_S_d0_1_2 := by decide
  h_S_ := by decide
  bcast_S_S4096x512 := by decide
  reducesTo_S4096x512_S_d0_1 := by decide

theorem andi_one {a b : BitVec 1} (h : IntOp.andi a b = 1#1) : a = 1#1 ∧ b = 1#1 := by
  revert a b; decide

theorem fold_and {ι : Type} (f : ι → BitVec 1) (S : Finset ι) (h : S.fold IntOp.andi 1#1 f = 1#1) {i : ι} (hi : i ∈ S) : f i = 1#1 := by
  classical
  induction S using Finset.induction_on with
  | empty => exact absurd hi (Finset.notMem_empty i)
  | insert a S ha ih =>
    rw [Finset.fold_insert ha] at h
    rcases Finset.mem_insert.mp hi with rfl | hi
    · exact (andi_one h).1
    · exact ih (andi_one h).2 hi

theorem fold_all {ι : Type} [Fintype ι] {f : ι → BitVec 1} (h : Finset.univ.fold IntOp.andi 1#1 f = 1#1) (i : ι) : f i = 1#1 :=
  fold_and f _ h (Finset.mem_univ i)

theorem lt_of_bit {x : EReal} {_ : Decidable ((FloatOps.absf (F := Ideal) (φ := .f32) x : EReal) < Ideal.ofBits .f32 0x7F800000#32)}
    (h : BitVec.ofBool (decide ((FloatOps.absf (F := Ideal) (φ := .f32) x : EReal) < Ideal.ofBits .f32 0x7F800000#32)) = 1#1) : ∃ r : ℝ, x = (r : EReal) := by
  refine real_of_abs_lt ?_
  rw [← top_bits]
  by_contra hn
  rw [decide_eq_false hn] at h
  exact absurd h (by decide)

theorem finite_of_pre [Pre_finite.Facts] (A : FVec Ideal Pre_finite.S6x4096x512 .bf16) (D : FVec Ideal Pre_finite.S4096x512 .f32)
    (h : Pre_finite.fn A D = fun _ => 1#1) : Finite A D := by
  have h0 := congrFun h ix0
  unfold Pre_finite.fn at h0
  revert h0
  pointwise
  intro h0
  refine ⟨fun i t e hi => ?_, fun t e => ?_⟩
  · have hlt : i.val - 3 < 3 := by have := i.isLt; omega
    have := lt_of_bit (fold_all (andi_one h0).1 (⟨i.val - 3, hlt⟩, t, e))
    have he : (⟨3 + (i.val - 3), by omega⟩ : Fin 6) = i := Fin.ext (by show 3 + (i.val - 3) = i.val; omega)
    rw [← he]
    exact this
  · exact lt_of_bit (fold_all (andi_one h0).2 (t, e))

end Cert.Attn
end
end
-- ==== Proof.Tile.lean ====
/-
  One tile of the backward pass of the decayed attention, as the kernel computes it: `n` rows of queries against one
  block of 128 keys. The definitions are stated for any number of rows, with an optional mask: a block below the diagonal
  has no mask and 512 rows; the four blocks on the diagonal have 512, 384, 256 and 128 rows and a mask.
-/
module

public import proofs.«01_k».proof.Proof.Gen.KernelIdeal.Value

@[expose] public section
set_option maxRecDepth 16384
noncomputable section
namespace Cert.KernelIdeal.Tile
open Cert.KernelIdeal Idealize.ShloMosaic
variable {F : FTy → Type} [FloatOps F]

/-- A matrix of `n` rows and `k` columns. -/
abbrev M (n k : ℕ) : Shape := ⟨2, ![n, k]⟩

theorem slices_M {n k n' k' a b : ℕ} (ha : a + n' ≤ n) (hb : b + k' ≤ k) : (M n k).Slices ![a, b] (M n' k') :=
  ⟨rfl, fun x => by match x with | 0 => exact ha | 1 => exact hb⟩

theorem concatenates_cols (n k k' : ℕ) : Shape.Concatenates [M n k, M n k'] (M n (k + k')) 1 := by
  refine ⟨Nat.le_refl 2, ?_, by show k + (k' + 0) = _; rw [Nat.add_zero]; rfl⟩
  intro s hs
  rcases List.mem_cons.mp hs with rfl | hs
  · exact ⟨rfl, fun b hb => by match b with | 0 => rfl | 1 => exact absurd rfl hb⟩
  · obtain rfl := List.mem_singleton.mp hs
    exact ⟨rfl, fun b hb => by match b with | 0 => rfl | 1 => exact absurd rfl hb⟩

theorem concatenates_rows {n n' N : ℕ} (k : ℕ) (h : n + n' = N) : Shape.Concatenates [M n k, M n' k] (M N k) 0 := by
  subst h
  refine ⟨Nat.le_refl 2, ?_, by show n + (n' + 0) = _; rw [Nat.add_zero]; rfl⟩
  intro s hs
  rcases List.mem_cons.mp hs with rfl | hs
  · exact ⟨rfl, fun b hb => by match b with | 1 => rfl | 0 => exact absurd rfl hb⟩
  · obtain rfl := List.mem_singleton.mp hs
    exact ⟨rfl, fun b hb => by match b with | 1 => rfl | 0 => exact absurd rfl hb⟩

theorem broadcasts_col (n k : ℕ) : (M n 1).Broadcasts (M n k) :=
  ⟨Nat.le_refl 2, fun x => by match x with | 0 => exact .inr fun _ => rfl | 1 => exact .inl rfl⟩

/-- The keys and the values of a block, laid out so that one product with `[q | do]` gives the logits and the products
of `do` with the values side by side. -/
def keysValues (z : FVec F S128x64 .bf16) (k v : Vec F S1x128x64 .bf16) : FVec F S256x128 .bf16 :=
  concatenate S256x128 0
    [⟨S128x128, concatenate S128x128 1 [⟨S128x64, shapeCast S128x64 k Gen.shapeCasts_S1x128x64_S128x64⟩, ⟨S128x64, z⟩]
        Gen.concatenates_S128x64_S128x64_S128x128_d1⟩,
     ⟨S128x128, concatenate S128x128 1 [⟨S128x64, z⟩, ⟨S128x64, shapeCast S128x64 v Gen.shapeCasts_S1x128x64_S128x64⟩]
        Gen.concatenates_S128x64_S128x64_S128x128_d1⟩]
    Gen.concatenates_S128x128_S128x128_S256x128_d0

section
variable {n : ℕ}

/-- The logits and the products with the values, side by side. -/
def both (kv : FVec F S256x128 .bf16) (qd : FVec F (M n 128) .bf16) : FVec F (M n 256) .f32 :=
  matmul (DotDims.transposedRhs n 128 256) none qd kv (constant (M n 256) .f32 0x00000000#32)

/-- The logits. -/
def lg (b : FVec F (M n 256) .f32) : FVec F (M n 128) .f32 :=
  extractStridedSlice (M n 128) ![0, 0] b (slices_M (by omega) (by omega))

/-- Softplus of the logits. -/
def sp (x : FVec F (M n 128) .f32) : FVec F (M n 128) .f32 :=
  addf (maximumf x (broadcast (M n 128) (Scalar.ofBits .f32 0x00000000#32)))
    (log (addf (broadcast (M n 128) (Scalar.ofBits .f32 0x3F800000#32))
      (exp (subf (broadcast (M n 128) (Scalar.ofBits .f32 0x00000000#32)) (absf x)))))

/-- The log of the sigmoid of the logits. -/
def lb (b : FVec F (M n 256) .f32) : FVec F (M n 128) .f32 := subf (lg b) (sp (lg b))

/-- The entries the mask keeps, zero elsewhere. -/
def cut (mk : Option (IVec (M n 128) 1)) (x : FVec F (M n 128) .f32) : FVec F (M n 128) .f32 :=
  match mk with
  | none => x
  | some c => select c x (broadcast (M n 128) (Scalar.ofBits .f32 0x00000000#32))

/-- Running sums along the keys: a value in two roundings against two copies of the triangle of ones, plus what the keys
before this block summed to. -/
def prefixes (pf : FVec F S256x128 .bf16) (x : FVec F (M n 128) .f32) (c : FVec F (M n 1) .f32) : FVec F (M n 128) .f32 :=
  addf (matmul (DotDims.plain n 256 128) none
      (concatenate (M n 256) 1
        [⟨M n 128, truncf .bf16 x Gen.bitsLt_bf16_f32⟩,
         ⟨M n 128, truncf .bf16 (subf x (extf .f32 (truncf .bf16 x Gen.bitsLt_bf16_f32) Gen.bitsLt_bf16_f32)) Gen.bitsLt_bf16_f32⟩]
        (concatenates_cols n 128 128))
      pf (constant (M n 128) .f32 0x00000000#32))
    (broadcastTo (M n 128) c (broadcasts_col n 128))

/-- What is carried from one block of keys to the next in the columns. -/
def lastCol (x : FVec F (M n 128) .f32) : FVec F (M n 1) .f32 :=
  extractStridedSlice (M n 1) ![0, 127] x (slices_M (by omega) (by omega))

/-- The prefix sums of softplus. -/
def pre (pf : FVec F S256x128 .bf16) (mk : Option (IVec (M n 128) 1)) (b : FVec F (M n 256) .f32) (cl : FVec F (M n 1) .f32) : FVec F (M n 128) .f32 :=
  prefixes pf (cut mk (sp (lg b))) cl

/-- The attention weights. -/
def att (pf : FVec F S256x128 .bf16) (mk : Option (IVec (M n 128) 1)) (b : FVec F (M n 256) .f32) (stot cl : FVec F (M n 1) .f32) : FVec F (M n 128) .f32 :=
  cut mk (exp (addf (subf (lb b) (broadcastTo (M n 128) stot (broadcasts_col n 128))) (pre pf mk b cl)))

/-- The gradient of the weights times the weights. -/
def gz (pf : FVec F S256x128 .bf16) (mk : Option (IVec (M n 128) 1)) (b : FVec F (M n 256) .f32) (stot cl : FVec F (M n 1) .f32) : FVec F (M n 128) .f32 :=
  mulf (extractStridedSlice (M n 128) ![0, 128] b (slices_M (by omega) (by omega))) (att pf mk b stot cl)

/-- Its prefix sums. -/
def pg (pf : FVec F S256x128 .bf16) (mk : Option (IVec (M n 128) 1)) (b : FVec F (M n 256) .f32) (stot cl cg : FVec F (M n 1) .f32) : FVec F (M n 128) .f32 :=
  prefixes pf (gz pf mk b stot cl) cg

/-- The gradient of the logits. -/
def dl (pf : FVec F S256x128 .bf16) (mk : Option (IVec (M n 128) 1)) (b : FVec F (M n 256) .f32) (stot cl cg : FVec F (M n 1) .f32) : FVec F (M n 128) .bf16 :=
  truncf .bf16 (cut mk (subf (gz pf mk b stot cl) (mulf (pg pf mk b stot cl cg) (exp (lb b))))) Gen.bitsLt_bf16_f32

/-- The queries' gradient after this block. -/
def dqAdd (dq : FVec F (M n 64) .f32) (x : FVec F (M n 128) .bf16) (k : Vec F S1x128x64 .bf16) : FVec F (M n 64) .f32 :=
  addf dq (matmul (DotDims.plain n 128 64) none x (shapeCast S128x64 k Gen.shapeCasts_S1x128x64_S128x64) (constant (M n 64) .f32 0x00000000#32))

/-- A block of a gradient of the keys (or of the values), transposed, after the rows' contribution was added. -/
def rowAdd (qt : FVec F (M 64 n) .bf16) (x : FVec F (M n 128) .bf16) (old : Vec F S1x64x128 .f32) : FVec F S1x64x128 .f32 :=
  shapeCast S1x64x128
    (addf (shapeCast S64x128 old Gen.shapeCasts_S1x64x128_S64x128)
      (matmul (DotDims.plain 64 n 128) none qt x (constant S64x128 .f32 0x00000000#32)))
    Gen.shapeCasts_S64x128_S1x64x128
end

/-- What a head carries along the blocks of keys: the two running sums and the gradient of the queries. -/
abbrev St (F : FTy → Type) : Type := FVec F (M 512 1) .f32 × FVec F (M 512 1) .f32 × FVec F (M 512 64) .f32

/-- A head's fixed operands at a grid point: triangle, zero block, rows `[q | do]`, sum of softplus. -/
structure Fix (F : FTy → Type) [FloatOps F] where
  pf : FVec F S256x128 .bf16
  z : FVec F S128x64 .bf16
  qd : FVec F (M 512 128) .bf16
  stot : FVec F (M 512 1) .f32

/-- One step over all 512 rows. -/
def stepAll (x : Fix F) (mk : Option (IVec (M 512 128) 1)) (k v : Vec F S1x128x64 .bf16) (s : St F) : St F :=
  (lastCol (pre x.pf mk (both (keysValues x.z k v) x.qd) s.1),
   lastCol (pg x.pf mk (both (keysValues x.z k v) x.qd) x.stot s.1 s.2.1),
   dqAdd s.2.2 (dl x.pf mk (both (keysValues x.z k v) x.qd) x.stot s.1 s.2.1) k)

/-- The gradient of the logits in that step. -/
def dlAll (x : Fix F) (mk : Option (IVec (M 512 128) 1)) (k v : Vec F S1x128x64 .bf16) (s : St F) : FVec F (M 512 128) .bf16 :=
  dl x.pf mk (both (keysValues x.z k v) x.qd) x.stot s.1 s.2.1

/-- The weights in that step. -/
def attAll (x : Fix F) (mk : Option (IVec (M 512 128) 1)) (k v : Vec F S1x128x64 .bf16) (s : St F) : FVec F (M 512 128) .bf16 :=
  truncf .bf16 (att x.pf mk (both (keysValues x.z k v) x.qd) x.stot s.1) Gen.bitsLt_bf16_f32

/-! A step over the last `n` rows alone, the `r` rows before them kept. -/
section
variable (n r : ℕ) (h : r + n = 512)

/-- The last `n` rows. -/
def lower {k : ℕ} {φ : FTy} (x : FVec F (M 512 k) φ) : FVec F (M n k) φ :=
  extractStridedSlice (M n k) ![r, 0] x (slices_M (by omega) (by omega))

/-- The first `r` rows of `x`, then `y`. -/
def under {k : ℕ} {φ : FTy} (x : FVec F (M 512 k) φ) (y : FVec F (M n k) φ) : FVec F (M 512 k) φ :=
  concatenate (M 512 k) 0 [⟨M r k, extractStridedSlice (M r k) ![0, 0] x (slices_M (by omega) (by omega))⟩, ⟨M n k, y⟩]
    (concatenates_rows k h)

/-- The last `n` columns of a transposed operand. -/
def right {φ : FTy} (x : FVec F (M 64 512) φ) : FVec F (M 64 n) φ :=
  extractStridedSlice (M 64 n) ![0, r] x (slices_M (by omega) (by omega))

def stepLow (x : Fix F) (mk : IVec (M n 128) 1) (k v : Vec F S1x128x64 .bf16) (s : St F) : St F :=
  (under n r h s.1 (lastCol (pre x.pf (some mk) (both (keysValues x.z k v) (lower n r h x.qd)) (lower n r h s.1))),
   under n r h s.2.1 (lastCol (pg x.pf (some mk) (both (keysValues x.z k v) (lower n r h x.qd)) (lower n r h x.stot) (lower n r h s.1) (lower n r h s.2.1))),
   under n r h s.2.2 (dqAdd (lower n r h s.2.2) (dl x.pf (some mk) (both (keysValues x.z k v) (lower n r h x.qd)) (lower n r h x.stot) (lower n r h s.1) (lower n r h s.2.1)) k))

def dlLow (x : Fix F) (mk : IVec (M n 128) 1) (k v : Vec F S1x128x64 .bf16) (s : St F) : FVec F (M n 128) .bf16 :=
  dl x.pf (some mk) (both (keysValues x.z k v) (lower n r h x.qd)) (lower n r h x.stot) (lower n r h s.1) (lower n r h s.2.1)

def attLow (x : Fix F) (mk : IVec (M n 128) 1) (k v : Vec F S1x128x64 .bf16) (s : St F) : FVec F (M n 128) .bf16 :=
  truncf .bf16 (att x.pf (some mk) (both (keysValues x.z k v) (lower n r h x.qd)) (lower n r h x.stot) (lower n r h s.1)) Gen.bitsLt_bf16_f32
end

/-- The strict triangle on the first `n` rows: row greater than column. -/
def strict (n : ℕ) (h : n ≤ 512) : IVec (M n 128) 1 :=
  cmpi .sgt (extractStridedSlice (M n 128) ![0, 0] (iota .tc S512x128 32 [0] Gen.iota_S512x128_d0_w32) (slices_M (by omega) (by omega)))
    (extractStridedSlice (M n 128) ![0, 0] (iota .tc S512x128 32 [1] Gen.iota_S512x128_d1_w32) (slices_M (by omega) (by omega)))

/-- The strict triangle on all rows. -/
def strictAll : IVec (M 512 128) 1 :=
  cmpi .sgt (iota .tc S512x128 32 [0] Gen.iota_S512x128_d0_w32) (iota .tc S512x128 32 [1] Gen.iota_S512x128_d1_w32)

end Cert.KernelIdeal.Tile
end
end
-- ==== Proof.Trip.lean ====
/-
  One trip of the kernel's loop over the keys, in the vocabulary of `Tile`: four blocks of 128 keys, each for the two
  heads; what is carried, and what is written into the two accumulators.
-/
module

public import proofs.«01_k».proof.Proof.Tile

@[expose] public section
set_option maxRecDepth 16384
noncomputable section
namespace Cert.KernelIdeal.Tile
open Cert.KernelIdeal Idealize.ShloMosaic
open Cert.KernelIdeal.Gen (k0_off1_inb k0_off2_inb k0_off3_inb)
variable {F : FTy → Type} [FloatOps F]

/-- What a load of 128 keys (or values) of one head reads. -/
abbrev blk (A : Memref sig .tc .vmem S1x4096x128 .bf16) (X : BufTy.Contents (Elt F) A.view.ty) (off : Fin 3 → ℕ)
    (h : ∀ a, off a + S1x128x64.size a ≤ S1x4096x128.size a) : Vec F S1x128x64 .bf16 :=
  View.readAt (Elt F) A.view (Rect.unit (s := S1x4096x128) off S1x128x64.size h).toLoadRect X

/-- What a load of one row block of an accumulator reads. -/
abbrev old (A : Memref sig .tc .vmem S64x64x128 .f32) (f : BufTy.Contents (Elt F) A.view.ty) (off : Fin 3 → ℕ)
    (h : ∀ a, off a + S1x64x128.size a ≤ S64x64x128.size a) : Vec F S1x64x128 .f32 :=
  View.readAt (Elt F) A.view (Rect.unit (s := S64x64x128) off S1x64x128.size h).toLoadRect f

/-- The block of keys `s` of trip `k`, first head. -/
def trip0 (i : grid0.Coords) (A : Memref sig .tc .vmem S1x4096x128 .bf16) (X : BufTy.Contents (Elt F) A.view.ty)
    (k : Fin (k0_t1_loop i).trips) (s : Fin 4) : Vec F S1x128x64 .bf16 :=
  blk A X (k0_off1 i k (BitVec.ofNat 32 s.val)) (k0_off1_inb i k s)

/-- The block of keys `s` of trip `k`, second head. -/
def trip1 (i : grid0.Coords) (A : Memref sig .tc .vmem S1x4096x128 .bf16) (X : BufTy.Contents (Elt F) A.view.ty)
    (k : Fin (k0_t1_loop i).trips) (s : Fin 4) : Vec F S1x128x64 .bf16 :=
  blk A X (k0_off3 i k (BitVec.ofNat 32 s.val)) (k0_off3_inb i k s)

/-- What a head carries after the first `n` of four blocks. -/
def subs (x : Fix F) (kk vv : Fin 4 → Vec F S1x128x64 .bf16) (s : St F) : ℕ → St F
  | 0 => s
  | n + 1 => stepAll x none (kk (Fin.ofNat 4 n)) (vv (Fin.ofNat 4 n)) (subs x kk vv s n)

/-- The two heads' carried values as one tuple. -/
abbrev tup (a b : St F) : FVec F S512x1 .f32 × FVec F S512x1 .f32 × FVec F S512x64 .f32 × FVec F S512x1 .f32 × FVec F S512x1 .f32 × FVec F S512x64 .f32 :=
  (a.1, a.2.1, a.2.2, b.1, b.2.1, b.2.2)

/-- What trip `k` writes for block `s` of head `h`: the row block, with the product of `qt` and `x s` added. -/
def tripPiece (i : grid0.Coords) (A : Memref sig .tc .vmem S64x64x128 .f32) (f : BufTy.Contents (Elt F) A.view.ty)
    (k : Fin (k0_t1_loop i).trips) (h : Fin 2) (qt : FVec F S64x512 .bf16) (x : FVec F S512x128 .bf16) (s : Fin 4) : View.Piece (Elt F) S64x64x128 .f32 :=
  ⟨Rect.unit (s := S64x64x128) (k0_off2 i k (BitVec.ofNat 32 (32 * h.val)) (BitVec.ofNat 32 s.val)) S1x64x128.size (k0_off2_inb i k h s),
    rowAdd qt x (old A f (k0_off2 i k (BitVec.ofNat 32 (32 * h.val)) (BitVec.ofNat 32 s.val)) (k0_off2_inb i k h s))⟩

/-- The gradient of the logits in block `s`. -/
def dlSub (x : Fix F) (kk vv : Fin 4 → Vec F S1x128x64 .bf16) (t : St F) (s : Fin 4) : FVec F S512x128 .bf16 :=
  dlAll x none (kk s) (vv s) (subs x kk vv t s.val)

/-- The weights in block `s`. -/
def attSub (x : Fix F) (kk vv : Fin 4 → Vec F S1x128x64 .bf16) (t : St F) (s : Fin 4) : FVec F S512x128 .bf16 :=
  attAll x none (kk s) (vv s) (subs x kk vv t s.val)

/-- The eight pieces a trip writes, last first. -/
def tripPieces (p : Fin 2 → Fin 4 → View.Piece (Elt F) S64x64x128 .f32) : List (View.Piece (Elt F) S64x64x128 .f32) :=
  [p 1 3, p 0 3, p 1 2, p 0 2, p 1 1, p 0 1, p 1 0, p 0 0]

/-- What trip `k` writes into an accumulator: operands `q0`, `q1` of the two heads, tiles `x0`, `x1`. -/
def tripWrites (i : grid0.Coords) (A : Memref sig .tc .vmem S64x64x128 .f32) (f : BufTy.Contents (Elt F) A.view.ty)
    (k : Fin (k0_t1_loop i).trips) (q0 q1 : FVec F S64x512 .bf16) (x0 x1 : Fin 4 → FVec F S512x128 .bf16) : List (View.Piece (Elt F) S64x64x128 .f32) :=
  tripPieces fun h s => tripPiece i A f k h (if h = 0 then q0 else q1) (if h = 0 then x0 s else x1 s) s

section
variable (𝒱 : Variants) (c : Dev nD) (bd : Option 𝒱.V) (i : grid0.Coords) (arg2 : Memref sig .tc .vmem S1x512x128 .bf16)
  (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole) (v0 : BitVec 32)
  (v14 : FVec F S256x128 .bf16) (v39 : FVec F S64x512 .bf16) (v48 : FVec F S64x512 .bf16) (v57 : FVec F S64x512 .bf16)
  (v66 : FVec F S64x512 .bf16) (v68 : FVec F S512x1 .f32) (v70 : FVec F S512x1 .f32) (v71 : FVec F S512x128 .bf16)
  (v72 : FVec F S512x128 .bf16) (v73 : FVec F S128x64 .bf16) (v74 : FVec F S512x1 .f32) (v75 : FVec F S512x1 .f32)
  (v76 : FVec F S512x64 .f32) (X_arg3 : BufTy.Contents (Elt F) arg3.view.ty)
  (X_arg4 : BufTy.Contents (Elt F) arg4.view.ty)
variable (k : Fin (k0_t1_loop i).trips) (s0 s1 : St F) (f_arg10 : BufTy.Contents (Elt F) arg10.view.ty) (f_arg11 : BufTy.Contents (Elt F) arg11.view.ty)

theorem tripR_eq :
    Gen.tripR_k0_t1 𝒱 c bd i arg2 harg2 arg3 harg3 arg4 harg4 arg5 harg5 arg6 harg6 arg7 harg7 arg8 harg8 arg9 harg9 arg10 harg10 arg11 harg11 v0 v14 v39 v48 v57 v66 v68 v70 v71 v72 v73 v74 v75 v76 X_arg3 X_arg4 k (tup s0 s1) f_arg10 f_arg11
      = tup (subs ⟨v14, v73, v71, v68⟩ (trip0 i arg3 X_arg3 k) (trip0 i arg4 X_arg4 k) s0 4)
          (subs ⟨v14, v73, v72, v70⟩ (trip1 i arg3 X_arg3 k) (trip1 i arg4 X_arg4 k) s1 4) := by
  unfold Gen.tripR_k0_t1 Gen.trip_k0_t1; dsimp only
  rfl

theorem tripL1_eq :
    (Gen.tripL_k0_t1 𝒱 c bd i arg2 harg2 arg3 harg3 arg4 harg4 arg5 harg5 arg6 harg6 arg7 harg7 arg8 harg8 arg9 harg9 arg10 harg10 arg11 harg11 v0 v14 v39 v48 v57 v66 v68 v70 v71 v72 v73 v74 v75 v76 X_arg3 X_arg4 k (tup s0 s1) f_arg10 f_arg11).1
      = tripWrites i arg10 f_arg10 k v39 v48
          (dlSub ⟨v14, v73, v71, v68⟩ (trip0 i arg3 X_arg3 k) (trip0 i arg4 X_arg4 k) s0)
          (dlSub ⟨v14, v73, v72, v70⟩ (trip1 i arg3 X_arg3 k) (trip1 i arg4 X_arg4 k) s1) := by
  unfold Gen.tripL_k0_t1 Gen.trip_k0_t1; dsimp only
  rfl

theorem tripL2_eq :
    (Gen.tripL_k0_t1 𝒱 c bd i arg2 harg2 arg3 harg3 arg4 harg4 arg5 harg5 arg6 harg6 arg7 harg7 arg8 harg8 arg9 harg9 arg10 harg10 arg11 harg11 v0 v14 v39 v48 v57 v66 v68 v70 v71 v72 v73 v74 v75 v76 X_arg3 X_arg4 k (tup s0 s1) f_arg10 f_arg11).2
      = tripWrites i arg11 f_arg11 k v57 v66
          (attSub ⟨v14, v73, v71, v68⟩ (trip0 i arg3 X_arg3 k) (trip0 i arg4 X_arg4 k) s0)
          (attSub ⟨v14, v73, v72, v70⟩ (trip1 i arg3 X_arg3 k) (trip1 i arg4 X_arg4 k) s1) := by
  unfold Gen.tripL_k0_t1 Gen.trip_k0_t1; dsimp only
  rfl
end

end Cert.KernelIdeal.Tile
end
end
-- ==== Proof.Point.lean ====
/-
  One grid point of the kernel, in the vocabulary of `Tile`: the operands it loads, the loop over the blocks of keys below
  the diagonal, the four blocks on the diagonal, and what is written into the accumulators and the gradient of the queries.
-/
module

public import proofs.«01_k».proof.Proof.Trip

@[expose] public section
set_option maxRecDepth 16384
noncomputable section
namespace Cert.KernelIdeal.Tile
open Cert.KernelIdeal Idealize.ShloMosaic
open Cert.KernelIdeal.Gen (k0_off7_inb k0_off8_inb k0_off9_inb)
variable {F : FTy → Type} [FloatOps F]

/-- The diagonal's block of keys `s`, first head. -/
def diag0 (i : grid0.Coords) (A : Memref sig .tc .vmem S1x4096x128 .bf16) (X : BufTy.Contents (Elt F) A.view.ty)
    (s : Fin 4) : Vec F S1x128x64 .bf16 :=
  blk A X (k0_off7 i (BitVec.ofNat 32 s.val)) (k0_off7_inb i s)

/-- The diagonal's block of keys `s`, second head. -/
def diag1 (i : grid0.Coords) (A : Memref sig .tc .vmem S1x4096x128 .bf16) (X : BufTy.Contents (Elt F) A.view.ty)
    (s : Fin 4) : Vec F S1x128x64 .bf16 :=
  blk A X (k0_off9 i (BitVec.ofNat 32 s.val)) (k0_off9_inb i s)

section
variable (x : Fix F) (kk vv : Fin 4 → Vec F S1x128x64 .bf16) (s : St F)

/-- What a head carries after the diagonal's first one, two, three blocks. -/
def diagSt1 : St F := stepAll x (some strictAll) (kk 0) (vv 0) s
def diagSt2 : St F := stepLow 384 128 rfl x (strict 384 (by omega)) (kk 1) (vv 1) (diagSt1 x kk vv s)
def diagSt3 : St F := stepLow 256 256 rfl x (strict 256 (by omega)) (kk 2) (vv 2) (diagSt2 x kk vv s)
def diagSt4 : St F := stepLow 128 384 rfl x (strict 128 (by omega)) (kk 3) (vv 3) (diagSt3 x kk vv s)

/-- The row block of the keys' gradient after block `b` of the diagonal. -/
def dlDiag (qt : FVec F S64x512 .bf16) (b : Fin 4) (o : Vec F S1x64x128 .f32) : FVec F S1x64x128 .f32 :=
  match b with
  | 0 => rowAdd qt (dlAll x (some strictAll) (kk 0) (vv 0) s) o
  | 1 => rowAdd (right 384 128 rfl qt) (dlLow 384 128 rfl x (strict 384 (by omega)) (kk 1) (vv 1) (diagSt1 x kk vv s)) o
  | 2 => rowAdd (right 256 256 rfl qt) (dlLow 256 256 rfl x (strict 256 (by omega)) (kk 2) (vv 2) (diagSt2 x kk vv s)) o
  | 3 => rowAdd (right 128 384 rfl qt) (dlLow 128 384 rfl x (strict 128 (by omega)) (kk 3) (vv 3) (diagSt3 x kk vv s)) o

/-- The row block of the values' gradient after block `b` of the diagonal. -/
def attDiag (qt : FVec F S64x512 .bf16) (b : Fin 4) (o : Vec F S1x64x128 .f32) : FVec F S1x64x128 .f32 :=
  match b with
  | 0 => rowAdd qt (attAll x (some strictAll) (kk 0) (vv 0) s) o
  | 1 => rowAdd (right 384 128 rfl qt) (attLow 384 128 rfl x (strict 384 (by omega)) (kk 1) (vv 1) (diagSt1 x kk vv s)) o
  | 2 => rowAdd (right 256 256 rfl qt) (attLow 256 256 rfl x (strict 256 (by omega)) (kk 2) (vv 2) (diagSt2 x kk vv s)) o
  | 3 => rowAdd (right 128 384 rfl qt) (attLow 128 384 rfl x (strict 128 (by omega)) (kk 3) (vv 3) (diagSt3 x kk vv s)) o
end

section
variable (i : grid0.Coords) (A : Memref sig .tc .vmem S64x64x128 .f32) (f : BufTy.Contents (Elt F) A.view.ty)
  (row : Fin 2 → Fin 4 → Vec F S1x64x128 .f32 → FVec F S1x64x128 .f32)

/-- One more row block written: `row` of what the earlier pieces `L` left there. -/
def push (h : Fin 2) (b : Fin 4) (L : List (View.Piece (Elt F) S64x64x128 .f32)) : List (View.Piece (Elt F) S64x64x128 .f32) :=
  ⟨Rect.unit (s := S64x64x128) (k0_off8 i (BitVec.ofNat 32 (32 * h.val)) (BitVec.ofNat 32 b.val)) S1x64x128.size (k0_off8_inb i h b),
    row h b (old A (A.view.writes (Elt F) f L) (k0_off8 i (BitVec.ofNat 32 (32 * h.val)) (BitVec.ofNat 32 b.val)) (k0_off8_inb i h b))⟩ :: L

/-- The eight row blocks the diagonal writes, after the pieces `L`. -/
def diagWrites (L : List (View.Piece (Elt F) S64x64x128 .f32)) : List (View.Piece (Elt F) S64x64x128 .f32) :=
  push i A f row 1 3 (push i A f row 0 3 (push i A f row 1 2 (push i A f row 0 2
    (push i A f row 1 1 (push i A f row 0 1 (push i A f row 1 0 (push i A f row 0 0 L)))))))
end

/-- Pieces `n - 1`, …, `0`. -/
def upTo {s : Shape} {e : EltTy} (p : Fin 64 → View.Piece (Elt F) s e) : (n : ℕ) → n ≤ 64 → List (View.Piece (Elt F) s e)
  | 0, _ => []
  | n + 1, h => p ⟨n, h⟩ :: upTo p n (Nat.le_of_succ_le h)

theorem out_inb (n : Fin 64) : ∀ a, (![128 * (n.val % 32), 64 * (n.val / 32)] : Fin 2 → ℕ) a + S128x64.size a ≤ S4096x128.size a := by
  revert n; decide +kernel

theorem row_inb (n : Fin 64) : ∀ a, (![n.val, 0, 0] : Fin 3 → ℕ) a + S1x64x128.size a ≤ S64x64x128.size a := by
  revert n; decide +kernel

/-- The piece of a gradient of the keys (or the values) that row block `n` of the accumulator gives: rows `n % 32` of
head `n / 32`, transposed. -/
def outPiece (A : Memref sig .tc .vmem S64x64x128 .f32) (f : BufTy.Contents (Elt F) A.view.ty) (n : Fin 64) : View.Piece (Elt F) S4096x128 .bf16 :=
  ⟨Rect.unit (s := S4096x128) ![128 * (n.val % 32), 64 * (n.val / 32)] S128x64.size (out_inb n),
    Gen.k0_pay4 Gen.k0_pay279 (old A f ![n.val, 0, 0] (row_inb n))⟩

section
variable (arg2 : Memref sig .tc .vmem S1x512x128 .bf16) (harg2 : arg2.IsWhole) (arg5 : Memref sig .tc .vmem S1x512x128 .f32) (harg5 : arg5.IsWhole)
  (arg6 : Memref sig .tc .vmem S512x128 .f32) (harg6 : arg6.IsWhole)
  (x0 : Vec F S1x512x128 .bf16) (x3 : Vec F S1x512x128 .f32) (x4 : Vec F S512x128 .f32)

/-- The queries of the two heads, as loaded. -/
def qh0 : FVec F S512x64 .bf16 :=
  Gen.k0_pay470 (View.readAt (Elt F) arg2.view (Rect.unit (s := S1x512x128) ![0, 0, 0] S1x512x64.size Gen.inb_S1x512x128_S1x512x64_0_0_0).toLoadRect (harg2.unread x0))
def qh1 : FVec F S512x64 .bf16 :=
  Gen.k0_pay471 (View.readAt (Elt F) arg2.view (Rect.unit (s := S1x512x128) ![0, 0, 64] S1x512x64.size Gen.inb_S1x512x128_S1x512x64_0_0_64).toLoadRect (harg2.unread x0))

/-- The gradient of the output, of the two heads. -/
def doh0 : FVec F S512x64 .bf16 :=
  Gen.k0_pay472 (View.readAt (Elt F) arg6.view (Rect.unit (s := S512x128) ![0, 0] S512x64.size Gen.inb_S512x128_S512x64_0_0).toLoadRect (harg6.unread x4))
def doh1 : FVec F S512x64 .bf16 :=
  Gen.k0_pay473 (View.readAt (Elt F) arg6.view (Rect.unit (s := S512x128) ![0, 64] S512x64.size Gen.inb_S512x128_S512x64_0_64).toLoadRect (harg6.unread x4))

/-- The scaled queries and the gradient of the output, transposed. -/
def qt0 : FVec F S64x512 .bf16 := Gen.k0_pay475 (qh0 arg2 harg2 x0) Gen.k0_pay474
def qt1 : FVec F S64x512 .bf16 := Gen.k0_pay476 (qh1 arg2 harg2 x0)
def dt0 : FVec F S64x512 .bf16 := Gen.k0_pay477 (doh0 arg6 harg6 x4)
def dt1 : FVec F S64x512 .bf16 := Gen.k0_pay478 (doh1 arg6 harg6 x4)

/-- The fixed operands of the two heads. -/
def fix0 : Fix F := ⟨Gen.k0_pay469, Gen.k0_pay483, Gen.k0_pay481 (qh0 arg2 harg2 x0) (doh0 arg6 harg6 x4),
  Gen.k0_pay479 (View.readAt (Elt F) arg5.view (Rect.unit (s := S1x512x128) ![0, 0, 0] S1x512x1.size Gen.inb_S1x512x128_S1x512x1_0_0_0).toLoadRect (harg5.unread x3))⟩
def fix1 : Fix F := ⟨Gen.k0_pay469, Gen.k0_pay483, Gen.k0_pay482 (qh1 arg2 harg2 x0) (doh1 arg6 harg6 x4),
  Gen.k0_pay480 (View.readAt (Elt F) arg5.view (Rect.unit (s := S1x512x128) ![0, 0, 64] S1x512x1.size Gen.inb_S1x512x128_S1x512x1_0_0_64).toLoadRect (harg5.unread x3))⟩
end

/-- The zeros written into the accumulators at a head pair's first point. -/
def zeroK : List (View.Piece (Elt F) S64x64x128 .f32) := [⟨Rect.unit (s := S64x64x128) ![0, 0, 0] S64x64x128.size Gen.inb_S64x64x128_S64x64x128_0_0_0, Gen.k0_pay467⟩]
def zeroV : List (View.Piece (Elt F) S64x64x128 .f32) := [⟨Rect.unit (s := S64x64x128) ![0, 0, 0] S64x64x128.size Gen.inb_S64x64x128_S64x64x128_0_0_0, Gen.k0_pay468⟩]

/-- What a head carries before the first block. -/
def start : St F := (Gen.k0_pay484, Gen.k0_pay485, Gen.k0_pay486)

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable (x0 : Vec F S1x512x128 .bf16) (x1 x2 : Vec F S1x4096x128 .bf16) (x3 : Vec F S1x512x128 .f32) (x4 : Vec F S512x128 .f32)

/-- The loop's state after `n` trips, from contents `f0`, `f1` of the accumulators. -/
def loopAt (f0 : BufTy.Contents (Elt F) arg10.view.ty) (f1 : BufTy.Contents (Elt F) arg11.view.ty) (n : ℕ) :=
  Gen.st_k0_t1 (F := F) Variants.none c none i arg2 harg2 arg3 harg3 arg4 harg4 arg5 harg5 arg6 harg6 arg7 harg7 arg8 harg8 arg9 harg9 arg10 harg10 arg11 harg11 (Scalar.muli (BitVec.ofNat 32 (i 1).val) 512#32)
    Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486
    (harg3.unread x1) (harg4.unread x2) f0 f1 (tup start start) n

/-- The second loop's state: it makes no trip. -/
def tailAt (f0 g0 : BufTy.Contents (Elt F) arg10.view.ty) (f1 g1 : BufTy.Contents (Elt F) arg11.view.ty) (n : ℕ) :=
  Gen.st_k0_t2 (F := F) Variants.none c none i arg2 harg2 arg3 harg3 arg4 harg4 arg5 harg5 arg6 harg6 arg7 harg7 arg8 harg8 arg9 harg9 arg10 harg10 arg11 harg11 (Scalar.muli (BitVec.ofNat 32 (i 1).val) 512#32)
    Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (k0_t1_loop i).ub
    (harg3.unread x1) (harg4.unread x2)
    g0 g1
    (loopAt c i arg2 harg2 arg3 harg3 arg4 harg4 arg5 harg5 arg6 harg6 arg7 harg7 arg8 harg8 arg9 harg9 arg10 harg10 arg11 harg11 x0 x1 x2 x3 x4 f0 f1 (k0_t1_loop i).trips).1 n

theorem tail_trips : (k0_t2_loop i).trips = 0 := Nat.le_zero.mp (Gen.k0_t2_abs i).2.1

theorem tailAt_eq (f0 g0 : BufTy.Contents (Elt F) arg10.view.ty) (f1 g1 : BufTy.Contents (Elt F) arg11.view.ty) :
    tailAt c i arg2 harg2 arg3 harg3 arg4 harg4 arg5 harg5 arg6 harg6 arg7 harg7 arg8 harg8 arg9 harg9 arg10 harg10 arg11 harg11 x0 x1 x2 x3 x4 f0 g0 f1 g1 (k0_t2_loop i).trips
      = ((loopAt c i arg2 harg2 arg3 harg3 arg4 harg4 arg5 harg5 arg6 harg6 arg7 harg7 arg8 harg8 arg9 harg9 arg10 harg10 arg11 harg11 x0 x1 x2 x3 x4 f0 f1 (k0_t1_loop i).trips).1, [], []) := by
  rw [tail_trips]; rfl

/-- The pieces the diagonal writes into the first accumulator: `T` the state of the loops, `L` the pieces before. -/
def writesK (T : FVec F S512x1 .f32 × FVec F S512x1 .f32 × FVec F S512x64 .f32 × FVec F S512x1 .f32 × FVec F S512x1 .f32 × FVec F S512x64 .f32)
    (f : BufTy.Contents (Elt F) arg10.view.ty) (L : List (View.Piece (Elt F) S64x64x128 .f32)) : List (View.Piece (Elt F) S64x64x128 .f32) :=
  diagWrites i arg10 f (fun h b o =>
      if h = 0 then dlDiag (fix0 arg2 harg2 arg5 harg5 arg6 harg6 x0 x3 x4) (diag0 i arg3 (harg3.unread x1)) (diag0 i arg4 (harg4.unread x2)) (T.1, T.2.1, T.2.2.1) (qt0 arg2 harg2 x0) b o
      else dlDiag (fix1 arg2 harg2 arg5 harg5 arg6 harg6 x0 x3 x4) (diag1 i arg3 (harg3.unread x1)) (diag1 i arg4 (harg4.unread x2)) (T.2.2.2.1, T.2.2.2.2.1, T.2.2.2.2.2) (qt1 arg2 harg2 x0) b o)
    L

/-- The pieces the diagonal writes into the second accumulator. -/
def writesV (T : FVec F S512x1 .f32 × FVec F S512x1 .f32 × FVec F S512x64 .f32 × FVec F S512x1 .f32 × FVec F S512x1 .f32 × FVec F S512x64 .f32)
    (f : BufTy.Contents (Elt F) arg11.view.ty) (L : List (View.Piece (Elt F) S64x64x128 .f32)) : List (View.Piece (Elt F) S64x64x128 .f32) :=
  diagWrites i arg11 f (fun h b o =>
      if h = 0 then attDiag (fix0 arg2 harg2 arg5 harg5 arg6 harg6 x0 x3 x4) (diag0 i arg3 (harg3.unread x1)) (diag0 i arg4 (harg4.unread x2)) (T.1, T.2.1, T.2.2.1) (dt0 arg6 harg6 x4) b o
      else attDiag (fix1 arg2 harg2 arg5 harg5 arg6 harg6 x0 x3 x4) (diag1 i arg3 (harg3.unread x1)) (diag1 i arg4 (harg4.unread x2)) (T.2.2.2.1, T.2.2.2.2.1, T.2.2.2.2.2) (dt1 arg6 harg6 x4) b o)
    L

/-- The two pieces of the queries' gradient, last first. -/
def writesQ (T : FVec F S512x1 .f32 × FVec F S512x1 .f32 × FVec F S512x64 .f32 × FVec F S512x1 .f32 × FVec F S512x1 .f32 × FVec F S512x64 .f32) :
    List (View.Piece (Elt F) S512x128 .bf16) :=
  [⟨Rect.unit (s := S512x128) ![0, 64] S512x64.size Gen.inb_S512x128_S512x64_0_64,
      Gen.k0_pay2 (diagSt4 (fix1 arg2 harg2 arg5 harg5 arg6 harg6 x0 x3 x4) (diag1 i arg3 (harg3.unread x1)) (diag1 i arg4 (harg4.unread x2)) (T.2.2.2.1, T.2.2.2.2.1, T.2.2.2.2.2)).2.2⟩,
   ⟨Rect.unit (s := S512x128) ![0, 0] S512x64.size Gen.inb_S512x128_S512x64_0_0,
      Gen.k0_pay2 (diagSt4 (fix0 arg2 harg2 arg5 harg5 arg6 harg6 x0 x3 x4) (diag0 i arg3 (harg3.unread x1)) (diag0 i arg4 (harg4.unread x2)) (T.1, T.2.1, T.2.2.1)).2.2⟩]
end

end Cert.KernelIdeal.Tile
end
end
-- ==== Proof.TileIdeal.lean ====
/-
  What a tile's arrays hold when their entries are real: each definition of `Tile` at one entry, over the extended reals.
-/
module

public import proofs.«01_k».proof.Proof.Tile
public import proofs.«01_k».proof.Proof.Math
public import Idealize.ShloMosaic.Lib.Pointwise.IndexVar
public import Idealize.ShloMosaic.Lib.Pointwise.IndexBridge
public import Idealize.ShloMosaic.Lib.MatmulPlain

@[expose] public section
noncomputable section
namespace Cert.KernelIdeal.Tile
open Cert.KernelIdeal Idealize.ShloMosaic

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

theorem neg_abs_coe (a : ℝ) : (0 : EReal) - max (a : EReal) (-(a : EReal)) = ((-|a| : ℝ) : EReal) := by
  rw [← EReal.coe_neg, ← coe_max, ← EReal.coe_zero, ← EReal.coe_sub, zero_sub]; rfl

section
variable {n : ℕ}

theorem lg_apply (b : FVec Ideal (M n 256) .f32) (r : Fin n) (j : Fin 128) :
    lg b (ix2 r j) = b (ix2 r ⟨j, by omega⟩) := by
  unfold lg; pointwise

theorem sp_apply (x : FVec Ideal (M n 128) .f32) (r : Fin n) (j : Fin 128) (a : ℝ) (h : x (ix2 r j) = (a : EReal)) :
    sp x (ix2 r j) = ((Attn.sp a : ℝ) : EReal) := by
  unfold sp
  pointwise
  rw [h, Ideal.absf_def, neg_abs_coe, Ideal.exp_coe, ← EReal.coe_one, ← EReal.coe_add, Ideal.log_coe,
    if_neg (not_le.mpr (Attn.one_add_exp_pos _)), ← EReal.coe_zero, ← coe_max, ← EReal.coe_add]
  rfl

theorem both_apply (kv : FVec Ideal S256x128 .bf16) (x : FVec Ideal (M n 128) .bf16) (r : Fin n) (j : Fin 256) :
    both kv x (ix2 r j) = ∑ c : Fin 128, x (ix2 r c) * kv (ix2 j c) := by
  unfold both; pointwise

theorem keysValues_apply (z : FVec Ideal S128x64 .bf16) (k v : Vec Ideal S1x128x64 .bf16) (hz : ∀ j d, z (ix2 j d) = 0) (j : Fin 256) (d : Fin 128) :
    keysValues z k v (ix2 j d) =
      if h : j.val < 128 then (if h' : d.val < 64 then k (ix3 0 ⟨j, h⟩ ⟨d, h'⟩) else 0)
      else if h' : d.val < 64 then 0 else v (ix3 0 ⟨j - 128, by omega⟩ ⟨d - 64, by omega⟩) := by
  unfold keysValues
  pointwise [hz]

theorem col_apply (c : FVec Ideal (M n 1) .f32) (r : Fin n) (j : Fin 128) :
    broadcastTo (M n 128) c (broadcasts_col n 128) (ix2 r j) = c (ix2 r 0) := by
  pointwise
  congr 2
  by_cases hn : n = 1
  · exact (dif_pos hn).trans (Fin.ext (by have := r.2; simp only; omega))
  · exact dif_neg hn

theorem prefixes_apply (pf : FVec Ideal S256x128 .bf16) (hp : ∀ (i : Fin 256) (j : Fin 128), pf (ix2 i j) = if i.val % 128 ≤ j.val then 1 else 0)
    (x : FVec Ideal (M n 128) .f32) (c : FVec Ideal (M n 1) .f32) (r : Fin n) (j : Fin 128) (f : ℕ → ℝ) (c' : ℝ)
    (hx : ∀ i : Fin 128, x (ix2 r i) = (f i : EReal)) (hc : c (ix2 r 0) = (c' : EReal)) :
    prefixes pf x c (ix2 r j) = ((c' + ∑ i ∈ Finset.range (j + 1), f i : ℝ) : EReal) := by
  unfold prefixes
  refine (congrArg (_ + ·) (col_apply c r j)).trans ?_
  pointwise
  rw [hc, Attn.sum_fin _ (fun i => if i ≤ j.val then f i else 0), Attn.sum_fin _ (fun _ => 0)]
  · rw [Finset.sum_const_zero, EReal.coe_zero, add_zero, ← EReal.coe_add, ← Finset.sum_filter]
    congr 1
    rw [add_comm]
    congr 1
    refine Finset.sum_congr ?_ fun _ _ => rfl
    ext i; simp only [Finset.mem_filter, Finset.mem_range]; have := j.2; omega
  · intro i
    rw [hx, ← EReal.coe_sub, sub_self, EReal.coe_zero, zero_mul]
  · intro i
    have := i.2
    rw [hx, hp, Nat.mod_eq_of_lt (by simpa using i.2)]
    simp only
    split
    · rw [mul_one]
    · rw [mul_zero, EReal.coe_zero]

theorem lastCol_apply (x : FVec Ideal (M n 128) .f32) (r : Fin n) : lastCol x (ix2 r 0) = x (ix2 r 127) := by
  unfold lastCol; pointwise

theorem dqAdd_apply (dq : FVec Ideal (M n 64) .f32) (x : FVec Ideal (M n 128) .bf16) (k : Vec Ideal S1x128x64 .bf16) (r : Fin n) (d : Fin 64) :
    dqAdd dq x k (ix2 r d) = dq (ix2 r d) + ∑ j : Fin 128, x (ix2 r j) * k (ix3 0 j d) := by
  unfold dqAdd; pointwise

theorem rowAdd_apply (qt : FVec Ideal (M 64 n) .bf16) (x : FVec Ideal (M n 128) .bf16) (o : Vec Ideal S1x64x128 .f32) (d : Fin 64) (j : Fin 128) :
    rowAdd qt x o (ix3 0 d j) = o (ix3 0 d j) + ∑ r : Fin n, qt (ix2 d r) * x (ix2 r j) := by
  unfold rowAdd
  pointwise
  congr 1
  have := Ideal.matmul_plain_apply (M := 64) (K := n) (N := 128) none qt x (constant S64x128 .f32 0x00000000#32) d j
  rw [ix2_eq_valueIdx]
  refine this.trans ?_
  rw [← ix2_eq_valueIdx]
  pointwise
  simp only [← ix2_eq_valueIdx]

theorem under_apply {k r : ℕ} (h : r + n = 512) (x : FVec Ideal (M 512 k) .f32) (y : FVec Ideal (M n k) .f32) (t : Fin 512) (j : Fin k) :
    under n r h x y (ix2 t j) = if h' : t.val < r then x (ix2 t j) else y (ix2 ⟨t - r, by omega⟩ j) := by
  unfold under; pointwise

theorem lower_apply {k r : ℕ} {φ : FTy} (h : r + n = 512) (x : FVec Ideal (M 512 k) φ) (t : Fin n) (j : Fin k) :
    lower n r h x (ix2 t j) = x (ix2 ⟨r + t, by omega⟩ j) := by
  unfold lower; pointwise

theorem right_apply {r : ℕ} {φ : FTy} (h : r + n = 512) (x : FVec Ideal (M 64 512) φ) (d : Fin 64) (t : Fin n) :
    right n r h x (ix2 d t) = x (ix2 d ⟨r + t, by omega⟩) := by
  unfold right; pointwise
end

theorem sgt_small (a b : ℕ) (ha : a < 512) (hb : b < 512) : IntOp.cmpi .sgt (BitVec.ofNat 32 a) (BitVec.ofNat 32 b) = if b < a then 1#1 else 0#1 := by
  have h : BitVec.slt (BitVec.ofNat 32 b) (BitVec.ofNat 32 a) = decide (b < a) := by
    rw [BitVec.slt, BitVec.toInt_eq_toNat_of_lt (by simp; omega), BitVec.toInt_eq_toNat_of_lt (by simp; omega)]
    simp only [BitVec.toNat_ofNat, Nat.mod_eq_of_lt (show a < 2 ^ 32 by omega), Nat.mod_eq_of_lt (show b < 2 ^ 32 by omega)]
    simp
  show BitVec.ofBool (BitVec.slt (BitVec.ofNat 32 b) (BitVec.ofNat 32 a)) = _
  rw [h]; by_cases hab : b < a <;> simp [hab]

theorem strict_apply {n : ℕ} (h : n ≤ 512) (r : Fin n) (j : Fin 128) : strict n h (ix2 r j) = if j.val < r.val then 1#1 else 0#1 := by
  unfold strict
  pointwise
  exact sgt_small _ _ (by omega) (by omega)

theorem strictAll_apply (r : Fin 512) (j : Fin 128) : strictAll (ix2 r j) = if j.val < r.val then 1#1 else 0#1 := by
  unfold strictAll
  pointwise
  exact sgt_small _ _ (by omega) (by omega)

end Cert.KernelIdeal.Tile
end
end
-- ==== Proof.TileValue.lean ====
/-
  A tile of `Tile` computes the mathematics of `Math`: when its operands are a head's rows `t0, t0 + 1, …` and its keys
  `s0, s0 + 1, …`, its arrays are the weights and the gradients of those rows and keys.
-/
module

public import proofs.«01_k».proof.Proof.TileIdeal

@[expose] public section
noncomputable section
namespace Cert.KernelIdeal.Tile
open Cert.KernelIdeal Idealize.ShloMosaic

/-- The triangle of ones the running sums are taken with, and a block of zeros. -/
def Fixed (pf : FVec Ideal S256x128 .bf16) (z : FVec Ideal S128x64 .bf16) : Prop :=
  (∀ (i : Fin 256) (j : Fin 128), pf (ix2 i j) = if i.val % 128 ≤ j.val then 1 else 0) ∧ ∀ j d, z (ix2 j d) = 0

/-- The block holds the head's keys and values from `s0` on. -/
def Keys (x : Attn.Head) (s0 : ℕ) (k v : Vec Ideal S1x128x64 .bf16) : Prop :=
  (∀ (j : Fin 128) (d : Fin 64), k (ix3 0 j d) = (x.K (s0 + j) d : EReal)) ∧ ∀ (j : Fin 128) (d : Fin 64), v (ix3 0 j d) = (x.V (s0 + j) d : EReal)

/-- The rows hold the head's scaled queries and output gradients from `t0` on, and their sums. -/
def Rows {n : ℕ} (x : Attn.Head) (t0 : ℕ) (qd : FVec Ideal (M n 128) .bf16) (stot : FVec Ideal (M n 1) .f32) : Prop :=
  (∀ (r : Fin n) (d : Fin 128), qd (ix2 r d) = ((if d.val < 64 then x.Q (t0 + r) d else x.D (t0 + r) (d - 64) : ℝ) : EReal)) ∧
    ∀ r : Fin n, stot (ix2 r 0) = (Attn.P x (t0 + r) 4096 : EReal)

/-- The mask keeps the keys before the query. -/
def Keeps {n : ℕ} (mk : Option (IVec (M n 128) 1)) (t0 s0 : ℕ) : Prop :=
  match mk with
  | none => ∀ (r : Fin n) (j : Fin 128), s0 + j.val < t0 + r.val
  | some c => ∀ (r : Fin n) (j : Fin 128), c (ix2 r j) = if s0 + j.val < t0 + r.val then 1#1 else 0#1

section
variable {n : ℕ} {x : Attn.Head} {t0 s0 : ℕ} {pf : FVec Ideal S256x128 .bf16} {z : FVec Ideal S128x64 .bf16}
  {k v : Vec Ideal S1x128x64 .bf16} {qd : FVec Ideal (M n 128) .bf16} {stot cl cg : FVec Ideal (M n 1) .f32}
  {mk : Option (IVec (M n 128) 1)}
  (hf : Fixed pf z) (hk : Keys x s0 k v) (hr : Rows x t0 qd stot) (hm : Keeps mk t0 s0)
  (hl : ∀ r : Fin n, cl (ix2 r 0) = (Attn.P x (t0 + r) s0 : EReal))
  (hg : ∀ r : Fin n, cg (ix2 r 0) = (Attn.PG x (t0 + r) s0 : EReal))

include hm in
theorem cut_val (y : FVec Ideal (M n 128) .f32) (r : Fin n) (j : Fin 128) (a : ℝ) (h : y (ix2 r j) = (a : EReal)) :
    cut mk y (ix2 r j) = ((if s0 + j.val < t0 + r.val then a else 0 : ℝ) : EReal) := by
  cases mk with
  | none => rw [if_pos (hm r j)]; exact h
  | some c =>
    have hc := hm r j
    simp only [cut]
    pointwise [hc]
    by_cases hs : s0 + j.val < t0 + r.val
    · simp [hs, h, Scalar.select]
    · simp [hs, Scalar.select]

include hf hk hr in
theorem lg_val (r : Fin n) (j : Fin 128) : lg (both (keysValues z k v) qd) (ix2 r j) = (Attn.L x (t0 + r) (s0 + j) : EReal) := by
  rw [lg_apply, both_apply, Attn.sum_fin _ (fun c => if c < 64 then x.Q (t0 + r) c * x.K (s0 + j) c else 0), Attn.sum_low]
  · rfl
  · intro c
    rw [keysValues_apply _ _ _ hf.2, dif_pos j.2, hr.1]
    by_cases hc : c.val < 64
    · rw [dif_pos hc, hk.1, if_pos hc, if_pos hc, ← EReal.coe_mul]
    · rw [dif_neg hc, mul_zero, if_neg hc]; rfl

include hf hk hr in
theorem zt_val (r : Fin n) (j : Fin 128) :
    extractStridedSlice (M n 128) ![0, 128] (both (keysValues z k v) qd) (slices_M (by omega) (by omega)) (ix2 r j) = (Attn.Z x (t0 + r) (s0 + j) : EReal) := by
  pointwise
  rw [both_apply, Attn.sum_fin _ (fun c => if c < 64 then 0 else x.D (t0 + r) (c - 64) * x.V (s0 + j) (c - 64)),
    Attn.sum_high (fun c => x.D (t0 + r) c * x.V (s0 + j) c)]
  · rfl
  · intro c
    rw [keysValues_apply _ _ _ hf.2, dif_neg (by simp), hr.1]
    by_cases hc : c.val < 64
    · rw [dif_pos hc, mul_zero, if_pos hc]; rfl
    · rw [dif_neg hc, hk.2, if_neg hc, if_neg hc, ← EReal.coe_mul]
      simp only [Nat.add_sub_cancel_left]

include hf hk hr in
theorem lb_val (r : Fin n) (j : Fin 128) :
    lb (both (keysValues z k v) qd) (ix2 r j) = ((Attn.L x (t0 + r) (s0 + j) - Attn.sp (Attn.L x (t0 + r) (s0 + j)) : ℝ) : EReal) := by
  rw [EReal.coe_sub, ← lg_val hf hk hr r j, ← sp_apply _ r j _ (lg_val hf hk hr r j)]
  unfold lb; pointwise

include hf hk hr hm hl in
theorem pre_val (r : Fin n) (j : Fin 128) :
    pre pf mk (both (keysValues z k v) qd) cl (ix2 r j) = (Attn.P x (t0 + r) (s0 + (j + 1)) : EReal) := by
  rw [pre, prefixes_apply pf hf.1 _ _ r j (fun i => Attn.m x (t0 + r) (s0 + i)) _ (fun i => ?_) (hl r), Attn.P_add]
  exact cut_val hm _ r i _ (sp_apply _ r i _ (lg_val hf hk hr r i))

include hf hk hr hm hl in
theorem att_val (r : Fin n) (j : Fin 128) :
    att pf mk (both (keysValues z k v) qd) stot cl (ix2 r j) = (Attn.A x (t0 + r) (s0 + j) : EReal) := by
  rw [att, cut_val hm _ r j (Real.exp (Attn.L x (t0 + r) (s0 + j) - Attn.sp (Attn.L x (t0 + r) (s0 + j)) - Attn.P x (t0 + r) 4096 + Attn.P x (t0 + r) (s0 + j + 1)))]
  · rfl
  · show Ideal.exp ((lb (both (keysValues z k v) qd) (ix2 r j) - broadcastTo (M n 128) stot (broadcasts_col n 128) (ix2 r j)) + pre pf mk (both (keysValues z k v) qd) cl (ix2 r j)) = _
    rw [lb_val hf hk hr, col_apply, hr.2, pre_val hf hk hr hm hl, ← EReal.coe_sub, ← EReal.coe_add, Ideal.exp_coe]
    rfl

include hf hk hr hm hl in
theorem gz_val (r : Fin n) (j : Fin 128) :
    gz pf mk (both (keysValues z k v) qd) stot cl (ix2 r j) = (Attn.G x (t0 + r) (s0 + j) : EReal) := by
  rw [Attn.G, EReal.coe_mul, ← att_val hf hk hr hm hl r j, ← zt_val hf hk hr r j]
  rfl

include hf hk hr hm hl hg in
theorem pg_val (r : Fin n) (j : Fin 128) :
    pg pf mk (both (keysValues z k v) qd) stot cl cg (ix2 r j) = (Attn.PG x (t0 + r) (s0 + (j + 1)) : EReal) := by
  rw [pg, prefixes_apply pf hf.1 _ _ r j (fun i => Attn.G x (t0 + r) (s0 + i)) _ (fun i => ?_) (hg r), Attn.PG_add]
  exact gz_val hf hk hr hm hl r i

include hf hk hr hm hl hg in
theorem dl_val (r : Fin n) (j : Fin 128) :
    dl pf mk (both (keysValues z k v) qd) stot cl cg (ix2 r j) = (Attn.E x (t0 + r) (s0 + j) : EReal) := by
  show cut mk _ (ix2 r j) = _
  rw [cut_val hm _ r j (Attn.G x (t0 + r) (s0 + j) - Attn.PG x (t0 + r) (s0 + j + 1) * Real.exp (Attn.L x (t0 + r) (s0 + j) - Attn.sp (Attn.L x (t0 + r) (s0 + j))))]
  · rfl
  · show gz pf mk (both (keysValues z k v) qd) stot cl (ix2 r j) - pg pf mk (both (keysValues z k v) qd) stot cl cg (ix2 r j) * Ideal.exp (lb (both (keysValues z k v) qd) (ix2 r j)) = _
    rw [gz_val hf hk hr hm hl, pg_val hf hk hr hm hl hg, lb_val hf hk hr, Ideal.exp_coe, ← EReal.coe_mul, ← EReal.coe_sub]
    rfl

include hf hk hr hm hl in
theorem lastP_val (r : Fin n) : lastCol (pre pf mk (both (keysValues z k v) qd) cl) (ix2 r 0) = (Attn.P x (t0 + r) (s0 + 128) : EReal) := by
  rw [lastCol_apply, pre_val hf hk hr hm hl]; rfl

include hf hk hr hm hl hg in
theorem lastG_val (r : Fin n) : lastCol (pg pf mk (both (keysValues z k v) qd) stot cl cg) (ix2 r 0) = (Attn.PG x (t0 + r) (s0 + 128) : EReal) := by
  rw [lastCol_apply, pg_val hf hk hr hm hl hg]; rfl

include hf hk hr hm hl hg in
theorem dq_val (dq : FVec Ideal (M n 64) .f32) (r : Fin n) (d : Fin 64) (hd : dq (ix2 r d) = (Attn.dQ x s0 (t0 + r) d : EReal)) :
    dqAdd dq (dl pf mk (both (keysValues z k v) qd) stot cl cg) k (ix2 r d) = (Attn.dQ x (s0 + 128) (t0 + r) d : EReal) := by
  rw [dqAdd_apply, hd, Attn.dQ_add, EReal.coe_add, ← Attn.sum_fin]
  intro j
  rw [dl_val hf hk hr hm hl hg, hk.1, ← EReal.coe_mul]

/-- A row block of the keys' gradient: the rows before these add nothing. -/
theorem rowK_val (qt : FVec Ideal (M 64 n) .bf16) (y : FVec Ideal (M n 128) .bf16) (o : Vec Ideal S1x64x128 .f32) {q r0 : ℕ} (d : Fin 64) (j : Fin 128)
    (hq : ∀ r : Fin n, qt (ix2 d r) = (x.Q (q + r0 + r) d : EReal)) (hy : ∀ r : Fin n, y (ix2 r j) = (Attn.E x (q + r0 + r) (s0 + j) : EReal))
    (hb : q + r0 ≤ s0 + 1 ∨ r0 = 0) (ho : o (ix3 0 d j) = (Attn.dK x q (s0 + j) d : EReal)) :
    rowAdd qt y o (ix3 0 d j) = (Attn.dK x (q + (r0 + n)) (s0 + j) d : EReal) := by
  have h : Attn.dK x (q + (r0 + n)) (s0 + j) d = Attn.dK x q (s0 + j) d + ∑ i ∈ Finset.range n, x.Q (q + r0 + i) d * Attn.E x (q + r0 + i) (s0 + j) := by
    rcases hb with hb | rfl
    · exact Attn.dK_add x (by omega)
    · rw [Nat.zero_add, Attn.dK, Finset.sum_range_add, ← Attn.dK]; rfl
  rw [rowAdd_apply, ho, h, EReal.coe_add, ← Attn.sum_fin]
  intro r
  rw [hq, hy, ← EReal.coe_mul]

theorem rowV_val (qt : FVec Ideal (M 64 n) .bf16) (y : FVec Ideal (M n 128) .bf16) (o : Vec Ideal S1x64x128 .f32) {q r0 : ℕ} (d : Fin 64) (j : Fin 128)
    (hq : ∀ r : Fin n, qt (ix2 d r) = (x.D (q + r0 + r) d : EReal)) (hy : ∀ r : Fin n, y (ix2 r j) = (Attn.A x (q + r0 + r) (s0 + j) : EReal))
    (hb : q + r0 ≤ s0 + 1 ∨ r0 = 0) (ho : o (ix3 0 d j) = (Attn.dV x q (s0 + j) d : EReal)) :
    rowAdd qt y o (ix3 0 d j) = (Attn.dV x (q + (r0 + n)) (s0 + j) d : EReal) := by
  have h : Attn.dV x (q + (r0 + n)) (s0 + j) d = Attn.dV x q (s0 + j) d + ∑ i ∈ Finset.range n, x.D (q + r0 + i) d * Attn.A x (q + r0 + i) (s0 + j) := by
    rcases hb with hb | rfl
    · exact Attn.dV_add x (by omega)
    · rw [Nat.zero_add, Attn.dV, Finset.sum_range_add, ← Attn.dV]; rfl
  rw [rowAdd_apply, ho, h, EReal.coe_add, ← Attn.sum_fin]
  intro r
  rw [hq, hy, ← EReal.coe_mul]
end

end Cert.KernelIdeal.Tile
end
end
-- ==== Proof.Carry.lean ====
/-
  What a head carries along the blocks of keys, and the row blocks it adds to, in the mathematics of `Math`: below the
  diagonal and on it.
-/
module

public import proofs.«01_k».proof.Proof.Point
public import proofs.«01_k».proof.Proof.TileValue

@[expose] public section
noncomputable section
namespace Cert.KernelIdeal.Tile
open Cert.KernelIdeal Idealize.ShloMosaic

/-- After the first `n` keys, for the 512 rows from `t0` on: the two running sums and the gradient of the queries. -/
def Carry (x : Attn.Head) (t0 n : ℕ) (s : St Ideal) : Prop :=
  (∀ r : Fin 512, s.1 (ix2 r 0) = (Attn.P x (t0 + r) n : EReal)) ∧
    (∀ r : Fin 512, s.2.1 (ix2 r 0) = (Attn.PG x (t0 + r) n : EReal)) ∧
      ∀ (r : Fin 512) (d : Fin 64), s.2.2 (ix2 r d) = (Attn.dQ x n (t0 + r) d : EReal)

/-- A head's fixed operands hold its rows from `t0` on. -/
def Ops (x : Attn.Head) (t0 : ℕ) (f : Fix Ideal) : Prop := Fixed f.pf f.z ∧ Rows x t0 f.qd f.stot

section
variable {x : Attn.Head} {t0 n : ℕ} {f : Fix Ideal} {k v : Vec Ideal S1x128x64 .bf16} {s : St Ideal}

theorem stepAll_carry {mk : Option (IVec (M 512 128) 1)} (hf : Ops x t0 f) (hk : Keys x n k v) (hm : Keeps mk t0 n) (hs : Carry x t0 n s) :
    Carry x t0 (n + 128) (stepAll f mk k v s) :=
  ⟨fun r => lastP_val hf.1 hk hf.2 hm hs.1 r, fun r => lastG_val hf.1 hk hf.2 hm hs.1 hs.2.1 r,
    fun r d => dq_val hf.1 hk hf.2 hm hs.1 hs.2.1 _ r d (hs.2.2 r d)⟩

theorem dlAll_val {mk : Option (IVec (M 512 128) 1)} (hf : Ops x t0 f) (hk : Keys x n k v) (hm : Keeps mk t0 n) (hs : Carry x t0 n s)
    (r : Fin 512) (j : Fin 128) : dlAll f mk k v s (ix2 r j) = (Attn.E x (t0 + r) (n + j) : EReal) :=
  dl_val hf.1 hk hf.2 hm hs.1 hs.2.1 r j

theorem attAll_val {mk : Option (IVec (M 512 128) 1)} (hf : Ops x t0 f) (hk : Keys x n k v) (hm : Keeps mk t0 n) (hs : Carry x t0 n s)
    (r : Fin 512) (j : Fin 128) : attAll f mk k v s (ix2 r j) = (Attn.A x (t0 + r) (n + j) : EReal) :=
  att_val hf.1 hk hf.2 hm hs.1 r j

theorem keeps_strictAll : Keeps (some strictAll) t0 t0 := fun r j => by
  rw [strictAll_apply]; simp only [Nat.add_lt_add_iff_left]

section
variable {n' r0 : ℕ} (h : r0 + n' = 512)

theorem keeps_strict (hn : n' ≤ 512) : Keeps (some (strict n' hn)) (t0 + r0) (t0 + r0) := fun r j => by
  rw [strict_apply]; simp only [Nat.add_lt_add_iff_left]

theorem rows_lower (hf : Ops x t0 f) : Rows x (t0 + r0) (lower n' r0 h f.qd) (lower n' r0 h f.stot) := by
  refine ⟨fun r d => ?_, fun r => ?_⟩
  · rw [lower_apply, hf.2.1]; simp only [Nat.add_assoc]
  · rw [lower_apply, hf.2.2]; simp only [Nat.add_assoc]

theorem lowP (hs : Carry x t0 n s) (r : Fin n') : lower n' r0 h s.1 (ix2 r 0) = (Attn.P x (t0 + r0 + r) n : EReal) := by
  rw [lower_apply, hs.1]; simp only [Nat.add_assoc]

theorem lowG (hs : Carry x t0 n s) (r : Fin n') : lower n' r0 h s.2.1 (ix2 r 0) = (Attn.PG x (t0 + r0 + r) n : EReal) := by
  rw [lower_apply, hs.2.1]; simp only [Nat.add_assoc]

theorem stepLow_carry (hn : n' ≤ 512) (hf : Ops x t0 f) (hk : Keys x (t0 + r0) k v) (hs : Carry x t0 (t0 + r0) s) :
    Carry x t0 (t0 + r0 + 128) (stepLow n' r0 h f (strict n' hn) k v s) := by
  have hm := keeps_strict (t0 := t0) (r0 := r0) hn
  have hr := rows_lower h hf
  refine ⟨fun r => ?_, fun r => ?_, fun r d => ?_⟩
  · refine (under_apply h _ _ r 0).trans ?_
    split
    · rw [hs.1, Attn.P_of_le x (a := t0 + r0) (b := t0 + r0 + 128) (by omega) (by omega)]
    · rw [lastP_val hf.1 hk hr hm (lowP h hs)]; congr 2; simp only; omega
  · refine (under_apply h _ _ r 0).trans ?_
    split
    · rw [hs.2.1, Attn.PG_of_le x (a := t0 + r0) (b := t0 + r0 + 128) (by omega) (by omega)]
    · rw [lastG_val hf.1 hk hr hm (lowP h hs) (lowG h hs)]; congr 2; simp only; omega
  · refine (under_apply h _ _ r d).trans ?_
    split
    · rw [hs.2.2, Attn.dQ_of_le x (a := t0 + r0) (b := t0 + r0 + 128) (by omega) (by omega)]
    · rw [dq_val hf.1 hk hr hm (lowP h hs) (lowG h hs)]
      · congr 2; simp only; omega
      · rw [lower_apply, hs.2.2]; congr 2; simp only; omega

theorem dlLow_val (hn : n' ≤ 512) (hf : Ops x t0 f) (hk : Keys x (t0 + r0) k v) (hs : Carry x t0 (t0 + r0) s) (r : Fin n') (j : Fin 128) :
    dlLow n' r0 h f (strict n' hn) k v s (ix2 r j) = (Attn.E x (t0 + r0 + r) (t0 + r0 + j) : EReal) :=
  dl_val hf.1 hk (rows_lower h hf) (keeps_strict hn) (lowP h hs) (lowG h hs) r j

theorem attLow_val (hn : n' ≤ 512) (hf : Ops x t0 f) (hk : Keys x (t0 + r0) k v) (hs : Carry x t0 (t0 + r0) s) (r : Fin n') (j : Fin 128) :
    attLow n' r0 h f (strict n' hn) k v s (ix2 r j) = (Attn.A x (t0 + r0 + r) (t0 + r0 + j) : EReal) :=
  att_val hf.1 hk (rows_lower h hf) (keeps_strict hn) (lowP h hs) r j
end

/-! The four blocks of a trip. -/
section
variable {kk vv : Fin 4 → Vec Ideal S1x128x64 .bf16} (hf : Ops x t0 f) (hk : ∀ b : Fin 4, Keys x (n + 128 * b) (kk b) (vv b))
  (hn : n + 512 ≤ t0) (hs : Carry x t0 n s)

include hf hk hn hs in
theorem subs_carry : ∀ b : ℕ, b ≤ 4 → Carry x t0 (n + 128 * b) (subs f kk vv s b)
  | 0, _ => hs
  | b + 1, hb => by
    have h := hk (Fin.ofNat 4 b)
    rw [show (Fin.ofNat 4 b).val = b from Nat.mod_eq_of_lt (by omega)] at h
    have hm : Keeps (n := 512) none t0 (n + 128 * b) := fun r j => by omega
    exact stepAll_carry hf h hm (subs_carry b (by omega))

include hf hk hn hs in
theorem dlSub_row (qt : FVec Ideal S64x512 .bf16) (hq : ∀ (d : Fin 64) (r : Fin 512), qt (ix2 d r) = (x.Q (t0 + r) d : EReal)) (b : Fin 4)
    (o : Vec Ideal S1x64x128 .f32) (ho : ∀ d j, o (ix3 0 d j) = (Attn.dK x t0 (n + 128 * b + j) d : EReal)) (d : Fin 64) (j : Fin 128) :
    rowAdd qt (dlSub f kk vv s b) o (ix3 0 d j) = (Attn.dK x (t0 + 512) (n + 128 * b + j) d : EReal) := by
  have := rowK_val (x := x) (q := t0) (r0 := 0) (s0 := n + 128 * b) qt (dlSub f kk vv s b) o d j (hq d)
    (fun r => dlAll_val hf (hk b) (mk := none) (fun r j => by omega) (subs_carry hf hk hn hs b (by omega)) r j) (.inr rfl) (ho d j)
  rw [this]

include hf hk hn hs in
theorem attSub_row (qt : FVec Ideal S64x512 .bf16) (hq : ∀ (d : Fin 64) (r : Fin 512), qt (ix2 d r) = (x.D (t0 + r) d : EReal)) (b : Fin 4)
    (o : Vec Ideal S1x64x128 .f32) (ho : ∀ d j, o (ix3 0 d j) = (Attn.dV x t0 (n + 128 * b + j) d : EReal)) (d : Fin 64) (j : Fin 128) :
    rowAdd qt (attSub f kk vv s b) o (ix3 0 d j) = (Attn.dV x (t0 + 512) (n + 128 * b + j) d : EReal) := by
  have := rowV_val (x := x) (q := t0) (r0 := 0) (s0 := n + 128 * b) qt (attSub f kk vv s b) o d j (hq d)
    (fun r => attAll_val hf (hk b) (mk := none) (fun r j => by omega) (subs_carry hf hk hn hs b (by omega)) r j) (.inr rfl) (ho d j)
  rw [this]
end

/-! The four blocks on the diagonal. -/
section
variable {kk vv : Fin 4 → Vec Ideal S1x128x64 .bf16} (hf : Ops x t0 f) (hk : ∀ b : Fin 4, Keys x (t0 + 128 * b) (kk b) (vv b)) (hs : Carry x t0 t0 s)

include hf hk hs in
theorem diag1_carry : Carry x t0 (t0 + 128) (diagSt1 f kk vv s) := stepAll_carry hf (hk 0) keeps_strictAll hs
include hf hk hs in
theorem diag2_carry : Carry x t0 (t0 + 256) (diagSt2 f kk vv s) := stepLow_carry (r0 := 128) rfl (by omega) hf (hk 1) (diag1_carry hf hk hs)
include hf hk hs in
theorem diag3_carry : Carry x t0 (t0 + 384) (diagSt3 f kk vv s) := stepLow_carry (r0 := 256) rfl (by omega) hf (hk 2) (diag2_carry hf hk hs)
include hf hk hs in
theorem diag4_carry : Carry x t0 (t0 + 512) (diagSt4 f kk vv s) := stepLow_carry (r0 := 384) rfl (by omega) hf (hk 3) (diag3_carry hf hk hs)

include hf hk hs in
theorem dlDiag_row (qt : FVec Ideal S64x512 .bf16) (hq : ∀ (d : Fin 64) (r : Fin 512), qt (ix2 d r) = (x.Q (t0 + r) d : EReal)) (b : Fin 4)
    (o : Vec Ideal S1x64x128 .f32) (ho : ∀ d j, o (ix3 0 d j) = (Attn.dK x t0 (t0 + 128 * b + j) d : EReal)) (d : Fin 64) (j : Fin 128) :
    dlDiag f kk vv s qt b o (ix3 0 d j) = (Attn.dK x (t0 + 512) (t0 + 128 * b + j) d : EReal) := by
  have hlow {n' r0 : ℕ} (h : r0 + n' = 512) (r : Fin n') : right n' r0 h qt (ix2 d r) = (x.Q (t0 + r0 + r) d : EReal) := by
    rw [right_apply, hq]; simp only [Nat.add_assoc]
  match b with
  | 0 =>
    exact rowK_val (r0 := 0) _ _ o d j (hq d) (dlAll_val hf (hk 0) keeps_strictAll hs · j) (.inr rfl) (ho d j)
  | 1 =>
    exact rowK_val (r0 := 128) _ _ o d j (hlow rfl) (dlLow_val rfl (by omega) hf (hk 1) (diag1_carry hf hk hs) · j) (.inl (Nat.le_succ _)) (ho d j)
  | 2 =>
    exact rowK_val (r0 := 256) _ _ o d j (hlow rfl) (dlLow_val rfl (by omega) hf (hk 2) (diag2_carry hf hk hs) · j) (.inl (Nat.le_succ _)) (ho d j)
  | 3 =>
    exact rowK_val (r0 := 384) _ _ o d j (hlow rfl) (dlLow_val rfl (by omega) hf (hk 3) (diag3_carry hf hk hs) · j) (.inl (Nat.le_succ _)) (ho d j)

include hf hk hs in
theorem attDiag_row (qt : FVec Ideal S64x512 .bf16) (hq : ∀ (d : Fin 64) (r : Fin 512), qt (ix2 d r) = (x.D (t0 + r) d : EReal)) (b : Fin 4)
    (o : Vec Ideal S1x64x128 .f32) (ho : ∀ d j, o (ix3 0 d j) = (Attn.dV x t0 (t0 + 128 * b + j) d : EReal)) (d : Fin 64) (j : Fin 128) :
    attDiag f kk vv s qt b o (ix3 0 d j) = (Attn.dV x (t0 + 512) (t0 + 128 * b + j) d : EReal) := by
  have hlow {n' r0 : ℕ} (h : r0 + n' = 512) (r : Fin n') : right n' r0 h qt (ix2 d r) = (x.D (t0 + r0 + r) d : EReal) := by
    rw [right_apply, hq]; simp only [Nat.add_assoc]
  match b with
  | 0 =>
    exact rowV_val (r0 := 0) _ _ o d j (hq d) (attAll_val hf (hk 0) keeps_strictAll hs · j) (.inr rfl) (ho d j)
  | 1 =>
    exact rowV_val (r0 := 128) _ _ o d j (hlow rfl) (attLow_val rfl (by omega) hf (hk 1) (diag1_carry hf hk hs) · j) (.inl (Nat.le_succ _)) (ho d j)
  | 2 =>
    exact rowV_val (r0 := 256) _ _ o d j (hlow rfl) (attLow_val rfl (by omega) hf (hk 2) (diag2_carry hf hk hs) · j) (.inl (Nat.le_succ _)) (ho d j)
  | 3 =>
    exact rowV_val (r0 := 384) _ _ o d j (hlow rfl) (attLow_val rfl (by omega) hf (hk 3) (diag3_carry hf hk hs) · j) (.inl (Nat.le_succ _)) (ho d j)
end
end

end Cert.KernelIdeal.Tile
end
end
-- ==== Proof.Memory.lean ====
/-
  The two accumulators: 32 row blocks a head, each block of 128 keys transposed. What a load reads, and what the writes of
  a trip and of the diagonal leave.
-/
module

public import proofs.«01_k».proof.Proof.Carry
public import Idealize.ShloMosaic.Lib.WritesUnit
public import Idealize.ShloMosaic.Lib.Pipeline.ValueKit.Tiles

@[expose] public section
noncomputable section
namespace Cert.KernelIdeal.Tile
open Cert.KernelIdeal Idealize.ShloMosaic

theorem blk_apply (B : Memref sig .tc .vmem S1x4096x128 .bf16) (hB : B.IsWhole) (X : Vec Ideal S1x4096x128 .bf16) (off : Fin 3 → ℕ)
    (h : ∀ a, off a + S1x128x64.size a ≤ S1x4096x128.size a) {a c : ℕ} (ho : off = ![0, a, c]) (j : Fin 128) (d : Fin 64) (ha : a + 128 ≤ 4096) (hc : c + 64 ≤ 128) :
    blk (F := Ideal) B (hB.unread X) off h (ix3 0 j d) = X (ix3 0 ⟨a + j, by omega⟩ ⟨c + d, by omega⟩) := by
  subst ho
  unfold blk
  rw [View.readAt_eq_ld, Memref.IsWhole.read_unread]
  exact View.ld_unit_apply_of X _ _ h (ix3 0 j d) _ fun x => match x with | 0 => rfl | 1 => rfl | 2 => rfl

variable (B : Memref sig .tc .vmem S64x64x128 .f32) (f : BufTy.Contents (Elt Ideal) B.view.ty)

theorem old_apply (off : Fin 3 → ℕ) (h : ∀ a, off a + S1x64x128.size a ≤ S64x64x128.size a) (n : Fin 64) (ho : off = ![n.val, 0, 0]) (d : Fin 64) (j : Fin 128) :
    old (F := Ideal) B f off h (ix3 0 d j) = B.view.read (Elt Ideal) f (ix3 n d j) := by
  subst ho
  unfold old
  rw [View.readAt_eq_ld]
  exact View.ld_unit_apply_of (B.view.read (Elt Ideal) f) _ _ h (ix3 0 d j) _ fun x => match x with
    | 0 => rfl
    | 1 => (Nat.zero_add _).symm
    | 2 => (Nat.zero_add _).symm

/-- Row block `kb` of head `h`. -/
def rowOf (h : Fin 2) (kb : Fin 32) : Fin 64 := ⟨32 * h + kb, by omega⟩

/-- The accumulator holds the new values in the first `b h` row blocks of head `h`, the old ones in the others. -/
def Acc (o w : Fin 2 → ℕ → ℕ → ℝ) (b : Fin 2 → ℕ) (g : Vec Ideal S64x64x128 .f32) : Prop :=
  ∀ (h : Fin 2) (kb : Fin 32) (d : Fin 64) (j : Fin 128),
    g (ix3 (rowOf h kb) d j) = ((if kb.val < b h then w h (128 * kb + j) d else o h (128 * kb + j) d : ℝ) : EReal)

/-- One more row block of head `h`. -/
def bump (b : Fin 2 → ℕ) (h : Fin 2) : Fin 2 → ℕ := fun h' => if h' = h then b h' + 1 else b h'

variable {B f} {o w : Fin 2 → ℕ → ℕ → ℝ} {b : Fin 2 → ℕ}

theorem Acc.push {L : List (View.Piece (Elt Ideal) S64x64x128 .f32)} (hL : Acc o w b (B.view.read (Elt Ideal) (B.view.writes (Elt Ideal) f L)))
    (h : Fin 2) (hb : b h < 32) (off : Fin 3 → ℕ) (inb : ∀ a, off a + S1x64x128.size a ≤ S64x64x128.size a) (ho : off = ![32 * h.val + b h, 0, 0])
    (y : Vec Ideal S1x64x128 .f32) (hy : ∀ d j, y (ix3 0 d j) = (w h (128 * b h + j) d : EReal)) :
    Acc o w (bump b h) (B.view.read (Elt Ideal) (B.view.writes (Elt Ideal) f (⟨Rect.unit (s := S64x64x128) off S1x64x128.size inb, y⟩ :: L))) := by
  intro h' kb d j
  by_cases hn : h' = h ∧ kb.val = b h
  · obtain ⟨rfl, hkb⟩ := hn
    rw [View.read_writes_cons_unit_of_mem B.view f inb y L (ix3 (rowOf h' kb) d j) (ix3 0 d j) ho
      (fun x => match x with
        | 0 => (by show 32 * h'.val + kb.val = 32 * h'.val + b h' + 0; omega)
        | 1 => (Nat.zero_add _).symm
        | 2 => (Nat.zero_add _).symm), hy, if_pos (by unfold bump; rw [if_pos rfl]; omega), hkb]
  · rw [View.read_writes_cons_unit_of_not_mem B.view f inb y L (ix3 (rowOf h' kb) d j) ho 0
      (by show 32 * h'.val + kb.val < 32 * h.val + b h ∨ 32 * h.val + b h + 1 ≤ 32 * h'.val + kb.val
          by_cases e : h' = h
          · subst e; have := fun e => hn ⟨rfl, e⟩; omega
          · have : h'.val ≠ h.val := fun e' => e (Fin.ext e')
            omega), hL h' kb d j]
    congr 1
    by_cases e : h' = h
    · subst e
      have : kb.val ≠ b h' := fun e => hn ⟨rfl, e⟩
      simp only [bump, if_true]
      by_cases h1 : kb.val < b h'
      · rw [if_pos h1, if_pos (by omega)]
      · rw [if_neg h1, if_neg (by omega)]
    · simp only [bump, if_neg e]

/-- What a load of a row block not yet reached reads. -/
theorem Acc.old {f : BufTy.Contents (Elt Ideal) B.view.ty} (hf : Acc o w b (B.view.read (Elt Ideal) f)) (h : Fin 2) (kb : ℕ) (hk : kb < 32) (hb : b h ≤ kb)
    (off : Fin 3 → ℕ) (inb : ∀ a, off a + S1x64x128.size a ≤ S64x64x128.size a) (ho : off = ![32 * h.val + kb, 0, 0]) (d : Fin 64) (j : Fin 128) :
    old (F := Ideal) B f off inb (ix3 0 d j) = (o h (128 * kb + j) d : EReal) := by
  rw [old_apply B f off inb (rowOf h ⟨kb, hk⟩) ho, hf h ⟨kb, hk⟩, if_neg (by simp only; omega)]

/-- Eight row blocks, four of each head in turn. -/
theorem eight {α : Type} (S : α → (Fin 2 → ℕ) → Prop) (p : Fin 2 → Fin 4 → α → α) (c : ℕ)
    (step : ∀ h s L b, S L b → b h = c + s.val → S (p h s L) (bump b h)) (L : α) (h0 : S L fun _ => c) :
    S (p 1 3 (p 0 3 (p 1 2 (p 0 2 (p 1 1 (p 0 1 (p 1 0 (p 0 0 L)))))))) fun _ => c + 4 := by
  have h1 := step 1 0 _ _ (step 0 0 _ _ h0 rfl) rfl
  have h2 := step 1 1 _ _ (step 0 1 _ _ h1 rfl) rfl
  have h3 := step 1 2 _ _ (step 0 2 _ _ h2 rfl) rfl
  have h4 := step 1 3 _ _ (step 0 3 _ _ h3 rfl) rfl
  have e : bump (bump (bump (bump (bump (bump (bump (bump (fun _ => c) 0) 1) 0) 1) 0) 1) 0) 1 = fun _ => c + 4 := by
    funext h; fin_cases h <;> rfl
  rw [e] at h4
  exact h4

/-- A trip's writes. -/
theorem trip_acc {i : grid0.Coords} {k : Fin (k0_t1_loop i).trips} (hk : k.val < 8) (hf : Acc o w (fun _ => 4 * k.val) (B.view.read (Elt Ideal) f))
    (q0 q1 : FVec Ideal S64x512 .bf16) (x0 x1 : Fin 4 → FVec Ideal S512x128 .bf16)
    (h0 : ∀ (s : Fin 4) (y : Vec Ideal S1x64x128 .f32), (∀ d j, y (ix3 0 d j) = (o 0 (128 * (4 * k.val + s) + j) d : EReal)) →
      ∀ d j, rowAdd q0 (x0 s) y (ix3 0 d j) = (w 0 (128 * (4 * k.val + s) + j) d : EReal))
    (h1 : ∀ (s : Fin 4) (y : Vec Ideal S1x64x128 .f32), (∀ d j, y (ix3 0 d j) = (o 1 (128 * (4 * k.val + s) + j) d : EReal)) →
      ∀ d j, rowAdd q1 (x1 s) y (ix3 0 d j) = (w 1 (128 * (4 * k.val + s) + j) d : EReal)) :
    Acc o w (fun _ => 4 * k.val + 4) (B.view.read (Elt Ideal) (B.view.writes (Elt Ideal) f (tripWrites i B f k q0 q1 x0 x1))) := by
  refine eight (fun L b => Acc o w b (B.view.read (Elt Ideal) (B.view.writes (Elt Ideal) f L)))
    (fun h s L => tripPiece i B f k h (if h = 0 then q0 else q1) (if h = 0 then x0 s else x1 s) s :: L) (4 * k.val) ?_ [] hf
  intro h s L b hL hb
  have hoff := Gen.k0_off2_eq i k h s
  have hoff' : k0_off2 i k (BitVec.ofNat 32 (32 * h.val)) (BitVec.ofNat 32 s.val) = ![32 * h.val + (4 * k.val + s.val), 0, 0] := by
    rw [hoff, Nat.add_assoc]
  refine Acc.push hL h (by omega) _ _ (by rw [hoff', hb]) _ ?_
  rw [hb]
  have ho := hf.old h (4 * k.val + s.val) (by omega) (by omega) _ (Gen.k0_off2_inb i k h s) hoff'
  match h, ho with
  | 0, ho => exact h0 s _ ho
  | 1, ho => exact h1 s _ ho

/-- The diagonal's writes. -/
theorem diag_acc {i : grid0.Coords} {row : Fin 2 → Fin 4 → Vec Ideal S1x64x128 .f32 → FVec Ideal S1x64x128 .f32}
    (hrow : ∀ (h : Fin 2) (s : Fin 4) (y : Vec Ideal S1x64x128 .f32), (∀ d j, y (ix3 0 d j) = (o h (128 * (4 * (i 1).val + s) + j) d : EReal)) →
      ∀ d j, row h s y (ix3 0 d j) = (w h (128 * (4 * (i 1).val + s) + j) d : EReal))
    {L : List (View.Piece (Elt Ideal) S64x64x128 .f32)} (hL : Acc o w (fun _ => 4 * (i 1).val) (B.view.read (Elt Ideal) (B.view.writes (Elt Ideal) f L))) :
    Acc o w (fun _ => 4 * (i 1).val + 4) (B.view.read (Elt Ideal) (B.view.writes (Elt Ideal) f (diagWrites i B f row L))) := by
  refine eight (fun L b => Acc o w b (B.view.read (Elt Ideal) (B.view.writes (Elt Ideal) f L))) (fun h s L => push i B f row h s L) (4 * (i 1).val) ?_ L hL
  intro h s L b hL hb
  have hi : (i 1).val < 8 := (i 1).isLt
  have hoff := Gen.k0_off8_eq i h s
  have hoff' : k0_off8 i (BitVec.ofNat 32 (32 * h.val)) (BitVec.ofNat 32 s.val) = ![32 * h.val + (4 * (i 1).val + s.val), 0, 0] := by
    rw [hoff, Nat.add_assoc]
  refine Acc.push hL h (by omega) _ _ (by rw [hoff', hb]) _ ?_
  rw [hb]
  exact hrow h s _ (hL.old h (4 * (i 1).val + s.val) (by omega) (by omega) _ (Gen.k0_off8_inb i h s) hoff')

/-! The gradients of the keys and the values, read out of the accumulators. -/

theorem upTo_read {s : Shape} {e : EltTy} {m : Memref sig .tc .vmem s e} {g : BufTy.Contents (Elt Ideal) m.view.ty} (y : s.Idx) (v : Elt Ideal e) (k : Fin 64)
    (p : Fin 64 → View.Piece (Elt Ideal) s e)
    (hit : ∀ L, m.view.read (Elt Ideal) (m.view.writes (Elt Ideal) g (p k :: L)) y = v)
    (miss : ∀ n L, n ≠ k → m.view.read (Elt Ideal) (m.view.writes (Elt Ideal) g (p n :: L)) y = m.view.read (Elt Ideal) (m.view.writes (Elt Ideal) g L) y) :
    ∀ (n : ℕ) (hn : n ≤ 64), k.val < n → m.view.read (Elt Ideal) (m.view.writes (Elt Ideal) g (upTo p n hn)) y = v
  | 0, _, h => absurd h (Nat.not_lt_zero _)
  | n + 1, hn, h => by
    by_cases hk : n = k.val
    · subst hk; exact hit _
    · rw [upTo, miss ⟨n, hn⟩ _ (fun e => hk (congrArg Fin.val e))]
      exact upTo_read y v k p hit miss n (Nat.le_of_succ_le hn) (by omega)

theorem eye_apply (j x : Fin 128) : (Gen.k0_pay279 (F := Ideal)) (ix2 j x) = if x.val = j.val then 1 else 0 := by
  unfold Gen.k0_pay279
  pointwise
  have h : IntOp.cmpi .eq (BitVec.ofNat 32 j.val) (BitVec.ofNat 32 x.val) = if x.val = j.val then 1#1 else 0#1 := by
    show BitVec.ofBool (BitVec.ofNat 32 j.val == BitVec.ofNat 32 x.val) = _
    by_cases e : x.val = j.val
    · rw [if_pos e, e]; simp
    · rw [if_neg e]
      have : BitVec.ofNat 32 j.val ≠ BitVec.ofNat 32 x.val := fun e' => e (by
        have := congrArg BitVec.toNat e'
        simp only [BitVec.toNat_ofNat] at this
        omega)
      rw [beq_eq_false_iff_ne.mpr this]; rfl
  rw [h]
  by_cases e : x.val = j.val <;> simp [e, Scalar.select]

theorem transpose_val (y : Vec Ideal S1x64x128 .f32) (g : ℕ → ℝ) (d : Fin 64) (hy : ∀ j : Fin 128, y (ix3 0 d j) = (g j : EReal)) (j : Fin 128) :
    Gen.k0_pay4 Gen.k0_pay279 y (ix2 j d) = (g j : EReal) := by
  unfold Gen.k0_pay4
  pointwise [eye_apply, hy]
  rw [Attn.sum_fin _ (fun x => if x = j.val then g x else 0), Attn.sum_fin _ (fun _ => 0)]
  · rw [Finset.sum_const_zero, EReal.coe_zero, add_zero, Finset.sum_ite_eq' , if_pos (Finset.mem_range.mpr j.2)]
  · intro x; rw [← EReal.coe_sub, sub_self, EReal.coe_zero, mul_zero]
  · intro x
    by_cases e : x.val = j.val
    · simp [e]
    · simp [e]

theorem out_val {m : Memref sig .tc .vmem S4096x128 .bf16} {g : BufTy.Contents (Elt Ideal) m.view.ty}
    (hf : Acc o w (fun _ => 32) (B.view.read (Elt Ideal) f)) (s : Fin 4096) (c : Fin 128) :
    m.view.read (Elt Ideal) (m.view.writes (Elt Ideal) g (upTo (outPiece B f) 64 (Nat.le_refl _))) (ix2 s c)
      = (w ⟨c / 64, by omega⟩ s (c % 64) : EReal) := by
  refine upTo_read (ix2 s c) _ ⟨32 * (c / 64) + s / 128, by omega⟩ _ ?_ ?_ 64 _ (by simp only; omega)
  · intro L
    refine (View.read_writes_cons_unit_of_mem m.view g _ _ L (ix2 s c) (ix2 (⟨s % 128, by omega⟩ : Fin 128) (⟨c % 64, by omega⟩ : Fin 64)) rfl ?_).trans ?_
    · intro x
      match x with
      | 0 => show s.val = 128 * ((32 * (c.val / 64) + s.val / 128) % 32) + s.val % 128; omega
      | 1 => show c.val = 64 * ((32 * (c.val / 64) + s.val / 128) / 32) + c.val % 64; omega
    · refine (transpose_val _ (fun j => w ⟨c / 64, by omega⟩ (128 * (s / 128) + j) (c % 64)) _ (fun j => ?_) _).trans ?_
      · refine (old_apply B f _ _ (rowOf ⟨c / 64, by omega⟩ ⟨s / 128, by omega⟩) rfl _ _).trans ?_
        rw [hf, if_pos (by simp only; omega)]
      · simp only [Nat.div_add_mod]
  · intro n L hn
    have hne : n.val ≠ 32 * (c.val / 64) + s.val / 128 := fun e => hn (Fin.ext e)
    by_cases h0 : n.val % 32 = s.val / 128
    · exact View.read_writes_cons_unit_of_not_mem m.view g _ _ L (ix2 s c) rfl 1
        (by show c.val < 64 * (n.val / 32) ∨ 64 * (n.val / 32) + 64 ≤ c.val; omega)
    · exact View.read_writes_cons_unit_of_not_mem m.view g _ _ L (ix2 s c) rfl 0
        (by show s.val < 128 * (n.val % 32) ∨ 128 * (n.val % 32) + 128 ≤ s.val; omega)

end Cert.KernelIdeal.Tile
end
end
-- ==== Proof.Operands.lean ====
/-
  The operands of a grid point in the mathematics of `Math`: what the point's windows hold of the two heads, and what the
  loads, the scaling and the transposes make of it.
-/
module

public import proofs.«01_k».proof.Proof.Memory

@[expose] public section
noncomputable section
namespace Cert.KernelIdeal.Tile
open Cert.KernelIdeal Idealize.ShloMosaic

/-- Column `d` of head `h` in a block of two heads. -/
def colOf (h : Fin 2) (d : Fin 64) : Fin 128 := ⟨64 * h + d, by omega⟩

/-- The windows hold the two heads: the rows from `t0` on of the queries, the output's gradient and the rows' sums, all the
keys and values. -/
structure Loaded (x : Fin 2 → Attn.Head) (t0 : ℕ) (x0 : Vec Ideal S1x512x128 .bf16) (x1 x2 : Vec Ideal S1x4096x128 .bf16)
    (x3 : Vec Ideal S1x512x128 .f32) (x4 : Vec Ideal S512x128 .f32) : Prop where
  q : ∀ (h : Fin 2) (r : Fin 512) (d : Fin 64), x0 (ix3 0 r (colOf h d)) = ((8 * (x h).Q (t0 + r) d : ℝ) : EReal)
  k : ∀ (h : Fin 2) (s : Fin 4096) (d : Fin 64), x1 (ix3 0 s (colOf h d)) = ((x h).K s d : EReal)
  v : ∀ (h : Fin 2) (s : Fin 4096) (d : Fin 64), x2 (ix3 0 s (colOf h d)) = ((x h).V s d : EReal)
  l : ∀ (h : Fin 2) (r : Fin 512), x3 (ix3 0 r (colOf h 0)) = (Attn.P (x h) (t0 + r) 4096 : EReal)
  o : ∀ (h : Fin 2) (r : Fin 512) (d : Fin 64), x4 (ix2 r (colOf h d)) = ((x h).D (t0 + r) d : EReal)

theorem sle_small (a b : ℕ) (ha : a < 512) (hb : b < 512) : IntOp.cmpi .sle (BitVec.ofNat 32 a) (BitVec.ofNat 32 b) = if a ≤ b then 1#1 else 0#1 := by
  have h : BitVec.sle (BitVec.ofNat 32 a) (BitVec.ofNat 32 b) = decide (a ≤ b) := by
    rw [BitVec.sle, BitVec.toInt_eq_toNat_of_lt (by simp; omega), BitVec.toInt_eq_toNat_of_lt (by simp; omega)]
    simp only [BitVec.toNat_ofNat, Nat.mod_eq_of_lt (show a < 2 ^ 32 by omega), Nat.mod_eq_of_lt (show b < 2 ^ 32 by omega)]
    simp
  show BitVec.ofBool (BitVec.sle (BitVec.ofNat 32 a) (BitVec.ofNat 32 b)) = _
  rw [h]; by_cases hab : a ≤ b <;> simp [hab]

theorem triangle_apply (i : Fin 256) (j : Fin 128) : (Gen.k0_pay469 (F := Ideal)) (ix2 i j) = if i.val % 128 ≤ j.val then 1 else 0 := by
  unfold Gen.k0_pay469
  pointwise
  have h : IntOp.cmpi .sle (IntOp.andi (BitVec.ofNat 32 i.val) 127#32) (BitVec.ofNat 32 j.val) = if i.val % 128 ≤ j.val then 1#1 else 0#1 := by
    have hi : IntOp.andi (BitVec.ofNat 32 i.val) 127#32 = BitVec.ofNat 32 (i.val % 128) := by revert i; decide +kernel
    rw [hi]
    exact sle_small _ _ (by omega) (by omega)
  rw [h]
  by_cases e : i.val % 128 ≤ j.val <;> simp [e, Scalar.select]

theorem fixed : Fixed (Gen.k0_pay469 (F := Ideal)) Gen.k0_pay483 :=
  ⟨triangle_apply, fun j d => by unfold Gen.k0_pay483; pointwise⟩

theorem start_carry (x : Attn.Head) (t0 : ℕ) : Carry x t0 0 start := by
  refine ⟨fun r => ?_, fun r => ?_, fun r d => ?_⟩
  · unfold start Gen.k0_pay484; rw [Attn.P_zero]; pointwise; rfl
  · unfold start Gen.k0_pay485; rw [Attn.PG_zero]; pointwise; rfl
  · unfold start Gen.k0_pay486; rw [Attn.dQ_zero]; pointwise; rfl

/-- A sum with the unit matrix. -/
theorem unit_sum (g : Fin 64 → EReal) (d : Fin 64) : ∑ a, Scalar.select (if a = d then 1#1 else 0#1) (g a) (0 : EReal) = g d := by
  rw [Finset.sum_eq_single d]
  · rw [if_pos rfl]; rfl
  · intro a _ ha; rw [if_neg ha]; rfl
  · intro h; exact absurd (Finset.mem_univ _) h

theorem eq_bit (d a : Fin 64) : IntOp.cmpi .eq (BitVec.ofNat 32 d.val) (BitVec.ofNat 32 a.val) = if a = d then 1#1 else 0#1 := by
  revert a; revert d; decide +kernel

theorem load3 {n : ℕ} {e : EltTy} (B : Memref sig .tc .vmem S1x512x128 e) (hB : B.IsWhole) (X : Vec Ideal S1x512x128 e) (c : ℕ)
    (inb : ∀ a, (![0, 0, c] : Fin 3 → ℕ) a + (⟨3, ![1, 512, n]⟩ : Shape).size a ≤ S1x512x128.size a) (r : Fin 512) (d : Fin n) (hc : c + n ≤ 128) :
    View.readAt (Elt Ideal) B.view (Rect.unit (s := S1x512x128) ![0, 0, c] (⟨3, ![1, 512, n]⟩ : Shape).size inb).toLoadRect (hB.unread X) (ix3 0 r d)
      = X (ix3 0 r ⟨c + d, by omega⟩) := by
  rw [View.readAt_eq_ld, Memref.IsWhole.read_unread]
  exact View.ld_unit_apply_of X _ _ inb (ix3 0 r d) _ fun x => match x with | 0 => rfl | 1 => (Nat.zero_add _).symm | 2 => rfl

theorem load2 (B : Memref sig .tc .vmem S512x128 .f32) (hB : B.IsWhole) (X : Vec Ideal S512x128 .f32) (c : ℕ)
    (inb : ∀ a, (![0, c] : Fin 2 → ℕ) a + S512x64.size a ≤ S512x128.size a) (r : Fin 512) (d : Fin 64) (hc : c + 64 ≤ 128) :
    View.readAt (Elt Ideal) B.view (Rect.unit (s := S512x128) ![0, c] S512x64.size inb).toLoadRect (hB.unread X) (ix2 r d)
      = X (ix2 r ⟨c + d, by omega⟩) := by
  rw [View.readAt_eq_ld, Memref.IsWhole.read_unread]
  exact View.ld_unit_apply_of X _ _ inb (ix2 r d) _ fun x => match x with | 0 => (Nat.zero_add _).symm | 1 => rfl

theorem eighth_bits : Ideal.ofBits .f32 0x3E000000#32 = ((1 / 8 : ℝ) : EReal) := by
  simp [Ideal.ofBits, Ideal.ieee, -EReal.coe_mul]; norm_num

theorem eighth (a : ℝ) : ((8 * a : ℝ) : EReal) * Ideal.ofBits .f32 0x3E000000#32 = (a : EReal) := by
  rw [eighth_bits, ← EReal.coe_mul]; congr 1; ring

section
variable {x : Fin 2 → Attn.Head} {t0 : ℕ} {x0 : Vec Ideal S1x512x128 .bf16} {x1 x2 : Vec Ideal S1x4096x128 .bf16}
  {x3 : Vec Ideal S1x512x128 .f32} {x4 : Vec Ideal S512x128 .f32} (hx : Loaded x t0 x0 x1 x2 x3 x4)
  (arg2 : Memref sig .tc .vmem S1x512x128 .bf16) (harg2 : arg2.IsWhole) (arg5 : Memref sig .tc .vmem S1x512x128 .f32) (harg5 : arg5.IsWhole)
  (arg6 : Memref sig .tc .vmem S512x128 .f32) (harg6 : arg6.IsWhole)

include hx

theorem qh0_val (r : Fin 512) (d : Fin 64) : qh0 arg2 harg2 x0 (ix2 r d) = ((x 0).Q (t0 + r) d : EReal) := by
  unfold qh0 Gen.k0_pay470
  pointwise
  rw [load3 (n := 64) arg2 harg2 x0 0 _ r d (by omega)]
  rw [show (⟨0 + d.val, by omega⟩ : Fin 128) = colOf 0 d from rfl, hx.q]
  exact eighth _

theorem qh1_val (r : Fin 512) (d : Fin 64) : qh1 arg2 harg2 x0 (ix2 r d) = ((x 1).Q (t0 + r) d : EReal) := by
  unfold qh1 Gen.k0_pay471
  pointwise
  rw [load3 (n := 64) arg2 harg2 x0 64 _ r d (by omega)]
  rw [show (⟨64 + d.val, by omega⟩ : Fin 128) = colOf 1 d from rfl, hx.q]
  exact eighth _

theorem doh0_val (r : Fin 512) (d : Fin 64) : doh0 arg6 harg6 x4 (ix2 r d) = ((x 0).D (t0 + r) d : EReal) := by
  unfold doh0 Gen.k0_pay472
  pointwise
  rw [load2 arg6 harg6 x4 0 _ r d (by omega)]
  exact hx.o 0 r d

theorem doh1_val (r : Fin 512) (d : Fin 64) : doh1 arg6 harg6 x4 (ix2 r d) = ((x 1).D (t0 + r) d : EReal) := by
  unfold doh1 Gen.k0_pay473
  pointwise
  rw [load2 arg6 harg6 x4 64 _ r d (by omega)]
  exact hx.o 1 r d

theorem qt0_val (d : Fin 64) (r : Fin 512) : qt0 arg2 harg2 x0 (ix2 d r) = ((x 0).Q (t0 + r) d : EReal) := by
  unfold qt0 Gen.k0_pay475 Gen.k0_pay474
  pointwise [eq_bit]
  exact (unit_sum _ d).trans (qh0_val hx arg2 harg2 r d)

theorem qt1_val (d : Fin 64) (r : Fin 512) : qt1 arg2 harg2 x0 (ix2 d r) = ((x 1).Q (t0 + r) d : EReal) := by
  unfold qt1 Gen.k0_pay476
  pointwise [eq_bit]
  exact (unit_sum _ d).trans (qh1_val hx arg2 harg2 r d)

theorem dt0_val (d : Fin 64) (r : Fin 512) : dt0 arg6 harg6 x4 (ix2 d r) = ((x 0).D (t0 + r) d : EReal) := by
  unfold dt0 Gen.k0_pay477
  pointwise [eq_bit]
  exact (unit_sum _ d).trans (doh0_val hx arg6 harg6 r d)

theorem dt1_val (d : Fin 64) (r : Fin 512) : dt1 arg6 harg6 x4 (ix2 d r) = ((x 1).D (t0 + r) d : EReal) := by
  unfold dt1 Gen.k0_pay478
  pointwise [eq_bit]
  exact (unit_sum _ d).trans (doh1_val hx arg6 harg6 r d)

theorem ops0 : Ops (x 0) t0 (fix0 arg2 harg2 arg5 harg5 arg6 harg6 x0 x3 x4) := by
  refine ⟨fixed, fun r d => ?_, fun r => ?_⟩
  · unfold fix0 Gen.k0_pay481
    pointwise
    by_cases h : d.val < 64
    · rw [dif_pos h, qh0_val hx, if_pos h]
    · rw [dif_neg h, doh0_val hx, if_neg h]
  · unfold fix0 Gen.k0_pay479
    pointwise
    rw [load3 (n := 1) arg5 harg5 x3 0 _ r 0 (by omega)]
    exact hx.l 0 r

theorem ops1 : Ops (x 1) t0 (fix1 arg2 harg2 arg5 harg5 arg6 harg6 x0 x3 x4) := by
  refine ⟨fixed, fun r d => ?_, fun r => ?_⟩
  · unfold fix1 Gen.k0_pay482
    pointwise
    by_cases h : d.val < 64
    · rw [dif_pos h, qh1_val hx, if_pos h]
    · rw [dif_neg h, doh1_val hx, if_neg h]
  · unfold fix1 Gen.k0_pay480
    pointwise
    rw [load3 (n := 1) arg5 harg5 x3 64 _ r 0 (by omega)]
    exact hx.l 1 r

variable (i : grid0.Coords) (arg3 : Memref sig .tc .vmem S1x4096x128 .bf16) (harg3 : arg3.IsWhole)
  (arg4 : Memref sig .tc .vmem S1x4096x128 .bf16) (harg4 : arg4.IsWhole)

omit hx in
theorem trips_eq : (k0_t1_loop i).trips = (i 1).val := by
  revert i; decide +kernel

theorem keys_of (h : Fin 2) (s0 : ℕ) (hs : s0 + 128 ≤ 4096) (off off' : Fin 3 → ℕ) (inb) (inb') (e : off = ![0, s0, 64 * h.val]) (e' : off' = ![0, s0, 64 * h.val]) :
    Keys (x h) s0 (blk arg3 (harg3.unread x1) off inb) (blk arg4 (harg4.unread x2) off' inb') :=
  ⟨fun j d => (blk_apply arg3 harg3 x1 off inb e j d hs (by omega)).trans (hx.k h ⟨s0 + j, by omega⟩ d),
    fun j d => (blk_apply arg4 harg4 x2 off' inb' e' j d hs (by omega)).trans (hx.v h ⟨s0 + j, by omega⟩ d)⟩

theorem trip0_keys (k : Fin (k0_t1_loop i).trips) (b : Fin 4) :
    Keys (x 0) (512 * k + 128 * b) (trip0 i arg3 (harg3.unread x1) k b) (trip0 i arg4 (harg4.unread x2) k b) := by
  have hk : k.val < 8 := by have := k.2; have := trips_eq i; have : (i 1).val < 8 := (i 1).isLt; omega
  exact keys_of hx arg3 harg3 arg4 harg4 0 _ (by omega) _ _ _ _ (Gen.k0_off1_eq i k b) (Gen.k0_off1_eq i k b)

theorem trip1_keys (k : Fin (k0_t1_loop i).trips) (b : Fin 4) :
    Keys (x 1) (512 * k + 128 * b) (trip1 i arg3 (harg3.unread x1) k b) (trip1 i arg4 (harg4.unread x2) k b) := by
  have hk : k.val < 8 := by have := k.2; have := trips_eq i; have : (i 1).val < 8 := (i 1).isLt; omega
  exact keys_of hx arg3 harg3 arg4 harg4 1 _ (by omega) _ _ _ _ (Gen.k0_off3_eq i k b) (Gen.k0_off3_eq i k b)

theorem diag0_keys (b : Fin 4) :
    Keys (x 0) (512 * (i 1).val + 128 * b) (diag0 i arg3 (harg3.unread x1) b) (diag0 i arg4 (harg4.unread x2) b) := by
  have : (i 1).val < 8 := (i 1).isLt
  exact keys_of hx arg3 harg3 arg4 harg4 0 _ (by omega) _ _ _ _ (Gen.k0_off7_eq i b) (Gen.k0_off7_eq i b)

theorem diag1_keys (b : Fin 4) :
    Keys (x 1) (512 * (i 1).val + 128 * b) (diag1 i arg3 (harg3.unread x1) b) (diag1 i arg4 (harg4.unread x2) b) := by
  have : (i 1).val < 8 := (i 1).isLt
  exact keys_of hx arg3 harg3 arg4 harg4 1 _ (by omega) _ _ _ _ (Gen.k0_off9_eq i b) (Gen.k0_off9_eq i b)
end

end Cert.KernelIdeal.Tile
end
end
-- ==== Proof.Loop.lean ====
/-
  The loop over the blocks of keys before the diagonal: after `n` trips the two heads carry the sums over the first `512 n`
  keys, and the first `4 n` row blocks of the accumulators have the point's rows added.
-/
module

public import proofs.«01_k».proof.Proof.Operands

@[expose] public section
set_option maxRecDepth 16384
noncomputable section
namespace Cert.KernelIdeal.Tile
open Cert.KernelIdeal Idealize.ShloMosaic

section
variable {F : FTy → Type} [FloatOps F]
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable (x0 : Vec F S1x512x128 .bf16) (x1 x2 : Vec F S1x4096x128 .bf16) (x3 : Vec F S1x512x128 .f32) (x4 : Vec F S512x128 .f32)
variable (f0 : BufTy.Contents (Elt F) arg10.view.ty) (f1 : BufTy.Contents (Elt F) arg11.view.ty)

/-- One trip: what is carried. -/
theorem loop_succ_carry (k : Fin (k0_t1_loop i).trips) (s0 s1 : St F) (e : (loopAt c i arg2 harg2 arg3 harg3 arg4 harg4 arg5 harg5 arg6 harg6 arg7 harg7 arg8 harg8 arg9 harg9 arg10 harg10 arg11 harg11 x0 x1 x2 x3 x4 f0 f1 k.val).1 = tup s0 s1) :
    (loopAt c i arg2 harg2 arg3 harg3 arg4 harg4 arg5 harg5 arg6 harg6 arg7 harg7 arg8 harg8 arg9 harg9 arg10 harg10 arg11 harg11 x0 x1 x2 x3 x4 f0 f1 (k.val + 1)).1 = tup (subs (fix0 arg2 harg2 arg5 harg5 arg6 harg6 x0 x3 x4) (trip0 i arg3 (harg3.unread x1) k) (trip0 i arg4 (harg4.unread x2) k) s0 4) (subs (fix1 arg2 harg2 arg5 harg5 arg6 harg6 x0 x3 x4) (trip1 i arg3 (harg3.unread x1) k) (trip1 i arg4 (harg4.unread x2) k) s1 4) := by
  have h1 : (loopAt c i arg2 harg2 arg3 harg3 arg4 harg4 arg5 harg5 arg6 harg6 arg7 harg7 arg8 harg8 arg9 harg9 arg10 harg10 arg11 harg11 x0 x1 x2 x3 x4 f0 f1 (k.val + 1)).1 = Gen.tripR_k0_t1 (F := F) Variants.none c none i arg2 harg2 arg3 harg3 arg4 harg4 arg5 harg5 arg6 harg6 arg7 harg7 arg8 harg8 arg9 harg9 arg10 harg10 arg11 harg11 (Scalar.muli (BitVec.ofNat 32 (i 1).val) 512#32) Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (harg3.unread x1) (harg4.unread x2) k (loopAt c i arg2 harg2 arg3 harg3 arg4 harg4 arg5 harg5 arg6 harg6 arg7 harg7 arg8 harg8 arg9 harg9 arg10 harg10 arg11 harg11 x0 x1 x2 x3 x4 f0 f1 k.val).1 (arg10.view.writes (Elt F) f0 (loopAt c i arg2 harg2 arg3 harg3 arg4 harg4 arg5 harg5 arg6 harg6 arg7 harg7 arg8 harg8 arg9 harg9 arg10 harg10 arg11 harg11 x0 x1 x2 x3 x4 f0 f1 k.val).2.1) (arg11.view.writes (Elt F) f1 (loopAt c i arg2 harg2 arg3 harg3 arg4 harg4 arg5 harg5 arg6 harg6 arg7 harg7 arg8 harg8 arg9 harg9 arg10 harg10 arg11 harg11 x0 x1 x2 x3 x4 f0 f1 k.val).2.2) :=
    congrArg Prod.fst (Gen.st_k0_t1_succ (F := F) Variants.none c none i arg2 harg2 arg3 harg3 arg4 harg4 arg5 harg5 arg6 harg6 arg7 harg7 arg8 harg8 arg9 harg9 arg10 harg10 arg11 harg11 (Scalar.muli (BitVec.ofNat 32 (i 1).val) 512#32) Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (harg3.unread x1) (harg4.unread x2) f0 f1 (tup start start) k)
  rw [h1, e]
  refine (tripR_eq Variants.none c none i arg2 harg2 arg3 harg3 arg4 harg4 arg5 harg5 arg6 harg6 arg7 harg7 arg8 harg8 arg9 harg9 arg10 harg10 arg11 harg11 (Scalar.muli (BitVec.ofNat 32 (i 1).val) 512#32) Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (harg3.unread x1) (harg4.unread x2) k s0 s1 (arg10.view.writes (Elt F) f0 (loopAt c i arg2 harg2 arg3 harg3 arg4 harg4 arg5 harg5 arg6 harg6 arg7 harg7 arg8 harg8 arg9 harg9 arg10 harg10 arg11 harg11 x0 x1 x2 x3 x4 f0 f1 k.val).2.1) (arg11.view.writes (Elt F) f1 (loopAt c i arg2 harg2 arg3 harg3 arg4 harg4 arg5 harg5 arg6 harg6 arg7 harg7 arg8 harg8 arg9 harg9 arg10 harg10 arg11 harg11 x0 x1 x2 x3 x4 f0 f1 k.val).2.2)).trans ?_
  exact congrArg₂ (fun a b : Fix F => tup (subs a (trip0 i arg3 (harg3.unread x1) k) (trip0 i arg4 (harg4.unread x2) k) s0 4) (subs b (trip1 i arg3 (harg3.unread x1) k) (trip1 i arg4 (harg4.unread x2) k) s1 4))
    (show (⟨Gen.k0_pay469, Gen.k0_pay483, (fix0 arg2 harg2 arg5 harg5 arg6 harg6 x0 x3 x4).qd, (fix0 arg2 harg2 arg5 harg5 arg6 harg6 x0 x3 x4).stot⟩ : Fix F) = (fix0 arg2 harg2 arg5 harg5 arg6 harg6 x0 x3 x4) from rfl)
    (show (⟨Gen.k0_pay469, Gen.k0_pay483, (fix1 arg2 harg2 arg5 harg5 arg6 harg6 x0 x3 x4).qd, (fix1 arg2 harg2 arg5 harg5 arg6 harg6 x0 x3 x4).stot⟩ : Fix F) = (fix1 arg2 harg2 arg5 harg5 arg6 harg6 x0 x3 x4) from rfl)

/-- One trip: what it writes into the first accumulator, after the earlier pieces. -/
theorem loop_succ_k (k : Fin (k0_t1_loop i).trips) (s0 s1 : St F) (e : (loopAt c i arg2 harg2 arg3 harg3 arg4 harg4 arg5 harg5 arg6 harg6 arg7 harg7 arg8 harg8 arg9 harg9 arg10 harg10 arg11 harg11 x0 x1 x2 x3 x4 f0 f1 k.val).1 = tup s0 s1) :
    (loopAt c i arg2 harg2 arg3 harg3 arg4 harg4 arg5 harg5 arg6 harg6 arg7 harg7 arg8 harg8 arg9 harg9 arg10 harg10 arg11 harg11 x0 x1 x2 x3 x4 f0 f1 (k.val + 1)).2.1 = tripWrites i arg10 (arg10.view.writes (Elt F) f0 (loopAt c i arg2 harg2 arg3 harg3 arg4 harg4 arg5 harg5 arg6 harg6 arg7 harg7 arg8 harg8 arg9 harg9 arg10 harg10 arg11 harg11 x0 x1 x2 x3 x4 f0 f1 k.val).2.1) k (qt0 arg2 harg2 x0) (qt1 arg2 harg2 x0) (dlSub (fix0 arg2 harg2 arg5 harg5 arg6 harg6 x0 x3 x4) (trip0 i arg3 (harg3.unread x1) k) (trip0 i arg4 (harg4.unread x2) k) s0) (dlSub (fix1 arg2 harg2 arg5 harg5 arg6 harg6 x0 x3 x4) (trip1 i arg3 (harg3.unread x1) k) (trip1 i arg4 (harg4.unread x2) k) s1) ++ (loopAt c i arg2 harg2 arg3 harg3 arg4 harg4 arg5 harg5 arg6 harg6 arg7 harg7 arg8 harg8 arg9 harg9 arg10 harg10 arg11 harg11 x0 x1 x2 x3 x4 f0 f1 k.val).2.1 := by
  have h1 : (loopAt c i arg2 harg2 arg3 harg3 arg4 harg4 arg5 harg5 arg6 harg6 arg7 harg7 arg8 harg8 arg9 harg9 arg10 harg10 arg11 harg11 x0 x1 x2 x3 x4 f0 f1 (k.val + 1)).2.1 = (Gen.tripL_k0_t1 (F := F) Variants.none c none i arg2 harg2 arg3 harg3 arg4 harg4 arg5 harg5 arg6 harg6 arg7 harg7 arg8 harg8 arg9 harg9 arg10 harg10 arg11 harg11 (Scalar.muli (BitVec.ofNat 32 (i 1).val) 512#32) Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (harg3.unread x1) (harg4.unread x2) k (loopAt c i arg2 harg2 arg3 harg3 arg4 harg4 arg5 harg5 arg6 harg6 arg7 harg7 arg8 harg8 arg9 harg9 arg10 harg10 arg11 harg11 x0 x1 x2 x3 x4 f0 f1 k.val).1 (arg10.view.writes (Elt F) f0 (loopAt c i arg2 harg2 arg3 harg3 arg4 harg4 arg5 harg5 arg6 harg6 arg7 harg7 arg8 harg8 arg9 harg9 arg10 harg10 arg11 harg11 x0 x1 x2 x3 x4 f0 f1 k.val).2.1) (arg11.view.writes (Elt F) f1 (loopAt c i arg2 harg2 arg3 harg3 arg4 harg4 arg5 harg5 arg6 harg6 arg7 harg7 arg8 harg8 arg9 harg9 arg10 harg10 arg11 harg11 x0 x1 x2 x3 x4 f0 f1 k.val).2.2)).1 ++ (loopAt c i arg2 harg2 arg3 harg3 arg4 harg4 arg5 harg5 arg6 harg6 arg7 harg7 arg8 harg8 arg9 harg9 arg10 harg10 arg11 harg11 x0 x1 x2 x3 x4 f0 f1 k.val).2.1 :=
    congrArg (fun a => a.2.1) (Gen.st_k0_t1_succ (F := F) Variants.none c none i arg2 harg2 arg3 harg3 arg4 harg4 arg5 harg5 arg6 harg6 arg7 harg7 arg8 harg8 arg9 harg9 arg10 harg10 arg11 harg11 (Scalar.muli (BitVec.ofNat 32 (i 1).val) 512#32) Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (harg3.unread x1) (harg4.unread x2) f0 f1 (tup start start) k)
  rw [h1, e]
  exact congrArg (· ++ (loopAt c i arg2 harg2 arg3 harg3 arg4 harg4 arg5 harg5 arg6 harg6 arg7 harg7 arg8 harg8 arg9 harg9 arg10 harg10 arg11 harg11 x0 x1 x2 x3 x4 f0 f1 k.val).2.1) (tripL1_eq Variants.none c none i arg2 harg2 arg3 harg3 arg4 harg4 arg5 harg5 arg6 harg6 arg7 harg7 arg8 harg8 arg9 harg9 arg10 harg10 arg11 harg11 (Scalar.muli (BitVec.ofNat 32 (i 1).val) 512#32) Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (harg3.unread x1) (harg4.unread x2) k s0 s1 (arg10.view.writes (Elt F) f0 (loopAt c i arg2 harg2 arg3 harg3 arg4 harg4 arg5 harg5 arg6 harg6 arg7 harg7 arg8 harg8 arg9 harg9 arg10 harg10 arg11 harg11 x0 x1 x2 x3 x4 f0 f1 k.val).2.1) (arg11.view.writes (Elt F) f1 (loopAt c i arg2 harg2 arg3 harg3 arg4 harg4 arg5 harg5 arg6 harg6 arg7 harg7 arg8 harg8 arg9 harg9 arg10 harg10 arg11 harg11 x0 x1 x2 x3 x4 f0 f1 k.val).2.2))

/-- One trip: what it writes into the second accumulator, after the earlier pieces. -/
theorem loop_succ_v (k : Fin (k0_t1_loop i).trips) (s0 s1 : St F) (e : (loopAt c i arg2 harg2 arg3 harg3 arg4 harg4 arg5 harg5 arg6 harg6 arg7 harg7 arg8 harg8 arg9 harg9 arg10 harg10 arg11 harg11 x0 x1 x2 x3 x4 f0 f1 k.val).1 = tup s0 s1) :
    (loopAt c i arg2 harg2 arg3 harg3 arg4 harg4 arg5 harg5 arg6 harg6 arg7 harg7 arg8 harg8 arg9 harg9 arg10 harg10 arg11 harg11 x0 x1 x2 x3 x4 f0 f1 (k.val + 1)).2.2 = tripWrites i arg11 (arg11.view.writes (Elt F) f1 (loopAt c i arg2 harg2 arg3 harg3 arg4 harg4 arg5 harg5 arg6 harg6 arg7 harg7 arg8 harg8 arg9 harg9 arg10 harg10 arg11 harg11 x0 x1 x2 x3 x4 f0 f1 k.val).2.2) k (dt0 arg6 harg6 x4) (dt1 arg6 harg6 x4) (attSub (fix0 arg2 harg2 arg5 harg5 arg6 harg6 x0 x3 x4) (trip0 i arg3 (harg3.unread x1) k) (trip0 i arg4 (harg4.unread x2) k) s0) (attSub (fix1 arg2 harg2 arg5 harg5 arg6 harg6 x0 x3 x4) (trip1 i arg3 (harg3.unread x1) k) (trip1 i arg4 (harg4.unread x2) k) s1) ++ (loopAt c i arg2 harg2 arg3 harg3 arg4 harg4 arg5 harg5 arg6 harg6 arg7 harg7 arg8 harg8 arg9 harg9 arg10 harg10 arg11 harg11 x0 x1 x2 x3 x4 f0 f1 k.val).2.2 := by
  have h1 : (loopAt c i arg2 harg2 arg3 harg3 arg4 harg4 arg5 harg5 arg6 harg6 arg7 harg7 arg8 harg8 arg9 harg9 arg10 harg10 arg11 harg11 x0 x1 x2 x3 x4 f0 f1 (k.val + 1)).2.2 = (Gen.tripL_k0_t1 (F := F) Variants.none c none i arg2 harg2 arg3 harg3 arg4 harg4 arg5 harg5 arg6 harg6 arg7 harg7 arg8 harg8 arg9 harg9 arg10 harg10 arg11 harg11 (Scalar.muli (BitVec.ofNat 32 (i 1).val) 512#32) Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (harg3.unread x1) (harg4.unread x2) k (loopAt c i arg2 harg2 arg3 harg3 arg4 harg4 arg5 harg5 arg6 harg6 arg7 harg7 arg8 harg8 arg9 harg9 arg10 harg10 arg11 harg11 x0 x1 x2 x3 x4 f0 f1 k.val).1 (arg10.view.writes (Elt F) f0 (loopAt c i arg2 harg2 arg3 harg3 arg4 harg4 arg5 harg5 arg6 harg6 arg7 harg7 arg8 harg8 arg9 harg9 arg10 harg10 arg11 harg11 x0 x1 x2 x3 x4 f0 f1 k.val).2.1) (arg11.view.writes (Elt F) f1 (loopAt c i arg2 harg2 arg3 harg3 arg4 harg4 arg5 harg5 arg6 harg6 arg7 harg7 arg8 harg8 arg9 harg9 arg10 harg10 arg11 harg11 x0 x1 x2 x3 x4 f0 f1 k.val).2.2)).2 ++ (loopAt c i arg2 harg2 arg3 harg3 arg4 harg4 arg5 harg5 arg6 harg6 arg7 harg7 arg8 harg8 arg9 harg9 arg10 harg10 arg11 harg11 x0 x1 x2 x3 x4 f0 f1 k.val).2.2 :=
    congrArg (fun a => a.2.2) (Gen.st_k0_t1_succ (F := F) Variants.none c none i arg2 harg2 arg3 harg3 arg4 harg4 arg5 harg5 arg6 harg6 arg7 harg7 arg8 harg8 arg9 harg9 arg10 harg10 arg11 harg11 (Scalar.muli (BitVec.ofNat 32 (i 1).val) 512#32) Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (harg3.unread x1) (harg4.unread x2) f0 f1 (tup start start) k)
  rw [h1, e]
  exact congrArg (· ++ (loopAt c i arg2 harg2 arg3 harg3 arg4 harg4 arg5 harg5 arg6 harg6 arg7 harg7 arg8 harg8 arg9 harg9 arg10 harg10 arg11 harg11 x0 x1 x2 x3 x4 f0 f1 k.val).2.2) (tripL2_eq Variants.none c none i arg2 harg2 arg3 harg3 arg4 harg4 arg5 harg5 arg6 harg6 arg7 harg7 arg8 harg8 arg9 harg9 arg10 harg10 arg11 harg11 (Scalar.muli (BitVec.ofNat 32 (i 1).val) 512#32) Gen.k0_pay469 (qt0 arg2 harg2 x0) (qt1 arg2 harg2 x0) (dt0 arg6 harg6 x4) (dt1 arg6 harg6 x4) (fix0 arg2 harg2 arg5 harg5 arg6 harg6 x0 x3 x4).stot (fix1 arg2 harg2 arg5 harg5 arg6 harg6 x0 x3 x4).stot (fix0 arg2 harg2 arg5 harg5 arg6 harg6 x0 x3 x4).qd (fix1 arg2 harg2 arg5 harg5 arg6 harg6 x0 x3 x4).qd Gen.k0_pay483 Gen.k0_pay484 Gen.k0_pay485 Gen.k0_pay486 (harg3.unread x1) (harg4.unread x2) k s0 s1 (arg10.view.writes (Elt F) f0 (loopAt c i arg2 harg2 arg3 harg3 arg4 harg4 arg5 harg5 arg6 harg6 arg7 harg7 arg8 harg8 arg9 harg9 arg10 harg10 arg11 harg11 x0 x1 x2 x3 x4 f0 f1 k.val).2.1) (arg11.view.writes (Elt F) f1 (loopAt c i arg2 harg2 arg3 harg3 arg4 harg4 arg5 harg5 arg6 harg6 arg7 harg7 arg8 harg8 arg9 harg9 arg10 harg10 arg11 harg11 x0 x1 x2 x3 x4 f0 f1 k.val).2.2))
end

/-- The gradients of the keys and the values, of the first `n` queries, of the two heads. -/
def gradK (x : Fin 2 → Attn.Head) (n : ℕ) : Fin 2 → ℕ → ℕ → ℝ := fun h => Attn.dK (x h) n
def gradV (x : Fin 2 → Attn.Head) (n : ℕ) : Fin 2 → ℕ → ℕ → ℝ := fun h => Attn.dV (x h) n

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable {x0 : Vec Ideal S1x512x128 .bf16} {x1 x2 : Vec Ideal S1x4096x128 .bf16} {x3 : Vec Ideal S1x512x128 .f32} {x4 : Vec Ideal S512x128 .f32}
variable (f0 : BufTy.Contents (Elt Ideal) arg10.view.ty) (f1 : BufTy.Contents (Elt Ideal) arg11.view.ty)
variable {x : Fin 2 → Attn.Head} {t0 : ℕ} (ht : t0 = 512 * (i 1).val) (hx : Loaded x t0 x0 x1 x2 x3 x4)
  (hk : Acc (gradK x t0) (gradK x (t0 + 512)) (fun _ => 0) (arg10.view.read (Elt Ideal) f0))
  (hv : Acc (gradV x t0) (gradV x (t0 + 512)) (fun _ => 0) (arg11.view.read (Elt Ideal) f1))

/-- What holds after `n` trips. -/
def Inv (x : Fin 2 → Attn.Head) (t0 n : ℕ) (a : St Ideal) (b : St Ideal) (g10 : Vec Ideal S64x64x128 .f32) (g11 : Vec Ideal S64x64x128 .f32) : Prop :=
  Carry (x 0) t0 (512 * n) a ∧ Carry (x 1) t0 (512 * n) b ∧ Acc (gradK x t0) (gradK x (t0 + 512)) (fun _ => 4 * n) g10
    ∧ Acc (gradV x t0) (gradV x (t0 + 512)) (fun _ => 4 * n) g11

include ht hx hk hv in
theorem loop_inv : ∀ n, n ≤ (k0_t1_loop i).trips → ∃ s0 s1,
    (loopAt c i arg2 harg2 arg3 harg3 arg4 harg4 arg5 harg5 arg6 harg6 arg7 harg7 arg8 harg8 arg9 harg9 arg10 harg10 arg11 harg11 x0 x1 x2 x3 x4 f0 f1 n).1 = tup s0 s1
    ∧ Inv x t0 n s0 s1 (arg10.view.read (Elt Ideal) (arg10.view.writes (Elt Ideal) f0 (loopAt c i arg2 harg2 arg3 harg3 arg4 harg4 arg5 harg5 arg6 harg6 arg7 harg7 arg8 harg8 arg9 harg9 arg10 harg10 arg11 harg11 x0 x1 x2 x3 x4 f0 f1 n).2.1))
      (arg11.view.read (Elt Ideal) (arg11.view.writes (Elt Ideal) f1 (loopAt c i arg2 harg2 arg3 harg3 arg4 harg4 arg5 harg5 arg6 harg6 arg7 harg7 arg8 harg8 arg9 harg9 arg10 harg10 arg11 harg11 x0 x1 x2 x3 x4 f0 f1 n).2.2))
  | 0, _ => ⟨start, start, rfl, start_carry _ _, start_carry _ _, hk, hv⟩
  | n + 1, hn => by
    obtain ⟨s0, s1, e, h0, h1, h10, h11⟩ := loop_inv n (by omega)
    have htr := trips_eq i
    have hi : (i 1).val < 8 := (i 1).isLt
    have hn' : 512 * n + 512 ≤ t0 := by omega
    have hc := loop_succ_carry c i arg2 harg2 arg3 harg3 arg4 harg4 arg5 harg5 arg6 harg6 arg7 harg7 arg8 harg8 arg9 harg9 arg10 harg10 arg11 harg11 x0 x1 x2 x3 x4 f0 f1 ⟨n, hn⟩ s0 s1 e
    have hK := loop_succ_k c i arg2 harg2 arg3 harg3 arg4 harg4 arg5 harg5 arg6 harg6 arg7 harg7 arg8 harg8 arg9 harg9 arg10 harg10 arg11 harg11 x0 x1 x2 x3 x4 f0 f1 ⟨n, hn⟩ s0 s1 e
    have hV := loop_succ_v c i arg2 harg2 arg3 harg3 arg4 harg4 arg5 harg5 arg6 harg6 arg7 harg7 arg8 harg8 arg9 harg9 arg10 harg10 arg11 harg11 x0 x1 x2 x3 x4 f0 f1 ⟨n, hn⟩ s0 s1 e
    dsimp only at hc hK hV
    rw [hK, hV]
    have hf0 := ops0 hx arg2 harg2 arg5 harg5 arg6 harg6
    have hf1 := ops1 hx arg2 harg2 arg5 harg5 arg6 harg6
    have hk0 := trip0_keys hx i arg3 harg3 arg4 harg4 ⟨n, hn⟩
    have hk1 := trip1_keys hx i arg3 harg3 arg4 harg4 ⟨n, hn⟩
    refine ⟨_, _, hc, ?_, ?_, ?_, ?_⟩
    · exact subs_carry hf0 hk0 hn' h0 4 (le_refl _)
    · exact subs_carry hf1 hk1 hn' h1 4 (le_refl _)
    · rw [View.writes_append]
      refine trip_acc (k := ⟨n, hn⟩) (by simp only; omega) h10 _ _ _ _ (fun s y hy d j => ?_) (fun s y hy d j => ?_)
      · have := dlSub_row hf0 hk0 hn' h0 _ (qt0_val hx arg2 harg2) s y (fun d j => (hy d j).trans (by simp only [gradK]; congr 2; omega)) d j
        refine this.trans ?_; simp only [gradK]; congr 2; omega
      · have := dlSub_row hf1 hk1 hn' h1 _ (qt1_val hx arg2 harg2) s y (fun d j => (hy d j).trans (by simp only [gradK]; congr 2; omega)) d j
        refine this.trans ?_; simp only [gradK]; congr 2; omega
    · rw [View.writes_append]
      refine trip_acc (k := ⟨n, hn⟩) (by simp only; omega) h11 _ _ _ _ (fun s y hy d j => ?_) (fun s y hy d j => ?_)
      · have := attSub_row hf0 hk0 hn' h0 _ (dt0_val hx arg6 harg6) s y (fun d j => (hy d j).trans (by simp only [gradV]; congr 2; omega)) d j
        refine this.trans ?_; simp only [gradV]; congr 2; omega
      · have := attSub_row hf1 hk1 hn' h1 _ (dt1_val hx arg6 harg6) s y (fun d j => (hy d j).trans (by simp only [gradV]; congr 2; omega)) d j
        refine this.trans ?_; simp only [gradV]; congr 2; omega
end

end Cert.KernelIdeal.Tile
end
end
-- ==== Proof.PointValue.lean ====
/-
  The values of one grid point: from the gradients of the keys and the values of the rows before it, the point leaves those
  of the rows up to its last, and writes the gradient of its queries.
-/
module

public import proofs.«01_k».proof.Proof.Loop

@[expose] public section
set_option maxRecDepth 16384
noncomputable section
namespace Cert.KernelIdeal.Tile
open Cert.KernelIdeal Idealize.ShloMosaic

/-- The accumulator holds `o` of both heads. -/
def Holds (o : Fin 2 → ℕ → ℕ → ℝ) (g : Vec Ideal S64x64x128 .f32) : Prop :=
  ∀ (h : Fin 2) (kb : Fin 32) (d : Fin 64) (j : Fin 128), g (ix3 (rowOf h kb) d j) = (o h (128 * kb + j) d : EReal)

theorem Holds.acc {o w : Fin 2 → ℕ → ℕ → ℝ} {g : Vec Ideal S64x64x128 .f32} (h : Holds o g) : Acc o w (fun _ => 0) g :=
  fun a kb d j => by rw [h, if_neg (Nat.not_lt_zero _)]

/-- Once the rows at the old values agree with the new ones, the accumulator holds the new values. -/
theorem Acc.holds {o w : Fin 2 → ℕ → ℕ → ℝ} {b : ℕ} {g : Vec Ideal S64x64x128 .f32} (h : Acc o w (fun _ => b) g)
    (he : ∀ a s d, 128 * b ≤ s → w a s d = o a s d) : Holds w g := fun a kb d j => by
  rw [h]
  by_cases e : kb.val < b
  · rw [if_pos e]
  · rw [if_neg e, he a _ d (by omega)]

theorem Holds.acc_all {o : Fin 2 → ℕ → ℕ → ℝ} {g : Vec Ideal S64x64x128 .f32} (h : Holds o g) (b : ℕ) : Acc o o (fun _ => b) g :=
  fun a kb d j => by rw [h, ite_self]

/-- The gradients of the queries of a block of rows, both heads side by side. -/
def HoldsQ (x : Fin 2 → Attn.Head) (t0 : ℕ) (g : Vec Ideal S512x128 .bf16) : Prop :=
  ∀ (h : Fin 2) (r : Fin 512) (d : Fin 64), g (ix2 r (colOf h d)) = ((Attn.dQ (x h) 4096 (t0 + r) d / 8 : ℝ) : EReal)

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable {x0 : Vec Ideal S1x512x128 .bf16} {x1 x2 : Vec Ideal S1x4096x128 .bf16} {x3 : Vec Ideal S1x512x128 .f32} {x4 : Vec Ideal S512x128 .f32}
variable (f0 : BufTy.Contents (Elt Ideal) arg10.view.ty) (f1 : BufTy.Contents (Elt Ideal) arg11.view.ty)
variable {x : Fin 2 → Attn.Head} {t0 : ℕ} (ht : t0 = 512 * (i 1).val) (hx : Loaded x t0 x0 x1 x2 x3 x4)
  (hk : Holds (gradK x t0) (arg10.view.read (Elt Ideal) f0)) (hv : Holds (gradV x t0) (arg11.view.read (Elt Ideal) f1))

include ht hx hk hv in
theorem loop_all : ∃ s0 s1, (loopAt c i arg2 harg2 arg3 harg3 arg4 harg4 arg5 harg5 arg6 harg6 arg7 harg7 arg8 harg8 arg9 harg9 arg10 harg10 arg11 harg11 x0 x1 x2 x3 x4 f0 f1 (k0_t1_loop i).trips).1 = tup s0 s1 ∧ Carry (x 0) t0 t0 s0 ∧ Carry (x 1) t0 t0 s1
    ∧ Acc (gradK x t0) (gradK x (t0 + 512)) (fun _ => 4 * (i 1).val) (arg10.view.read (Elt Ideal) (arg10.view.writes (Elt Ideal) f0 (loopAt c i arg2 harg2 arg3 harg3 arg4 harg4 arg5 harg5 arg6 harg6 arg7 harg7 arg8 harg8 arg9 harg9 arg10 harg10 arg11 harg11 x0 x1 x2 x3 x4 f0 f1 (k0_t1_loop i).trips).2.1))
    ∧ Acc (gradV x t0) (gradV x (t0 + 512)) (fun _ => 4 * (i 1).val) (arg11.view.read (Elt Ideal) (arg11.view.writes (Elt Ideal) f1 (loopAt c i arg2 harg2 arg3 harg3 arg4 harg4 arg5 harg5 arg6 harg6 arg7 harg7 arg8 harg8 arg9 harg9 arg10 harg10 arg11 harg11 x0 x1 x2 x3 x4 f0 f1 (k0_t1_loop i).trips).2.2)) := by
  obtain ⟨s0, s1, e, h0, h1, h10, h11⟩ := loop_inv c i arg2 harg2 arg3 harg3 arg4 harg4 arg5 harg5 arg6 harg6 arg7 harg7 arg8 harg8 arg9 harg9 arg10 harg10 arg11 harg11 f0 f1 ht hx hk.acc hv.acc (k0_t1_loop i).trips (le_refl _)
  have htr := trips_eq i
  refine ⟨s0, s1, e, ?_, ?_, ?_, ?_⟩
  · rw [show t0 = 512 * (k0_t1_loop i).trips by omega] at h0 ⊢; exact h0
  · rw [show t0 = 512 * (k0_t1_loop i).trips by omega] at h1 ⊢; exact h1
  · rw [← htr]; exact h10
  · rw [← htr]; exact h11

include ht hx hk hv in
theorem point_k (base : BufTy.Contents (Elt Ideal) arg10.view.ty) (L : List (View.Piece (Elt Ideal) S64x64x128 .f32))
    (hb : arg10.view.writes (Elt Ideal) base L = arg10.view.writes (Elt Ideal) f0 (loopAt c i arg2 harg2 arg3 harg3 arg4 harg4 arg5 harg5 arg6 harg6 arg7 harg7 arg8 harg8 arg9 harg9 arg10 harg10 arg11 harg11 x0 x1 x2 x3 x4 f0 f1 (k0_t1_loop i).trips).2.1) :
    Holds (gradK x (t0 + 512)) (arg10.view.read (Elt Ideal) (arg10.view.writes (Elt Ideal) base
      (writesK i arg2 harg2 arg3 harg3 arg4 harg4 arg5 harg5 arg6 harg6 arg10 x0 x1 x2 x3 x4 (loopAt c i arg2 harg2 arg3 harg3 arg4 harg4 arg5 harg5 arg6 harg6 arg7 harg7 arg8 harg8 arg9 harg9 arg10 harg10 arg11 harg11 x0 x1 x2 x3 x4 f0 f1 (k0_t1_loop i).trips).1 base L))) := by
  obtain ⟨s0, s1, e, h0, h1, h10, -⟩ := loop_all c i arg2 harg2 arg3 harg3 arg4 harg4 arg5 harg5 arg6 harg6 arg7 harg7 arg8 harg8 arg9 harg9 arg10 harg10 arg11 harg11 f0 f1 ht hx hk hv
  rw [← hb] at h10
  rw [e]
  refine Acc.holds (diag_acc (fun h s y hy d j => ?_) h10) ?_
  · subst ht
    match h with
    | 0 =>
      have := dlDiag_row (ops0 hx arg2 harg2 arg5 harg5 arg6 harg6) (diag0_keys hx i arg3 harg3 arg4 harg4) h0 _ (qt0_val hx arg2 harg2) s y
        (fun d j => (hy d j).trans (by simp only [gradK]; congr 2; omega)) d j
      refine this.trans ?_; simp only [gradK]; congr 2; omega
    | 1 =>
      have := dlDiag_row (ops1 hx arg2 harg2 arg5 harg5 arg6 harg6) (diag1_keys hx i arg3 harg3 arg4 harg4) h1 _ (qt1_val hx arg2 harg2) s y
        (fun d j => (hy d j).trans (by simp only [gradK]; congr 2; omega)) d j
      refine this.trans ?_; simp only [gradK]; congr 2; omega
  · intro a s d hs
    exact Attn.dK_of_le (x a) (by omega) (by omega)

include ht hx hk hv in
theorem point_v (base : BufTy.Contents (Elt Ideal) arg11.view.ty) (L : List (View.Piece (Elt Ideal) S64x64x128 .f32))
    (hb : arg11.view.writes (Elt Ideal) base L = arg11.view.writes (Elt Ideal) f1 (loopAt c i arg2 harg2 arg3 harg3 arg4 harg4 arg5 harg5 arg6 harg6 arg7 harg7 arg8 harg8 arg9 harg9 arg10 harg10 arg11 harg11 x0 x1 x2 x3 x4 f0 f1 (k0_t1_loop i).trips).2.2) :
    Holds (gradV x (t0 + 512)) (arg11.view.read (Elt Ideal) (arg11.view.writes (Elt Ideal) base
      (writesV i arg2 harg2 arg3 harg3 arg4 harg4 arg5 harg5 arg6 harg6 arg11 x0 x1 x2 x3 x4 (loopAt c i arg2 harg2 arg3 harg3 arg4 harg4 arg5 harg5 arg6 harg6 arg7 harg7 arg8 harg8 arg9 harg9 arg10 harg10 arg11 harg11 x0 x1 x2 x3 x4 f0 f1 (k0_t1_loop i).trips).1 base L))) := by
  obtain ⟨s0, s1, e, h0, h1, -, h11⟩ := loop_all c i arg2 harg2 arg3 harg3 arg4 harg4 arg5 harg5 arg6 harg6 arg7 harg7 arg8 harg8 arg9 harg9 arg10 harg10 arg11 harg11 f0 f1 ht hx hk hv
  rw [← hb] at h11
  rw [e]
  refine Acc.holds (diag_acc (fun h s y hy d j => ?_) h11) ?_
  · subst ht
    match h with
    | 0 =>
      have := attDiag_row (ops0 hx arg2 harg2 arg5 harg5 arg6 harg6) (diag0_keys hx i arg3 harg3 arg4 harg4) h0 _ (dt0_val hx arg6 harg6) s y
        (fun d j => (hy d j).trans (by simp only [gradV]; congr 2; omega)) d j
      refine this.trans ?_; simp only [gradV]; congr 2; omega
    | 1 =>
      have := attDiag_row (ops1 hx arg2 harg2 arg5 harg5 arg6 harg6) (diag1_keys hx i arg3 harg3 arg4 harg4) h1 _ (dt1_val hx arg6 harg6) s y
        (fun d j => (hy d j).trans (by simp only [gradV]; congr 2; omega)) d j
      refine this.trans ?_; simp only [gradV]; congr 2; omega
  · intro a s d hs
    exact Attn.dV_of_le (x a) (by omega) (by omega)

theorem scaled_val (y : FVec Ideal S512x64 .f32) (r : Fin 512) (d : Fin 64) (a : ℝ) (hy : y (ix2 r d) = (a : EReal)) :
    Gen.k0_pay2 y (ix2 r d) = ((a / 8 : ℝ) : EReal) := by
  unfold Gen.k0_pay2
  pointwise [hy]
  rw [eighth_bits, ← EReal.coe_mul]
  congr 1; ring

include ht hx hk hv in
theorem point_q (m : Memref sig .tc .vmem S512x128 .bf16) (g : BufTy.Contents (Elt Ideal) m.view.ty) :
    HoldsQ x t0 (m.view.read (Elt Ideal) (m.view.writes (Elt Ideal) g (writesQ i arg2 harg2 arg3 harg3 arg4 harg4 arg5 harg5 arg6 harg6 x0 x1 x2 x3 x4 (loopAt c i arg2 harg2 arg3 harg3 arg4 harg4 arg5 harg5 arg6 harg6 arg7 harg7 arg8 harg8 arg9 harg9 arg10 harg10 arg11 harg11 x0 x1 x2 x3 x4 f0 f1 (k0_t1_loop i).trips).1))) := by
  obtain ⟨s0, s1, e, h0, h1, -, -⟩ := loop_all c i arg2 harg2 arg3 harg3 arg4 harg4 arg5 harg5 arg6 harg6 arg7 harg7 arg8 harg8 arg9 harg9 arg10 harg10 arg11 harg11 f0 f1 ht hx hk hv
  rw [e]
  have hi : (i 1).val < 8 := (i 1).isLt
  intro h r d
  rw [Attn.dQ_of_le (x h) (a := t0 + 512) (by omega) (by omega)]
  subst ht
  match h with
  | 0 =>
    refine (View.read_writes_cons_unit_of_not_mem m.view g _ _ _ (ix2 r (colOf 0 d)) rfl 1 (.inl ?_)).trans
      ((View.read_writes_cons_unit_of_mem m.view g _ _ _ (ix2 r (colOf 0 d)) (ix2 r d) rfl ?_).trans ?_)
    · show 64 * 0 + d.val < 64; omega
    · exact fun a => match a with | 0 => (Nat.zero_add _).symm | 1 => rfl
    · exact scaled_val _ r d _ ((diag4_carry (ops0 hx arg2 harg2 arg5 harg5 arg6 harg6) (diag0_keys hx i arg3 harg3 arg4 harg4) h0).2.2 r d)
  | 1 =>
    refine (View.read_writes_cons_unit_of_mem m.view g _ _ _ (ix2 r (colOf 1 d)) (ix2 r d) rfl ?_).trans ?_
    · exact fun a => match a with | 0 => (Nat.zero_add _).symm | 1 => rfl
    · exact scaled_val _ r d _ ((diag4_carry (ops1 hx arg2 harg2 arg5 harg5 arg6 harg6) (diag1_keys hx i arg3 harg3 arg4 harg4) h1).2.2 r d)
end

end Cert.KernelIdeal.Tile
end
end
-- ==== Proof.PointA.lean ====
/-
  What the run of the first kind of grid point (of a head pair) writes, in the vocabulary of `Point`.
-/
module

public import proofs.«01_k».proof.Proof.Point

@[expose] public section
set_option maxRecDepth 16384
noncomputable section
namespace Cert.KernelIdeal.Tile
open Cert.KernelIdeal Idealize.ShloMosaic
variable {F : FTy → Type} [FloatOps F]

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable (x0 : Vec F S1x512x128 .bf16) (x1 x2 : Vec F S1x4096x128 .bf16) (x3 : Vec F S1x512x128 .f32) (x4 : Vec F S512x128 .f32)

section
variable (hc0 : Gen.cond0_0 i) (hc1 : ¬Gen.cond0_1 i)

theorem runA_q :
    (Gen.kernelRun0_A c i arg2 harg2 arg3 harg3 arg4 harg4 arg5 harg5 arg6 harg6 arg7 harg7 arg8 harg8 arg9 harg9 arg10 harg10 arg11 harg11 hc0 hc1 x0 x1 x2 x3 x4).1
      = writesQ i arg2 harg2 arg3 harg3 arg4 harg4 arg5 harg5 arg6 harg6 x0 x1 x2 x3 x4 (loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).1 := by
  have h : (Gen.kernelRun0_A c i arg2 harg2 arg3 harg3 arg4 harg4 arg5 harg5 arg6 harg6 arg7 harg7 arg8 harg8 arg9 harg9 arg10 harg10 arg11 harg11 hc0 hc1 x0 x1 x2 x3 x4).1
      = writesQ i arg2 harg2 arg3 harg3 arg4 harg4 arg5 harg5 arg6 harg6 x0 x1 x2 x3 x4 (tailAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg10.view.writes (Elt F) arg10.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.1 ++ zeroK)) (arg11.view.writes (Elt F) arg11.view.junk zeroV) (arg11.view.writes (Elt F) arg11.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.2 ++ zeroV)) (k0_t2_loop i).trips).1 := by
    unfold Gen.kernelRun0_A; dsimp only
    sl_kernel_rfl
  rw [h, tailAt_eq]

theorem runA_k :
    (Gen.kernelRun0_A c i arg2 harg2 arg3 harg3 arg4 harg4 arg5 harg5 arg6 harg6 arg7 harg7 arg8 harg8 arg9 harg9 arg10 harg10 arg11 harg11 hc0 hc1 x0 x1 x2 x3 x4).2.2.2.1
      = writesK i arg2 harg2 arg3 harg3 arg4 harg4 arg5 harg5 arg6 harg6 arg10 x0 x1 x2 x3 x4 (loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).1 arg10.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.1 ++ zeroK) := by
  have h : (Gen.kernelRun0_A c i arg2 harg2 arg3 harg3 arg4 harg4 arg5 harg5 arg6 harg6 arg7 harg7 arg8 harg8 arg9 harg9 arg10 harg10 arg11 harg11 hc0 hc1 x0 x1 x2 x3 x4).2.2.2.1
      = writesK i arg2 harg2 arg3 harg3 arg4 harg4 arg5 harg5 arg6 harg6 arg10 x0 x1 x2 x3 x4 (tailAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg10.view.writes (Elt F) arg10.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.1 ++ zeroK)) (arg11.view.writes (Elt F) arg11.view.junk zeroV) (arg11.view.writes (Elt F) arg11.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.2 ++ zeroV)) (k0_t2_loop i).trips).1 arg10.view.junk ((tailAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg10.view.writes (Elt F) arg10.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.1 ++ zeroK)) (arg11.view.writes (Elt F) arg11.view.junk zeroV) (arg11.view.writes (Elt F) arg11.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.2 ++ zeroV)) (k0_t2_loop i).trips).2.1 ++ ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.1 ++ zeroK)) := by
    unfold Gen.kernelRun0_A; dsimp only
    sl_kernel_rfl
  rw [h, tailAt_eq]; dsimp only [List.nil_append]

theorem runA_v :
    (Gen.kernelRun0_A c i arg2 harg2 arg3 harg3 arg4 harg4 arg5 harg5 arg6 harg6 arg7 harg7 arg8 harg8 arg9 harg9 arg10 harg10 arg11 harg11 hc0 hc1 x0 x1 x2 x3 x4).2.2.2.2.1
      = writesV i arg2 harg2 arg3 harg3 arg4 harg4 arg5 harg5 arg6 harg6 arg11 x0 x1 x2 x3 x4 (loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).1 arg11.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.2 ++ zeroV) := by
  have h : (Gen.kernelRun0_A c i arg2 harg2 arg3 harg3 arg4 harg4 arg5 harg5 arg6 harg6 arg7 harg7 arg8 harg8 arg9 harg9 arg10 harg10 arg11 harg11 hc0 hc1 x0 x1 x2 x3 x4).2.2.2.2.1
      = writesV i arg2 harg2 arg3 harg3 arg4 harg4 arg5 harg5 arg6 harg6 arg11 x0 x1 x2 x3 x4 (tailAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg10.view.writes (Elt F) arg10.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.1 ++ zeroK)) (arg11.view.writes (Elt F) arg11.view.junk zeroV) (arg11.view.writes (Elt F) arg11.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.2 ++ zeroV)) (k0_t2_loop i).trips).1 arg11.view.junk ((tailAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg10.view.writes (Elt F) arg10.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.1 ++ zeroK)) (arg11.view.writes (Elt F) arg11.view.junk zeroV) (arg11.view.writes (Elt F) arg11.view.junk ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.2 ++ zeroV)) (k0_t2_loop i).trips).2.2 ++ ((loopAt c i arg2 harg2 arg3 harg3 arg4 harg4 arg5 harg5 arg6 harg6 arg7 harg7 arg8 harg8 arg9 harg9 arg10 harg10 arg11 harg11 x0 x1 x2 x3 x4 (arg10.view.writes (Elt F) arg10.view.junk zeroK) (arg11.view.writes (Elt F) arg11.view.junk zeroV) (k0_t1_loop i).trips).2.2 ++ zeroV)) := by
    unfold Gen.kernelRun0_A; dsimp only
    sl_kernel_rfl
  rw [h, tailAt_eq]; dsimp only [List.nil_append]
end
end

end Cert.KernelIdeal.Tile
end
end
-- ==== Proof.CaseA.lean ====
/-
  The first kind of grid point (of a head pair): what it leaves in the accumulators and writes of the queries' gradient.
-/
module

public import proofs.«01_k».proof.Proof.PointValue
public import proofs.«01_k».proof.Proof.PointA
public import proofs.«01_k».proof.Proof.Gen.KernelIdeal.Frame

@[expose] public section
set_option maxRecDepth 16384
noncomputable section
namespace Cert.KernelIdeal.Tile
open Cert.KernelIdeal Idealize.ShloMosaic

theorem zeroK_holds (x : Fin 2 → Attn.Head) :
    Holds (gradK x 0) (Gen.scM0_0.view.read (Elt Ideal) (Gen.scM0_0.view.writes (Elt Ideal) Gen.scM0_0.view.junk zeroK)) := by
  intro h kb d j
  refine (View.read_writes_cons_unit_of_mem Gen.scM0_0.view _ _ _ _ (ix3 (rowOf h kb) d j) (ix3 (rowOf h kb) d j) rfl ?_).trans ?_
  · exact fun a => match a with | 0 => (Nat.zero_add _).symm | 1 => (Nat.zero_add _).symm | 2 => (Nat.zero_add _).symm
  · unfold Gen.k0_pay467 gradK
    rw [Attn.dK, Finset.sum_range_zero]
    pointwise
    rfl

theorem zeroV_holds (x : Fin 2 → Attn.Head) :
    Holds (gradV x 0) (Gen.scM0_1.view.read (Elt Ideal) (Gen.scM0_1.view.writes (Elt Ideal) Gen.scM0_1.view.junk zeroV)) := by
  intro h kb d j
  refine (View.read_writes_cons_unit_of_mem Gen.scM0_1.view _ _ _ _ (ix3 (rowOf h kb) d j) (ix3 (rowOf h kb) d j) rfl ?_).trans ?_
  · exact fun a => match a with | 0 => (Nat.zero_add _).symm | 1 => (Nat.zero_add _).symm | 2 => (Nat.zero_add _).symm
  · unfold Gen.k0_pay468 gradV
    rw [Attn.dV, Finset.sum_range_zero]
    pointwise
    rfl

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (harg10 : Gen.scM0_0.IsWhole) (harg11 : Gen.scM0_1.IsWhole)
variable {x0 : Vec Ideal S1x512x128 .bf16} {x1 x2 : Vec Ideal S1x4096x128 .bf16} {x3 : Vec Ideal S1x512x128 .f32} {x4 : Vec Ideal S512x128 .f32}
variable {x : Fin 2 → Attn.Head} {t0 : ℕ} (ht : t0 = 512 * (i 1).val) (hx : Loaded x t0 x0 x1 x2 x3 x4)

include ht hx in
theorem soutA_k (hc0 : Gen.cond0_0 i) (hc1 : ¬Gen.cond0_1 i) (h0 : t0 = 0) : Holds (gradK x (t0 + 512)) (Gen.sout0_A_0 c i arg2 harg2 arg3 harg3 arg4 harg4 arg5 harg5 arg6 harg6 arg7 harg7 arg8 harg8 arg9 harg9 Gen.scM0_0 harg10 Gen.scM0_1 harg11 hc0 hc1 x0 x1 x2 x3 x4) := by
  have := point_k c i arg2 harg2 arg3 harg3 arg4 harg4 arg5 harg5 arg6 harg6 arg7 harg7 arg8 harg8 arg9 harg9 Gen.scM0_0 harg10 Gen.scM0_1 harg11 (Gen.scM0_0.view.writes (Elt Ideal) Gen.scM0_0.view.junk zeroK) (Gen.scM0_1.view.writes (Elt Ideal) Gen.scM0_1.view.junk zeroV) ht hx (h0 ▸ zeroK_holds x) (h0 ▸ zeroV_holds x) _ _ (View.writes_append ..)
  unfold Gen.sout0_A_0
  rw [runA_k]
  exact this

include ht hx in
theorem soutA_v (hc0 : Gen.cond0_0 i) (hc1 : ¬Gen.cond0_1 i) (h0 : t0 = 0) : Holds (gradV x (t0 + 512)) (Gen.sout0_A_1 c i arg2 harg2 arg3 harg3 arg4 harg4 arg5 harg5 arg6 harg6 arg7 harg7 arg8 harg8 arg9 harg9 Gen.scM0_0 harg10 Gen.scM0_1 harg11 hc0 hc1 x0 x1 x2 x3 x4) := by
  have := point_v c i arg2 harg2 arg3 harg3 arg4 harg4 arg5 harg5 arg6 harg6 arg7 harg7 arg8 harg8 arg9 harg9 Gen.scM0_0 harg10 Gen.scM0_1 harg11 (Gen.scM0_0.view.writes (Elt Ideal) Gen.scM0_0.view.junk zeroK) (Gen.scM0_1.view.writes (Elt Ideal) Gen.scM0_1.view.junk zeroV) ht hx (h0 ▸ zeroK_holds x) (h0 ▸ zeroV_holds x) _ _ (View.writes_append ..)
  unfold Gen.sout0_A_1
  rw [runA_v]
  exact this

include ht hx in
theorem outA_q (hc0 : Gen.cond0_0 i) (hc1 : ¬Gen.cond0_1 i) (h0 : t0 = 0) : HoldsQ x t0 (Gen.out0_A_5 c i arg2 harg2 arg3 harg3 arg4 harg4 arg5 harg5 arg6 harg6 arg7 harg7 arg8 harg8 arg9 harg9 Gen.scM0_0 harg10 Gen.scM0_1 harg11 hc0 hc1 x0 x1 x2 x3 x4) := by
  have := point_q c i arg2 harg2 arg3 harg3 arg4 harg4 arg5 harg5 arg6 harg6 arg7 harg7 arg8 harg8 arg9 harg9 Gen.scM0_0 harg10 Gen.scM0_1 harg11 (Gen.scM0_0.view.writes (Elt Ideal) Gen.scM0_0.view.junk zeroK) (Gen.scM0_1.view.writes (Elt Ideal) Gen.scM0_1.view.junk zeroV) ht hx (h0 ▸ zeroK_holds x) (h0 ▸ zeroV_holds x) (Memref.whole cc0_stg5_0) (Memref.whole cc0_stg5_0).view.junk
  unfold Gen.out0_A_5
  rw [runA_q]
  exact this
end

end Cert.KernelIdeal.Tile
end
end
-- ==== Proof.PointB.lean ====
/-
  What the run of the middle kind of grid point (of a head pair) writes, in the vocabulary of `Point`.
-/
module

public import proofs.«01_k».proof.Proof.Point

@[expose] public section
set_option maxRecDepth 16384
noncomputable section
namespace Cert.KernelIdeal.Tile
open Cert.KernelIdeal Idealize.ShloMosaic
variable {F : FTy → Type} [FloatOps F]

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable (x0 : Vec F S1x512x128 .bf16) (x1 x2 : Vec F S1x4096x128 .bf16) (x3 : Vec F S1x512x128 .f32) (x4 : Vec F S512x128 .f32)

section
variable (hc0 : ¬Gen.cond0_0 i) (hc1 : ¬Gen.cond0_1 i) (xs0 xs1 : Vec F S64x64x128 .f32)

theorem runB_q :
    (Gen.kernelRun0_B c i arg2 harg2 arg3 harg3 arg4 harg4 arg5 harg5 arg6 harg6 arg7 harg7 arg8 harg8 arg9 harg9 arg10 harg10 arg11 harg11 hc0 hc1 x0 x1 x2 x3 x4 xs0 xs1).1
      = writesQ i arg2 harg2 arg3 harg3 arg4 harg4 arg5 harg5 arg6 harg6 x0 x1 x2 x3 x4 (loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).1 := by
  have h : (Gen.kernelRun0_B c i arg2 harg2 arg3 harg3 arg4 harg4 arg5 harg5 arg6 harg6 arg7 harg7 arg8 harg8 arg9 harg9 arg10 harg10 arg11 harg11 hc0 hc1 x0 x1 x2 x3 x4 xs0 xs1).1
      = writesQ i arg2 harg2 arg3 harg3 arg4 harg4 arg5 harg5 arg6 harg6 x0 x1 x2 x3 x4 (tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).1 := by
    unfold Gen.kernelRun0_B; dsimp only
    sl_kernel_rfl
  rw [h, tailAt_eq]

theorem runB_k :
    (Gen.kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.1
      = writesK i arg2 harg2 arg3 harg3 arg4 harg4 arg5 harg5 arg6 harg6 arg10 x0 x1 x2 x3 x4 (loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).1 (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1) := by
  have h : (Gen.kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.1
      = writesK i arg2 harg2 arg3 harg3 arg4 harg4 arg5 harg5 arg6 harg6 arg10 x0 x1 x2 x3 x4 (tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).1 (harg10.unread xs0) ((tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).2.1 ++ ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) := by
    unfold Gen.kernelRun0_B; dsimp only
    sl_kernel_rfl
  rw [h, tailAt_eq]; dsimp only [List.nil_append]

theorem runB_v :
    (Gen.kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.2.1
      = writesV i arg2 harg2 arg3 harg3 arg4 harg4 arg5 harg5 arg6 harg6 arg11 x0 x1 x2 x3 x4 (loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).1 (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2) := by
  have h : (Gen.kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.2.1
      = writesV i arg2 harg2 arg3 harg3 arg4 harg4 arg5 harg5 arg6 harg6 arg11 x0 x1 x2 x3 x4 (tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).1 (harg11.unread xs1) ((tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).2.2 ++ ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) := by
    unfold Gen.kernelRun0_B; dsimp only
    sl_kernel_rfl
  rw [h, tailAt_eq]; dsimp only [List.nil_append]
end
end

end Cert.KernelIdeal.Tile
end
end
-- ==== Proof.CaseB.lean ====
/-
  The middle kind of grid point (of a head pair): what it leaves in the accumulators and writes of the queries' gradient.
-/
module

public import proofs.«01_k».proof.Proof.PointValue
public import proofs.«01_k».proof.Proof.PointB
public import proofs.«01_k».proof.Proof.Gen.KernelIdeal.Frame

@[expose] public section
set_option maxRecDepth 16384
noncomputable section
namespace Cert.KernelIdeal.Tile
open Cert.KernelIdeal Idealize.ShloMosaic

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable {x0 : Vec Ideal S1x512x128 .bf16} {x1 x2 : Vec Ideal S1x4096x128 .bf16} {x3 : Vec Ideal S1x512x128 .f32} {x4 : Vec Ideal S512x128 .f32}
variable {x : Fin 2 → Attn.Head} {t0 : ℕ} (ht : t0 = 512 * (i 1).val) (hx : Loaded x t0 x0 x1 x2 x3 x4)

include ht hx in
theorem soutB_k (hc0 : ¬Gen.cond0_0 i) (hc1 : ¬Gen.cond0_1 i) {xs0 xs1 : Vec Ideal S64x64x128 .f32} (hk : Holds (gradK x t0) xs0) (hv : Holds (gradV x t0) xs1) : Holds (gradK x (t0 + 512)) (Gen.sout0_B_0 c i arg2 harg2 arg3 harg3 arg4 harg4 arg5 harg5 arg6 harg6 arg7 harg7 arg8 harg8 arg9 harg9 arg10 harg10 arg11 harg11 hc0 hc1 x0 x1 x2 x3 x4 xs0 xs1) := by
  have := point_k c i arg2 harg2 arg3 harg3 arg4 harg4 arg5 harg5 arg6 harg6 arg7 harg7 arg8 harg8 arg9 harg9 arg10 harg10 arg11 harg11 (harg10.unread xs0) (harg11.unread xs1) ht hx ((harg10.read_unread xs0).symm ▸ hk) ((harg11.read_unread xs1).symm ▸ hv) _ _ rfl
  unfold Gen.sout0_B_0
  rw [runB_k]
  exact this

include ht hx in
theorem soutB_v (hc0 : ¬Gen.cond0_0 i) (hc1 : ¬Gen.cond0_1 i) {xs0 xs1 : Vec Ideal S64x64x128 .f32} (hk : Holds (gradK x t0) xs0) (hv : Holds (gradV x t0) xs1) : Holds (gradV x (t0 + 512)) (Gen.sout0_B_1 c i arg2 harg2 arg3 harg3 arg4 harg4 arg5 harg5 arg6 harg6 arg7 harg7 arg8 harg8 arg9 harg9 arg10 harg10 arg11 harg11 hc0 hc1 x0 x1 x2 x3 x4 xs0 xs1) := by
  have := point_v c i arg2 harg2 arg3 harg3 arg4 harg4 arg5 harg5 arg6 harg6 arg7 harg7 arg8 harg8 arg9 harg9 arg10 harg10 arg11 harg11 (harg10.unread xs0) (harg11.unread xs1) ht hx ((harg10.read_unread xs0).symm ▸ hk) ((harg11.read_unread xs1).symm ▸ hv) _ _ rfl
  unfold Gen.sout0_B_1
  rw [runB_v]
  exact this

include ht hx in
theorem outB_q (hc0 : ¬Gen.cond0_0 i) (hc1 : ¬Gen.cond0_1 i) {xs0 xs1 : Vec Ideal S64x64x128 .f32} (hk : Holds (gradK x t0) xs0) (hv : Holds (gradV x t0) xs1) : HoldsQ x t0 (Gen.out0_B_5 c i arg2 harg2 arg3 harg3 arg4 harg4 arg5 harg5 arg6 harg6 arg7 harg7 arg8 harg8 arg9 harg9 arg10 harg10 arg11 harg11 hc0 hc1 x0 x1 x2 x3 x4 xs0 xs1) := by
  have := point_q c i arg2 harg2 arg3 harg3 arg4 harg4 arg5 harg5 arg6 harg6 arg7 harg7 arg8 harg8 arg9 harg9 arg10 harg10 arg11 harg11 (harg10.unread xs0) (harg11.unread xs1) ht hx ((harg10.read_unread xs0).symm ▸ hk) ((harg11.read_unread xs1).symm ▸ hv) (Memref.whole cc0_stg5_0) (Memref.whole cc0_stg5_0).view.junk
  unfold Gen.out0_B_5
  rw [runB_q]
  exact this
end

end Cert.KernelIdeal.Tile
end
end
-- ==== Proof.PointC.lean ====
/-
  What the run of the last kind of grid point (of a head pair) writes, in the vocabulary of `Point`.
-/
module

public import proofs.«01_k».proof.Proof.Point

@[expose] public section
set_option maxRecDepth 16384
noncomputable section
namespace Cert.KernelIdeal.Tile
open Cert.KernelIdeal Idealize.ShloMosaic
variable {F : FTy → Type} [FloatOps F]

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable (x0 : Vec F S1x512x128 .bf16) (x1 x2 : Vec F S1x4096x128 .bf16) (x3 : Vec F S1x512x128 .f32) (x4 : Vec F S512x128 .f32)

section
variable (hc0 : ¬Gen.cond0_0 i) (hc1 : Gen.cond0_1 i) (xs0 xs1 : Vec F S64x64x128 .f32)

theorem runC_q :
    (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).1
      = writesQ i arg2 harg2 arg3 harg3 arg4 harg4 arg5 harg5 arg6 harg6 x0 x1 x2 x3 x4 (loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).1 := by
  have h : (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).1
      = writesQ i arg2 harg2 arg3 harg3 arg4 harg4 arg5 harg5 arg6 harg6 x0 x1 x2 x3 x4 (tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).1 := by
    unfold Gen.kernelRun0_C; dsimp only
    sl_kernel_rfl
  rw [h, tailAt_eq]

theorem runC_k :
    (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.1
      = writesK i arg2 harg2 arg3 harg3 arg4 harg4 arg5 harg5 arg6 harg6 arg10 x0 x1 x2 x3 x4 (loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).1 (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1) := by
  have h : (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.1
      = writesK i arg2 harg2 arg3 harg3 arg4 harg4 arg5 harg5 arg6 harg6 arg10 x0 x1 x2 x3 x4 (tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).1 (harg10.unread xs0) ((tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).2.1 ++ ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) := by
    unfold Gen.kernelRun0_C; dsimp only
    sl_kernel_rfl
  rw [h, tailAt_eq]; dsimp only [List.nil_append]

theorem runC_v :
    (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.2.1
      = writesV i arg2 harg2 arg3 harg3 arg4 harg4 arg5 harg5 arg6 harg6 arg11 x0 x1 x2 x3 x4 (loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).1 (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2) := by
  have h : (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.2.1
      = writesV i arg2 harg2 arg3 harg3 arg4 harg4 arg5 harg5 arg6 harg6 arg11 x0 x1 x2 x3 x4 (tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).1 (harg11.unread xs1) ((tailAt c i arg2 harg2 arg3 harg3 arg4 harg4 arg5 harg5 arg6 harg6 arg7 harg7 arg8 harg8 arg9 harg9 arg10 harg10 arg11 harg11 x0 x1 x2 x3 x4 (harg10.unread xs0) (arg10.view.writes (Elt F) (harg10.unread xs0) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.1)) (harg11.unread xs1) (arg11.view.writes (Elt F) (harg11.unread xs1) ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) (k0_t2_loop i).trips).2.2 ++ ((loopAt c i arg2 harg2 arg3 harg3 arg4 harg4 arg5 harg5 arg6 harg6 arg7 harg7 arg8 harg8 arg9 harg9 arg10 harg10 arg11 harg11 x0 x1 x2 x3 x4 (harg10.unread xs0) (harg11.unread xs1) (k0_t1_loop i).trips).2.2)) := by
    unfold Gen.kernelRun0_C; dsimp only
    sl_kernel_rfl
  rw [h, tailAt_eq]; dsimp only [List.nil_append]

theorem runC_ko :
    (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).2.1
      = upTo (outPiece arg10 (arg10.view.writes (Elt F) (harg10.unread xs0) (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.1)) 64 (Nat.le_refl _) := by
  unfold Gen.kernelRun0_C; dsimp only
  sl_kernel_rfl

theorem runC_vo :
    (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.1
      = upTo (outPiece arg11 (arg11.view.writes (Elt F) (harg11.unread xs1) (Gen.kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.2.1)) 64 (Nat.le_refl _) := by
  unfold Gen.kernelRun0_C; dsimp only
  sl_kernel_rfl
end
end

end Cert.KernelIdeal.Tile
end
end
-- ==== Proof.CaseC.lean ====
/-
  The last kind of grid point (of a head pair): what it leaves in the accumulators, and the three gradients it writes.
-/
module

public import proofs.«01_k».proof.Proof.PointValue
public import proofs.«01_k».proof.Proof.PointC
public import proofs.«01_k».proof.Proof.Gen.KernelIdeal.Frame

@[expose] public section
set_option maxRecDepth 16384
noncomputable section
namespace Cert.KernelIdeal.Tile
open Cert.KernelIdeal Idealize.ShloMosaic

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable {x0 : Vec Ideal S1x512x128 .bf16} {x1 x2 : Vec Ideal S1x4096x128 .bf16} {x3 : Vec Ideal S1x512x128 .f32} {x4 : Vec Ideal S512x128 .f32}
variable {x : Fin 2 → Attn.Head} {t0 : ℕ} (ht : t0 = 512 * (i 1).val) (hx : Loaded x t0 x0 x1 x2 x3 x4)

include ht hx in
theorem soutC_k (hc0 : ¬Gen.cond0_0 i) (hc1 : Gen.cond0_1 i) {xs0 xs1 : Vec Ideal S64x64x128 .f32} (hk : Holds (gradK x t0) xs0) (hv : Holds (gradV x t0) xs1) : Holds (gradK x (t0 + 512)) (Gen.sout0_C_0 c i arg2 harg2 arg3 harg3 arg4 harg4 arg5 harg5 arg6 harg6 arg7 harg7 arg8 harg8 arg9 harg9 arg10 harg10 arg11 harg11 hc0 hc1 x0 x1 x2 x3 x4 xs0 xs1) := by
  have := point_k c i arg2 harg2 arg3 harg3 arg4 harg4 arg5 harg5 arg6 harg6 arg7 harg7 arg8 harg8 arg9 harg9 arg10 harg10 arg11 harg11 (harg10.unread xs0) (harg11.unread xs1) ht hx ((harg10.read_unread xs0).symm ▸ hk) ((harg11.read_unread xs1).symm ▸ hv) _ _ rfl
  unfold Gen.sout0_C_0
  rw [runC_k]
  exact this

include ht hx in
theorem soutC_v (hc0 : ¬Gen.cond0_0 i) (hc1 : Gen.cond0_1 i) {xs0 xs1 : Vec Ideal S64x64x128 .f32} (hk : Holds (gradK x t0) xs0) (hv : Holds (gradV x t0) xs1) : Holds (gradV x (t0 + 512)) (Gen.sout0_C_1 c i arg2 harg2 arg3 harg3 arg4 harg4 arg5 harg5 arg6 harg6 arg7 harg7 arg8 harg8 arg9 harg9 arg10 harg10 arg11 harg11 hc0 hc1 x0 x1 x2 x3 x4 xs0 xs1) := by
  have := point_v c i arg2 harg2 arg3 harg3 arg4 harg4 arg5 harg5 arg6 harg6 arg7 harg7 arg8 harg8 arg9 harg9 arg10 harg10 arg11 harg11 (harg10.unread xs0) (harg11.unread xs1) ht hx ((harg10.read_unread xs0).symm ▸ hk) ((harg11.read_unread xs1).symm ▸ hv) _ _ rfl
  unfold Gen.sout0_C_1
  rw [runC_v]
  exact this

include ht hx in
theorem outC_q (hc0 : ¬Gen.cond0_0 i) (hc1 : Gen.cond0_1 i) {xs0 xs1 : Vec Ideal S64x64x128 .f32} (hk : Holds (gradK x t0) xs0) (hv : Holds (gradV x t0) xs1) : HoldsQ x t0 (Gen.out0_C_5 c i arg2 harg2 arg3 harg3 arg4 harg4 arg5 harg5 arg6 harg6 arg7 harg7 arg8 harg8 arg9 harg9 arg10 harg10 arg11 harg11 hc0 hc1 x0 x1 x2 x3 x4 xs0 xs1) := by
  have := point_q c i arg2 harg2 arg3 harg3 arg4 harg4 arg5 harg5 arg6 harg6 arg7 harg7 arg8 harg8 arg9 harg9 arg10 harg10 arg11 harg11 (harg10.unread xs0) (harg11.unread xs1) ht hx ((harg10.read_unread xs0).symm ▸ hk) ((harg11.read_unread xs1).symm ▸ hv) (Memref.whole cc0_stg5_0) (Memref.whole cc0_stg5_0).view.junk
  unfold Gen.out0_C_5
  rw [runC_q]
  exact this

include ht hx in
theorem outC_k (hc0 : ¬Gen.cond0_0 i) (hc1 : Gen.cond0_1 i) {xs0 xs1 : Vec Ideal S64x64x128 .f32} (hk : Holds (gradK x t0) xs0) (hv : Holds (gradV x t0) xs1) (h7 : t0 + 512 = 4096) (s : Fin 4096) (e : Fin 128) :
    Gen.out0_C_6 c i arg2 harg2 arg3 harg3 arg4 harg4 arg5 harg5 arg6 harg6 arg7 harg7 arg8 harg8 arg9 harg9 arg10 harg10 arg11 harg11 hc0 hc1 x0 x1 x2 x3 x4 xs0 xs1 (ix2 s e) = (gradK x 4096 ⟨e / 64, by omega⟩ s (e % 64) : EReal) := by
  have := soutC_k c i arg2 harg2 arg3 harg3 arg4 harg4 arg5 harg5 arg6 harg6 arg7 harg7 arg8 harg8 arg9 harg9 arg10 harg10 arg11 harg11 ht hx hc0 hc1 hk hv
  unfold Gen.sout0_C_0 at this
  rw [h7] at this
  unfold Gen.out0_C_6
  rw [runC_ko]
  exact out_val (m := Memref.whole cc0_stg6_0) (this.acc_all 32) s e

include ht hx in
theorem outC_v (hc0 : ¬Gen.cond0_0 i) (hc1 : Gen.cond0_1 i) {xs0 xs1 : Vec Ideal S64x64x128 .f32} (hk : Holds (gradK x t0) xs0) (hv : Holds (gradV x t0) xs1) (h7 : t0 + 512 = 4096) (s : Fin 4096) (e : Fin 128) :
    Gen.out0_C_7 c i arg2 harg2 arg3 harg3 arg4 harg4 arg5 harg5 arg6 harg6 arg7 harg7 arg8 harg8 arg9 harg9 arg10 harg10 arg11 harg11 hc0 hc1 x0 x1 x2 x3 x4 xs0 xs1 (ix2 s e) = (gradV x 4096 ⟨e / 64, by omega⟩ s (e % 64) : EReal) := by
  have := soutC_v c i arg2 harg2 arg3 harg3 arg4 harg4 arg5 harg5 arg6 harg6 arg7 harg7 arg8 harg8 arg9 harg9 arg10 harg10 arg11 harg11 ht hx hc0 hc1 hk hv
  unfold Gen.sout0_C_1 at this
  rw [h7] at this
  unfold Gen.out0_C_7
  rw [runC_vo]
  exact out_val (m := Memref.whole cc0_stg7_0) (this.acc_all 32) s e
end

end Cert.KernelIdeal.Tile
end
end
-- ==== Proof.Grid.lean ====
/-
  The grid points in order: the accumulators after each point, and the gradients it writes.
-/
module

public import proofs.«01_k».proof.Proof.CaseA
public import proofs.«01_k».proof.Proof.CaseB
public import proofs.«01_k».proof.Proof.CaseC

@[expose] public section
set_option maxRecDepth 16384
noncomputable section
namespace Cert.KernelIdeal.Tile
open Cert.KernelIdeal Idealize.ShloMosaic

/-- The contents a grid point leaves: the three gradients' blocks and the two accumulators. -/
abbrev Left := Vec Ideal S512x128 .bf16 × Vec Ideal S4096x128 .bf16 × Vec Ideal S4096x128 .bf16 × Vec Ideal S64x64x128 .f32 × Vec Ideal S64x64x128 .f32

/-- A block of the whole key (or value) gradient of two heads. -/
def Whole (g : Fin 2 → ℕ → ℕ → ℝ) (o : Vec Ideal S4096x128 .bf16) : Prop :=
  ∀ (s : Fin 4096) (e : Fin 128), o (ix2 s e) = (g ⟨e / 64, by omega⟩ s (e % 64) : EReal)

/-- What holds after the point whose rows start at `t0`. -/
structure After (x : Fin 2 → Attn.Head) (t0 : ℕ) (o : Left) : Prop where
  q : HoldsQ x t0 o.1
  k : Holds (gradK x (t0 + 512)) o.2.2.2.1
  v : Holds (gradV x (t0 + 512)) o.2.2.2.2
  k_out : t0 + 512 = 4096 → Whole (gradK x 4096) o.2.1
  v_out : t0 + 512 = 4096 → Whole (gradV x 4096) o.2.2.1

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)

variable {x0 : Vec Ideal S1x512x128 .bf16} {x1 x2 : Vec Ideal S1x4096x128 .bf16} {x3 : Vec Ideal S1x512x128 .f32} {x4 : Vec Ideal S512x128 .f32}
variable {x : Fin 2 → Attn.Head} {t0 : ℕ} (ht : t0 = 512 * (i 1).val) (hx : Loaded x t0 x0 x1 x2 x3 x4)

set_option maxHeartbeats 1600000 in
include ht hx in
theorem after_A (hc0 : Gen.cond0_0 i) (hc1 : ¬Gen.cond0_1 i) (h0 : t0 = 0) : After x t0 (Gen.out0_A_5 c i arg2 harg2 arg3 harg3 arg4 harg4 arg5 harg5 arg6 harg6 arg7 harg7 arg8 harg8 arg9 harg9 Gen.scM0_0 (Memref.isWhole_whole _) Gen.scM0_1 (Memref.isWhole_whole _) hc0 hc1 x0 x1 x2 x3 x4, Gen.out0_A_6 c i arg2 harg2 arg3 harg3 arg4 harg4 arg5 harg5 arg6 harg6 arg7 harg7 arg8 harg8 arg9 harg9 Gen.scM0_0 (Memref.isWhole_whole _) Gen.scM0_1 (Memref.isWhole_whole _) hc0 hc1 x0 x1 x2 x3 x4, Gen.out0_A_7 c i arg2 harg2 arg3 harg3 arg4 harg4 arg5 harg5 arg6 harg6 arg7 harg7 arg8 harg8 arg9 harg9 Gen.scM0_0 (Memref.isWhole_whole _) Gen.scM0_1 (Memref.isWhole_whole _) hc0 hc1 x0 x1 x2 x3 x4, Gen.sout0_A_0 c i arg2 harg2 arg3 harg3 arg4 harg4 arg5 harg5 arg6 harg6 arg7 harg7 arg8 harg8 arg9 harg9 Gen.scM0_0 (Memref.isWhole_whole _) Gen.scM0_1 (Memref.isWhole_whole _) hc0 hc1 x0 x1 x2 x3 x4, Gen.sout0_A_1 c i arg2 harg2 arg3 harg3 arg4 harg4 arg5 harg5 arg6 harg6 arg7 harg7 arg8 harg8 arg9 harg9 Gen.scM0_0 (Memref.isWhole_whole _) Gen.scM0_1 (Memref.isWhole_whole _) hc0 hc1 x0 x1 x2 x3 x4) :=
  ⟨outA_q c i arg2 harg2 arg3 harg3 arg4 harg4 arg5 harg5 arg6 harg6 arg7 harg7 arg8 harg8 arg9 harg9 (Memref.isWhole_whole _) (Memref.isWhole_whole _) ht hx hc0 hc1 h0, soutA_k c i arg2 harg2 arg3 harg3 arg4 harg4 arg5 harg5 arg6 harg6 arg7 harg7 arg8 harg8 arg9 harg9 (Memref.isWhole_whole _) (Memref.isWhole_whole _) ht hx hc0 hc1 h0, soutA_v c i arg2 harg2 arg3 harg3 arg4 harg4 arg5 harg5 arg6 harg6 arg7 harg7 arg8 harg8 arg9 harg9 (Memref.isWhole_whole _) (Memref.isWhole_whole _) ht hx hc0 hc1 h0, fun h => absurd h (by omega), fun h => absurd h (by omega)⟩

end

section
variable (c : Dev nD) (i : grid0.Coords) (arg2 : Memref sig .tc .vmem S1x512x128 .bf16) (harg2 : arg2.IsWhole)
  (arg3 : Memref sig .tc .vmem S1x4096x128 .bf16) (harg3 : arg3.IsWhole)
  (arg4 : Memref sig .tc .vmem S1x4096x128 .bf16) (harg4 : arg4.IsWhole) (arg5 : Memref sig .tc .vmem S1x512x128 .f32)
  (harg5 : arg5.IsWhole) (arg6 : Memref sig .tc .vmem S512x128 .f32) (harg6 : arg6.IsWhole)
  (arg7 : Memref sig .tc .vmem S512x128 .bf16) (harg7 : arg7.IsWhole) (arg8 : Memref sig .tc .vmem S4096x128 .bf16)
  (harg8 : arg8.IsWhole) (arg9 : Memref sig .tc .vmem S4096x128 .bf16) (harg9 : arg9.IsWhole)
  (arg10 : Memref sig .tc .vmem S64x64x128 .f32) (harg10 : arg10.IsWhole)
  (arg11 : Memref sig .tc .vmem S64x64x128 .f32) (harg11 : arg11.IsWhole)
variable {x0 : Vec Ideal S1x512x128 .bf16} {x1 x2 : Vec Ideal S1x4096x128 .bf16} {x3 : Vec Ideal S1x512x128 .f32} {x4 : Vec Ideal S512x128 .f32}
variable {x : Fin 2 → Attn.Head} {t0 : ℕ} (ht : t0 = 512 * (i 1).val) (hx : Loaded x t0 x0 x1 x2 x3 x4)

set_option maxHeartbeats 1600000 in
include ht hx in
theorem after_B (hc0 : ¬Gen.cond0_0 i) (hc1 : ¬Gen.cond0_1 i) (h7 : ¬t0 + 512 = 4096) {xs0 xs1 : Vec Ideal S64x64x128 .f32} (hk : Holds (gradK x t0) xs0) (hv : Holds (gradV x t0) xs1) : After x t0 (Gen.out0_B_5 c i arg2 harg2 arg3 harg3 arg4 harg4 arg5 harg5 arg6 harg6 arg7 harg7 arg8 harg8 arg9 harg9 arg10 harg10 arg11 harg11 hc0 hc1 x0 x1 x2 x3 x4 xs0 xs1, Gen.out0_B_6 c i arg2 harg2 arg3 harg3 arg4 harg4 arg5 harg5 arg6 harg6 arg7 harg7 arg8 harg8 arg9 harg9 arg10 harg10 arg11 harg11 hc0 hc1 x0 x1 x2 x3 x4 xs0 xs1, Gen.out0_B_7 c i arg2 harg2 arg3 harg3 arg4 harg4 arg5 harg5 arg6 harg6 arg7 harg7 arg8 harg8 arg9 harg9 arg10 harg10 arg11 harg11 hc0 hc1 x0 x1 x2 x3 x4 xs0 xs1, Gen.sout0_B_0 c i arg2 harg2 arg3 harg3 arg4 harg4 arg5 harg5 arg6 harg6 arg7 harg7 arg8 harg8 arg9 harg9 arg10 harg10 arg11 harg11 hc0 hc1 x0 x1 x2 x3 x4 xs0 xs1, Gen.sout0_B_1 c i arg2 harg2 arg3 harg3 arg4 harg4 arg5 harg5 arg6 harg6 arg7 harg7 arg8 harg8 arg9 harg9 arg10 harg10 arg11 harg11 hc0 hc1 x0 x1 x2 x3 x4 xs0 xs1) :=
  ⟨outB_q c i arg2 harg2 arg3 harg3 arg4 harg4 arg5 harg5 arg6 harg6 arg7 harg7 arg8 harg8 arg9 harg9 arg10 harg10 arg11 harg11 ht hx hc0 hc1 hk hv, soutB_k c i arg2 harg2 arg3 harg3 arg4 harg4 arg5 harg5 arg6 harg6 arg7 harg7 arg8 harg8 arg9 harg9 arg10 harg10 arg11 harg11 ht hx hc0 hc1 hk hv, soutB_v c i arg2 harg2 arg3 harg3 arg4 harg4 arg5 harg5 arg6 harg6 arg7 harg7 arg8 harg8 arg9 harg9 arg10 harg10 arg11 harg11 ht hx hc0 hc1 hk hv, fun h => absurd h h7, fun h => absurd h h7⟩

set_option maxHeartbeats 1600000 in
include ht hx in
theorem after_C (hc0 : ¬Gen.cond0_0 i) (hc1 : Gen.cond0_1 i) {xs0 xs1 : Vec Ideal S64x64x128 .f32} (hk : Holds (gradK x t0) xs0) (hv : Holds (gradV x t0) xs1) : After x t0 (Gen.out0_C_5 c i arg2 harg2 arg3 harg3 arg4 harg4 arg5 harg5 arg6 harg6 arg7 harg7 arg8 harg8 arg9 harg9 arg10 harg10 arg11 harg11 hc0 hc1 x0 x1 x2 x3 x4 xs0 xs1, Gen.out0_C_6 c i arg2 harg2 arg3 harg3 arg4 harg4 arg5 harg5 arg6 harg6 arg7 harg7 arg8 harg8 arg9 harg9 arg10 harg10 arg11 harg11 hc0 hc1 x0 x1 x2 x3 x4 xs0 xs1, Gen.out0_C_7 c i arg2 harg2 arg3 harg3 arg4 harg4 arg5 harg5 arg6 harg6 arg7 harg7 arg8 harg8 arg9 harg9 arg10 harg10 arg11 harg11 hc0 hc1 x0 x1 x2 x3 x4 xs0 xs1, Gen.sout0_C_0 c i arg2 harg2 arg3 harg3 arg4 harg4 arg5 harg5 arg6 harg6 arg7 harg7 arg8 harg8 arg9 harg9 arg10 harg10 arg11 harg11 hc0 hc1 x0 x1 x2 x3 x4 xs0 xs1, Gen.sout0_C_1 c i arg2 harg2 arg3 harg3 arg4 harg4 arg5 harg5 arg6 harg6 arg7 harg7 arg8 harg8 arg9 harg9 arg10 harg10 arg11 harg11 hc0 hc1 x0 x1 x2 x3 x4 xs0 xs1) :=
  ⟨outC_q c i arg2 harg2 arg3 harg3 arg4 harg4 arg5 harg5 arg6 harg6 arg7 harg7 arg8 harg8 arg9 harg9 arg10 harg10 arg11 harg11 ht hx hc0 hc1 hk hv, soutC_k c i arg2 harg2 arg3 harg3 arg4 harg4 arg5 harg5 arg6 harg6 arg7 harg7 arg8 harg8 arg9 harg9 arg10 harg10 arg11 harg11 ht hx hc0 hc1 hk hv, soutC_v c i arg2 harg2 arg3 harg3 arg4 harg4 arg5 harg5 arg6 harg6 arg7 harg7 arg8 harg8 arg9 harg9 arg10 harg10 arg11 harg11 ht hx hc0 hc1 hk hv, outC_k c i arg2 harg2 arg3 harg3 arg4 harg4 arg5 harg5 arg6 harg6 arg7 harg7 arg8 harg8 arg9 harg9 arg10 harg10 arg11 harg11 ht hx hc0 hc1 hk hv, outC_v c i arg2 harg2 arg3 harg3 arg4 harg4 arg5 harg5 arg6 harg6 arg7 harg7 arg8 harg8 arg9 harg9 arg10 harg10 arg11 harg11 ht hx hc0 hc1 hk hv⟩

end

variable (m : (ℓ : Loc nD τ sig) → Buf (Elt Ideal) ℓ) (c : Dev nD) (t : Fin cfg0.N)
variable {x : Fin 2 → Attn.Head} {t0 : ℕ} (ht : t0 = 512 * (grid0.coords t 1).val)
variable (hx : Loaded x t0 (Gen.iblk m c 0 t) (Gen.iblk m c 1 t) (Gen.iblk m c 2 t) (Gen.iblk m c 3 t) (Gen.iblk m c 4 t))

set_option maxHeartbeats 1600000 in
include ht hx in
theorem after_first (h0 : t.val % 8 = 0) (hz : t0 = 0) : After x t0 (Gen.outsAt0 m c t.val t.isLt) := by
  have h1 : ¬t.val % 8 = 7 := by omega
  rw [Gen.outsAt0_A m c t h0 h1]
  exact after_A c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) ht hx _ _ hz

set_option maxHeartbeats 1600000 in
include ht hx in
theorem after_next (h0 : ¬t.val % 8 = 0) (hc : t0 + 512 = 4096 ↔ t.val % 8 = 7)
    (hk : Holds (gradK x t0) (Gen.outsAt0 m c (t.val - 1) (Nat.lt_of_le_of_lt (Nat.sub_le _ _) t.isLt)).2.2.2.1)
    (hv : Holds (gradV x t0) (Gen.outsAt0 m c (t.val - 1) (Nat.lt_of_le_of_lt (Nat.sub_le _ _) t.isLt)).2.2.2.2) : After x t0 (Gen.outsAt0 m c t.val t.isLt) := by
  by_cases h1 : t.val % 8 = 7
  · rw [Gen.outsAt0_C m c t h0 h1]
    exact after_C c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) Gen.scM0_0 (Memref.isWhole_whole _) Gen.scM0_1 (Memref.isWhole_whole _) ht hx _ _ hk hv
  · rw [Gen.outsAt0_B m c t h0 h1]
    exact after_B c (grid0.coords t) (Gen.ms0_0 t) (Gen.hs0_0 t) (Gen.ms0_1 t) (Gen.hs0_1 t) (Gen.ms0_2 t) (Gen.hs0_2 t) (Gen.ms0_3 t) (Gen.hs0_3 t) (Gen.ms0_4 t) (Gen.hs0_4 t) (Gen.ms0_5 t) (Gen.hs0_5 t) (Gen.ms0_6 t) (Gen.hs0_6 t) (Gen.ms0_7 t) (Gen.hs0_7 t) Gen.scM0_0 (Memref.isWhole_whole _) Gen.scM0_1 (Memref.isWhole_whole _) ht hx _ _ (fun h => h1 (hc.mp h)) hk hv

end Cert.KernelIdeal.Tile
end
end
-- ==== Proof.Arrays.lean ====
/-
  The whole gradients: what the three result arrays hold after all the grid points.
-/
module

public import proofs.«01_k».proof.Proof.Grid
public import proofs.«01_k».proof.Proof.Gen.KernelIdeal.Value

@[expose] public section
set_option maxRecDepth 16384
noncomputable section
namespace Cert.KernelIdeal.Tile
open Cert.KernelIdeal Idealize.ShloMosaic

/-- The two heads of pair `p`. -/
def pair (xs : ℕ → Attn.Head) (p : ℕ) : Fin 2 → Attn.Head := fun h => xs (2 * p + h)

variable (m : (ℓ : Loc nD τ sig) → Buf (Elt Ideal) ℓ) (c : Dev nD)

/-- Every point finds its heads in its windows. -/
def AllLoaded (xs : ℕ → Attn.Head) : Prop := ∀ t : Fin cfg0.N,
  Loaded (pair xs (t.val / 8)) (512 * (t.val % 8)) (Gen.iblk m c 0 t) (Gen.iblk m c 1 t) (Gen.iblk m c 2 t) (Gen.iblk m c 3 t) (Gen.iblk m c 4 t)

theorem coord_row (t : Fin cfg0.N) : (grid0.coords t 1).val = t.val % 8 := by
  have h : (grid0.coords t 1).val = t.val / 1 % 8 := Pipeline.Grid.coords_val t 1 (by decide) rfl
  rw [h, Nat.div_one]

variable {m c} {xs : ℕ → Attn.Head}

theorem after_all (hL : AllLoaded m c xs) : ∀ (n : ℕ) (hn : n < cfg0.N), After (pair xs (n / 8)) (512 * (n % 8)) (Gen.outsAt0 m c n hn)
  | 0, hn => after_first m c ⟨0, hn⟩ (congrArg (512 * ·) (coord_row ⟨0, hn⟩).symm) (hL ⟨0, hn⟩) rfl rfl
  | n + 1, hn => by
    have ht : 512 * ((n + 1) % 8) = 512 * (grid0.coords (⟨n + 1, hn⟩ : Fin cfg0.N) 1).val := congrArg (512 * ·) (coord_row ⟨n + 1, hn⟩).symm
    by_cases h0 : (n + 1) % 8 = 0
    · exact after_first m c ⟨n + 1, hn⟩ ht (hL ⟨n + 1, hn⟩) h0 (by omega)
    · have ih := after_all hL n (Nat.lt_of_succ_lt hn)
      have e1 : (n + 1) / 8 = n / 8 := by omega
      have e2 : 512 * ((n + 1) % 8) = 512 * (n % 8) + 512 := by omega
      have hk := ih.k
      have hv := ih.v
      rw [← e1, ← e2] at hk hv
      exact after_next m c ⟨n + 1, hn⟩ ht (hL ⟨n + 1, hn⟩) h0 (by show 512 * ((n + 1) % 8) + 512 = 4096 ↔ (n + 1) % 8 = 7; omega) hk hv

theorem colOf_split (e : Fin 128) : colOf ⟨e / 64, by omega⟩ ⟨e % 64, by omega⟩ = e := by
  apply Fin.ext; show 64 * (e.val / 64) + e.val % 64 = e.val; omega

theorem queries (hL : AllLoaded m c xs) (r : Fin 4096) (e : Fin 512) :
    Value.G5 m c (ix2 r e) = ((Attn.dQ (xs (e / 64)) 4096 r (e % 64) / 8 : ℝ) : EReal) := by
  have hN : cfg0.N = 32 := Gen.N_0
  have hp : Value.pt5Of (ix2 r e : S4096x512.Idx) = r.val / 512 + 8 * (e.val / 128) := by
    show 1 * (r.val / 512 - 0) + 8 * (e.val / 128 - 0) = _
    omega
  have hlt : Value.pt5Of (ix2 r e : S4096x512.Idx) < cfg0.N := by omega
  unfold Value.G5
  refine (dif_pos hlt).trans ?_
  rw [← Value.outsAt0_sweep m c _ hlt]
  have hA := (after_all hL _ hlt).q ⟨(e.val % 128) / 64, by omega⟩ ⟨r.val % 512, by omega⟩ ⟨e.val % 128 % 64, by omega⟩
  have hc : colOf ⟨(e.val % 128) / 64, by omega⟩ ⟨e.val % 128 % 64, by omega⟩ = ⟨e.val % 128, by omega⟩ := colOf_split ⟨e.val % 128, by omega⟩
  rw [hc] at hA
  have hl : Value.loc5Of (ix2 r e : S4096x512.Idx) = ix2 (⟨r.val % 512, by omega⟩ : Fin 512) (⟨e.val % 128, by omega⟩ : Fin 128) := by
    funext a; match a with
    | ⟨0, _⟩ => rfl
    | ⟨1, _⟩ => rfl
  rw [hl]
  refine hA.trans ?_
  have e1 : 512 * (Value.pt5Of (ix2 r e : S4096x512.Idx) % 8) + r.val % 512 = r.val := by rw [hp]; omega
  have e2 : 2 * (Value.pt5Of (ix2 r e : S4096x512.Idx) / 8) + e.val % 128 / 64 = e.val / 64 := by rw [hp]; omega
  have e3 : e.val % 128 % 64 = e.val % 64 := by omega
  simp only [pair, e1, e2, e3]

theorem last_point (e : Fin 512) : 8 * (e.val / 128) + 7 < cfg0.N := by
  have hN : cfg0.N = 32 := Gen.N_0
  omega

theorem keys (hL : AllLoaded m c xs) (s : Fin 4096) (e : Fin 512) :
    Value.G6 m c (ix2 s e) = (Attn.dK (xs (e / 64)) 4096 s (e % 64) : EReal) := by
  have hp : Value.pt6Of (ix2 s e : S4096x512.Idx) = 8 * (e.val / 128) + 7 := by
    show 8 * (4 * (s.val / 4096 - 0) + 1 * (e.val / 128 - 0)) + 7 = _
    omega
  have hlt : Value.pt6Of (ix2 s e : S4096x512.Idx) < cfg0.N := hp ▸ last_point e
  unfold Value.G6
  refine (dif_pos hlt).trans ?_
  rw [← Value.outsAt0_sweep m c _ hlt]
  have hA := (after_all hL _ hlt).k_out (by rw [hp]; omega) s ⟨e.val % 128, by omega⟩
  have hl : Value.loc6Of (ix2 s e : S4096x512.Idx) = ix2 (s : Fin 4096) (⟨e.val % 128, by omega⟩ : Fin 128) := by
    funext a; match a with
    | ⟨0, _⟩ => exact Fin.ext (Nat.mod_eq_of_lt s.isLt)
    | ⟨1, _⟩ => rfl
  rw [hl]
  refine hA.trans ?_
  have e2 : 2 * (Value.pt6Of (ix2 s e : S4096x512.Idx) / 8) + e.val % 128 / 64 = e.val / 64 := by rw [hp]; omega
  have e3 : e.val % 128 % 64 = e.val % 64 := by omega
  simp only [gradK, pair, e2, e3]

theorem values (hL : AllLoaded m c xs) (s : Fin 4096) (e : Fin 512) :
    Value.G7 m c (ix2 s e) = (Attn.dV (xs (e / 64)) 4096 s (e % 64) : EReal) := by
  have hp : Value.pt7Of (ix2 s e : S4096x512.Idx) = 8 * (e.val / 128) + 7 := by
    show 8 * (4 * (s.val / 4096 - 0) + 1 * (e.val / 128 - 0)) + 7 = _
    omega
  have hlt : Value.pt7Of (ix2 s e : S4096x512.Idx) < cfg0.N := hp ▸ last_point e
  unfold Value.G7
  refine (dif_pos hlt).trans ?_
  rw [← Value.outsAt0_sweep m c _ hlt]
  have hA := (after_all hL _ hlt).v_out (by rw [hp]; omega) s ⟨e.val % 128, by omega⟩
  have hl : Value.loc7Of (ix2 s e : S4096x512.Idx) = ix2 (s : Fin 4096) (⟨e.val % 128, by omega⟩ : Fin 128) := by
    funext a; match a with
    | ⟨0, _⟩ => exact Fin.ext (Nat.mod_eq_of_lt s.isLt)
    | ⟨1, _⟩ => rfl
  rw [hl]
  refine hA.trans ?_
  have e2 : 2 * (Value.pt7Of (ix2 s e : S4096x512.Idx) / 8) + e.val % 128 / 64 = e.val / 64 := by rw [hp]; omega
  have e3 : e.val % 128 % 64 = e.val % 64 := by omega
  simp only [gradV, pair, e2, e3]

end Cert.KernelIdeal.Tile
end
end
-- ==== Proof.Windows.lean ====
/-
  The windows' blocks: the part of its array that each grid point finds in each input window.
-/
module

public import proofs.«01_k».proof.Proof.Gen.KernelIdeal.Frame
public import Idealize.ShloMosaic.Lib.Pointwise

@[expose] public section
set_option maxRecDepth 16384
noncomputable section
namespace Cert.KernelIdeal.Tile
open Cert.KernelIdeal Idealize.ShloMosaic

variable (m : (ℓ : Loc nD τ sig) → Buf (Elt Ideal) ℓ) (c : Dev nD)

theorem index0 : ∀ t : Fin cfg0.N, win0_0.index t (0 : Fin 3) = 3 ∧ win0_0.index t (1 : Fin 3) = t.val % 8 ∧ win0_0.index t (2 : Fin 3) = t.val / 8 :=
  (by decide +kernel : ∀ t : Fin grid0.N, _)

theorem block0 (t : Fin cfg0.N) (r : Fin 512) (e : Fin 128) (a : Fin 6) (b : Fin 4096) (d : Fin 512)
    (ha : a.val = 3) (hb : b.val = (t.val % 8) * 512 + r.val) (hd : d.val = (t.val / 8) * 128 + e.val) :
    Gen.iblk m c 0 t (ix3 (0 : Fin 1) r e : S1x512x128.Idx) = Gen.V m c main_arg0 (ix3 a b d) := by
  obtain ⟨e0, e1, e2⟩ := index0 t
  refine congrArg (Gen.V m c main_arg0) (funext fun x => Fin.ext ?_)
  match x with
  | ⟨0, _⟩ =>
    show win0_0.index t (0 : Fin 3) * 1 + 1 * 0 = a.val
    omega
  | ⟨1, _⟩ =>
    show win0_0.index t (1 : Fin 3) * 512 + 1 * r.val = b.val
    rw [e1]; omega
  | ⟨2, _⟩ =>
    show win0_0.index t (2 : Fin 3) * 128 + 1 * e.val = d.val
    rw [e2]; omega

theorem index1 : ∀ t : Fin cfg0.N, win0_1.index t (0 : Fin 3) = 4 ∧ win0_1.index t (1 : Fin 3) = 0 ∧ win0_1.index t (2 : Fin 3) = t.val / 8 :=
  (by decide +kernel : ∀ t : Fin grid0.N, _)

theorem block1 (t : Fin cfg0.N) (r : Fin 4096) (e : Fin 128) (a : Fin 6) (b : Fin 4096) (d : Fin 512)
    (ha : a.val = 4) (hb : b.val = (0) * 4096 + r.val) (hd : d.val = (t.val / 8) * 128 + e.val) :
    Gen.iblk m c 1 t (ix3 (0 : Fin 1) r e : S1x4096x128.Idx) = Gen.V m c main_arg0 (ix3 a b d) := by
  obtain ⟨e0, e1, e2⟩ := index1 t
  refine congrArg (Gen.V m c main_arg0) (funext fun x => Fin.ext ?_)
  match x with
  | ⟨0, _⟩ =>
    show win0_1.index t (0 : Fin 3) * 1 + 1 * 0 = a.val
    omega
  | ⟨1, _⟩ =>
    show win0_1.index t (1 : Fin 3) * 4096 + 1 * r.val = b.val
    rw [e1]; omega
  | ⟨2, _⟩ =>
    show win0_1.index t (2 : Fin 3) * 128 + 1 * e.val = d.val
    rw [e2]; omega

theorem index2 : ∀ t : Fin cfg0.N, win0_2.index t (0 : Fin 3) = 5 ∧ win0_2.index t (1 : Fin 3) = 0 ∧ win0_2.index t (2 : Fin 3) = t.val / 8 :=
  (by decide +kernel : ∀ t : Fin grid0.N, _)

theorem block2 (t : Fin cfg0.N) (r : Fin 4096) (e : Fin 128) (a : Fin 6) (b : Fin 4096) (d : Fin 512)
    (ha : a.val = 5) (hb : b.val = (0) * 4096 + r.val) (hd : d.val = (t.val / 8) * 128 + e.val) :
    Gen.iblk m c 2 t (ix3 (0 : Fin 1) r e : S1x4096x128.Idx) = Gen.V m c main_arg0 (ix3 a b d) := by
  obtain ⟨e0, e1, e2⟩ := index2 t
  refine congrArg (Gen.V m c main_arg0) (funext fun x => Fin.ext ?_)
  match x with
  | ⟨0, _⟩ =>
    show win0_2.index t (0 : Fin 3) * 1 + 1 * 0 = a.val
    omega
  | ⟨1, _⟩ =>
    show win0_2.index t (1 : Fin 3) * 4096 + 1 * r.val = b.val
    rw [e1]; omega
  | ⟨2, _⟩ =>
    show win0_2.index t (2 : Fin 3) * 128 + 1 * e.val = d.val
    rw [e2]; omega

theorem index3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)

theorem block3 (t : Fin cfg0.N) (r : Fin 512) (e : Fin 128) (a : Fin 4) (b : Fin 4096) (d : Fin 128)
    (ha : a.val = t.val / 8) (hb : b.val = (t.val % 8) * 512 + r.val) (hd : d.val = (0) * 128 + e.val) :
    Gen.iblk m c 3 t (ix3 (0 : Fin 1) r e : S1x512x128.Idx) = Gen.V m c main_v26 (ix3 a b d) := by
  obtain ⟨e0, e1, e2⟩ := index3 t
  refine congrArg (Gen.V m c main_v26) (funext fun x => Fin.ext ?_)
  match x with
  | ⟨0, _⟩ =>
    show win0_3.index t (0 : Fin 3) * 1 + 1 * 0 = a.val
    omega
  | ⟨1, _⟩ =>
    show win0_3.index t (1 : Fin 3) * 512 + 1 * r.val = b.val
    rw [e1]; omega
  | ⟨2, _⟩ =>
    show win0_3.index t (2 : Fin 3) * 128 + 1 * e.val = d.val
    rw [e2]; omega

theorem index4 : ∀ t : Fin cfg0.N, win0_4.index t (0 : Fin 2) = t.val % 8 ∧ win0_4.index t (1 : Fin 2) = t.val / 8 :=
  (by decide +kernel : ∀ t : Fin grid0.N, _)

theorem block4 (t : Fin cfg0.N) (r : Fin 512) (e : Fin 128) (b : Fin 4096) (d : Fin 512)
    (hb : b.val = (t.val % 8) * 512 + r.val) (hd : d.val = (t.val / 8) * 128 + e.val) :
    Gen.iblk m c 4 t (ix2 r e : S512x128.Idx) = Gen.V m c main_arg1 (ix2 b d) := by
  obtain ⟨e1, e2⟩ := index4 t
  refine congrArg (Gen.V m c main_arg1) (funext fun x => Fin.ext ?_)
  match x with
  | ⟨0, _⟩ =>
    show win0_4.index t (0 : Fin 2) * 512 + 1 * r.val = b.val
    rw [e1]; omega
  | ⟨1, _⟩ =>
    show win0_4.index t (1 : Fin 2) * 128 + 1 * e.val = d.val
    rw [e2]; omega

end Cert.KernelIdeal.Tile
end
end
-- ==== Proof.HostRows.lean ====
/-
  What the host prepares for the kernel: for each head and query the sum over the keys before it of the log of one plus the
  exponential of the logit, laid out once for each column of the head.
-/
module

public import proofs.«01_k».proof.Proof.Gen.KernelIdeal.Frame
public import proofs.«01_k».proof.Proof.Inputs
public import Idealize.ShloMosaic.Lib.Pointwise
public import Idealize.ShloMosaic.Lib.Claim

@[expose] public section
set_option maxRecDepth 16384
noncomputable section
namespace Cert.KernelIdeal.Rows
open Cert.KernelIdeal Cert.KernelIdeal.Gen Idealize.ShloMosaic

/-- A plane of the projections, in heads. -/
def heads (x : FVec Ideal S1x4096x512 .bf16) : FVec Ideal S4096x8x64 .f32 :=
  shapeCast S4096x8x64 (extf .f32 (shapeCast S4096x512 x shapeCasts_S1x4096x512_S4096x512) bitsLt_bf16_f32) shapeCasts_S4096x512_S4096x8x64

/-- The logits with their sign changed twice. -/
def logits (A : FVec Ideal S6x4096x512 .bf16) : FVec Ideal S8x4096x4096 .f32 :=
  Host.negf (Host.negf (mulf (Host.dotGeneral dot_S4096x8x64_S4096x8x64_S8x4096x4096_2_2_0_0_1_1 none
      (heads (extractStridedSlice S1x4096x512 ![3, 0, 0] A slices_S6x4096x512_S1x4096x512_3_0_0))
      (heads (extractStridedSlice S1x4096x512 ![4, 0, 0] A slices_S6x4096x512_S1x4096x512_4_0_0)))
    (broadcastInDim S8x4096x4096 ![] bcast_S_S8x4096x4096 (constant S_ .f32 0x3E000000#32))))

/-- Zero everywhere. -/
def zero : FVec Ideal S8x4096x4096 .f32 := broadcastInDim S8x4096x4096 ![] bcast_S_S8x4096x4096 (constant S_ .f32 0x00000000#32)

/-- The log of one plus the exponential, computed without overflow. -/
def soft (y : FVec Ideal S8x4096x4096 .f32) : FVec Ideal S8x4096x4096 .f32 :=
  select (cmpf .une (subf y zero) (subf y zero)) (addf y zero)
    (addf (maximumf y zero) (Host.log1p (Host.exp (Host.negf (Host.absf (subf y zero))))))

/-- The keys strictly before each query. -/
def before : IVec S4096x4096 1 :=
  cmpi .sgt (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))

/-- What is kept of them. -/
def kept (y : FVec Ideal S8x4096x4096 .f32) : FVec Ideal S8x4096x4096 .f32 :=
  select (broadcastInDim S8x4096x4096 ![1, 2] bcast_S4096x4096_S8x4096x4096_1_2 before) (Host.negf (soft y))
    (broadcastInDim S8x4096x4096 ![] bcast_S_S8x4096x4096 (id (constant S_ .f32 0x00000000#32)))

/-- The sums over the keys. -/
def sums (x : FVec Ideal S8x4096x4096 .f32) : FVec Ideal S8x4096 .f32 :=
  Host.negf (Host.reduceAdd x (constant S_ .f32 0x00000000#32) reducesTo_S8x4096x4096_S8x4096_d2 h_S_)

/-- Laid out once for each column. -/
def spread (x : FVec Ideal S8x4096 .f32) : FVec Ideal S4x4096x128 .f32 :=
  shapeCast S4x4096x128 (broadcastInDim S4x4096x2x64 ![0, 1, 2, 3] bcast_S4x4096x2x1_S4x4096x2x64_0_1_2_3
    (transpose S4x4096x2x1 [0, 2, 1, 3] (shapeCast S4x2x4096x1 x shapeCasts_S8x4096_S4x2x4096x1) transposes_S4x2x4096x1_S4x4096x2x1_0_2_1_3))
    shapeCasts_S4x4096x2x64_S4x4096x128

theorem rows_eq (m : (ℓ : Loc nD τ sig) → Buf (Elt Ideal) ℓ) (c : Dev nD) :
    Gen.V m c main_v26 = spread (sums (kept (logits (m (c, Proc.tc.devRef main_arg0))))) := by
  unfold_abbrev_sides
  simp only [List.flatten_cons, List.flatten_nil, List.append_nil, List.cons_append, List.nil_append]
  after_results_simp
  rfl

variable {A : FVec Ideal S6x4096x512 .bf16} {D : FVec Ideal S4096x512 .f32} (hF : Attn.Finite A D) (h : Fin 8) (t s : Fin 4096) (d : Fin 64)

include hF in
theorem query : heads (extractStridedSlice S1x4096x512 ![3, 0, 0] A slices_S6x4096x512_S1x4096x512_3_0_0) (ix3 t h d)
    = ((8 * (Attn.headOf A D h).Q t d : ℝ) : EReal) := by
  unfold heads
  pointwise
  refine (hF.plane_eq _ (by decide) _ _ (e' := 64 * h.val + d.val) (by simp; omega)).trans ?_
  show _ = ((8 * (Attn.plane _ 3 t (64 * h + d) / 8) : ℝ) : EReal)
  rw [mul_div_cancel₀ _ (by norm_num : (8 : ℝ) ≠ 0)]

include hF in
theorem key : heads (extractStridedSlice S1x4096x512 ![4, 0, 0] A slices_S6x4096x512_S1x4096x512_4_0_0) (ix3 s h d)
    = ((Attn.headOf A D h).K s d : EReal) := by
  unfold heads
  pointwise
  exact hF.plane_eq _ (by decide) _ _ (e' := 64 * h.val + d.val) (by simp; omega)

include hF in
theorem logit : logits A (ix3 h t s) = (Attn.L (Attn.headOf A D h) t s : EReal) := by
  unfold logits
  pointwise
  rw [Attn.sum_fin _ (fun d => 8 * (Attn.headOf A D h).Q t d * (Attn.headOf A D h).K s d) fun d => by
    rw [EReal.coe_mul]; exact congrArg₂ (· * ·) (query hF h t d) (key hF h s d)]
  refine (congrArg (fun z : EReal => -(-(_ * z))) Attn.eighth).trans ?_
  rw [← EReal.coe_mul, neg_neg, Attn.L, Finset.sum_mul]
  refine congrArg _ (Finset.sum_congr rfl fun d _ => by ring)

theorem soft_apply {y : FVec Ideal S8x4096x4096 .f32} {a : ℝ} (hy : y (ix3 h t s) = (a : EReal)) : soft y (ix3 h t s) = (Attn.sp a : EReal) := by
  unfold soft zero
  pointwise
  exact Attn.softplus_coe hy

theorem before_apply : before (ix2 t s) = if s.val < t.val then 1#1 else 0#1 := by
  unfold before
  pointwise
  exact Attn.sgt_small t s

include hF in
theorem kept_apply : kept (logits A) (ix3 h t s) = ((-Attn.m (Attn.headOf A D h) t s : ℝ) : EReal) := by
  unfold kept
  pointwise
  rw [before_apply]
  refine (Attn.select_bit _ _).trans ?_
  rw [Attn.m]
  split
  · rw [EReal.coe_neg]; exact congrArg _ (soft_apply h t s (logit hF h t s))
  · rw [neg_zero]
    show (Ideal.ofBits .f32 0#32 : EReal) = _
    simp [Ideal.ofBits, Ideal.ieee]

include hF in
theorem sums_apply : sums (kept (logits A)) (ix2 h t) = (Attn.P (Attn.headOf A D h) t 4096 : EReal) := by
  unfold sums
  pointwise
  rw [Attn.sum_fin _ (fun s => -Attn.m (Attn.headOf A D h) t s) fun s => kept_apply hF h t s]
  rw [Finset.sum_neg_distrib, EReal.coe_neg]
  refine (neg_neg _).trans ?_
  rfl

theorem spread_apply (x : FVec Ideal S8x4096 .f32) (p : Fin 4) (a : Fin 2) (e : Fin 128) (he : e.val = 64 * a.val) (hh : h.val = 2 * p.val + a.val) :
    spread x (ix3 p t e) = x (ix2 h t) := by
  unfold spread
  pointwise
  refine congrArg x (congrArg₂ (ix2 (n0 := 8) (n1 := 4096)) (Fin.ext ?_) (Fin.ext ?_)) <;> simp <;> omega

end Cert.KernelIdeal.Rows
end
end
-- ==== Proof.Loading.lean ====
/-
  Every grid point finds its two heads in its windows, the arguments being finite.
-/
module

public import proofs.«01_k».proof.Proof.Arrays
public import proofs.«01_k».proof.Proof.Windows
public import proofs.«01_k».proof.Proof.HostRows

@[expose] public section
set_option maxRecDepth 16384
noncomputable section
namespace Cert.KernelIdeal.Tile
open Cert.KernelIdeal Idealize.ShloMosaic

variable (m : (ℓ : Loc nD τ sig) → Buf (Elt Ideal) ℓ) (c : Dev nD)

/-- The projections at launch. -/
abbrev argA : FVec Ideal S6x4096x512 .bf16 := m (c, Proc.tc.devRef main_arg0)
/-- The gradient of the output at launch. -/
abbrev argD : FVec Ideal S4096x512 .f32 := m (c, Proc.tc.devRef main_arg1)

/-- The heads at launch. -/
abbrev xs (h : ℕ) : Attn.Head := Attn.headOf (argA m c) (argD m c) h

variable {m c} (hF : Attn.Finite (argA m c) (argD m c)) (t : Fin cfg0.N)
include hF

theorem loaded_q (h : Fin 2) (r : Fin 512) (d : Fin 64) :
    Gen.iblk m c 0 t (ix3 (0 : Fin 1) r (colOf h d)) = ((8 * (pair (xs m c) (t.val / 8) h).Q (512 * (t.val % 8) + r) d : ℝ) : EReal) := by
  have hN : cfg0.N = 32 := Gen.N_0
  have ht := t.isLt
  have hd : (colOf h d).val = 64 * h.val + d.val := rfl
  refine (block0 m c t r (colOf h d) (3 : Fin 6) ⟨512 * (t.val % 8) + r.val, by omega⟩ ⟨(t.val / 8) * 128 + (colOf h d).val, by omega⟩
    rfl (by show 512 * (t.val % 8) + r.val = (t.val % 8) * 512 + r.val; omega) rfl).trans ?_
  rw [Gen.V_main_arg0]
  refine (hF.plane_eq 3 (by decide) _ _ (e' := 64 * (2 * (t.val / 8) + h.val) + d.val) (by
    show (t.val / 8) * 128 + (colOf h d).val = _; rw [hd]; omega)).trans ?_
  show _ = ((8 * (Attn.plane _ 3 _ _ / 8) : ℝ) : EReal)
  rw [mul_div_cancel₀ _ (by norm_num : (8 : ℝ) ≠ 0)]

theorem loaded_k (h : Fin 2) (s : Fin 4096) (d : Fin 64) :
    Gen.iblk m c 1 t (ix3 (0 : Fin 1) s (colOf h d)) = ((pair (xs m c) (t.val / 8) h).K s d : EReal) := by
  have hN : cfg0.N = 32 := Gen.N_0
  have ht := t.isLt
  have hd : (colOf h d).val = 64 * h.val + d.val := rfl
  refine (block1 m c t s (colOf h d) (4 : Fin 6) s ⟨(t.val / 8) * 128 + (colOf h d).val, by omega⟩
    rfl (by omega) rfl).trans ?_
  rw [Gen.V_main_arg0]
  exact hF.plane_eq 4 (by decide) _ _ (e' := 64 * (2 * (t.val / 8) + h.val) + d.val) (by
    show (t.val / 8) * 128 + (colOf h d).val = _; rw [hd]; omega)

theorem loaded_v (h : Fin 2) (s : Fin 4096) (d : Fin 64) :
    Gen.iblk m c 2 t (ix3 (0 : Fin 1) s (colOf h d)) = ((pair (xs m c) (t.val / 8) h).V s d : EReal) := by
  have hN : cfg0.N = 32 := Gen.N_0
  have ht := t.isLt
  have hd : (colOf h d).val = 64 * h.val + d.val := rfl
  refine (block2 m c t s (colOf h d) (5 : Fin 6) s ⟨(t.val / 8) * 128 + (colOf h d).val, by omega⟩
    rfl (by omega) rfl).trans ?_
  rw [Gen.V_main_arg0]
  exact hF.plane_eq 5 (by decide) _ _ (e' := 64 * (2 * (t.val / 8) + h.val) + d.val) (by
    show (t.val / 8) * 128 + (colOf h d).val = _; rw [hd]; omega)

theorem loaded_l (h : Fin 2) (r : Fin 512) :
    Gen.iblk m c 3 t (ix3 (0 : Fin 1) r (colOf h 0)) = (Attn.P (pair (xs m c) (t.val / 8) h) (512 * (t.val % 8) + r) 4096 : EReal) := by
  have hN : cfg0.N = 32 := Gen.N_0
  have ht := t.isLt
  have hd : (colOf h 0).val = 64 * h.val := rfl
  refine (block3 m c t r (colOf h 0) (⟨t.val / 8, by omega⟩ : Fin 4) ⟨512 * (t.val % 8) + r.val, by omega⟩ (colOf h 0)
    rfl (by show 512 * (t.val % 8) + r.val = (t.val % 8) * 512 + r.val; omega) (by omega)).trans ?_
  rw [Rows.rows_eq]
  refine (Rows.spread_apply ⟨2 * (t.val / 8) + h.val, by omega⟩ _ _ _ h (colOf h 0) hd rfl).trans ?_
  exact Rows.sums_apply hF _ _

theorem loaded_o (h : Fin 2) (r : Fin 512) (d : Fin 64) :
    Gen.iblk m c 4 t (ix2 r (colOf h d)) = ((pair (xs m c) (t.val / 8) h).D (512 * (t.val % 8) + r) d : EReal) := by
  have hN : cfg0.N = 32 := Gen.N_0
  have ht := t.isLt
  have hd : (colOf h d).val = 64 * h.val + d.val := rfl
  refine (block4 m c t r (colOf h d) ⟨512 * (t.val % 8) + r.val, by omega⟩ ⟨(t.val / 8) * 128 + (colOf h d).val, by omega⟩
    (by show 512 * (t.val % 8) + r.val = (t.val % 8) * 512 + r.val; omega) rfl).trans ?_
  rw [Gen.V_main_arg1]
  exact hF.grad_eq _ _ (e' := 64 * (2 * (t.val / 8) + h.val) + d.val) (by
    show (t.val / 8) * 128 + (colOf h d).val = _; rw [hd]; omega)

omit t in
theorem allLoaded : AllLoaded m c (xs m c) := fun t =>
  ⟨loaded_q hF t, loaded_k hF t, loaded_v hF t, loaded_l hF t, loaded_o hF t⟩

end Cert.KernelIdeal.Tile
end
end
-- ==== Proof.WindowSum.lean ====
/-
  A running sum along the last axis: the sum over a window as long as the axis, the array padded by zeros before or after.
-/
module

public import Idealize.ShloMosaic.Lib.Pointwise

@[expose] public section
noncomputable section
namespace Cert.WindowSum
open Idealize.ShloMosaic

theorem foldl_add {ι M : Type} [AddCommMonoid M] (l : List ι) (g : ι → M) (v : M) :
    l.foldl (fun r n => r + g n) v = v + (l.map g).sum := by
  induction l generalizing v with
  | nil => simp
  | cons a l ih => rw [List.foldl_cons, ih, List.map_cons, List.sum_cons, add_assoc]

variable {B T N : ℕ}

/-- The entry of a window sum with `lo` zeros before the axis: the sum of the entries `s + n - lo` that exist. -/
theorem apply (lo hi : ℕ) (x : FVec Ideal ⟨3, ![B, T, N]⟩ .f32) (init : FVec Ideal ⟨0, ![]⟩ .f32) (hinit : ∀ i, init i = 0)
    (h : (⟨3, ![B, T, N]⟩ : Shape).ReduceWindows ![1, 1, N] ![1, 1, 1] ![0, 0, lo] ![0, 0, hi] ⟨3, ![B, T, N]⟩)
    (hu : 0 < (⟨0, ![]⟩ : Shape).numel) (b : Fin B) (t : Fin T) (s : Fin N) :
    Host.reduceWindowAdd ![1, 1, N] ![1, 1, 1] ![0, 0, lo] ![0, 0, hi] x init h hu (ix3 b t s)
      = ∑ n : Fin N, if hn : lo ≤ s.val + n.val ∧ s.val + n.val - lo < N then x (ix3 b t ⟨s.val + n.val - lo, hn.2⟩) else (0 : EReal) := by
  refine (foldl_add (M := EReal) _ _ _).trans ?_
  rw [hinit]
  refine (zero_add _).trans ?_
  rw [← Fin.sum_univ_def]
  refine (Fintype.sum_equiv (⟨3, ![1, 1, N]⟩ : Shape).rowMajor.symm _ (fun w : (⟨3, ![1, 1, N]⟩ : Shape).Idx =>
    if hn : lo ≤ s.val + (w (2 : Fin 3)).val ∧ s.val + (w (2 : Fin 3)).val - lo < N then
      x (ix3 b t ⟨s.val + (w (2 : Fin 3)).val - lo, hn.2⟩) else (0 : EReal)) fun n => ?_).trans ?_
  · have h0 : (((⟨3, ![1, 1, N]⟩ : Shape).rowMajor.symm n) (0 : Fin 3)).val < 1 := (((⟨3, ![1, 1, N]⟩ : Shape).rowMajor.symm n) (0 : Fin 3)).isLt
    have h1 : (((⟨3, ![1, 1, N]⟩ : Shape).rowMajor.symm n) (1 : Fin 3)).val < 1 := (((⟨3, ![1, 1, N]⟩ : Shape).rowMajor.symm n) (1 : Fin 3)).isLt
    by_cases hn : lo ≤ s.val + (((⟨3, ![1, 1, N]⟩ : Shape).rowMajor.symm n) (2 : Fin 3)).val
        ∧ s.val + (((⟨3, ![1, 1, N]⟩ : Shape).rowMajor.symm n) (2 : Fin 3)).val - lo < N
    · rw [dif_pos hn]
      refine (dif_pos fun a => ?_).trans (congrArg x (funext fun a => Fin.ext ?_))
      · match a with
        | ⟨0, _⟩ => show 0 ≤ b.val * 1 + (((⟨3, ![1, 1, N]⟩ : Shape).rowMajor.symm n) (0 : Fin 3)).val ∧ b.val * 1 + (((⟨3, ![1, 1, N]⟩ : Shape).rowMajor.symm n) (0 : Fin 3)).val - 0 < B; have := b.isLt; exact ⟨Nat.zero_le _, by omega⟩
        | ⟨1, _⟩ => show 0 ≤ t.val * 1 + (((⟨3, ![1, 1, N]⟩ : Shape).rowMajor.symm n) (1 : Fin 3)).val ∧ t.val * 1 + (((⟨3, ![1, 1, N]⟩ : Shape).rowMajor.symm n) (1 : Fin 3)).val - 0 < T; have := t.isLt; exact ⟨Nat.zero_le _, by omega⟩
        | ⟨2, _⟩ => show lo ≤ s.val * 1 + (((⟨3, ![1, 1, N]⟩ : Shape).rowMajor.symm n) (2 : Fin 3)).val ∧ s.val * 1 + (((⟨3, ![1, 1, N]⟩ : Shape).rowMajor.symm n) (2 : Fin 3)).val - lo < N; rw [Nat.mul_one]; exact hn
      · match a with
        | ⟨0, _⟩ => show b.val * 1 + (((⟨3, ![1, 1, N]⟩ : Shape).rowMajor.symm n) (0 : Fin 3)).val - 0 = b.val; omega
        | ⟨1, _⟩ => show t.val * 1 + (((⟨3, ![1, 1, N]⟩ : Shape).rowMajor.symm n) (1 : Fin 3)).val - 0 = t.val; omega
        | ⟨2, _⟩ => show s.val * 1 + (((⟨3, ![1, 1, N]⟩ : Shape).rowMajor.symm n) (2 : Fin 3)).val - lo = s.val + (((⟨3, ![1, 1, N]⟩ : Shape).rowMajor.symm n) (2 : Fin 3)).val - lo; rw [Nat.mul_one]
    · rw [dif_neg hn]
      refine dif_neg fun hin => hn ?_
      have := hin (2 : Fin 3)
      change lo ≤ s.val * 1 + (((⟨3, ![1, 1, N]⟩ : Shape).rowMajor.symm n) (2 : Fin 3)).val ∧ s.val * 1 + (((⟨3, ![1, 1, N]⟩ : Shape).rowMajor.symm n) (2 : Fin 3)).val - lo < N at this
      rw [Nat.mul_one] at this
      exact this
  · rw [sum_idx3]
    simp only [Finset.univ_unique, Finset.sum_singleton]
    rfl

end Cert.WindowSum
end
end
-- ==== Proof.RefRead.lean ====
/-
  What the reference computes of finite arguments: each of its stages in the mathematics of `Math`, up to the weights.
-/
module

public import proofs.«01_k».proof.Proof.Gen.ReferenceIdeal.Run
public import proofs.«01_k».proof.Proof.Inputs
public import proofs.«01_k».proof.Proof.WindowSum
public import Idealize.ShloMosaic.Lib.Pointwise

@[expose] public section
set_option maxRecDepth 16384
noncomputable section
namespace Cert.ReferenceIdeal.Read
open Cert.ReferenceIdeal Idealize.ShloMosaic

variable (V0 : Valuation τ sig (Elt Ideal))

/-- The arguments are finite. -/
abbrev Ok : Prop := Attn.Finite (V0 (Proc.tc.devRef main_arg0)) (V0 (Proc.tc.devRef main_arg1))
/-- The head `h` of the arguments. -/
abbrev hd (h : ℕ) : Attn.Head := Attn.headOf (V0 (Proc.tc.devRef main_arg0)) (V0 (Proc.tc.devRef main_arg1)) h

variable {V0} (hF : Ok V0) (h : Fin 8) (t s : Fin 4096) (d : Fin 64)
include hF

theorem query : (Value.res_main_v9 V0 (ix3 t h d) : EReal) = ((8 * (hd V0 h).Q t d : ℝ) : EReal) := by
  unfold Value.res_main_v9
  pointwise
  refine (hF.plane_eq _ (by decide) _ _ (e' := 64 * h.val + d.val) (by simp; omega)).trans ?_
  show _ = ((8 * (Attn.plane _ 3 t (64 * h + d) / 8) : ℝ) : EReal)
  rw [mul_div_cancel₀ _ (by norm_num : (8 : ℝ) ≠ 0)]

theorem key : (Value.res_main_v10 V0 (ix3 s h d) : EReal) = ((hd V0 h).K s d : EReal) := by
  unfold Value.res_main_v10
  pointwise
  exact hF.plane_eq _ (by decide) _ _ (e' := 64 * h.val + d.val) (by simp; omega)

theorem value : (Value.res_main_v11 V0 (ix3 s h d) : EReal) = ((hd V0 h).V s d : EReal) := by
  unfold Value.res_main_v11
  pointwise
  exact hF.plane_eq _ (by decide) _ _ (e' := 64 * h.val + d.val) (by simp; omega)

theorem outGrad : (Value.res_main_v35 V0 (ix3 h d t) : EReal) = ((hd V0 h).D t d : EReal) := by
  unfold Value.res_main_v35
  pointwise
  exact hF.grad_eq _ _ (e' := 64 * h.val + d.val) (by simp; omega)

theorem logit : (Value.res_main_v14 V0 (ix3 h t s) : EReal) = (Attn.L (hd V0 h) t s : EReal) := by
  unfold Value.res_main_v14
  pointwise
  rw [Attn.sum_fin _ (fun d => 8 * (hd V0 h).Q t d * (hd V0 h).K s d) fun d => by
    rw [EReal.coe_mul]; exact congrArg₂ (· * ·) (query hF h t d) (key hF h s d)]
  refine (congrArg _ Attn.eighth).trans ?_
  rw [← EReal.coe_mul, Attn.L, Finset.sum_mul]
  refine congrArg _ (Finset.sum_congr rfl fun d _ => by ring)

theorem negLogit : (Value.res_main_call0_v0 V0 (ix3 h t s) : EReal) = ((-Attn.L (hd V0 h) t s : ℝ) : EReal) := by
  unfold Value.res_main_call0_v0
  pointwise
  rw [EReal.coe_neg]
  exact congrArg _ (logit hF h t s)

theorem logitAgain : (Value.res_main_call1_v0 V0 (ix3 h t s) : EReal) = (Attn.L (hd V0 h) t s : EReal) := by
  unfold Value.res_main_call1_v0
  pointwise
  exact (congrArg (fun z : EReal => -(-z)) (logit hF h t s)).trans (neg_neg _)

theorem softplusNeg : (Value.res_main_call0_v1_0 V0 (ix3 h t s) : EReal) = (Attn.sp (-Attn.L (hd V0 h) t s) : EReal) := by
  unfold Value.res_main_call0_v1_0 Value.res_main_call0_call0_v3 Value.res_main_call0_call0_cst
  pointwise
  exact Attn.softplus_coe (negLogit hF h t s)

theorem softplus : (Value.res_main_call1_v1_0 V0 (ix3 h t s) : EReal) = (Attn.sp (Attn.L (hd V0 h) t s) : EReal) := by
  unfold Value.res_main_call1_v1_0 Value.res_main_call1_call0_v3 Value.res_main_call1_call0_cst
  pointwise
  exact Attn.softplus_coe (logitAgain hF h t s)

omit hF in
theorem strict : Value.res_main_v21 V0 (ix2 t s) = if s.val < t.val then 1#1 else 0#1 := by
  unfold Value.res_main_v21
  pointwise
  exact Attn.sgt_small t s

theorem passed : (Value.res_main_v25_0 V0 (ix3 h t s) : EReal) = ((-Attn.m (hd V0 h) t s : ℝ) : EReal) := by
  unfold Value.res_main_v25_0 Value.res_main_v25_1
  pointwise
  rw [strict]
  refine (Attn.select_bit _ _).trans ?_
  rw [Attn.m]
  split
  · rw [EReal.coe_neg]; exact congrArg _ (softplus hF h t s)
  · rw [neg_zero]
    show (Ideal.ofBits .f32 0#32 : EReal) = _
    simp [Ideal.ofBits, Ideal.ieee]

theorem weight_exp : (Value.res_main_v29 V0 (ix3 h t s) : EReal)
    = (Real.exp (Attn.L (hd V0 h) t s - Attn.sp (Attn.L (hd V0 h) t s) - Attn.P (hd V0 h) t 4096 + Attn.P (hd V0 h) t (s + 1)) : EReal) := by
  unfold Value.res_main_v29
  pointwise
  rw [WindowSum.apply 0 4095 _ _ (fun i => by pointwise)]
  rw [Attn.sum_fin _ (fun n => if s.val + n < 4096 then -Attn.m (hd V0 h) t (s + n) else 0) fun n => ?_]
  · rw [Attn.sum_from (fun n => -Attn.m (hd V0 h) t n) s.isLt]
    refine (congrArg Ideal.exp (congrArg₂ (· + ·) (congrArg _ (softplusNeg hF h t s)) (congrArg₂ (· - ·) rfl (passed hF h t s)))).trans ?_
    rw [← EReal.coe_neg, ← EReal.coe_sub, ← EReal.coe_add, Ideal.exp_coe, Attn.sp_neg]
    refine congrArg (fun r : ℝ => (Real.exp r : EReal)) ?_
    have e : Attn.P (hd V0 h) t (s + 1) = Attn.P (hd V0 h) t s + Attn.m (hd V0 h) t s := Finset.sum_range_succ _ _
    rw [e, Attn.P, Attn.P, Finset.sum_neg_distrib, Finset.sum_neg_distrib]
    ring
  · by_cases hn : s.val + n.val < 4096
    · rw [dif_pos ⟨Nat.zero_le _, hn⟩, if_pos hn]
      exact passed hF h t ⟨s.val + n.val, hn⟩
    · rw [dif_neg fun hh => hn hh.2, if_neg hn]; rfl

theorem weight : (Value.res_main_v30_0 V0 (ix3 h t s) : EReal) = (Attn.A (hd V0 h) t s : EReal) := by
  unfold Value.res_main_v30_0 Value.res_main_v30_1
  pointwise
  rw [strict]
  refine (Attn.select_bit _ _).trans ?_
  rw [Attn.A]
  split
  · exact weight_exp hF h t s
  · show (Ideal.ofBits .f32 0#32 : EReal) = _
    simp [Ideal.ofBits, Ideal.ieee]

theorem weightGrad : (Value.res_main_v40 V0 (ix3 h t s) : EReal) = (Attn.G (hd V0 h) t s : EReal) := by
  unfold Value.res_main_v40 Value.res_main_v30_1
  pointwise
  rw [strict]
  refine (Attn.select_bit _ _).trans ?_
  rw [Attn.G, Attn.A]
  split
  · rw [Attn.sum_fin _ (fun d => (hd V0 h).D t d * (hd V0 h).V s d) fun d => by
      rw [EReal.coe_mul]; exact congrArg₂ (· * ·) (outGrad hF h t d) (value hF h s d)]
    refine (congrArg _ (weight_exp hF h t s)).trans ?_
    rw [← EReal.coe_mul]; rfl
  · rw [mul_zero]; rfl

omit hF in
/-- The gradient of a logit from its parts: an infinity would be cut off, and there is none. -/
theorem gradient_parts {p : Prop} [Decidable p] {g w l sl n sn : EReal} {G P L : ℝ} (hg : g = (G : EReal)) (hw : w = (P : EReal))
    (hl : l = (L : EReal)) (hsl : sl = (Attn.sp L : EReal)) (hn : n = ((-L : ℝ) : EReal)) (hsn : sn = (Attn.sp (-L) : EReal))
    {_ : Decidable (l = Ideal.ofBits .f32 0x7F800000#32)} {_ : Decidable (sl = Ideal.ofBits .f32 0x7F800000#32)}
    {_ : Decidable (n = Ideal.ofBits .f32 0x7F800000#32)} {_ : Decidable (sn = Ideal.ofBits .f32 0x7F800000#32)} :
    (-(-(-(Scalar.select (if p then 1#1 else 0#1) (-g + w) 0 : EReal) * Ideal.exp
          ((if l = Ideal.ofBits .f32 0x7F800000#32 then 0 else l) - (if sl = Ideal.ofBits .f32 0x7F800000#32 then 0 else sl))))
      + -(-g * Ideal.exp
          ((if n = Ideal.ofBits .f32 0x7F800000#32 then 0 else n) - (if sn = Ideal.ofBits .f32 0x7F800000#32 then 0 else sn))))
      * Ideal.ofBits .f32 0x3E000000#32
    = (((if p then G - P * Real.exp (L - Attn.sp L) else G * Real.exp (-Attn.sp L)) / 8 : ℝ) : EReal) := by
  have cut : ∀ {y : EReal} {r : ℝ}, y = (r : EReal) → ¬ y = Ideal.ofBits .f32 0x7F800000#32 := fun e => by
    rw [Attn.top_bits, e]; exact EReal.coe_ne_top _
  rw [if_neg (cut hl), if_neg (cut hsl), if_neg (cut hn), if_neg (cut hsn),
    hg, hw, hl, hsl, hn, hsn, Attn.eighth, ← EReal.coe_sub, ← EReal.coe_sub, Ideal.exp_coe, Ideal.exp_coe, Attn.sp_neg,
    Attn.select_bit, ← EReal.coe_neg, ← EReal.coe_add, ← EReal.coe_zero, Attn.ite_coe]
  simp only [← EReal.coe_neg, ← EReal.coe_mul, ← EReal.coe_add]
  refine congrArg _ ?_
  have e : -L - (Attn.sp L - L) = -Attn.sp L := by ring
  rw [e, Attn.exp_split]
  split <;> ring

theorem logitGrad : (Value.res_main_v50 V0 (ix3 h t s) : EReal) = ((Attn.E (hd V0 h) t s / 8 : ℝ) : EReal) := by
  unfold Value.res_main_v50 Value.res_main_v25_1
  pointwise
  rw [strict]
  refine (gradient_parts (weightGrad hF h t s) (P := Attn.PG (hd V0 h) t (s + 1)) ?_ (logitAgain hF h t s) (softplus hF h t s)
    (negLogit hF h t s) (softplusNeg hF h t s)).trans ?_
  · rw [WindowSum.apply 4095 0 _ _ (fun i => by pointwise)]
    rw [Attn.sum_fin _ (fun n => if 4095 ≤ s.val + n then Attn.G (hd V0 h) t (s + n - 4095) else 0) fun n => ?_]
    · exact congrArg _ (Attn.sum_upto (N := 4096) (fun n => Attn.G (hd V0 h) t n) s.isLt)
    · by_cases hn : 4095 ≤ s.val + n.val
      · have hlt : s.val + n.val - 4095 < 4096 := by have := s.isLt; have := n.isLt; omega
        rw [dif_pos ⟨hn, hlt⟩, if_pos hn]
        exact weightGrad hF h t ⟨s.val + n.val - 4095, hlt⟩
      · rw [dif_neg fun hh => hn hh.1, if_neg hn]; rfl
  · rw [Attn.E]
    split
    · rfl
    · rw [Attn.G_of_le _ (by omega), zero_mul]

end Cert.ReferenceIdeal.Read
end
end
-- ==== Proof.RefOut.lean ====
/-
  The reference's three results, in the mathematics of `Math`.
-/
module

public import proofs.«01_k».proof.Proof.RefRead

@[expose] public section
set_option maxRecDepth 16384
noncomputable section
namespace Cert.ReferenceIdeal.Read
open Cert.ReferenceIdeal Cert.ReferenceIdeal.Gen Idealize.ShloMosaic

variable (V0 : Valuation τ sig (Elt Ideal))

/-- The gradient of the queries, as the reference composes it. -/
def outQ : FVec Ideal S4096x512 .bf16 :=
  truncf .bf16 (shapeCast _ (transpose S4096x8x64 [1, 0, 2] (Host.dotGeneral (φ₁ := .f32) (φ₂ := .f32) dot_S8x4096x4096_S4096x8x64_S8x4096x64_2_0_1_2_0_1 none
    (Value.res_main_v50 V0) (Value.res_main_v10 V0)) transposes_S8x4096x64_S4096x8x64_1_0_2) shapeCasts_S4096x8x64_S4096x512) bitsLt_bf16_f32
/-- The gradient of the keys. -/
def outK : FVec Ideal S4096x512 .bf16 :=
  truncf .bf16 (shapeCast _ (transpose S4096x8x64 [1, 0, 2] (Host.dotGeneral (φ₁ := .f32) (φ₂ := .f32) dot_S8x4096x4096_S4096x8x64_S8x4096x64_1_0_2_2_0_1 none
    (Value.res_main_v50 V0) (Value.res_main_v9 V0)) transposes_S8x4096x64_S4096x8x64_1_0_2) shapeCasts_S4096x8x64_S4096x512) bitsLt_bf16_f32
/-- The gradient of the values. -/
def outV : FVec Ideal S4096x512 .bf16 :=
  truncf .bf16 (shapeCast _ (transpose S4096x8x64 [2, 0, 1] (Host.dotGeneral (φ₁ := .f32) (φ₂ := .f32) dot_S8x64x4096_S8x4096x4096_S8x64x4096_2_1_1_2_0_0 none
    (Value.res_main_v35 V0) (Value.res_main_v30_0 V0)) transposes_S8x64x4096_S4096x8x64_2_0_1) shapeCasts_S4096x8x64_S4096x512) bitsLt_bf16_f32

variable {V0} (hF : Ok V0) (r : Fin 4096) (e : Fin 512)
include hF

theorem outQ_apply : outQ V0 (ix2 r e) = ((Attn.dQ (hd V0 (e / 64)) 4096 r (e % 64) / 8 : ℝ) : EReal) := by
  unfold outQ
  pointwise
  rw [Attn.sum_fin _ (fun s => Attn.E (hd V0 (e.val / 64)) r s / 8 * (hd V0 (e.val / 64)).K s (e.val % 64)) fun s => by
    rw [EReal.coe_mul]; exact congrArg₂ (· * ·) (logitGrad hF _ _ _) (key hF _ _ _)]
  rw [Attn.dQ, Finset.sum_div]
  exact congrArg _ (Finset.sum_congr rfl fun s _ => by ring)

theorem outK_apply : outK V0 (ix2 r e) = (Attn.dK (hd V0 (e / 64)) 4096 r (e % 64) : EReal) := by
  unfold outK
  pointwise
  rw [Attn.sum_fin _ (fun t => Attn.E (hd V0 (e.val / 64)) t r / 8 * (8 * (hd V0 (e.val / 64)).Q t (e.val % 64))) fun t => by
    rw [EReal.coe_mul]; exact congrArg₂ (· * ·) (logitGrad hF _ _ _) (query hF _ _ _)]
  rw [Attn.dK]
  exact congrArg _ (Finset.sum_congr rfl fun s _ => by ring)

theorem outV_apply : outV V0 (ix2 r e) = (Attn.dV (hd V0 (e / 64)) 4096 r (e % 64) : EReal) := by
  unfold outV
  pointwise
  rw [Attn.sum_fin _ (fun t => (hd V0 (e.val / 64)).D t (e.val % 64) * Attn.A (hd V0 (e.val / 64)) t r) fun t => by
    rw [EReal.coe_mul]; exact congrArg₂ (· * ·) (outGrad hF _ _ _) (weight hF _ _ _)]
  rfl

end Cert.ReferenceIdeal.Read
end
end
-- ==== Proof.Equation.lean ====
/-
  The three gradients of the kernel are the three of the reference.
-/
module

public import proofs.«01_k».proof.Proof.Loading
public import proofs.«01_k».proof.Proof.RefOut

@[expose] public section
set_option maxRecDepth 16384
noncomputable section
namespace Cert.Equation
open Idealize.ShloMosaic

variable {m : (ℓ : Loc KernelIdeal.nD KernelIdeal.τ KernelIdeal.sig) → Buf (Elt Ideal) ℓ} {c : Dev KernelIdeal.nD}
  {V0 : Valuation ReferenceIdeal.τ ReferenceIdeal.sig (Elt Ideal)}
  (hA : V0 (Proc.tc.devRef ReferenceIdeal.main_arg0) = KernelIdeal.Tile.argA m c)
  (hD : V0 (Proc.tc.devRef ReferenceIdeal.main_arg1) = KernelIdeal.Tile.argD m c)
  (hF : Attn.Finite (KernelIdeal.Tile.argA m c) (KernelIdeal.Tile.argD m c))
include hA hD hF

theorem ok : ReferenceIdeal.Read.Ok V0 := by
  show Attn.Finite _ _
  rw [hA, hD]; exact hF

theorem heads (h : ℕ) : ReferenceIdeal.Read.hd V0 h = KernelIdeal.Tile.xs m c h := by
  show Attn.headOf _ _ h = Attn.headOf _ _ h
  rw [hA, hD]

theorem queries : ReferenceIdeal.Read.outQ V0 = KernelIdeal.Value.G5 m c := by
  funext i
  have hi : i = ix2 (n0 := 4096) (n1 := 512) (i 0) (i 1) := funext fun a => match a with | ⟨0, _⟩ => rfl | ⟨1, _⟩ => rfl
  rw [hi]
  refine (ReferenceIdeal.Read.outQ_apply (ok hA hD hF) (i 0) (i 1)).trans ?_
  rw [heads hA hD hF]
  exact (KernelIdeal.Tile.queries (KernelIdeal.Tile.allLoaded hF) (i 0) (i 1)).symm

theorem keys : ReferenceIdeal.Read.outK V0 = KernelIdeal.Value.G6 m c := by
  funext i
  have hi : i = ix2 (n0 := 4096) (n1 := 512) (i 0) (i 1) := funext fun a => match a with | ⟨0, _⟩ => rfl | ⟨1, _⟩ => rfl
  rw [hi]
  refine (ReferenceIdeal.Read.outK_apply (ok hA hD hF) (i 0) (i 1)).trans ?_
  rw [heads hA hD hF]
  exact (KernelIdeal.Tile.keys (KernelIdeal.Tile.allLoaded hF) (i 0) (i 1)).symm

theorem values : ReferenceIdeal.Read.outV V0 = KernelIdeal.Value.G7 m c := by
  funext i
  have hi : i = ix2 (n0 := 4096) (n1 := 512) (i 0) (i 1) := funext fun a => match a with | ⟨0, _⟩ => rfl | ⟨1, _⟩ => rfl
  rw [hi]
  refine (ReferenceIdeal.Read.outV_apply (ok hA hD hF) (i 0) (i 1)).trans ?_
  rw [heads hA hD hF]
  exact (KernelIdeal.Tile.values (KernelIdeal.Tile.allLoaded hF) (i 0) (i 1)).symm

end Cert.Equation
end
end
-- ==== Proof.DgradUpPoint.lean ====
/-
  The input gradient of the up projection with the norm's gradient (`dgrad_up`): what each kind of grid point leaves in the
  accumulator and in the three results' blocks, as values of the blocks it reads.
-/
module

public import proofs.«01_k».proof.Proof.Gen.Kernel2Ideal.Frame
public import Idealize.ShloMosaic.Lib.Pointwise

@[expose] public section
set_option maxRecDepth 16384
noncomputable section
namespace Cert.Kernel2Ideal.Dgrad
open Cert.Kernel2Ideal Idealize.ShloMosaic

theorem hz2 : (![0, 0] : Fin 2 → ℕ) = fun _ => 0 := funext fun a => by fin_cases a <;> rfl
theorem hz3 : (![0, 0, 0] : Fin 3 → ℕ) = fun _ => 0 := funext fun a => by fin_cases a <;> rfl

section
variable {F : FTy → Type} [FloatOps F]
variable (c : Dev nD) (i : grid0.Coords) (arg2 : Memref sig .tc .vmem S1x1024x704 .bf16) (harg2 : arg2.IsWhole)
  (arg3 : Memref sig .tc .vmem S1x704x1024 .bf16) (harg3 : arg3.IsWhole) (arg4 : Memref sig .tc .vmem S1024x1024 .f32)
  (harg4 : arg4.IsWhole) (arg5 : Memref sig .tc .vmem S1x1024 .f32) (harg5 : arg5.IsWhole)
  (arg6 : Memref sig .tc .vmem S1024x1024 .f32) (harg6 : arg6.IsWhole) (arg8 : Memref sig .tc .vmem S1024x1024 .f32)
  (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S1024x1024 .f32) (harg11 : arg11.IsWhole)
variable (x0 : Vec F S1x1024x704 .bf16) (x1 : Vec F S1x704x1024 .bf16) (x2 : Vec F S1024x1024 .f32) (x3 : Vec F S1x1024 .f32)
  (x4 : Vec F S1024x1024 .f32) (xo6 xo7 : Vec F S1x1024 .f32) (xs0 : Vec F S1024x1024 .f32)

/-- The first point of all starts the accumulator with its own product … -/
theorem sout_A (hc0 : Gen.cond0_0 i) (hc1 : Gen.cond0_1 i) (hc2 : ¬Gen.cond0_2 i) (hc3 : ¬Gen.cond0_3 i) :
    Gen.sout0_A_0 c i arg2 harg2 arg3 harg3 arg4 harg4 arg5 harg5 arg6 harg6 arg8 harg8 arg9 harg9 arg10 harg10 arg11 harg11 hc0 hc1 hc2 hc3 x0 x1 x2 x3 x4 = Gen.k0_pay4 x0 x1 := by
  unfold Gen.sout0_A_0
  rw [View.read_writes_eq_canon _ _ _ (Gen.scover0_A_0 c i arg2 harg2 arg3 harg3 arg4 harg4 arg5 harg5 arg6 harg6 arg8 harg8 arg9 harg9 arg10 harg10 arg11 harg11 hc0 hc1 hc2 hc3 x0 x1 x2 x3 x4)]
  unfold Gen.kernelRun0_A
  dsimp only
  sl_unfold_words
  rw [View.canon_unit_zero hz2]
  simp only [View.readAt_eq_ld, harg2.read_unread, harg3.read_unread, View.ld_unit_zero (S := S1x1024x704) hz3, View.ld_unit_zero (S := S1x704x1024) hz3]

/-- … and sets the two sums over rows to zero. -/
theorem out_A_scale (hc0 : Gen.cond0_0 i) (hc1 : Gen.cond0_1 i) (hc2 : ¬Gen.cond0_2 i) (hc3 : ¬Gen.cond0_3 i) :
    Gen.out0_A_6 c i arg2 harg2 arg3 harg3 arg4 harg4 arg5 harg5 arg6 harg6 arg8 harg8 arg9 harg9 arg10 harg10 arg11 harg11 hc0 hc1 hc2 hc3 x0 x1 x2 x3 x4 = Gen.k0_pay1 := by
  unfold Gen.out0_A_6
  rw [View.read_writes_eq_canon _ _ _ (Gen.cover0_A_6 c i arg2 harg2 arg3 harg3 arg4 harg4 arg5 harg5 arg6 harg6 arg8 harg8 arg9 harg9 arg10 harg10 arg11 harg11 hc0 hc1 hc2 hc3 x0 x1 x2 x3 x4)]
  unfold Gen.kernelRun0_A
  dsimp only
  sl_unfold_words
  rw [View.canon_unit_zero hz2]

theorem out_A_shift (hc0 : Gen.cond0_0 i) (hc1 : Gen.cond0_1 i) (hc2 : ¬Gen.cond0_2 i) (hc3 : ¬Gen.cond0_3 i) :
    Gen.out0_A_7 c i arg2 harg2 arg3 harg3 arg4 harg4 arg5 harg5 arg6 harg6 arg8 harg8 arg9 harg9 arg10 harg10 arg11 harg11 hc0 hc1 hc2 hc3 x0 x1 x2 x3 x4 = Gen.k0_pay2 := by
  unfold Gen.out0_A_7
  rw [View.read_writes_eq_canon _ _ _ (Gen.cover0_A_7 c i arg2 harg2 arg3 harg3 arg4 harg4 arg5 harg5 arg6 harg6 arg8 harg8 arg9 harg9 arg10 harg10 arg11 harg11 hc0 hc1 hc2 hc3 x0 x1 x2 x3 x4)]
  unfold Gen.kernelRun0_A
  dsimp only
  sl_unfold_words
  rw [View.canon_unit_zero hz2]

/-- The first point of a later block of rows starts the accumulator too. -/
theorem sout_D (hc0 : ¬Gen.cond0_0 i) (hc1 : Gen.cond0_1 i) (hc2 : ¬Gen.cond0_2 i) (hc3 : ¬Gen.cond0_3 i) :
    Gen.sout0_D_0 c i arg2 harg2 arg3 harg3 arg4 harg4 arg5 harg5 arg6 harg6 arg8 harg8 arg9 harg9 arg10 harg10 arg11 harg11 hc0 hc1 hc2 hc3 x0 x1 x2 x3 x4 = Gen.k0_pay4 x0 x1 := by
  unfold Gen.sout0_D_0
  rw [View.read_writes_eq_canon _ _ _ (Gen.scover0_D_0 c i arg2 harg2 arg3 harg3 arg4 harg4 arg5 harg5 arg6 harg6 arg8 harg8 arg9 harg9 arg10 harg10 arg11 harg11 hc0 hc1 hc2 hc3 x0 x1 x2 x3 x4)]
  unfold Gen.kernelRun0_D
  dsimp only
  sl_unfold_words
  rw [View.canon_unit_zero hz2]
  simp only [View.readAt_eq_ld, harg2.read_unread, harg3.read_unread, View.ld_unit_zero (S := S1x1024x704) hz3, View.ld_unit_zero (S := S1x704x1024) hz3]

/-- A later point adds its product. -/
theorem sout_B (hc0 : ¬Gen.cond0_0 i) (hc1 : ¬Gen.cond0_1 i) (hc2 : Gen.cond0_2 i) (hc3 : ¬Gen.cond0_3 i) :
    Gen.sout0_B_0 c i arg2 harg2 arg3 harg3 arg4 harg4 arg5 harg5 arg6 harg6 arg8 harg8 arg9 harg9 arg10 harg10 arg11 harg11 hc0 hc1 hc2 hc3 x0 x1 x2 x3 x4 xs0 = Gen.k0_pay5 x0 x1 xs0 := by
  unfold Gen.sout0_B_0
  rw [View.read_writes_eq_canon _ _ _ (Gen.scover0_B_0 c i arg2 harg2 arg3 harg3 arg4 harg4 arg5 harg5 arg6 harg6 arg8 harg8 arg9 harg9 arg10 harg10 arg11 harg11 hc0 hc1 hc2 hc3 x0 x1 x2 x3 x4 xs0)]
  unfold Gen.kernelRun0_B
  dsimp only
  sl_unfold_words
  rw [View.canon_unit_zero hz2]
  simp only [View.readAt_eq_ld, harg2.read_unread, harg3.read_unread, harg11.read_unread, View.ld_unit_zero (S := S1x1024x704) hz3, View.ld_unit_zero (S := S1x704x1024) hz3, View.ld_unit_zero (S := S1024x1024) hz2]

section
variable (hc0 : ¬Gen.cond0_0 i) (hc1 : ¬Gen.cond0_1 i) (hc2 : Gen.cond0_2 i) (hc3 : Gen.cond0_3 i)

/-- The last point of a block of rows adds its product too … -/
theorem sout_C :
    Gen.sout0_C_0 c i arg2 harg2 arg3 harg3 arg4 harg4 arg5 harg5 arg6 harg6 arg8 harg8 arg9 harg9 arg10 harg10 arg11 harg11 hc0 hc1 hc2 hc3 x0 x1 x2 x3 x4 xo6 xo7 xs0 = Gen.k0_pay5 x0 x1 xs0 := by
  unfold Gen.sout0_C_0
  rw [View.read_writes_eq_canon _ _ _ (Gen.scover0_C_0 c i arg2 harg2 arg3 harg3 arg4 harg4 arg5 harg5 arg6 harg6 arg8 harg8 arg9 harg9 arg10 harg10 arg11 harg11 hc0 hc1 hc2 hc3 x0 x1 x2 x3 x4 xo6 xo7 xs0)]
  unfold Gen.kernelRun0_C
  dsimp only
  sl_unfold_words
  rw [View.canon_unit_zero hz2]
  simp only [View.readAt_eq_ld, harg2.read_unread, harg3.read_unread, harg11.read_unread, View.ld_unit_zero (S := S1x1024x704) hz3, View.ld_unit_zero (S := S1x704x1024) hz3, View.ld_unit_zero (S := S1024x1024) hz2]

/-- … writes the gradient of the norm's input out of the completed accumulator … -/
theorem out_C :
    Gen.out0_C_5 c i arg2 harg2 arg3 harg3 arg4 harg4 arg5 harg5 arg6 harg6 arg8 harg8 arg9 harg9 arg10 harg10 arg11 harg11 hc0 hc1 hc2 hc3 x0 x1 x2 x3 x4 xo6 xo7 xs0
      = Gen.k0_pay6 (Gen.k0_pay7 x2) (Gen.k0_pay8 x2) x4 (Gen.k0_pay11 (Gen.k0_pay5 x0 x1 xs0) x3) (Gen.k0_pay12 (Gen.k0_pay5 x0 x1 xs0) x2 x3) (Scalar.ofBits .f32 0x44800000#32) := by
  unfold Gen.out0_C_5
  rw [View.read_writes_eq_canon _ _ _ (Gen.cover0_C_5 c i arg2 harg2 arg3 harg3 arg4 harg4 arg5 harg5 arg6 harg6 arg8 harg8 arg9 harg9 arg10 harg10 arg11 harg11 hc0 hc1 hc2 hc3 x0 x1 x2 x3 x4 xo6 xo7 xs0)]
  unfold Gen.kernelRun0_C
  dsimp only
  sl_unfold_words
  rw [View.canon_unit_zero hz2]
  simp only [View.readCov_unit_zero (S := S1024x1024) _ hz2, View.readAt_eq_ld, harg2.read_unread, harg3.read_unread, harg4.read_unread, harg5.read_unread, harg6.read_unread, harg11.read_unread, View.ld_unit_zero (S := S1x1024x704) hz3, View.ld_unit_zero (S := S1x704x1024) hz3, View.ld_unit_zero (S := S1024x1024) hz2, View.ld_unit_zero (S := S1x1024) hz2]

/-- … and adds its rows to the two sums. -/
theorem out_C_scale :
    Gen.out0_C_6 c i arg2 harg2 arg3 harg3 arg4 harg4 arg5 harg5 arg6 harg6 arg8 harg8 arg9 harg9 arg10 harg10 arg11 harg11 hc0 hc1 hc2 hc3 x0 x1 x2 x3 x4 xo6 xo7 xs0
      = Gen.k0_pay10 (Gen.k0_pay5 x0 x1 xs0) x2 xo6 := by
  unfold Gen.out0_C_6
  rw [View.read_writes_eq_canon _ _ _ (Gen.cover0_C_6 c i arg2 harg2 arg3 harg3 arg4 harg4 arg5 harg5 arg6 harg6 arg8 harg8 arg9 harg9 arg10 harg10 arg11 harg11 hc0 hc1 hc2 hc3 x0 x1 x2 x3 x4 xo6 xo7 xs0)]
  unfold Gen.kernelRun0_C
  dsimp only
  sl_unfold_words
  rw [View.canon_unit_zero hz2]
  simp only [View.readCov_unit_zero (S := S1024x1024) _ hz2, View.readAt_eq_ld, harg2.read_unread, harg3.read_unread, harg4.read_unread, harg9.read_unread, harg11.read_unread, View.ld_unit_zero (S := S1x1024x704) hz3, View.ld_unit_zero (S := S1x704x1024) hz3, View.ld_unit_zero (S := S1024x1024) hz2, View.ld_unit_zero (S := S1x1024) hz2]

theorem out_C_shift :
    Gen.out0_C_7 c i arg2 harg2 arg3 harg3 arg4 harg4 arg5 harg5 arg6 harg6 arg8 harg8 arg9 harg9 arg10 harg10 arg11 harg11 hc0 hc1 hc2 hc3 x0 x1 x2 x3 x4 xo6 xo7 xs0
      = Gen.k0_pay9 (Gen.k0_pay5 x0 x1 xs0) xo7 := by
  unfold Gen.out0_C_7
  rw [View.read_writes_eq_canon _ _ _ (Gen.cover0_C_7 c i arg2 harg2 arg3 harg3 arg4 harg4 arg5 harg5 arg6 harg6 arg8 harg8 arg9 harg9 arg10 harg10 arg11 harg11 hc0 hc1 hc2 hc3 x0 x1 x2 x3 x4 xo6 xo7 xs0)]
  unfold Gen.kernelRun0_C
  dsimp only
  sl_unfold_words
  rw [View.canon_unit_zero hz2]
  simp only [View.readCov_unit_zero (S := S1024x1024) _ hz2, View.readAt_eq_ld, harg2.read_unread, harg3.read_unread, harg10.read_unread, harg11.read_unread, View.ld_unit_zero (S := S1x1024x704) hz3, View.ld_unit_zero (S := S1x704x1024) hz3, View.ld_unit_zero (S := S1024x1024) hz2, View.ld_unit_zero (S := S1x1024) hz2]
end
end

end Cert.Kernel2Ideal.Dgrad
end
end
-- ==== Proof.DgradUpEntries.lean ====
/-
  The values that `dgrad_up`'s points compute, entry by entry over the extended reals.
-/
module

public import proofs.«01_k».proof.Proof.Gen.Kernel2Ideal.Skeleton
public import Idealize.ShloMosaic.Lib.Pointwise

@[expose] public section
set_option maxRecDepth 16384
noncomputable section
namespace Cert.Kernel2Ideal.Dgrad
open Cert.Kernel2Ideal Idealize.ShloMosaic

theorem zero_scale (d : Fin 1024) : (Gen.k0_pay1 (F := Ideal)) (ix2 (0 : Fin 1) d) = (0 : EReal) := by
  unfold Gen.k0_pay1; pointwise

theorem zero_shift (d : Fin 1024) : (Gen.k0_pay2 (F := Ideal)) (ix2 (0 : Fin 1) d) = (0 : EReal) := by
  unfold Gen.k0_pay2; pointwise

theorem start_apply (x0 : Vec Ideal S1x1024x704 .bf16) (x1 : Vec Ideal S1x704x1024 .bf16) (r d : Fin 1024) :
    Gen.k0_pay4 x0 x1 (ix2 r d) = ∑ k : Fin 704, (x0 (ix3 0 r k) : EReal) * x1 (ix3 0 k d) := by
  unfold Gen.k0_pay4 Gen.k0_pay3; pointwise

theorem add_apply (x0 : Vec Ideal S1x1024x704 .bf16) (x1 : Vec Ideal S1x704x1024 .bf16) (acc : Vec Ideal S1024x1024 .f32) (r d : Fin 1024) :
    Gen.k0_pay5 x0 x1 acc (ix2 r d) = (acc (ix2 r d) : EReal) + ∑ k : Fin 704, (x0 (ix3 0 r k) : EReal) * x1 (ix3 0 k d) := by
  unfold Gen.k0_pay5 Gen.k0_pay3; pointwise

/-- The reciprocal root of a row's mean square. -/
def rootOf (row : Fin 1024 → EReal) : EReal :=
  Ideal.rsqrt (Ideal.div (∑ k, row k * row k) (Ideal.ofBits FTy.f32 1149239296#32) + Ideal.ofBits FTy.f32 897988541#32)

theorem root_apply (x : Vec Ideal S1024x1024 .f32) (r : Fin 1024) :
    Gen.k0_pay7 x (ix2 r (0 : Fin 1)) = rootOf fun k => x (ix2 r k) := by
  unfold Gen.k0_pay7 rootOf; pointwise

theorem shift_apply (h : Vec Ideal S1024x1024 .f32) (acc : Vec Ideal S1x1024 .f32) (d : Fin 1024) :
    Gen.k0_pay9 h acc (ix2 (0 : Fin 1) d) = (acc (ix2 (0 : Fin 1) d) : EReal) + ∑ r : Fin 1024, (h (ix2 r d) : EReal) := by
  unfold Gen.k0_pay9; pointwise

theorem scale_apply (h x : Vec Ideal S1024x1024 .f32) (acc : Vec Ideal S1x1024 .f32) (d : Fin 1024) :
    Gen.k0_pay10 h x acc (ix2 (0 : Fin 1) d) = (acc (ix2 (0 : Fin 1) d) : EReal) + ∑ r : Fin 1024, (h (ix2 r d) : EReal) * ((x (ix2 r d) : EReal) * rootOf fun k => x (ix2 r k)) := by
  simp only [← root_apply]
  unfold Gen.k0_pay10 Gen.k0_pay8; pointwise

/-- The gradient of the norm's input at one entry, out of the row's gradient `h`, its values `x`, the scales `sc` and what is added to it `up`. -/
def normGrad (up : EReal) (h sc x : Fin 1024 → EReal) (d : Fin 1024) : EReal :=
  up + rootOf x * (h d * (1 + sc d) - x d * rootOf x * Ideal.div (∑ k, h k * (1 + sc k) * (x k * rootOf x)) (Ideal.ofBits FTy.f32 1149239296#32))

theorem out_apply (h x up : Vec Ideal S1024x1024 .f32) (sc : Vec Ideal S1x1024 .f32) (r d : Fin 1024) :
    Gen.k0_pay6 (Gen.k0_pay7 x) (Gen.k0_pay8 x) up (Gen.k0_pay11 h sc) (Gen.k0_pay12 h x sc) (Scalar.ofBits .f32 0x44800000#32) (ix2 r d)
      = normGrad (up (ix2 r d)) (fun k => h (ix2 r k)) (fun k => sc (ix2 0 k)) (fun k => x (ix2 r k)) d := by
  unfold normGrad
  simp only [← root_apply]
  unfold Gen.k0_pay6 Gen.k0_pay12 Gen.k0_pay11 Gen.k0_pay8; pointwise

end Cert.Kernel2Ideal.Dgrad
end
end
-- ==== Proof.Blocks.lean ====
/-
  Sums over the rows of an array, taken block by block: an accumulator that adds one block's sum after another ends with the
  sum over all rows. Over the extended reals, for any values.
-/
module

public import Idealize.ShloMosaic.Lib.Pointwise

@[expose] public section
noncomputable section
namespace Cert.Blocks

/-- The product of two extended reals. -/
abbrev mul (a b : EReal) : EReal := a * b

/-- The sum of the first `n` terms. -/
def upto (f : ℕ → EReal) (n : ℕ) : EReal := ∑ k ∈ Finset.range n, f k

theorem upto_zero (f : ℕ → EReal) : upto f 0 = 0 := Finset.sum_range_zero f

/-- One block of `b` terms more. -/
theorem upto_add (f : ℕ → EReal) (n b : ℕ) : upto f (n + b) = upto f n + ∑ k : Fin b, f (n + k) := by
  unfold upto
  rw [Finset.sum_range_add, Finset.sum_range (fun x => f (n + x))]

/-- The sum of all terms of a finite family. -/
theorem upto_all (n : ℕ) (g : Fin n → EReal) (f : ℕ → EReal) (h : ∀ k : Fin n, f k = g k) : upto f n = ∑ k, g k := by
  unfold upto
  rw [Finset.sum_range]
  exact Finset.sum_congr rfl fun k _ => h k

/-- A family of `n` terms, continued by zero. -/
def pad {n : ℕ} (g : Fin n → EReal) (k : ℕ) : EReal := if h : k < n then g ⟨k, h⟩ else 0

theorem pad_eq {n : ℕ} (g : Fin n → EReal) {k : ℕ} (i : Fin n) (h : k = i.val) : pad g k = g i := by
  subst h; exact dif_pos i.isLt

theorem upto_pad {n : ℕ} (g : Fin n → EReal) : upto (pad g) n = ∑ k, g k := upto_all n g _ fun k => pad_eq g k rfl

end Cert.Blocks
end
end
-- ==== Proof.DgradUpValue.lean ====
/-
  The input gradient of the up projection with the norm's gradient (`dgrad_up`): what the accumulator and the two sums over
  rows hold after each grid point, and the three results' arrays.
-/
module

public import proofs.«01_k».proof.Proof.DgradUpPoint
public import proofs.«01_k».proof.Proof.DgradUpEntries
public import proofs.«01_k».proof.Proof.Blocks
public import proofs.«01_k».proof.Proof.Gen.Kernel2Ideal.Value

@[expose] public section
set_option maxRecDepth 16384
noncomputable section
namespace Cert.Kernel2Ideal.Dgrad
open Cert.Kernel2Ideal Idealize.ShloMosaic Cert.Blocks

variable (m : (ℓ : Loc nD τ sig) → Buf (Elt Ideal) ℓ) (c : Dev nD)

theorem points : cfg0.N = 32 := Gen.N_0

/-- The array's row at a point's row `r`. -/
def row (n : ℕ) (hn : n < cfg0.N) (r : Fin 1024) : Fin 4096 := ⟨1024 * (n / 8) + r.val, by have := points; omega⟩

/-! ## The blocks a point reads -/

theorem index0 : ∀ t : Fin cfg0.N, win0_0.index t (0 : Fin 3) = t.val % 8 ∧ win0_0.index t (1 : Fin 3) = t.val / 8 ∧ win0_0.index t (2 : Fin 3) = 0 :=
  (by decide +kernel : ∀ t : Fin grid0.N, _)

theorem block0 (t : Fin cfg0.N) (r : Fin 1024) (k : Fin 704) (g : Fin 8) (hg : g.val = t.val % 8) :
    Gen.iblk m c 0 t (ix3 (0 : Fin 1) r k : S1x1024x704.Idx) = Gen.V m c main_v4 (ix3 g (row t.val t.isLt r) k) := by
  obtain ⟨e0, e1, e2⟩ := index0 t
  refine congrArg (Gen.V m c main_v4) (funext fun x => Fin.ext ?_)
  match x with
  | ⟨0, _⟩ => show win0_0.index t (0 : Fin 3) * 1 + 1 * 0 = g.val; omega
  | ⟨1, _⟩ => show win0_0.index t (1 : Fin 3) * 1024 + 1 * r.val = 1024 * (t.val / 8) + r.val; rw [e1]; omega
  | ⟨2, _⟩ => show win0_0.index t (2 : Fin 3) * 704 + 1 * k.val = k.val; rw [e2]; omega

theorem index1 : ∀ t : Fin cfg0.N, win0_1.index t (0 : Fin 3) = t.val % 8 ∧ win0_1.index t (1 : Fin 3) = 0 ∧ win0_1.index t (2 : Fin 3) = 0 :=
  (by decide +kernel : ∀ t : Fin grid0.N, _)

theorem block1 (t : Fin cfg0.N) (k : Fin 704) (d : Fin 1024) (g : Fin 8) (hg : g.val = t.val % 8) :
    Gen.iblk m c 1 t (ix3 (0 : Fin 1) k d : S1x704x1024.Idx) = Gen.V m c main_v2 (ix3 g k d) := by
  obtain ⟨e0, e1, e2⟩ := index1 t
  refine congrArg (Gen.V m c main_v2) (funext fun x => Fin.ext ?_)
  match x with
  | ⟨0, _⟩ => show win0_1.index t (0 : Fin 3) * 1 + 1 * 0 = g.val; omega
  | ⟨1, _⟩ => show win0_1.index t (1 : Fin 3) * 704 + 1 * k.val = k.val; rw [e1]; omega
  | ⟨2, _⟩ => show win0_1.index t (2 : Fin 3) * 1024 + 1 * d.val = d.val; rw [e2]; omega

theorem index2 : ∀ t : Fin cfg0.N, win0_2.index t (0 : Fin 2) = t.val / 8 ∧ win0_2.index t (1 : Fin 2) = 0 :=
  (by decide +kernel : ∀ t : Fin grid0.N, _)

theorem block2 (t : Fin cfg0.N) (r d : Fin 1024) :
    Gen.iblk m c 2 t (ix2 r d : S1024x1024.Idx) = Gen.V m c main_arg0 (ix2 (row t.val t.isLt r) d) := by
  obtain ⟨e0, e1⟩ := index2 t
  refine congrArg (Gen.V m c main_arg0) (funext fun x => Fin.ext ?_)
  match x with
  | ⟨0, _⟩ => show win0_2.index t (0 : Fin 2) * 1024 + 1 * r.val = 1024 * (t.val / 8) + r.val; rw [e0]; omega
  | ⟨1, _⟩ => show win0_2.index t (1 : Fin 2) * 1024 + 1 * d.val = d.val; rw [e1]; omega

theorem index3 : ∀ t : Fin cfg0.N, win0_3.index t (0 : Fin 2) = 0 ∧ win0_3.index t (1 : Fin 2) = 0 :=
  (by decide +kernel : ∀ t : Fin grid0.N, _)

theorem block3 (t : Fin cfg0.N) (d : Fin 1024) :
    Gen.iblk m c 3 t (ix2 (0 : Fin 1) d : S1x1024.Idx) = Gen.V m c main_arg2 (ix2 (0 : Fin 1) d) := by
  obtain ⟨e0, e1⟩ := index3 t
  refine congrArg (Gen.V m c main_arg2) (funext fun x => Fin.ext ?_)
  match x with
  | ⟨0, _⟩ => show win0_3.index t (0 : Fin 2) * 1 + 1 * 0 = 0; omega
  | ⟨1, _⟩ => show win0_3.index t (1 : Fin 2) * 1024 + 1 * d.val = d.val; rw [e1]; omega

theorem index4 : ∀ t : Fin cfg0.N, win0_4.index t (0 : Fin 2) = t.val / 8 ∧ win0_4.index t (1 : Fin 2) = 0 :=
  (by decide +kernel : ∀ t : Fin grid0.N, _)

theorem block4 (t : Fin cfg0.N) (r d : Fin 1024) :
    Gen.iblk m c 4 t (ix2 r d : S1024x1024.Idx) = Gen.V m c main_arg5 (ix2 (row t.val t.isLt r) d) := by
  obtain ⟨e0, e1⟩ := index4 t
  refine congrArg (Gen.V m c main_arg5) (funext fun x => Fin.ext ?_)
  match x with
  | ⟨0, _⟩ => show win0_4.index t (0 : Fin 2) * 1024 + 1 * r.val = 1024 * (t.val / 8) + r.val; rw [e0]; omega
  | ⟨1, _⟩ => show win0_4.index t (1 : Fin 2) * 1024 + 1 * d.val = d.val; rw [e1]; omega

/-! ## The accumulator -/

/-- The product of column `j` in the projection's input gradient, with the columns in eight groups. -/
def colTerm (b : Fin 4096) (d : Fin 1024) (j : Fin 5632) : EReal :=
  mul (Gen.V m c main_v4 (ix3 (⟨j.val / 704, by omega⟩ : Fin 8) b (⟨j.val % 704, by omega⟩ : Fin 704)))
    (Gen.V m c main_v2 (ix3 (⟨j.val / 704, by omega⟩ : Fin 8) (⟨j.val % 704, by omega⟩ : Fin 704) d))

/-- The projection's input gradient. -/
def dh (b : Fin 4096) (d : Fin 1024) : EReal := ∑ j, colTerm m c b d j

variable {m c}

/-- A point's product is the next group of columns. -/
theorem product (t : Fin cfg0.N) (r d : Fin 1024) :
    ∑ k : Fin 704, mul (Gen.iblk m c 0 t (ix3 (0 : Fin 1) r k : S1x1024x704.Idx)) (Gen.iblk m c 1 t (ix3 (0 : Fin 1) k d : S1x704x1024.Idx))
      = ∑ k : Fin 704, pad (colTerm m c (row t.val t.isLt r) d) (704 * (t.val % 8) + k.val) := by
  refine Finset.sum_congr rfl fun k _ => ?_
  have hb : 704 * (t.val % 8) + k.val < 5632 := by omega
  rw [pad_eq _ ⟨_, hb⟩ rfl]
  have e1 : (⟨(704 * (t.val % 8) + k.val) / 704, by omega⟩ : Fin 8) = ⟨t.val % 8, by omega⟩ := Fin.ext (by dsimp only; omega)
  have e2 : (⟨(704 * (t.val % 8) + k.val) % 704, by omega⟩ : Fin 704) = k := Fin.ext (by dsimp only; omega)
  unfold colTerm
  dsimp only
  rw [e1, e2]
  exact congrArg₂ mul (block0 m c t r k _ rfl) (block1 m c t k d _ rfl)

theorem start (t : Fin cfg0.N) (h : t.val % 8 = 0) (r d : Fin 1024) :
    (Gen.k0_pay4 (Gen.iblk m c 0 t) (Gen.iblk m c 1 t) (ix2 r d) : EReal)
      = upto (pad (colTerm m c (row t.val t.isLt r) d)) (704 * (t.val % 8) + 704) := by
  rw [upto_add]
  refine (start_apply _ _ r d).trans ((product t r d).trans ?_)
  rw [h, Nat.mul_zero, upto_zero, zero_add]

theorem step (t : Fin cfg0.N) (acc : Vec Ideal S1024x1024 .f32) (r d : Fin 1024)
    (hacc : (acc (ix2 r d) : EReal) = upto (pad (colTerm m c (row t.val t.isLt r) d)) (704 * (t.val % 8))) :
    (Gen.k0_pay5 (Gen.iblk m c 0 t) (Gen.iblk m c 1 t) acc (ix2 r d) : EReal)
      = upto (pad (colTerm m c (row t.val t.isLt r) d)) (704 * (t.val % 8) + 704) := by
  rw [upto_add]
  exact (add_apply _ _ _ r d).trans (congrArg₂ (· + ·) hacc (product t r d))

/-- The accumulator after point `n`. -/
theorem scratch (r d : Fin 1024) : ∀ (n : ℕ) (hn : n < cfg0.N),
    ((Gen.outsAt0 m c n hn).2.2.2 (ix2 r d) : EReal) = upto (pad (colTerm m c (row n hn r) d)) (704 * (n % 8) + 704) := by
  intro n
  induction n with
  | zero =>
    intro hn
    rw [Gen.outsAt0_A m c ⟨0, hn⟩ rfl rfl (by dsimp only; omega) (by dsimp only; omega)]
    dsimp only
    rw [sout_A]
    exact start ⟨0, hn⟩ rfl r d
  | succ n ih =>
    intro hn
    have hN := points
    have h0 : ¬(n + 1) % 32 = 0 := by omega
    by_cases h1 : (n + 1) % 8 = 0
    · rw [Gen.outsAt0_D m c ⟨n + 1, hn⟩ h0 h1 (by dsimp only; omega) (by dsimp only; omega)]
      dsimp only
      rw [sout_D]
      exact start ⟨n + 1, hn⟩ h1 r d
    · have hp := ih (Nat.lt_of_succ_lt hn)
      have e1 : row n (Nat.lt_of_succ_lt hn) r = row (n + 1) hn r := Fin.ext (by show 1024 * (n / 8) + r.val = 1024 * ((n + 1) / 8) + r.val; omega)
      have e2 : 704 * (n % 8) + 704 = 704 * ((n + 1) % 8) := by omega
      rw [e1, e2] at hp
      by_cases h3 : (n + 1) % 8 = 7
      · rw [Gen.outsAt0_C m c ⟨n + 1, hn⟩ h0 h1 (by dsimp only; omega) h3]
        dsimp only
        rw [sout_C]
        exact step ⟨n + 1, hn⟩ _ r d hp
      · rw [Gen.outsAt0_B m c ⟨n + 1, hn⟩ h0 h1 (by dsimp only; omega) h3]
        dsimp only
        rw [sout_B]
        exact step ⟨n + 1, hn⟩ _ r d hp

/-- What the last point of a block of rows has in the accumulator before it writes: the whole gradient of its rows. -/
theorem complete (n : ℕ) (hn : n + 1 < cfg0.N) (h : (n + 1) % 8 = 7) (r d : Fin 1024) :
    (Gen.k0_pay5 (Gen.iblk m c 0 ⟨n + 1, hn⟩) (Gen.iblk m c 1 ⟨n + 1, hn⟩) (Gen.outsAt0 m c n (Nat.lt_of_succ_lt hn)).2.2.2 (ix2 r d) : EReal)
      = dh m c (row (n + 1) hn r) d := by
  have hp := scratch (m := m) (c := c) r d n (Nat.lt_of_succ_lt hn)
  have e1 : row n (Nat.lt_of_succ_lt hn) r = row (n + 1) hn r := Fin.ext (by show 1024 * (n / 8) + r.val = 1024 * ((n + 1) / 8) + r.val; omega)
  have e2 : 704 * (n % 8) + 704 = 704 * ((n + 1) % 8) := by omega
  rw [e1, e2] at hp
  refine (step ⟨n + 1, hn⟩ _ r d hp).trans ?_
  have e3 : 704 * ((n + 1) % 8) + 704 = 5632 := by omega
  dsimp only
  rw [e3, upto_pad]
  rfl

/-! ## The sums over rows -/

theorem shift (d : Fin 1024) : ∀ (n : ℕ) (hn : n < cfg0.N),
    ((Gen.outsAt0 m c n hn).2.2.1 (ix2 (0 : Fin 1) d) : EReal) = upto (pad fun b => dh m c b d) (1024 * ((n + 1) / 8)) := by
  intro n
  induction n with
  | zero =>
    intro hn
    rw [Gen.outsAt0_A m c ⟨0, hn⟩ rfl rfl (by dsimp only; omega) (by dsimp only; omega)]
    dsimp only
    rw [out_A_shift]
    refine (zero_shift d).trans ?_
    rw [show 1024 * ((0 + 1) / 8) = 0 from rfl, upto_zero]
  | succ n ih =>
    intro hn
    have hN := points
    have h0 : ¬(n + 1) % 32 = 0 := by omega
    have hp := ih (Nat.lt_of_succ_lt hn)
    by_cases h1 : (n + 1) % 8 = 0
    · rw [Gen.outsAt0_D m c ⟨n + 1, hn⟩ h0 h1 (by dsimp only; omega) (by dsimp only; omega)]
      refine hp.trans ?_
      rw [show (n + 1 + 1) / 8 = (n + 1) / 8 by omega]
    · by_cases h3 : (n + 1) % 8 = 7
      · rw [Gen.outsAt0_C m c ⟨n + 1, hn⟩ h0 h1 (by dsimp only; omega) h3]
        dsimp only
        rw [out_C_shift]
        refine (shift_apply _ _ d).trans ?_
        rw [show 1024 * ((n + 1 + 1) / 8) = 1024 * ((n + 1) / 8) + 1024 by omega, upto_add]
        refine congrArg₂ (· + ·) hp (Finset.sum_congr rfl fun r _ => ?_)
        rw [pad_eq _ (row (n + 1) hn r) (show 1024 * ((n + 1) / 8) + r.val = (row (n + 1) hn r).val from rfl)]
        exact complete n hn h3 r d
      · rw [Gen.outsAt0_B m c ⟨n + 1, hn⟩ h0 h1 (by dsimp only; omega) h3]
        refine hp.trans ?_
        rw [show (n + 1 + 1) / 8 = (n + 1) / 8 by omega]

variable (m c)

/-- A row of the norm's input. -/
def inRow (b : Fin 4096) (k : Fin 1024) : EReal := Gen.V m c main_arg0 (ix2 b k)

/-- The scales of the norm. -/
def scales (k : Fin 1024) : EReal := Gen.V m c main_arg2 (ix2 (0 : Fin 1) k)

variable {m c}

theorem inRow_eq (t : Fin cfg0.N) (r : Fin 1024) : (fun k => (Gen.iblk m c 2 t (ix2 r k : S1024x1024.Idx) : EReal)) = inRow m c (row t.val t.isLt r) :=
  funext fun k => block2 m c t r k

theorem scale (d : Fin 1024) : ∀ (n : ℕ) (hn : n < cfg0.N),
    ((Gen.outsAt0 m c n hn).2.1 (ix2 (0 : Fin 1) d) : EReal)
      = upto (pad fun b => dh m c b d * (inRow m c b d * rootOf (inRow m c b))) (1024 * ((n + 1) / 8)) := by
  intro n
  induction n with
  | zero =>
    intro hn
    rw [Gen.outsAt0_A m c ⟨0, hn⟩ rfl rfl (by dsimp only; omega) (by dsimp only; omega)]
    dsimp only
    rw [out_A_scale]
    refine (zero_scale d).trans ?_
    rw [show 1024 * ((0 + 1) / 8) = 0 from rfl, upto_zero]
  | succ n ih =>
    intro hn
    have hN := points
    have h0 : ¬(n + 1) % 32 = 0 := by omega
    have hp := ih (Nat.lt_of_succ_lt hn)
    by_cases h1 : (n + 1) % 8 = 0
    · rw [Gen.outsAt0_D m c ⟨n + 1, hn⟩ h0 h1 (by dsimp only; omega) (by dsimp only; omega)]
      refine hp.trans ?_
      rw [show (n + 1 + 1) / 8 = (n + 1) / 8 by omega]
    · by_cases h3 : (n + 1) % 8 = 7
      · rw [Gen.outsAt0_C m c ⟨n + 1, hn⟩ h0 h1 (by dsimp only; omega) h3]
        dsimp only
        rw [out_C_scale]
        refine (scale_apply _ _ _ d).trans ?_
        rw [show 1024 * ((n + 1 + 1) / 8) = 1024 * ((n + 1) / 8) + 1024 by omega, upto_add]
        refine congrArg₂ (· + ·) hp (Finset.sum_congr rfl fun r _ => ?_)
        rw [pad_eq _ (row (n + 1) hn r) (show 1024 * ((n + 1) / 8) + r.val = (row (n + 1) hn r).val from rfl)]
        exact congrArg₂ mul (complete n hn h3 r d) (congrArg₂ mul (block2 m c ⟨n + 1, hn⟩ r d) (congrArg rootOf (inRow_eq ⟨n + 1, hn⟩ r)))
      · rw [Gen.outsAt0_B m c ⟨n + 1, hn⟩ h0 h1 (by dsimp only; omega) h3]
        refine hp.trans ?_
        rw [show (n + 1 + 1) / 8 = (n + 1) / 8 by omega]

/-! ## The norm's input gradient, written by the last point of each block of rows -/

theorem written (n : ℕ) (hn : n < cfg0.N) (h : n % 8 = 7) (r d : Fin 1024) :
    ((Gen.outsAt0 m c n hn).1 (ix2 r d) : EReal)
      = normGrad (Gen.V m c main_arg5 (ix2 (row n hn r) d)) (dh m c (row n hn r)) (scales m c) (inRow m c (row n hn r)) d := by
  have hN := points
  match n, hn, h with
  | n + 1, hn, h =>
    rw [Gen.outsAt0_C m c ⟨n + 1, hn⟩ (by dsimp only; omega) (by dsimp only; omega) (by dsimp only; omega) h]
    dsimp only
    rw [out_C]
    refine (out_apply _ _ _ _ r d).trans ?_
    have ea : (fun k => (Gen.k0_pay5 (Gen.iblk m c 0 ⟨n + 1, hn⟩) (Gen.iblk m c 1 ⟨n + 1, hn⟩) (Gen.outsAt0 m c n (Nat.lt_of_succ_lt hn)).2.2.2 (ix2 r k) : EReal)) = dh m c (row (n + 1) hn r) :=
      funext fun k => complete n hn h r k
    have eb : (fun k => (Gen.iblk m c 3 ⟨n + 1, hn⟩ (ix2 (0 : Fin 1) k : S1x1024.Idx) : EReal)) = scales m c := funext fun k => block3 m c ⟨n + 1, hn⟩ k
    have ec := inRow_eq (m := m) (c := c) ⟨n + 1, hn⟩ r
    have ed := block4 m c ⟨n + 1, hn⟩ r d
    exact congr (congr (congr (congrArg normGrad ed) ea) eb) ec ▸ rfl

end Cert.Kernel2Ideal.Dgrad
end
end
-- ==== Proof.DgradUpResults.lean ====
/-
  The three arrays that `dgrad_up` leaves: the norm's input gradient block by block, and the two sums over all rows, written
  once at the end.
-/
module

public import proofs.«01_k».proof.Proof.DgradUpValue

@[expose] public section
set_option maxRecDepth 16384
noncomputable section
namespace Cert.Kernel2Ideal.Dgrad
open Cert.Kernel2Ideal Idealize.ShloMosaic Idealize.ShloMosaic.TcCoe Idealize.SL.Sem Cert.Blocks

variable (m : (ℓ : Loc nD τ sig) → Buf (Elt Ideal) ℓ) (c : Dev nD)

/-- The gradient of the norm's input. -/
def inputGrad : Vec Ideal S4096x1024 .f32 := fun i =>
  normGrad (Gen.V m c main_arg5 (ix2 (n0 := 4096) (n1 := 1024) (i 0) (i 1))) (dh m c (i 0)) (scales m c) (inRow m c (i 0)) (i 1)

/-- The gradient of the scales. -/
def scaleGrad : Vec Ideal S1x1024 .f32 := fun i => ∑ b, dh m c b (i 1) * (inRow m c b (i 1) * rootOf (inRow m c b))

/-- The gradient of the shifts. -/
def shiftGrad : Vec Ideal S1x1024 .f32 := fun i => ∑ b, dh m c b (i 1)

theorem index5 : ∀ t : Fin cfg0.N, win0_5.index t (0 : Fin 2) = t.val / 8 ∧ win0_5.index t (1 : Fin 2) = 0 :=
  (by decide +kernel : ∀ t : Fin grid0.N, _)

theorem index6 : ∀ t : Fin cfg0.N, win0_6.index t (0 : Fin 2) = 0 ∧ win0_6.index t (1 : Fin 2) = 0 :=
  (by decide +kernel : ∀ t : Fin grid0.N, _)

theorem index7 : ∀ t : Fin cfg0.N, win0_7.index t (0 : Fin 2) = 0 ∧ win0_7.index t (1 : Fin 2) = 0 :=
  (by decide +kernel : ∀ t : Fin grid0.N, _)

theorem flushed_input (t : Fin cfg0.N) (hf : (cfg0.win 5).flush t = true) :
    (Gen.dats m 0 c).flushed 5 t = ((cfg0.win 5).blk t).view.read (Elt Ideal) (inputGrad m c) := by
  obtain ⟨e0, e1⟩ := index5 t
  rw [Value.flushed5]
  funext y
  refine Eq.trans (b := ((Gen.outsAt0 m c t.val t.isLt).1 (ix2 (n0 := 1024) (n1 := 1024) (y 0) (y 1)) : EReal)) ?_ ?_
  · exact congrArg (Gen.outsAt0 m c t.val t.isLt).1 (funext fun a => match a with | ⟨0, _⟩ => rfl | ⟨1, _⟩ => rfl)
  refine (written t.val t.isLt ((Gen.flush0_5 t).mp hf) (y 0) (y 1)).trans ?_
  have h0 : ((cfg0.win 5).blk t).view.emb y 0 = row t.val t.isLt (y 0) :=
    Fin.ext (by show win0_5.index t (0 : Fin 2) * 1024 + 1 * (y 0).val = 1024 * (t.val / 8) + (y 0).val; rw [e0]; omega)
  have h1 : ((cfg0.win 5).blk t).view.emb y 1 = y 1 :=
    Fin.ext (by show win0_5.index t (1 : Fin 2) * 1024 + 1 * (y 1).val = (y 1).val; rw [e1]; omega)
  show _ = inputGrad m c (((cfg0.win 5).blk t).view.emb y)
  unfold inputGrad
  rw [h0, h1]

theorem final_input : (Gen.dats m 0 c).arrAt 5 cfg0.N = inputGrad m c :=
  (Gen.dats m 0 c).arrAt_eq_of_cover 5 _ (flushed_input m c) fun i => by
    have hN := points
    have h0 : (i 0).val < 4096 := (i 0).isLt
    have h1 : (i 1).val < 1024 := (i 1).isLt
    have ht : 8 * ((i 0).val / 1024) + 7 < cfg0.N := by omega
    obtain ⟨e0, e1⟩ := index5 ⟨_, ht⟩
    refine ⟨⟨_, ht⟩, (Gen.flush0_5 _).mpr (by dsimp only; omega), ?_⟩
    show i ∈ ((View.whole main_v6_0).slice (win0_5.rect ⟨_, ht⟩)).set
    rw [View.set_slice_whole, Rect.mem_set_unit]
    intro a
    match a with
    | ⟨0, _⟩ => show win0_5.index ⟨_, ht⟩ (0 : Fin 2) * 1024 ≤ (i 0).val ∧ (i 0).val < win0_5.index ⟨_, ht⟩ (0 : Fin 2) * 1024 + 1024; rw [e0]; dsimp only; omega
    | ⟨1, _⟩ => show win0_5.index ⟨_, ht⟩ (1 : Fin 2) * 1024 ≤ (i 1).val ∧ (i 1).val < win0_5.index ⟨_, ht⟩ (1 : Fin 2) * 1024 + 1024; rw [e1]; omega

theorem flushed_scale (t : Fin cfg0.N) (hf : (cfg0.win 6).flush t = true) :
    (Gen.dats m 0 c).flushed 6 t = ((cfg0.win 6).blk t).view.read (Elt Ideal) (scaleGrad m c) := by
  obtain ⟨e0, e1⟩ := index6 t
  have hm : t.val % 32 = 31 := (Gen.flush0_6 t).mp hf
  have hN := points
  have hlt := t.isLt
  rw [Value.flushed6]
  funext y
  have hy : (y 0).val < 1 := (y 0).isLt
  refine Eq.trans (b := ((Gen.outsAt0 m c t.val t.isLt).2.1 (ix2 (0 : Fin 1) (n1 := 1024) (y 1)) : EReal)) ?_ ?_
  · exact congrArg (Gen.outsAt0 m c t.val t.isLt).2.1 (funext fun a => match a with | ⟨0, _⟩ => Fin.ext (by show (y 0).val = 0; omega) | ⟨1, _⟩ => rfl)
  refine (scale (y 1) t.val t.isLt).trans ?_
  rw [show 1024 * ((t.val + 1) / 8) = 4096 by omega, upto_pad]
  have h1 : ((cfg0.win 6).blk t).view.emb y 1 = y 1 :=
    Fin.ext (by show win0_6.index t (1 : Fin 2) * 1024 + 1 * (y 1).val = (y 1).val; rw [e1]; omega)
  show _ = scaleGrad m c (((cfg0.win 6).blk t).view.emb y)
  unfold scaleGrad
  rw [h1]

theorem final_scale : (Gen.dats m 0 c).arrAt 6 cfg0.N = scaleGrad m c :=
  (Gen.dats m 0 c).arrAt_eq_of_cover 6 _ (flushed_scale m c) fun i => by
    have hN := points
    have h0 : (i 0).val < 1 := (i 0).isLt
    have h1 : (i 1).val < 1024 := (i 1).isLt
    have ht : 31 < cfg0.N := by omega
    obtain ⟨e0, e1⟩ := index6 ⟨_, ht⟩
    refine ⟨⟨_, ht⟩, (Gen.flush0_6 _).mpr rfl, ?_⟩
    show i ∈ ((View.whole main_v6_1).slice (win0_6.rect ⟨_, ht⟩)).set
    rw [View.set_slice_whole, Rect.mem_set_unit]
    intro a
    match a with
    | ⟨0, _⟩ => show win0_6.index ⟨_, ht⟩ (0 : Fin 2) * 1 ≤ (i 0).val ∧ (i 0).val < win0_6.index ⟨_, ht⟩ (0 : Fin 2) * 1 + 1; rw [e0]; omega
    | ⟨1, _⟩ => show win0_6.index ⟨_, ht⟩ (1 : Fin 2) * 1024 ≤ (i 1).val ∧ (i 1).val < win0_6.index ⟨_, ht⟩ (1 : Fin 2) * 1024 + 1024; rw [e1]; omega

theorem flushed_shift (t : Fin cfg0.N) (hf : (cfg0.win 7).flush t = true) :
    (Gen.dats m 0 c).flushed 7 t = ((cfg0.win 7).blk t).view.read (Elt Ideal) (shiftGrad m c) := by
  obtain ⟨e0, e1⟩ := index7 t
  have hm : t.val % 32 = 31 := (Gen.flush0_7 t).mp hf
  have hN := points
  have hlt := t.isLt
  rw [Value.flushed7]
  funext y
  have hy : (y 0).val < 1 := (y 0).isLt
  refine Eq.trans (b := ((Gen.outsAt0 m c t.val t.isLt).2.2.1 (ix2 (0 : Fin 1) (n1 := 1024) (y 1)) : EReal)) ?_ ?_
  · exact congrArg (Gen.outsAt0 m c t.val t.isLt).2.2.1 (funext fun a => match a with | ⟨0, _⟩ => Fin.ext (by show (y 0).val = 0; omega) | ⟨1, _⟩ => rfl)
  refine (shift (y 1) t.val t.isLt).trans ?_
  rw [show 1024 * ((t.val + 1) / 8) = 4096 by omega, upto_pad]
  have h1 : ((cfg0.win 7).blk t).view.emb y 1 = y 1 :=
    Fin.ext (by show win0_7.index t (1 : Fin 2) * 1024 + 1 * (y 1).val = (y 1).val; rw [e1]; omega)
  show _ = shiftGrad m c (((cfg0.win 7).blk t).view.emb y)
  unfold shiftGrad
  rw [h1]

theorem final_shift : (Gen.dats m 0 c).arrAt 7 cfg0.N = shiftGrad m c :=
  (Gen.dats m 0 c).arrAt_eq_of_cover 7 _ (flushed_shift m c) fun i => by
    have hN := points
    have h0 : (i 0).val < 1 := (i 0).isLt
    have h1 : (i 1).val < 1024 := (i 1).isLt
    have ht : 31 < cfg0.N := by omega
    obtain ⟨e0, e1⟩ := index7 ⟨_, ht⟩
    refine ⟨⟨_, ht⟩, (Gen.flush0_7 _).mpr rfl, ?_⟩
    show i ∈ ((View.whole main_v6_2).slice (win0_7.rect ⟨_, ht⟩)).set
    rw [View.set_slice_whole, Rect.mem_set_unit]
    intro a
    match a with
    | ⟨0, _⟩ => show win0_7.index ⟨_, ht⟩ (0 : Fin 2) * 1 ≤ (i 0).val ∧ (i 0).val < win0_7.index ⟨_, ht⟩ (0 : Fin 2) * 1 + 1; rw [e0]; omega
    | ⟨1, _⟩ => show win0_7.index ⟨_, ht⟩ (1 : Fin 2) * 1024 ≤ (i 1).val ∧ (i 1).val < win0_7.index ⟨_, ht⟩ (1 : Fin 2) * 1024 + 1024; rw [e1]; omega

end Cert.Kernel2Ideal.Dgrad
end
end
-- ==== Proof.DgradUpReference.lean ====
/-
  The reference of `dgrad_up` read entry by entry: jax's gradient of the norm and the projection that follows it.
-/
module

public import proofs.«01_k».proof.Proof.Gen.Reference2Ideal.Run
public import Idealize.ShloMosaic.Lib.Pointwise
public import Idealize.ShloMosaic.Lib.Claim

@[expose] public section
set_option maxRecDepth 16384
noncomputable section
namespace Cert.Reference2Ideal.Dgrad
open Cert.Reference2Ideal Cert.Reference2Ideal.Gen Idealize.ShloMosaic

variable (x up : FVec Ideal S4096x1024 .f32) (sc : FVec Ideal S1x1024 .f32) (w : FVec Ideal S1024x5632 .f32) (du : FVec Ideal S4096x5632 .bf16)

/-- The norm's input under a leading axis of one. -/
def input : FVec Ideal S1x4096x1024 .f32 := broadcastInDim S1x4096x1024 ![1, 2] bcast_S4096x1024_S1x4096x1024_1_2 x

/-- The gradient of the projection's input. -/
def proj : FVec Ideal S1x4096x1024 .f32 :=
  Host.dotGeneral (φ₁ := .f32) (φ₂ := .f32) dot_S1x4096x5632_S1024x5632_S1x4096x1024_2_1_01_0_n_n none (broadcastInDim S1x4096x5632 ![1, 2] bcast_S4096x5632_S1x4096x5632_1_2 (extf .f32 du bitsLt_bf16_f32)) w

/-- Each row's mean square and the small constant. -/
def mean : FVec Ideal S1x4096x1 .f32 :=
  addf (Host.divf (broadcastInDim S1x4096x1 ![0, 1] bcast_S1x4096_S1x4096x1_0_1 (Host.reduceAdd (mulf (input x) (input x)) (constant S_ .f32 0x00000000#32) reducesTo_S1x4096x1024_S1x4096_d2 h_S_)) (broadcastInDim S1x4096x1 ![] bcast_S_S1x4096x1 (constant S_ .f32 0x44800000#32))) (broadcastInDim S1x4096x1 ![] bcast_S_S1x4096x1 (constant S_ .f32 0x358637BD#32))

/-- The gradient of the normalised row. -/
def norm : FVec Ideal S1x4096x1024 .f32 :=
  mulf (proj w du) (broadcastInDim S1x4096x1024 ![0, 1, 2] bcast_S1x1x1024_S1x4096x1024_0_1_2 (addf (broadcastInDim S1x1x1024 ![] bcast_S_S1x1x1024 (constant S_ .f32 0x3F800000#32)) (broadcastInDim S1x1x1024 ![0, 2] bcast_S1x1024_S1x1x1024_0_2 sc)))

/-- What comes back through the root to the mean square, over the row's length. -/
def through : FVec Ideal S1x4096x1 .f32 :=
  Host.divf (mulf (shapeCast S1x4096x1 (Host.reduceAdd (mulf (input x) (norm sc w du)) (constant S_ .f32 0x00000000#32) reducesTo_S1x4096x1024_S1x4096_d2 h_S_) shapeCasts_S1x4096_S1x4096x1) (mulf (broadcastInDim S1x4096x1 ![] bcast_S_S1x4096x1 (constant S_ .f32 0xBF000000#32)) (Host.divf (Host.rsqrt (mean x)) (mean x)))) (broadcastInDim S1x4096x1 ![] bcast_S_S1x4096x1 (constant S_ .f32 0x44800000#32))

def spread : FVec Ideal S1x4096x1024 .f32 :=
  broadcastInDim S1x4096x1024 ![0, 1] bcast_S1x4096_S1x4096x1024_0_1 (broadcastInDim S1x4096 ![1] bcast_S4096_S1x4096_1 (Host.reduceAdd (through x sc w du) (constant S_ .f32 0x00000000#32) reducesTo_S1x4096x1_S4096_d0_2 h_S_))

/-- The gradient of the norm's input. -/
def inputGrad : FVec Ideal S4096x1024 .f32 :=
  addf up (Host.reduceAdd (addf (addf (mulf (norm sc w du) (broadcastInDim S1x4096x1024 ![0, 1, 2] bcast_S1x4096x1_S1x4096x1024_0_1_2 (Host.rsqrt (mean x)))) (mulf (input x) (spread x sc w du))) (mulf (spread x sc w du) (input x))) (constant S_ .f32 0x00000000#32) reducesTo_S1x4096x1024_S4096x1024_d0 h_S_)

/-- The gradient of the scales. -/
def scaleGrad : FVec Ideal S1x1024 .f32 :=
  broadcastInDim S1x1024 ![1] bcast_S1024_S1x1024_1 (Host.reduceAdd (shapeCast S1x1x1024 (Host.reduceAdd (mulf (mulf (input x) (broadcastInDim S1x4096x1024 ![0, 1, 2] bcast_S1x4096x1_S1x4096x1024_0_1_2 (Host.rsqrt (mean x)))) (proj w du)) (constant S_ .f32 0x00000000#32) reducesTo_S1x4096x1024_S1x1024_d1 h_S_) shapeCasts_S1x1024_S1x1x1024) (constant S_ .f32 0x00000000#32) reducesTo_S1x1x1024_S1024_d0_1 h_S_)

/-- The gradient of the shifts. -/
def shiftGrad : FVec Ideal S1x1024 .f32 :=
  broadcastInDim S1x1024 ![1] bcast_S1024_S1x1024_1 (Host.reduceAdd (shapeCast S1x1x1024 (Host.reduceAdd (proj w du) (constant S_ .f32 0x00000000#32) reducesTo_S1x4096x1024_S1x1024_d1 h_S_) shapeCasts_S1x1024_S1x1x1024) (constant S_ .f32 0x00000000#32) reducesTo_S1x1x1024_S1024_d0_1 h_S_)

/-- The reference's first result is `inputGrad` of its arguments. -/
theorem res_eq (m : (ℓ : Loc nD τ sig) → Buf (Elt Ideal) ℓ) (c : Dev nD) :
    Value.res_main_v54 m c = inputGrad (m ((c.tc : Thread nD τ).loc main_arg0)) (m ((c.tc : Thread nD τ).loc main_arg5)) (m ((c.tc : Thread nD τ).loc main_arg2)) (m ((c.tc : Thread nD τ).loc main_arg3)) (m ((c.tc : Thread nD τ).loc main_arg4)) := rfl

/-- A sum over axes of one element reads that element. -/
theorem reduce_col (h : S1x4096x1.ReducesTo [0, 2] S4096) (v : S1x4096x1.Idx → EReal) (a : EReal) (n : Fin 4096) :
    Ideal.hostReduceAdd h v a (ix1 n) = a + v (ix3 (0 : Fin 1) n (0 : Fin 1)) := by
  have e : Finset.univ.filter (fun i => h.drop i = ix1 n) = {ix3 (0 : Fin 1) n (0 : Fin 1)} := by
    ext i
    simp only [Finset.mem_filter, Finset.mem_univ, true_and, Finset.mem_singleton]
    have hv : (h.drop i 0 : Nat) = i 1 := Shape.ReducesTo.drop_apply_val h i 0
    constructor
    · intro e
      rw [e] at hv
      have h0 : (i 0 : Nat) < 1 := (i 0).isLt
      have h2 : (i 2 : Nat) < 1 := (i 2).isLt
      funext a
      match a with
      | ⟨0, _⟩ => exact Fin.ext (by show (i 0 : Nat) = 0; omega)
      | ⟨1, _⟩ => exact Fin.ext hv.symm
      | ⟨2, _⟩ => exact Fin.ext (by show (i 2 : Nat) = 0; omega)
    · intro e
      subst e
      funext b
      match b with
      | ⟨0, _⟩ => exact Fin.ext hv
  show a + _ = _
  rw [e, Finset.sum_singleton]

theorem reduce_row (h : S1x1x1024.ReducesTo [0, 1] S1024) (v : S1x1x1024.Idx → EReal) (a : EReal) (n : Fin 1024) :
    Ideal.hostReduceAdd h v a (ix1 n) = a + v (ix3 (0 : Fin 1) (0 : Fin 1) n) := by
  have e : Finset.univ.filter (fun i => h.drop i = ix1 n) = {ix3 (0 : Fin 1) (0 : Fin 1) n} := by
    ext i
    simp only [Finset.mem_filter, Finset.mem_univ, true_and, Finset.mem_singleton]
    have hv : (h.drop i 0 : Nat) = i 2 := Shape.ReducesTo.drop_apply_val h i 0
    constructor
    · intro e
      rw [e] at hv
      have h0 : (i 0 : Nat) < 1 := (i 0).isLt
      have h1 : (i 1 : Nat) < 1 := (i 1).isLt
      funext a
      match a with
      | ⟨0, _⟩ => exact Fin.ext (by show (i 0 : Nat) = 0; omega)
      | ⟨1, _⟩ => exact Fin.ext (by show (i 1 : Nat) = 0; omega)
      | ⟨2, _⟩ => exact Fin.ext hv.symm
    · intro e
      subst e
      funext b
      match b with
      | ⟨0, _⟩ => exact Fin.ext hv
  show a + _ = _
  rw [e, Finset.sum_singleton]

theorem input_apply (n : Fin 4096) (d : Fin 1024) : input x (ix3 (0 : Fin 1) n d) = (x (ix2 n d) : EReal) := by
  unfold input; pointwise

theorem proj_apply (n : Fin 4096) (d : Fin 1024) : proj w du (ix3 (0 : Fin 1) n d) = ∑ j : Fin 5632, (du (ix2 n j) : EReal) * w (ix2 d j) := by
  unfold proj; pointwise

theorem mean_apply (n : Fin 4096) : mean x (ix3 (0 : Fin 1) n (0 : Fin 1))
    = Ideal.div (∑ k, (x (ix2 n k) : EReal) * x (ix2 n k)) (Ideal.ofBits FTy.f32 1149239296#32) + Ideal.ofBits FTy.f32 897988541#32 := by
  unfold mean; pointwise
  simp only [input_apply]

theorem norm_apply (n : Fin 4096) (d : Fin 1024) : norm sc w du (ix3 (0 : Fin 1) n d) = (proj w du (ix3 (0 : Fin 1) n d) : EReal) * (1 + sc (ix2 (0 : Fin 1) d)) := by
  unfold norm; pointwise

theorem through_apply (n : Fin 4096) : through x sc w du (ix3 (0 : Fin 1) n (0 : Fin 1))
    = Ideal.div ((∑ k, (x (ix2 n k) : EReal) * norm sc w du (ix3 (0 : Fin 1) n k))
        * (Ideal.ofBits FTy.f32 3204448256#32 * Ideal.div (Ideal.rsqrt (mean x (ix3 (0 : Fin 1) n (0 : Fin 1)))) (mean x (ix3 (0 : Fin 1) n (0 : Fin 1)))))
      (Ideal.ofBits FTy.f32 1149239296#32) := by
  unfold through; pointwise
  simp only [input_apply]

theorem spread_apply (n : Fin 4096) (d : Fin 1024) : spread x sc w du (ix3 (0 : Fin 1) n d) = (through x sc w du (ix3 (0 : Fin 1) n (0 : Fin 1)) : EReal) := by
  unfold spread; pointwise
  rw [reduce_col, zero_add]

theorem inputGrad_apply (n : Fin 4096) (d : Fin 1024) : inputGrad x up sc w du (ix2 n d)
    = (up (ix2 n d) : EReal) + (((norm sc w du (ix3 (0 : Fin 1) n d) : EReal) * Ideal.rsqrt (mean x (ix3 (0 : Fin 1) n (0 : Fin 1)))
        + x (ix2 n d) * through x sc w du (ix3 (0 : Fin 1) n (0 : Fin 1))) + through x sc w du (ix3 (0 : Fin 1) n (0 : Fin 1)) * x (ix2 n d)) := by
  unfold inputGrad; pointwise
  rw [Fin.sum_univ_one]
  simp only [input_apply, spread_apply]

/-- The last sum of a row's gradient is over axes of one element. -/
theorem last_row (v : FVec Ideal S1x1024 .f32) (d : Fin 1024) :
    broadcastInDim S1x1024 ![1] bcast_S1024_S1x1024_1 (Host.reduceAdd (shapeCast S1x1x1024 v shapeCasts_S1x1024_S1x1x1024) (constant S_ .f32 0x00000000#32) reducesTo_S1x1x1024_S1024_d0_1 h_S_) (ix2 (0 : Fin 1) d)
      = (v (ix2 (0 : Fin 1) d) : EReal) := by
  pointwise
  rw [reduce_row, zero_add]
  pointwise

theorem scaleGrad_apply (d : Fin 1024) : scaleGrad x w du (ix2 (0 : Fin 1) d)
    = ∑ n, (x (ix2 n d) : EReal) * Ideal.rsqrt (mean x (ix3 (0 : Fin 1) n (0 : Fin 1))) * proj w du (ix3 (0 : Fin 1) n d) := by
  unfold scaleGrad
  rw [last_row]
  pointwise
  simp only [input_apply]

theorem shiftGrad_apply (d : Fin 1024) : shiftGrad w du (ix2 (0 : Fin 1) d) = ∑ n, (proj w du (ix3 (0 : Fin 1) n d) : EReal) := by
  unfold shiftGrad
  rw [last_row]
  pointwise

end Cert.Reference2Ideal.Dgrad
end
end
-- ==== Proof.NormGradient.lean ====
/-
  The gradient of a row's normalisation, in two forms. The kernel takes `r · (dn − nrm · mean (dn · nrm))`, where `nrm` is the
  normalised row and `r` the reciprocal root of its mean square; jax's differentiation rules take the path through the value and
  the two paths through the mean square apart. They agree at all extended reals. Where an input of the row is infinite, the mean
  square is infinite too and `r` is zero, so both are; elsewhere `r` is a positive real and distributes over every sum.
-/
module

public import proofs.«01_k».proof.Proof.DgradUpEntries
public import Idealize.ShloMosaic.Lib.Claim

@[expose] public section
noncomputable section
namespace Cert.NormGradient
open Idealize.ShloMosaic Cert.Kernel2Ideal.Dgrad

theorem length_bits : Ideal.ofBits FTy.f32 1149239296#32 = ((1024 : ℝ) : EReal) := by
  simp [Ideal.ofBits, Ideal.ieee, -EReal.coe_mul]; norm_num

theorem half_bits : Ideal.ofBits FTy.f32 3204448256#32 = ((-(1 / 2) : ℝ) : EReal) := by
  simp [Ideal.ofBits, Ideal.ieee, -EReal.coe_mul, -EReal.coe_neg]; norm_num

theorem small_bits : ∃ e : ℝ, 0 < e ∧ Ideal.ofBits FTy.f32 897988541#32 = (e : EReal) :=
  ⟨8796093 * 2 ^ (-43 : ℤ), by positivity, by simp [Ideal.ofBits, Ideal.ieee, -EReal.coe_mul]⟩

/-- The row's mean square and the small constant. -/
def square (x : Fin 1024 → EReal) : EReal :=
  Ideal.div (∑ k, x k * x k) (Ideal.ofBits FTy.f32 1149239296#32) + Ideal.ofBits FTy.f32 897988541#32

theorem rootOf_eq (x : Fin 1024 → EReal) : rootOf x = Ideal.rsqrt (square x) := rfl

theorem square_nonneg (y : EReal) : 0 ≤ y * y := by
  induction y with
  | bot => simp
  | top => simp
  | coe a => exact_mod_cast mul_self_nonneg a

/-- A row with an infinite entry has an infinite mean square. -/
theorem square_top {x : Fin 1024 → EReal} {k : Fin 1024} (hk : x k = ⊤ ∨ x k = ⊥) : square x = ⊤ := by
  have h1 : x k * x k = ⊤ := by rcases hk with h | h <;> rw [h] <;> simp
  have h2 : ∑ k, x k * x k = ⊤ :=
    top_le_iff.mp (h1 ▸ Finset.single_le_sum (f := fun k => x k * x k) (fun i _ => square_nonneg (x i)) (Finset.mem_univ k))
  obtain ⟨e, _, he⟩ := small_bits
  unfold square
  rw [h2, length_bits, he, Ideal.div_coe (by norm_num), EReal.top_mul_coe_of_pos (by norm_num), EReal.top_add_coe]

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The mean square of a real row is a positive real. -/
theorem square_real (ξ : Fin 1024 → ℝ) : ∃ v : ℝ, 0 < v ∧ square (fun k => (ξ k : EReal)) = (v : EReal) := by
  obtain ⟨e, he, hb⟩ := small_bits
  refine ⟨(∑ k, ξ k * ξ k) * (1 / 1024) + e, by have := Finset.sum_nonneg fun k (_ : k ∈ Finset.univ) => mul_self_nonneg (ξ k); positivity, ?_⟩
  unfold square
  rw [length_bits, hb, Ideal.div_coe (by norm_num)]
  have hs : ∑ k, (ξ k : EReal) * (ξ k : EReal) = ((∑ k, ξ k * ξ k : ℝ) : EReal) := by
    rw [← coe_sum]
    exact Finset.sum_congr rfl fun k _ => (EReal.coe_mul _ _).symm
  rw [hs, EReal.coe_add, EReal.coe_mul (∑ k, ξ k * ξ k)]

/-- A nonnegative real distributes over a sum of extended reals. -/
theorem mul_sum {ι : Type} (s : Finset ι) (f : ι → EReal) {ρ : ℝ} (h : 0 ≤ ρ) : (ρ : EReal) * ∑ k ∈ s, f k = ∑ k ∈ s, (ρ : EReal) * f k := by
  classical
  induction s using Finset.induction_on with
  | empty => simp
  | insert a s ha ih =>
    rw [Finset.sum_insert ha, Finset.sum_insert ha, EReal.left_distrib_of_nonneg_of_ne_top (by exact_mod_cast h) (EReal.coe_ne_top ρ), ih]

/-- Twice a value is the sum of the value with itself. -/
theorem double (w : EReal) : w + w = ((2 : ℝ) : EReal) * w := by
  rw [show ((2 : ℝ) : EReal) = 1 + 1 by rw [← EReal.coe_one, ← EReal.coe_add]; norm_num, EReal.right_distrib_of_nonneg (by norm_num) (by norm_num), one_mul]

/-- Jax's form of the gradient at one entry. -/
def rule (up : EReal) (h sc x : Fin 1024 → EReal) (d : Fin 1024) : EReal :=
  let back := Ideal.div ((∑ k, x k * (h k * (1 + sc k))) * (Ideal.ofBits FTy.f32 3204448256#32 * Ideal.div (Ideal.rsqrt (square x)) (square x))) (Ideal.ofBits FTy.f32 1149239296#32)
  up + ((h d * (1 + sc d) * Ideal.rsqrt (square x) + x d * back) + back * x d)

/-- The two forms agree. -/
theorem rule_eq (up : EReal) (h sc x : Fin 1024 → EReal) (d : Fin 1024) : rule up h sc x d = normGrad up h sc x d := by
  unfold rule normGrad
  rw [rootOf_eq]
  by_cases hx : ∃ k, x k = ⊤ ∨ x k = ⊥
  · obtain ⟨k, hk⟩ := hx
    rw [square_top hk, Ideal.rsqrt_top, length_bits]
    simp only [Ideal.div_coe (show (1024 : ℝ) ≠ 0 by norm_num)]
    simp [Ideal.div]
  · have hx' : ∀ k, ∃ a : ℝ, x k = (a : EReal) := fun k => by
      have h0 : x k ≠ ⊤ ∧ x k ≠ ⊥ := not_or.mp fun hk => hx ⟨k, hk⟩
      exact ⟨(x k).toReal, (EReal.coe_toReal h0.1 h0.2).symm⟩
    choose ξ hξ using hx'
    obtain rfl : x = fun k => (ξ k : EReal) := funext hξ
    obtain ⟨v, hv, hs⟩ := square_real ξ
    rw [hs, Ideal.rsqrt_coe, if_neg (not_lt.mpr hv.le), if_neg hv.ne', length_bits, half_bits]
    simp only [Ideal.div_coe (show (1024 : ℝ) ≠ 0 by norm_num), Ideal.div_coe hv.ne']
    generalize hρ : (√v)⁻¹ = ρ
    have hρ0 : 0 ≤ ρ := by rw [← hρ]; positivity
    have hρ2 : 1 / v = ρ * ρ := by rw [← hρ, ← mul_inv, Real.mul_self_sqrt hv.le, one_div]
    rw [hρ2]
    generalize hS : ∑ k, (ξ k : EReal) * (h k * (1 + sc k)) = S
    have e1 : ∑ k, h k * (1 + sc k) * ((ξ k : EReal) * (ρ : EReal)) = (ρ : EReal) * S := by
      rw [← hS, mul_sum _ _ hρ0]
      exact Finset.sum_congr rfl fun k _ => by ac_rfl
    rw [e1]
    generalize h d * (1 + sc d) = a
    have e2 : (ρ : EReal) * (a - (ξ d : EReal) * ρ * (ρ * S * ((1 / 1024 : ℝ) : EReal)))
        = a * ρ + S * ((-(ξ d * ρ * ρ * ρ * (1 / 1024)) : ℝ) : EReal) := by
      rw [sub_eq_add_neg, EReal.left_distrib_of_nonneg_of_ne_top (by exact_mod_cast hρ0) (EReal.coe_ne_top ρ), mul_comm a]
      refine congrArg _ ?_
      rw [EReal.coe_neg, mul_neg, mul_neg]
      refine congrArg _ ?_
      push_cast
      ac_rfl
    have e3 : (ξ d : EReal) * (S * (((-(1 / 2) : ℝ) : EReal) * (ρ * ((ρ * ρ : ℝ) : EReal))) * ((1 / 1024 : ℝ) : EReal))
        = S * ((ξ d * (-(1 / 2)) * (ρ * (ρ * ρ)) * (1 / 1024) : ℝ) : EReal) := by
      simp only [EReal.coe_mul]
      ac_rfl
    rw [e2, add_assoc (a * (ρ : EReal)), mul_comm _ (ξ d : EReal), e3, double]
    rw [show ((2 : ℝ) : EReal) * (S * ((ξ d * (-(1 / 2)) * (ρ * (ρ * ρ)) * (1 / 1024) : ℝ) : EReal)) = S * ((2 * (ξ d * (-(1 / 2)) * (ρ * (ρ * ρ)) * (1 / 1024)) : ℝ) : EReal) by
      rw [EReal.coe_mul 2]; ac_rfl]
    congr 3
    ring_nf

end Cert.NormGradient
end
end
-- ==== Proof.DgradUpEquation.lean ====
/-
  `dgrad_up`: the kernel's three results are the reference's.
-/
module

public import proofs.«01_k».proof.Proof.DgradUpResults
public import proofs.«01_k».proof.Proof.DgradUpReference
public import proofs.«01_k».proof.Proof.NormGradient

@[expose] public section
set_option maxRecDepth 16384
noncomputable section
namespace Cert.Kernel2Ideal.Dgrad
open Cert.Kernel2Ideal Cert.Kernel2Ideal.Gen Idealize.ShloMosaic Cert.Blocks

variable {m : (ℓ : Loc nD τ sig) → Buf (Elt Ideal) ℓ} {c : Dev nD}

/-- The output's gradient in column groups, as the kernel takes it. -/
def inGroups (x : FVec Ideal S4096x5632 .bf16) : FVec Ideal S8x4096x704 .bf16 :=
  transpose S8x4096x704 [1, 0, 2] (shapeCast S4096x8x704 x shapeCasts_S4096x5632_S4096x8x704) transposes_S4096x8x704_S8x4096x704_1_0_2

/-- The weights, transposed and in column groups. -/
def weightGroups (w : FVec Ideal S1024x5632 .f32) : FVec Ideal S8x704x1024 .bf16 :=
  shapeCast S8x704x1024 (truncf .bf16 (transpose S5632x1024 [1, 0] w transposes_S1024x5632_S5632x1024_1_0) bitsLt_bf16_f32) shapeCasts_S5632x1024_S8x704x1024

theorem v4_eq : Gen.V m c main_v4 = inGroups (m (c, Proc.tc.devRef main_arg4)) := by
  unfold_abbrev_sides
  after_results_simp
  rfl

theorem v2_eq : Gen.V m c main_v2 = weightGroups (m (c, Proc.tc.devRef main_arg3)) := by
  unfold_abbrev_sides
  after_results_simp
  rfl

theorem x_eq : Gen.V m c main_arg0 = m (c, Proc.tc.devRef main_arg0) := by
  unfold_abbrev_sides
  after_results_simp

theorem sc_eq : Gen.V m c main_arg2 = m (c, Proc.tc.devRef main_arg2) := by
  unfold_abbrev_sides
  after_results_simp

theorem up_eq : Gen.V m c main_arg5 = m (c, Proc.tc.devRef main_arg5) := by
  unfold_abbrev_sides
  after_results_simp

theorem inGroups_apply (x : FVec Ideal S4096x5632 .bf16) (g : Fin 8) (n : Fin 4096) (r : Fin 704) :
    inGroups x (ix3 g n r) = (x (ix2 n (⟨g.val * 704 + r.val, by omega⟩ : Fin 5632)) : EReal) := by
  unfold inGroups; pointwise

theorem weightGroups_apply (w : FVec Ideal S1024x5632 .f32) (g : Fin 8) (r : Fin 704) (d : Fin 1024) :
    weightGroups w (ix3 g r d) = (w (ix2 d (⟨g.val * 704 + r.val, by omega⟩ : Fin 5632)) : EReal) := by
  unfold weightGroups; pointwise

/-- The kernel's gradient of the projection's input is the reference's: the groups are the columns in order. -/
theorem dh_eq {w : FVec Ideal S1024x5632 .f32} {du : FVec Ideal S4096x5632 .bf16} (hw : w = m (c, Proc.tc.devRef main_arg3)) (hdu : du = m (c, Proc.tc.devRef main_arg4))
    (b : Fin 4096) (d : Fin 1024) : dh m c b d = Cert.Reference2Ideal.Dgrad.proj w du (ix3 (0 : Fin 1) b d) := by
  rw [Cert.Reference2Ideal.Dgrad.proj_apply]
  refine Finset.sum_congr rfl fun j _ => ?_
  unfold colTerm
  rw [v4_eq, v2_eq, ← hw, ← hdu]
  have e : (⟨j.val / 704 * 704 + j.val % 704, by omega⟩ : Fin 5632) = j := Fin.ext (by dsimp only; omega)
  refine congrArg₂ mul ((inGroups_apply du _ b _).trans ?_) ((weightGroups_apply w _ _ d).trans ?_)
  · exact congrArg (fun j => du (ix2 b j)) e
  · exact congrArg (fun j => w (ix2 d j)) e

end Cert.Kernel2Ideal.Dgrad

namespace Cert.Equation
open Idealize.ShloMosaic Cert.Blocks

section
variable {m : (ℓ : Loc Kernel2Ideal.nD Kernel2Ideal.τ Kernel2Ideal.sig) → Buf (Elt Ideal) ℓ} {c : Dev Kernel2Ideal.nD}
    {x up : FVec Ideal Reference2Ideal.S4096x1024 .f32} {sc : FVec Ideal Reference2Ideal.S1x1024 .f32}
    {w : FVec Ideal Reference2Ideal.S1024x5632 .f32} {du : FVec Ideal Reference2Ideal.S4096x5632 .bf16}

theorem row_eq (hx : x = m (c, Proc.tc.devRef Kernel2Ideal.main_arg0)) (b : Fin 4096) : (fun k => (x (ix2 b k) : EReal)) = Kernel2Ideal.Dgrad.inRow m c b := by
  funext k
  unfold Kernel2Ideal.Dgrad.inRow
  rw [Kernel2Ideal.Dgrad.x_eq, ← hx]

theorem root_eq (hx : x = m (c, Proc.tc.devRef Kernel2Ideal.main_arg0)) (b : Fin 4096) :
    Reference2Ideal.Dgrad.mean x (ix3 (0 : Fin 1) b (0 : Fin 1)) = NormGradient.square (Kernel2Ideal.Dgrad.inRow m c b) := by
  rw [Reference2Ideal.Dgrad.mean_apply, ← row_eq hx]
  rfl

/-- The gradients of the shifts agree. -/
theorem dgrad_shift (hw : w = m (c, Proc.tc.devRef Kernel2Ideal.main_arg3)) (hdu : du = m (c, Proc.tc.devRef Kernel2Ideal.main_arg4)) :
    Reference2Ideal.Dgrad.shiftGrad w du = Kernel2Ideal.Dgrad.shiftGrad m c := by
  funext i
  have h0 : (i 0).val < 1 := (i 0).isLt
  have hi : i = ix2 (0 : Fin 1) (n1 := 1024) (i 1) := funext fun a => match a with | ⟨0, _⟩ => Fin.ext (by show (i 0).val = 0; omega) | ⟨1, _⟩ => rfl
  rw [hi]
  refine (Reference2Ideal.Dgrad.shiftGrad_apply w du (i 1)).trans (Finset.sum_congr rfl fun b _ => ?_)
  exact (Kernel2Ideal.Dgrad.dh_eq hw hdu b (i 1)).symm

/-- The gradients of the scales agree. -/
theorem dgrad_scale (hx : x = m (c, Proc.tc.devRef Kernel2Ideal.main_arg0)) (hw : w = m (c, Proc.tc.devRef Kernel2Ideal.main_arg3)) (hdu : du = m (c, Proc.tc.devRef Kernel2Ideal.main_arg4)) :
    Reference2Ideal.Dgrad.scaleGrad x w du = Kernel2Ideal.Dgrad.scaleGrad m c := by
  funext i
  have h0 : (i 0).val < 1 := (i 0).isLt
  have hi : i = ix2 (0 : Fin 1) (n1 := 1024) (i 1) := funext fun a => match a with | ⟨0, _⟩ => Fin.ext (by show (i 0).val = 0; omega) | ⟨1, _⟩ => rfl
  rw [hi]
  refine (Reference2Ideal.Dgrad.scaleGrad_apply x w du (i 1)).trans (Finset.sum_congr rfl fun b _ => ?_)
  rw [root_eq hx, ← NormGradient.rootOf_eq, mul_comm]
  refine congrArg₂ mul (Kernel2Ideal.Dgrad.dh_eq hw hdu b (i 1)).symm (congrArg₂ mul ?_ rfl)
  exact congrFun (row_eq hx b) (i 1)

theorem dgrad_input_entry (hx : x = m (c, Proc.tc.devRef Kernel2Ideal.main_arg0)) (hup : up = m (c, Proc.tc.devRef Kernel2Ideal.main_arg5)) (hsc : sc = m (c, Proc.tc.devRef Kernel2Ideal.main_arg2))
    (hw : w = m (c, Proc.tc.devRef Kernel2Ideal.main_arg3)) (hdu : du = m (c, Proc.tc.devRef Kernel2Ideal.main_arg4)) (b : Fin 4096) (d : Fin 1024) :
    Reference2Ideal.Dgrad.inputGrad x up sc w du (ix2 b d)
      = Kernel2Ideal.Dgrad.normGrad (Kernel2Ideal.Gen.V m c Kernel2Ideal.main_arg5 (ix2 b d)) (Kernel2Ideal.Dgrad.dh m c b) (Kernel2Ideal.Dgrad.scales m c) (Kernel2Ideal.Dgrad.inRow m c b) d := by
  have en : ∀ k, Reference2Ideal.Dgrad.norm sc w du (ix3 (0 : Fin 1) b k) = Kernel2Ideal.Dgrad.dh m c b k * (1 + Kernel2Ideal.Dgrad.scales m c k) := fun k => by
    rw [Reference2Ideal.Dgrad.norm_apply, ← Kernel2Ideal.Dgrad.dh_eq hw hdu]
    unfold Kernel2Ideal.Dgrad.scales
    rw [Kernel2Ideal.Dgrad.sc_eq, ← hsc]
  have ex : ∀ k, (x (ix2 b k) : EReal) = Kernel2Ideal.Dgrad.inRow m c b k := congrFun (row_eq hx b)
  refine (Reference2Ideal.Dgrad.inputGrad_apply x up sc w du b d).trans (Eq.trans ?_ (NormGradient.rule_eq _ _ _ _ _))
  unfold NormGradient.rule
  rw [Reference2Ideal.Dgrad.through_apply, root_eq hx]
  simp only [en, ex]
  rw [Kernel2Ideal.Dgrad.up_eq, ← hup]

/-- The gradients of the norm's input agree. -/
theorem dgrad_input (hx : x = m (c, Proc.tc.devRef Kernel2Ideal.main_arg0)) (hup : up = m (c, Proc.tc.devRef Kernel2Ideal.main_arg5)) (hsc : sc = m (c, Proc.tc.devRef Kernel2Ideal.main_arg2))
    (hw : w = m (c, Proc.tc.devRef Kernel2Ideal.main_arg3)) (hdu : du = m (c, Proc.tc.devRef Kernel2Ideal.main_arg4)) :
    Reference2Ideal.Dgrad.inputGrad x up sc w du = Kernel2Ideal.Dgrad.inputGrad m c := by
  funext i
  have hi : i = ix2 (n0 := 4096) (n1 := 1024) (i 0) (i 1) := funext fun a => match a with | ⟨0, _⟩ => rfl | ⟨1, _⟩ => rfl
  rw [hi]
  exact dgrad_input_entry hx hup hsc hw hdu (i 0) (i 1)
end

end Cert.Equation
end
end
-- ==== Proof.WgradUpPoint.lean ====
/-
  The weight gradient of the up projection (`wgrad_up`): what each kind of grid point leaves in the accumulator and in the
  result's block, as values of the blocks it reads.
-/
module

public import proofs.«01_k».proof.Proof.Gen.Kernel3Ideal.Frame
public import Idealize.ShloMosaic.Lib.Pointwise

@[expose] public section
set_option maxRecDepth 16384
noncomputable section
namespace Cert.Kernel3Ideal.Wgrad
open Cert.Kernel3Ideal Idealize.ShloMosaic

theorem hz2 : (![0, 0] : Fin 2 → ℕ) = fun _ => 0 := funext fun a => by fin_cases a <;> rfl
theorem hz3 : (![0, 0, 0] : Fin 3 → ℕ) = fun _ => 0 := funext fun a => by fin_cases a <;> rfl

section
variable {F : FTy → Type} [FloatOps F]
variable (c : Dev nD) (i : grid0.Coords) (arg2 : Memref sig .tc .vmem S1x1024x704 .bf16) (harg2 : arg2.IsWhole)
  (arg3 : Memref sig .tc .vmem S1x1024x1024 .bf16) (harg3 : arg3.IsWhole) (arg4 : Memref sig .tc .vmem S1x704x1024 .bf16)
  (harg4 : arg4.IsWhole) (arg5 : Memref sig .tc .vmem S704x1024 .f32) (harg5 : arg5.IsWhole)
variable (x0 : Vec F S1x1024x704 .bf16) (x1 : Vec F S1x1024x1024 .bf16) (xs0 : Vec F S704x1024 .f32)

/-- The first point of a column group starts the accumulator with its own product. -/
theorem sout_A (hc0 : Gen.cond0_0 i) (hc1 : ¬Gen.cond0_1 i) :
    Gen.sout0_A_0 c i arg2 harg2 arg3 harg3 arg4 harg4 arg5 harg5 hc0 hc1 x0 x1 = Gen.k0_pay2 Gen.k0_pay1 x0 x1 := by
  unfold Gen.sout0_A_0
  rw [View.read_writes_eq_canon _ _ _ (Gen.scover0_A_0 c i arg2 harg2 arg3 harg3 arg4 harg4 arg5 harg5 hc0 hc1 x0 x1)]
  unfold Gen.kernelRun0_A
  dsimp only
  sl_unfold_words
  rw [View.canon_cons_unit_zero (S := S704x1024) hz2, View.readCov_unit_zero (S := S704x1024) _ hz2]
  simp only [View.readAt_eq_ld, harg2.read_unread, harg3.read_unread, View.ld_unit_zero (S := S1x1024x704) hz3, View.ld_unit_zero (S := S1x1024x1024) hz3]

/-- A later point adds its product to the accumulator. -/
theorem sout_B (hc0 : ¬Gen.cond0_0 i) (hc1 : ¬Gen.cond0_1 i) :
    Gen.sout0_B_0 c i arg2 harg2 arg3 harg3 arg4 harg4 arg5 harg5 hc0 hc1 x0 x1 xs0 = Gen.k0_pay2 xs0 x0 x1 := by
  unfold Gen.sout0_B_0
  rw [View.read_writes_eq_canon _ _ _ (Gen.scover0_B_0 c i arg2 harg2 arg3 harg3 arg4 harg4 arg5 harg5 hc0 hc1 x0 x1 xs0)]
  unfold Gen.kernelRun0_B
  dsimp only
  sl_unfold_words
  rw [View.canon_unit_zero hz2]
  simp only [View.readAt_eq_ld, harg2.read_unread, harg3.read_unread, harg5.read_unread, View.ld_unit_zero (S := S1x1024x704) hz3, View.ld_unit_zero (S := S1x1024x1024) hz3, View.ld_unit_zero (S := S704x1024) hz2]

/-- The last point adds its product too. -/
theorem sout_C (hc0 : ¬Gen.cond0_0 i) (hc1 : Gen.cond0_1 i) :
    Gen.sout0_C_0 c i arg2 harg2 arg3 harg3 arg4 harg4 arg5 harg5 hc0 hc1 x0 x1 xs0 = Gen.k0_pay2 xs0 x0 x1 := by
  unfold Gen.sout0_C_0
  rw [View.read_writes_eq_canon _ _ _ (Gen.scover0_C_0 c i arg2 harg2 arg3 harg3 arg4 harg4 arg5 harg5 hc0 hc1 x0 x1 xs0)]
  unfold Gen.kernelRun0_C
  dsimp only
  sl_unfold_words
  rw [View.canon_unit_zero hz2]
  simp only [View.readAt_eq_ld, harg2.read_unread, harg3.read_unread, harg5.read_unread, View.ld_unit_zero (S := S1x1024x704) hz3, View.ld_unit_zero (S := S1x1024x1024) hz3, View.ld_unit_zero (S := S704x1024) hz2]

/-- The last point of a column group writes the completed accumulator out. -/
theorem out_C (hc0 : ¬Gen.cond0_0 i) (hc1 : Gen.cond0_1 i) :
    Gen.out0_C_2 c i arg2 harg2 arg3 harg3 arg4 harg4 arg5 harg5 hc0 hc1 x0 x1 xs0 = Gen.k0_pay3 (Gen.k0_pay2 xs0 x0 x1) := by
  unfold Gen.out0_C_2
  rw [View.read_writes_eq_canon _ _ _ (Gen.cover0_C_2 c i arg2 harg2 arg3 harg3 arg4 harg4 arg5 harg5 hc0 hc1 x0 x1 xs0)]
  unfold Gen.kernelRun0_C
  dsimp only
  sl_unfold_words
  rw [View.canon_unit_zero hz3, View.readCov_unit_zero (S := S704x1024) _ hz2]
  simp only [View.readAt_eq_ld, harg2.read_unread, harg3.read_unread, harg5.read_unread, View.ld_unit_zero (S := S1x1024x704) hz3, View.ld_unit_zero (S := S1x1024x1024) hz3, View.ld_unit_zero (S := S704x1024) hz2]
end

/-- The zero block. -/
theorem zero_apply (r : Fin 704) (d : Fin 1024) : (Gen.k0_pay1 (F := Ideal)) (ix2 r d) = (0 : EReal) := by
  unfold Gen.k0_pay1; pointwise

/-- One product: the accumulator's entry and the sum over the block's rows. -/
theorem add_apply (acc : Vec Ideal S704x1024 .f32) (x0 : Vec Ideal S1x1024x704 .bf16) (x1 : Vec Ideal S1x1024x1024 .bf16) (r : Fin 704) (d : Fin 1024) :
    Gen.k0_pay2 acc x0 x1 (ix2 r d) = (acc (ix2 r d) : EReal) + ∑ n : Fin 1024, (x0 (ix3 0 n r) : EReal) * x1 (ix3 0 n d) := by
  unfold Gen.k0_pay2; pointwise

/-- The rounding to the result's format, over the extended reals. -/
theorem out_apply (acc : Vec Ideal S704x1024 .f32) (r : Fin 704) (d : Fin 1024) :
    Gen.k0_pay3 acc (ix3 (0 : Fin 1) r d) = (acc (ix2 r d) : EReal) := by
  unfold Gen.k0_pay3; pointwise

end Cert.Kernel3Ideal.Wgrad
end
end
-- ==== Proof.WgradUpValue.lean ====
/-
  The weight gradient of the up projection (`wgrad_up`): the accumulator after each grid point is the sum over the rows read so
  far, and the result's array is the sum over all rows.
-/
module

public import proofs.«01_k».proof.Proof.WgradUpPoint
public import proofs.«01_k».proof.Proof.Blocks
public import proofs.«01_k».proof.Proof.Gen.Kernel3Ideal.Value

@[expose] public section
set_option maxRecDepth 16384
noncomputable section
namespace Cert.Kernel3Ideal.Wgrad
open Cert.Kernel3Ideal Idealize.ShloMosaic Cert.Blocks

variable (m : (ℓ : Loc nD τ sig) → Buf (Elt Ideal) ℓ) (c : Dev nD)

theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)

/-- The point's block of the output's gradient. -/
theorem block0 (t : Fin cfg0.N) (n : Fin 1024) (r : Fin 704) (g : Fin 8) (b : Fin 4096) (hg : g.val = t.val / 4)
    (hb : b.val = 1024 * (t.val % 4) + n.val) :
    Gen.iblk m c 0 t (ix3 (0 : Fin 1) n r : S1x1024x704.Idx) = Gen.V m c main_v1 (ix3 g b r) := by
  obtain ⟨e0, e1, e2⟩ := index0 t
  refine congrArg (Gen.V m c main_v1) (funext fun x => Fin.ext ?_)
  match x with
  | ⟨0, _⟩ =>
    show win0_0.index t (0 : Fin 3) * 1 + 1 * 0 = g.val
    omega
  | ⟨1, _⟩ =>
    show win0_0.index t (1 : Fin 3) * 1024 + 1 * n.val = b.val
    rw [e1]; omega
  | ⟨2, _⟩ =>
    show win0_0.index t (2 : Fin 3) * 704 + 1 * r.val = r.val
    rw [e2]; omega

theorem index1 : ∀ t : Fin cfg0.N, win0_1.index t (0 : Fin 3) = 0 ∧ win0_1.index t (1 : Fin 3) = t.val % 4 ∧ win0_1.index t (2 : Fin 3) = 0 :=
  (by decide +kernel : ∀ t : Fin grid0.N, _)

/-- The point's block of the projection's input. -/
theorem block1 (t : Fin cfg0.N) (n : Fin 1024) (d : Fin 1024) (b : Fin 4096) (hb : b.val = 1024 * (t.val % 4) + n.val) :
    Gen.iblk m c 1 t (ix3 (0 : Fin 1) n d : S1x1024x1024.Idx) = Gen.V m c main_v2 (ix3 (0 : Fin 1) b d) := by
  obtain ⟨e0, e1, e2⟩ := index1 t
  refine congrArg (Gen.V m c main_v2) (funext fun x => Fin.ext ?_)
  match x with
  | ⟨0, _⟩ =>
    show win0_1.index t (0 : Fin 3) * 1 + 1 * 0 = 0
    omega
  | ⟨1, _⟩ =>
    show win0_1.index t (1 : Fin 3) * 1024 + 1 * n.val = b.val
    rw [e1]; omega
  | ⟨2, _⟩ =>
    show win0_1.index t (2 : Fin 3) * 1024 + 1 * d.val = d.val
    rw [e2]; omega

/-- The product of row `n` in the gradient of weight `(r, d)` of column group `g`. -/
def rowTerm (g : Fin 8) (r : Fin 704) (d : Fin 1024) (n : Fin 4096) : EReal :=
  mul (Gen.V m c main_v1 (ix3 g n r)) (Gen.V m c main_v2 (ix3 (0 : Fin 1) n d))

/-- The group's number at a point, as the array's first index. -/
def group (t : ℕ) (ht : t < cfg0.N) : Fin 8 := ⟨t / 4, by have hN : cfg0.N = 32 := Gen.N_0; omega⟩

variable {m c}

/-- One point adds its block of rows to the sum. -/
theorem step (t : Fin cfg0.N) (acc : Vec Ideal S704x1024 .f32) (r : Fin 704) (d : Fin 1024)
    (hacc : (acc (ix2 r d) : EReal) = upto (pad (rowTerm m c (group t.val t.isLt) r d)) (1024 * (t.val % 4))) :
    (Gen.k0_pay2 acc (Gen.iblk m c 0 t) (Gen.iblk m c 1 t) (ix2 r d) : EReal)
      = upto (pad (rowTerm m c (group t.val t.isLt) r d)) (1024 * (t.val % 4) + 1024) := by
  rw [upto_add]
  refine (add_apply _ _ _ r d).trans (congrArg₂ (· + ·) hacc (Finset.sum_congr rfl fun n _ => ?_))
  have hb : 1024 * (t.val % 4) + n.val < 4096 := by omega
  rw [pad_eq _ ⟨_, hb⟩ rfl]
  exact congrArg₂ mul (block0 m c t n r (group t.val t.isLt) ⟨_, hb⟩ rfl rfl) (block1 m c t n d ⟨_, hb⟩ rfl)

/-- The accumulator after point `n`. -/
theorem scratch (r : Fin 704) (d : Fin 1024) : ∀ (n : ℕ) (hn : n < cfg0.N),
    ((Gen.outsAt0 m c n hn).2 (ix2 r d) : EReal) = upto (pad (rowTerm m c (group n hn) r d)) (1024 * (n % 4) + 1024) := by
  have first : ∀ (n : ℕ) (hn : n < cfg0.N) (h0 : n % 4 = 0), ((Gen.outsAt0 m c n hn).2 (ix2 r d) : EReal) = upto (pad (rowTerm m c (group n hn) r d)) (1024 * (n % 4) + 1024) := by
    intro n hn h0
    rw [Gen.outsAt0_A m c ⟨n, hn⟩ h0 (by dsimp only; omega)]
    dsimp only
    rw [sout_A]
    refine step ⟨n, hn⟩ _ r d ?_
    dsimp only
    rw [h0, Nat.mul_zero, upto_zero]
    exact zero_apply r d
  intro n
  induction n with
  | zero => intro hn; exact first 0 hn rfl
  | succ n ih =>
    intro hn
    by_cases h0 : (n + 1) % 4 = 0
    · exact first _ hn h0
    · have hp := ih (Nat.lt_of_succ_lt hn)
      have e1 : group n (Nat.lt_of_succ_lt hn) = group (n + 1) hn := Fin.ext (by show n / 4 = (n + 1) / 4; omega)
      have e2 : 1024 * (n % 4) + 1024 = 1024 * ((n + 1) % 4) := by omega
      rw [e1, e2] at hp
      by_cases h3 : (n + 1) % 4 = 3
      · rw [Gen.outsAt0_C m c ⟨n + 1, hn⟩ h0 h3]
        dsimp only
        rw [sout_C]
        exact step ⟨n + 1, hn⟩ _ r d hp
      · rw [Gen.outsAt0_B m c ⟨n + 1, hn⟩ h0 h3]
        dsimp only
        rw [sout_B]
        exact step ⟨n + 1, hn⟩ _ r d hp

/-- The result's array: each entry the sum over all rows. -/
theorem whole (g : Fin 8) (r : Fin 704) (d : Fin 1024) :
    (Value.G2 m c (ix3 g r d) : EReal) = ∑ n, rowTerm m c g r d n := by
  have hN : cfg0.N = 32 := Gen.N_0
  have hp : Value.pt2Of (ix3 g r d : S8x704x1024.Idx) = 4 * g.val + 3 := by
    show 4 * (1 * (g.val / 1 - 0) + 1 * (r.val / 704 - 0) + 1 * (d.val / 1024 - 0)) + 3 = _
    omega
  have hlt : Value.pt2Of (ix3 g r d : S8x704x1024.Idx) < cfg0.N := by omega
  unfold Value.G2
  refine (dif_pos hlt).trans ?_
  rw [← Value.outsAt0_sweep m c _ hlt]
  generalize hq : Value.pt2Of (ix3 g r d : S8x704x1024.Idx) = q at hlt
  rw [hp] at hq
  subst hq
  have hl : Value.loc2Of (ix3 g r d : S8x704x1024.Idx) = ix3 (0 : Fin 1) r d := by
    funext a; match a with
    | ⟨0, _⟩ => exact Fin.ext (by show g.val % 1 = 0; omega)
    | ⟨1, _⟩ => exact Fin.ext (Nat.mod_eq_of_lt r.isLt)
    | ⟨2, _⟩ => exact Fin.ext (Nat.mod_eq_of_lt d.isLt)
  rw [hl]
  have hs := scratch (m := m) (c := c) r d (4 * g.val + 3) hlt
  rw [Gen.outsAt0_C m c ⟨4 * g.val + 3, hlt⟩ (by dsimp only; omega) (by dsimp only; omega)] at hs ⊢
  dsimp only at hs ⊢
  rw [sout_C] at hs
  rw [out_C]
  refine (out_apply _ r d).trans (hs.trans ?_)
  have e1 : group (4 * g.val + 3) hlt = g := Fin.ext (by show (4 * g.val + 3) / 4 = g.val; omega)
  have e2 : 1024 * ((4 * g.val + 3) % 4) + 1024 = 4096 := by omega
  rw [e1, e2, upto_pad]

end Cert.Kernel3Ideal.Wgrad
end
end
-- ==== Proof.WgradUpEquation.lean ====
/-
  The weight gradient of the up projection: the kernel's result is the reference's, entry by entry the same sum over the rows.
-/
module

public import proofs.«01_k».proof.Proof.WgradUpValue
public import proofs.«01_k».proof.Proof.Gen.Reference3Ideal.Run
public import Idealize.ShloMosaic.Lib.Pointwise
public import Idealize.ShloMosaic.Lib.Claim

@[expose] public section
set_option maxRecDepth 16384
noncomputable section
namespace Cert.Kernel3Ideal.Wgrad
open Cert.Kernel3Ideal Cert.Kernel3Ideal.Gen Idealize.ShloMosaic Cert.Blocks

variable {m : (ℓ : Loc nD τ sig) → Buf (Elt Ideal) ℓ} {c : Dev nD}

/-- The output's gradient in column groups, as the kernel takes it. -/
def inGroups (x : FVec Ideal S4096x5632 .bf16) : FVec Ideal S8x4096x704 .bf16 :=
  transpose S8x4096x704 [1, 0, 2] (shapeCast S4096x8x704 x shapeCasts_S4096x5632_S4096x8x704) transposes_S4096x8x704_S8x4096x704_1_0_2

theorem v1_eq : Gen.V m c main_v1 = inGroups (m (c, Proc.tc.devRef main_arg1)) := by
  unfold_abbrev_sides
  after_results_simp
  rfl

theorem v2_eq : Gen.V m c main_v2 = shapeCast S1x4096x1024 (m (c, Proc.tc.devRef main_arg0) : FVec Ideal S4096x1024 .bf16) shapeCasts_S4096x1024_S1x4096x1024 := by
  unfold_abbrev_sides
  after_results_simp
  rfl

theorem inGroups_apply (x : FVec Ideal S4096x5632 .bf16) (g : Fin 8) (n : Fin 4096) (r : Fin 704) :
    inGroups x (ix3 g n r) = (x (ix2 n (⟨g.val * 704 + r.val, by omega⟩ : Fin 5632)) : EReal) := by
  unfold inGroups; pointwise

theorem flat_apply (x : FVec Ideal S4096x1024 .bf16) (n : Fin 4096) (d : Fin 1024) :
    shapeCast S1x4096x1024 x shapeCasts_S4096x1024_S1x4096x1024 (ix3 (0 : Fin 1) n d) = (x (ix2 n d) : EReal) := by
  pointwise

end Cert.Kernel3Ideal.Wgrad

namespace Cert.Reference3Ideal.Wgrad
open Cert.Reference3Ideal Cert.Reference3Ideal.Gen Idealize.ShloMosaic

/-- The reference's result. -/
def out (h : FVec Ideal S4096x1024 .bf16) (du : FVec Ideal S4096x5632 .bf16) : FVec Ideal S8x704x1024 .bf16 :=
  truncf .bf16 (shapeCast _ (transpose S5632x1024 [1, 0] (transpose S1024x5632 [1, 0] (Host.dotGeneral (φ₁ := .f32) (φ₂ := .f32) dot_S4096x5632_S4096x1024_S5632x1024_0_0_1_1_n_n none (extf .f32 du bitsLt_bf16_f32) (extf .f32 h bitsLt_bf16_f32)) transposes_S5632x1024_S1024x5632_1_0) transposes_S1024x5632_S5632x1024_1_0) shapeCasts_S5632x1024_S8x704x1024) bitsLt_bf16_f32

theorem out_apply (h : FVec Ideal S4096x1024 .bf16) (du : FVec Ideal S4096x5632 .bf16) (g : Fin 8) (r : Fin 704) (d : Fin 1024) :
    out h du (ix3 g r d) = ∑ n : Fin 4096, (du (ix2 n (⟨g.val * 704 + r.val, by omega⟩ : Fin 5632)) : EReal) * h (ix2 n d) := by
  unfold out; pointwise

end Cert.Reference3Ideal.Wgrad

namespace Cert.Equation
open Idealize.ShloMosaic Cert.Blocks

/-- The two weight gradients are one array. -/
theorem wgrad_up {m : (ℓ : Loc Kernel3Ideal.nD Kernel3Ideal.τ Kernel3Ideal.sig) → Buf (Elt Ideal) ℓ} {c : Dev Kernel3Ideal.nD}
    {h : FVec Ideal Reference3Ideal.S4096x1024 .bf16} {du : FVec Ideal Reference3Ideal.S4096x5632 .bf16}
    (hh : h = m (c, Proc.tc.devRef Kernel3Ideal.main_arg0)) (hdu : du = m (c, Proc.tc.devRef Kernel3Ideal.main_arg1)) :
    Reference3Ideal.Wgrad.out h du = Kernel3Ideal.Value.G2 m c := by
  funext i
  have hi : i = ix3 (n0 := 8) (n1 := 704) (n2 := 1024) (i 0) (i 1) (i 2) := funext fun a => match a with | ⟨0, _⟩ => rfl | ⟨1, _⟩ => rfl | ⟨2, _⟩ => rfl
  rw [hi]
  refine (Reference3Ideal.Wgrad.out_apply h du (i 0) (i 1) (i 2)).trans (Eq.trans ?_ (Kernel3Ideal.Wgrad.whole (i 0) (i 1) (i 2)).symm)
  refine Finset.sum_congr rfl fun n _ => ?_
  unfold Kernel3Ideal.Wgrad.rowTerm
  rw [Kernel3Ideal.Wgrad.v1_eq, Kernel3Ideal.Wgrad.v2_eq, ← hh, ← hdu]
  exact (congrArg₂ mul (Kernel3Ideal.Wgrad.inGroups_apply du (i 0) n (i 1)) (Kernel3Ideal.Wgrad.flat_apply h n (i 2))).symm

end Cert.Equation
end
end
-- ==== Proof.DgradInPoint.lean ====
/-
  The input gradient of the input projection with the norm's gradient (`dgrad_in`): what each kind of grid point leaves in the
  three results' blocks, as values of the blocks it reads.
-/
module

public import proofs.«01_k».proof.Proof.Gen.Kernel4Ideal.Frame
public import Idealize.ShloMosaic.Lib.Pointwise

@[expose] public section
set_option maxRecDepth 16384
noncomputable section
namespace Cert.Kernel4Ideal.Dgrad
open Cert.Kernel4Ideal Idealize.ShloMosaic

theorem hz2 : (![0, 0] : Fin 2 → ℕ) = fun _ => 0 := funext fun a => by fin_cases a <;> rfl

section
variable {F : FTy → Type} [FloatOps F]

/-- The products of the first four column groups, added. -/
def six0 (x0 x1 x2 x3 : Vec F S512x512 .bf16) (x6 : Vec F S1024x3072 .bf16) : FVec F S512x1024 .f32 :=
  Gen.k0_pay4 x0 (View.ld x6 (Rect.unit ![0, 0] S1024x512.size Gen.inb_S1024x3072_S1024x512_0_0)) x1 (View.ld x6 (Rect.unit ![0, 512] S1024x512.size Gen.inb_S1024x3072_S1024x512_0_512))
    x2 (View.ld x6 (Rect.unit ![0, 1024] S1024x512.size Gen.inb_S1024x3072_S1024x512_0_1024)) x3 (View.ld x6 (Rect.unit ![0, 1536] S1024x512.size Gen.inb_S1024x3072_S1024x512_0_1536))

/-- The product of the fifth column group. -/
def fifth (x4 : Vec F S512x512 .bf16) (x6 : Vec F S1024x3072 .bf16) : FVec F S512x1024 .f32 :=
  Gen.k0_pay5 x4 (View.ld x6 (Rect.unit ![0, 2048] S1024x512.size Gen.inb_S1024x3072_S1024x512_0_2048))

/-- The weights of the sixth column group. -/
def sixth (x6 : Vec F S1024x3072 .bf16) : Vec F S1024x512 .bf16 :=
  View.ld x6 (Rect.unit ![0, 2560] S1024x512.size Gen.inb_S1024x3072_S1024x512_0_2560)

variable (c : Dev nD) (i : grid0.Coords) (arg1 : Memref sig .tc .vmem S512x512 .bf16) (harg1 : arg1.IsWhole)
  (arg2 : Memref sig .tc .vmem S512x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S1024x3072 .bf16) (harg7 : arg7.IsWhole)
  (arg8 : Memref sig .tc .vmem S512x1024 .f32) (harg8 : arg8.IsWhole)
  (arg9 : Memref sig .tc .vmem S1x1024 .f32) (harg9 : arg9.IsWhole)
  (arg10 : Memref sig .tc .vmem S512x1024 .f32) (harg10 : arg10.IsWhole)
  (arg12 : Memref sig .tc .vmem S512x1024 .f32) (harg12 : arg12.IsWhole)
  (arg13 : Memref sig .tc .vmem S1x1024 .f32) (harg13 : arg13.IsWhole)
  (arg14 : Memref sig .tc .vmem S1x1024 .f32) (harg14 : arg14.IsWhole)
variable (x0 x1 x2 x3 x4 x5 : Vec F S512x512 .bf16) (x6 : Vec F S1024x3072 .bf16) (x7 : Vec F S512x1024 .f32) (x8 : Vec F S1x1024 .f32)
  (x9 : Vec F S512x1024 .f32) (xo11 xo12 : Vec F S1x1024 .f32)

/-- The first point writes the gradient of its rows … -/
theorem out_A (hc0 : Gen.cond0_0 i) :
    Gen.out0_A_10 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9
      = Gen.k0_pay1 (Gen.k0_pay6 (six0 x0 x1 x2 x3 x6) (fifth x4 x6) x5 (sixth x6)) (Gen.k0_pay7 x7) (Gen.k0_pay8 x7) x9 x8 (Scalar.ofBits .f32 0x3F800000#32) := by
  unfold Gen.out0_A_10
  rw [View.read_writes_eq_canon _ _ _ (Gen.cover0_A_10 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9)]
  unfold Gen.kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x512) hz2, View.ld_unit_zero (S := S512x1024) hz2, View.ld_unit_zero (S := S1x1024) hz2]
  rfl

/-- … and starts the two sums over rows from zero. -/
theorem out_A_scale (hc0 : Gen.cond0_0 i) :
    Gen.out0_A_11 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9
      = Gen.k0_pay10 (six0 x0 x1 x2 x3 x6) (fifth x4 x6) x5 (sixth x6) x7 Gen.k0_pay2 := by
  unfold Gen.out0_A_11
  rw [View.read_writes_eq_canon _ _ _ (Gen.cover0_A_11 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9)]
  unfold Gen.kernelRun0_A
  dsimp only
  sl_unfold_words
  rw [View.canon_cons_unit_zero (S := S1x1024) hz2]
  simp only [View.readCov_unit_zero (S := S1x1024) _ hz2, View.readAt_eq_ld, harg1.read_unread, harg2.read_unread, harg3.read_unread, harg4.read_unread, harg5.read_unread, harg6.read_unread, harg7.read_unread, harg8.read_unread, harg9.read_unread, harg10.read_unread, View.ld_unit_zero (S := S512x512) hz2, View.ld_unit_zero (S := S512x1024) hz2, View.ld_unit_zero (S := S1x1024) hz2]
  rfl

/-- The first point's sum for the shifts. -/
theorem out_A_shift (hc0 : Gen.cond0_0 i) :
    Gen.out0_A_12 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9
      = Gen.k0_pay9 (six0 x0 x1 x2 x3 x6) (fifth x4 x6) x5 (sixth x6) Gen.k0_pay3 := by
  unfold Gen.out0_A_12
  rw [View.read_writes_eq_canon _ _ _ (Gen.cover0_A_12 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9)]
  unfold Gen.kernelRun0_A
  dsimp only
  sl_unfold_words
  rw [View.canon_cons_unit_zero (S := S1x1024) hz2]
  simp only [View.readCov_unit_zero (S := S1x1024) _ hz2, View.readAt_eq_ld, harg1.read_unread, harg2.read_unread, harg3.read_unread, harg4.read_unread, harg5.read_unread, harg6.read_unread, harg7.read_unread, harg8.read_unread, harg9.read_unread, harg10.read_unread, View.ld_unit_zero (S := S512x512) hz2, View.ld_unit_zero (S := S512x1024) hz2, View.ld_unit_zero (S := S1x1024) hz2]
  rfl

/-- A later point writes the gradient of its rows … -/
theorem out_B (hc0 : ¬Gen.cond0_0 i) :
    Gen.out0_B_10 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9 xo11 xo12
      = Gen.k0_pay1 (Gen.k0_pay6 (six0 x0 x1 x2 x3 x6) (fifth x4 x6) x5 (sixth x6)) (Gen.k0_pay7 x7) (Gen.k0_pay8 x7) x9 x8 (Scalar.ofBits .f32 0x3F800000#32) := by
  unfold Gen.out0_B_10
  rw [View.read_writes_eq_canon _ _ _ (Gen.cover0_B_10 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9 xo11 xo12)]
  unfold Gen.kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x512) hz2, View.ld_unit_zero (S := S512x1024) hz2, View.ld_unit_zero (S := S1x1024) hz2]
  rfl

/-- … and adds its rows to the two sums. -/
theorem out_B_scale (hc0 : ¬Gen.cond0_0 i) :
    Gen.out0_B_11 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9 xo11 xo12
      = Gen.k0_pay10 (six0 x0 x1 x2 x3 x6) (fifth x4 x6) x5 (sixth x6) x7 xo11 := by
  unfold Gen.out0_B_11
  rw [View.read_writes_eq_canon _ _ _ (Gen.cover0_B_11 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9 xo11 xo12)]
  unfold Gen.kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg13.read_unread, View.ld_unit_zero (S := S512x512) hz2, View.ld_unit_zero (S := S512x1024) hz2, View.ld_unit_zero (S := S1x1024) hz2]
  rfl

/-- A later point's sum for the shifts. -/
theorem out_B_shift (hc0 : ¬Gen.cond0_0 i) :
    Gen.out0_B_12 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9 xo11 xo12
      = Gen.k0_pay9 (six0 x0 x1 x2 x3 x6) (fifth x4 x6) x5 (sixth x6) xo12 := by
  unfold Gen.out0_B_12
  rw [View.read_writes_eq_canon _ _ _ (Gen.cover0_B_12 c i arg1 harg1 arg2 harg2 arg3 harg3 arg4 harg4 arg5 harg5 arg6 harg6 arg7 harg7 arg8 harg8 arg9 harg9 arg10 harg10 arg12 harg12 arg13 harg13 arg14 harg14 hc0 x0 x1 x2 x3 x4 x5 x6 x7 x8 x9 xo11 xo12)]
  unfold Gen.kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S512x512) hz2, View.ld_unit_zero (S := S512x1024) hz2, View.ld_unit_zero (S := S1x1024) hz2]
  rfl

end

end Cert.Kernel4Ideal.Dgrad
end
end
-- ==== Proof.DgradInEntries.lean ====
/-
  The values that `dgrad_in`'s points compute, entry by entry over the extended reals.
-/
module

public import proofs.«01_k».proof.Proof.DgradInPoint
public import proofs.«01_k».proof.Proof.DgradUpEntries

@[expose] public section
set_option maxRecDepth 16384
noncomputable section
namespace Cert.Kernel4Ideal.Dgrad
open Cert.Kernel4Ideal Idealize.ShloMosaic
open Cert.Kernel2Ideal.Dgrad (rootOf normGrad)

theorem zero_scale (d : Fin 1024) : (Gen.k0_pay2 (F := Ideal)) (ix2 (0 : Fin 1) d) = (0 : EReal) := by
  unfold Gen.k0_pay2; pointwise

theorem zero_shift (d : Fin 1024) : (Gen.k0_pay3 (F := Ideal)) (ix2 (0 : Fin 1) d) = (0 : EReal) := by
  unfold Gen.k0_pay3; pointwise

/-- The product of one column group at one entry. -/
def groupSum (x : Vec Ideal S512x512 .bf16) (w : Vec Ideal S1024x3072 .bf16) (o : ℕ) (ho : o + 512 ≤ 3072) (r : Fin 512) (d : Fin 1024) : EReal :=
  ∑ e : Fin 512, (x (ix2 r e) : EReal) * w (ix2 d (⟨o + e.val, by omega⟩ : Fin 3072))

theorem six0_apply (x0 x1 x2 x3 : Vec Ideal S512x512 .bf16) (w : Vec Ideal S1024x3072 .bf16) (r : Fin 512) (d : Fin 1024) :
    six0 x0 x1 x2 x3 w (ix2 r d) = groupSum x0 w 0 (by omega) r d + groupSum x1 w 512 (by omega) r d + groupSum x2 w 1024 (by omega) r d + groupSum x3 w 1536 (by omega) r d := by
  unfold six0 Gen.k0_pay4 groupSum
  pointwise

theorem fifth_apply (x : Vec Ideal S512x512 .bf16) (w : Vec Ideal S1024x3072 .bf16) (r : Fin 512) (d : Fin 1024) :
    fifth x w (ix2 r d) = groupSum x w 2048 (by omega) r d := by
  unfold fifth Gen.k0_pay5 groupSum
  pointwise

/-- The gradient of the projection's input. -/
theorem grad_apply (a b : Vec Ideal S512x1024 .f32) (x : Vec Ideal S512x512 .bf16) (w : Vec Ideal S1024x3072 .bf16) (r : Fin 512) (d : Fin 1024) :
    Gen.k0_pay6 a b x (sixth w) (ix2 r d) = (a (ix2 r d) : EReal) + b (ix2 r d) + groupSum x w 2560 (by omega) r d := by
  unfold sixth Gen.k0_pay6 groupSum
  pointwise

theorem root_apply (x : Vec Ideal S512x1024 .f32) (r : Fin 512) :
    Gen.k0_pay7 x (ix2 r (0 : Fin 1)) = rootOf fun k => x (ix2 r k) := by
  unfold Gen.k0_pay7 rootOf; pointwise

variable (a b : Vec Ideal S512x1024 .f32) (y : Vec Ideal S512x512 .bf16) (w : Vec Ideal S1024x512 .bf16)

theorem shift_apply (acc : Vec Ideal S1x1024 .f32) (d : Fin 1024) :
    Gen.k0_pay9 a b y w acc (ix2 (0 : Fin 1) d) = (acc (ix2 (0 : Fin 1) d) : EReal) + ∑ r : Fin 512, (Gen.k0_pay6 a b y w (ix2 r d) : EReal) := by
  unfold Gen.k0_pay9; generalize Gen.k0_pay6 a b y w = h; pointwise

theorem scale_apply (x : Vec Ideal S512x1024 .f32) (acc : Vec Ideal S1x1024 .f32) (d : Fin 1024) :
    Gen.k0_pay10 a b y w x acc (ix2 (0 : Fin 1) d)
      = (acc (ix2 (0 : Fin 1) d) : EReal) + ∑ r : Fin 512, (Gen.k0_pay6 a b y w (ix2 r d) : EReal) * ((x (ix2 r d) : EReal) * rootOf fun k => x (ix2 r k)) := by
  simp only [← root_apply]
  unfold Gen.k0_pay10 Gen.k0_pay8; generalize Gen.k0_pay6 a b y w = h; pointwise

theorem out_apply (h x up : Vec Ideal S512x1024 .f32) (sc : Vec Ideal S1x1024 .f32) (r : Fin 512) (d : Fin 1024) :
    Gen.k0_pay1 h (Gen.k0_pay7 x) (Gen.k0_pay8 x) up sc (Scalar.ofBits .f32 0x3F800000#32) (ix2 r d)
      = normGrad (up (ix2 r d)) (fun k => h (ix2 r k)) (fun k => sc (ix2 0 k)) (fun k => x (ix2 r k)) d := by
  unfold normGrad
  simp only [← root_apply]
  unfold Gen.k0_pay1 Gen.k0_pay8; pointwise

end Cert.Kernel4Ideal.Dgrad
end
end
-- ==== Proof.DgradInBlocks.lean ====
/-
  The blocks that `dgrad_in`'s points read: six column groups of the projection's gradient, the weights, the norm's input, its scales
  and what is added to its gradient.
-/
module

public import proofs.«01_k».proof.Proof.Gen.Kernel4Ideal.Value
public import Idealize.ShloMosaic.Lib.Pointwise
public import Idealize.ShloMosaic.Lib.Claim

@[expose] public section
set_option maxRecDepth 16384
noncomputable section
namespace Cert.Kernel4Ideal.Dgrad
open Cert.Kernel4Ideal Cert.Kernel4Ideal.Gen Idealize.ShloMosaic

variable (m : (ℓ : Loc nD τ sig) → Buf (Elt Ideal) ℓ) (c : Dev nD)

theorem points : cfg0.N = 8 := Gen.N_0

/-- The array's row at a point's row `r`. -/
def row (n : ℕ) (hn : n < cfg0.N) (r : Fin 512) : Fin 4096 := ⟨512 * n + r.val, by have := points; omega⟩

/-- The projection's gradient. -/
def dproj : FVec Ideal S4096x3072 .bf16 := m (c, Proc.tc.devRef main_arg4)

/-- 512 columns of it, from column `o`. -/
def columns (o : ℕ) (h : S4096x3072.Slices ![0, o] S4096x512) : FVec Ideal S4096x512 .bf16 := extractStridedSlice S4096x512 ![0, o] (dproj m c) h

theorem columns_apply (o : ℕ) (ho : o + 512 ≤ 3072) (h : S4096x3072.Slices ![0, o] S4096x512) (b : Fin 4096) (e : Fin 512) :
    columns m c o h (ix2 b e) = dproj m c (ix2 b (⟨o + e.val, by omega⟩ : Fin 3072)) :=
  congrArg (dproj m c) (funext fun a => Fin.ext (match a with | ⟨0, _⟩ => Nat.zero_add _ | ⟨1, _⟩ => rfl))

/-- An entry of an array that is 512 columns of the gradient. -/
theorem of_columns {A : FVec Ideal S4096x512 .bf16} {o : ℕ} {h : S4096x3072.Slices ![0, o] S4096x512} (hA : A = columns m c o h) (ho : o + 512 ≤ 3072)
    (t : Fin cfg0.N) (r e : Fin 512) (i : S4096x512.Idx) (h0 : (i 0).val = 512 * t.val + r.val) (h1 : (i 1).val = e.val) :
    A i = dproj m c (ix2 (row t.val t.isLt r) (⟨o + e.val, by omega⟩ : Fin 3072)) := by
  have hi : i = ix2 (row t.val t.isLt r) e := funext fun a => Fin.ext (match a with | ⟨0, _⟩ => h0 | ⟨1, _⟩ => h1)
  exact (congrArg A hi).trans ((congrFun hA _).trans (columns_apply m c o ho h _ e))

theorem v0_eq : Gen.V m c main_v0 = columns m c 0 slices_S4096x3072_S4096x512_0_0 := by
  unfold_abbrev_sides
  after_results_simp
  rfl

theorem index0 : ∀ t : Fin cfg0.N, win0_0.index t (0 : Fin 2) = t.val ∧ win0_0.index t (1 : Fin 2) = 0 :=
  (by decide +kernel : ∀ t : Fin grid0.N, _)

theorem block0 (t : Fin cfg0.N) (r e : Fin 512) :
    Gen.iblk m c 0 t (ix2 r e : S512x512.Idx) = dproj m c (ix2 (row t.val t.isLt r) (⟨0 + e.val, by omega⟩ : Fin 3072)) := by
  obtain ⟨e0, e1⟩ := index0 t
  refine of_columns m c (v0_eq m c) (by omega) t r e (((cfg0.win 0).blk t).view.emb (ix2 r e : S512x512.Idx)) ?_ ?_
  · show win0_0.index t (0 : Fin 2) * 512 + 1 * r.val = _; omega
  · show win0_0.index t (1 : Fin 2) * 512 + 1 * e.val = _; omega

theorem v1_eq : Gen.V m c main_v1 = columns m c 512 slices_S4096x3072_S4096x512_0_512 := by
  unfold_abbrev_sides
  after_results_simp
  rfl

theorem index1 : ∀ t : Fin cfg0.N, win0_1.index t (0 : Fin 2) = t.val ∧ win0_1.index t (1 : Fin 2) = 0 :=
  (by decide +kernel : ∀ t : Fin grid0.N, _)

theorem block1 (t : Fin cfg0.N) (r e : Fin 512) :
    Gen.iblk m c 1 t (ix2 r e : S512x512.Idx) = dproj m c (ix2 (row t.val t.isLt r) (⟨512 + e.val, by omega⟩ : Fin 3072)) := by
  obtain ⟨e0, e1⟩ := index1 t
  refine of_columns m c (v1_eq m c) (by omega) t r e (((cfg0.win 1).blk t).view.emb (ix2 r e : S512x512.Idx)) ?_ ?_
  · show win0_1.index t (0 : Fin 2) * 512 + 1 * r.val = _; omega
  · show win0_1.index t (1 : Fin 2) * 512 + 1 * e.val = _; omega

theorem v2_eq : Gen.V m c main_v2 = columns m c 1024 slices_S4096x3072_S4096x512_0_1024 := by
  unfold_abbrev_sides
  after_results_simp
  rfl

theorem index2 : ∀ t : Fin cfg0.N, win0_2.index t (0 : Fin 2) = t.val ∧ win0_2.index t (1 : Fin 2) = 0 :=
  (by decide +kernel : ∀ t : Fin grid0.N, _)

theorem block2 (t : Fin cfg0.N) (r e : Fin 512) :
    Gen.iblk m c 2 t (ix2 r e : S512x512.Idx) = dproj m c (ix2 (row t.val t.isLt r) (⟨1024 + e.val, by omega⟩ : Fin 3072)) := by
  obtain ⟨e0, e1⟩ := index2 t
  refine of_columns m c (v2_eq m c) (by omega) t r e (((cfg0.win 2).blk t).view.emb (ix2 r e : S512x512.Idx)) ?_ ?_
  · show win0_2.index t (0 : Fin 2) * 512 + 1 * r.val = _; omega
  · show win0_2.index t (1 : Fin 2) * 512 + 1 * e.val = _; omega

theorem v3_eq : Gen.V m c main_v3 = columns m c 1536 slices_S4096x3072_S4096x512_0_1536 := by
  unfold_abbrev_sides
  after_results_simp
  rfl

theorem index3 : ∀ t : Fin cfg0.N, win0_3.index t (0 : Fin 2) = t.val ∧ win0_3.index t (1 : Fin 2) = 0 :=
  (by decide +kernel : ∀ t : Fin grid0.N, _)

theorem block3 (t : Fin cfg0.N) (r e : Fin 512) :
    Gen.iblk m c 3 t (ix2 r e : S512x512.Idx) = dproj m c (ix2 (row t.val t.isLt r) (⟨1536 + e.val, by omega⟩ : Fin 3072)) := by
  obtain ⟨e0, e1⟩ := index3 t
  refine of_columns m c (v3_eq m c) (by omega) t r e (((cfg0.win 3).blk t).view.emb (ix2 r e : S512x512.Idx)) ?_ ?_
  · show win0_3.index t (0 : Fin 2) * 512 + 1 * r.val = _; omega
  · show win0_3.index t (1 : Fin 2) * 512 + 1 * e.val = _; omega

theorem v4_eq : Gen.V m c main_v4 = columns m c 2048 slices_S4096x3072_S4096x512_0_2048 := by
  unfold_abbrev_sides
  after_results_simp
  rfl

theorem index4 : ∀ t : Fin cfg0.N, win0_4.index t (0 : Fin 2) = t.val ∧ win0_4.index t (1 : Fin 2) = 0 :=
  (by decide +kernel : ∀ t : Fin grid0.N, _)

theorem block4 (t : Fin cfg0.N) (r e : Fin 512) :
    Gen.iblk m c 4 t (ix2 r e : S512x512.Idx) = dproj m c (ix2 (row t.val t.isLt r) (⟨2048 + e.val, by omega⟩ : Fin 3072)) := by
  obtain ⟨e0, e1⟩ := index4 t
  refine of_columns m c (v4_eq m c) (by omega) t r e (((cfg0.win 4).blk t).view.emb (ix2 r e : S512x512.Idx)) ?_ ?_
  · show win0_4.index t (0 : Fin 2) * 512 + 1 * r.val = _; omega
  · show win0_4.index t (1 : Fin 2) * 512 + 1 * e.val = _; omega

theorem v5_eq : Gen.V m c main_v5 = columns m c 2560 slices_S4096x3072_S4096x512_0_2560 := by
  unfold_abbrev_sides
  after_results_simp
  rfl

theorem index5 : ∀ t : Fin cfg0.N, win0_5.index t (0 : Fin 2) = t.val ∧ win0_5.index t (1 : Fin 2) = 0 :=
  (by decide +kernel : ∀ t : Fin grid0.N, _)

theorem block5 (t : Fin cfg0.N) (r e : Fin 512) :
    Gen.iblk m c 5 t (ix2 r e : S512x512.Idx) = dproj m c (ix2 (row t.val t.isLt r) (⟨2560 + e.val, by omega⟩ : Fin 3072)) := by
  obtain ⟨e0, e1⟩ := index5 t
  refine of_columns m c (v5_eq m c) (by omega) t r e (((cfg0.win 5).blk t).view.emb (ix2 r e : S512x512.Idx)) ?_ ?_
  · show win0_5.index t (0 : Fin 2) * 512 + 1 * r.val = _; omega
  · show win0_5.index t (1 : Fin 2) * 512 + 1 * e.val = _; omega

theorem index6 : ∀ t : Fin cfg0.N, win0_6.index t (0 : Fin 2) = 0 ∧ win0_6.index t (1 : Fin 2) = 0 :=
  (by decide +kernel : ∀ t : Fin grid0.N, _)

theorem block6 (t : Fin cfg0.N) (d : Fin 1024) (j : Fin 3072) :
    Gen.iblk m c 6 t (ix2 d j : S1024x3072.Idx) = Gen.V m c main_v6 (ix2 d j) := by
  obtain ⟨e0, e1⟩ := index6 t
  refine congrArg (Gen.V m c main_v6) (funext fun x => Fin.ext ?_)
  match x with
  | ⟨0, _⟩ => show win0_6.index t (0 : Fin 2) * 1024 + 1 * d.val = d.val; rw [e0]; omega
  | ⟨1, _⟩ => show win0_6.index t (1 : Fin 2) * 3072 + 1 * j.val = j.val; rw [e1]; omega

theorem index7 : ∀ t : Fin cfg0.N, win0_7.index t (0 : Fin 2) = t.val ∧ win0_7.index t (1 : Fin 2) = 0 :=
  (by decide +kernel : ∀ t : Fin grid0.N, _)

theorem block7 (t : Fin cfg0.N) (r : Fin 512) (d : Fin 1024) :
    Gen.iblk m c 7 t (ix2 r d : S512x1024.Idx) = Gen.V m c main_arg0 (ix2 (row t.val t.isLt r) d) := by
  obtain ⟨e0, e1⟩ := index7 t
  refine congrArg (Gen.V m c main_arg0) (funext fun x => Fin.ext ?_)
  match x with
  | ⟨0, _⟩ => show win0_7.index t (0 : Fin 2) * 512 + 1 * r.val = 512 * t.val + r.val; rw [e0]; omega
  | ⟨1, _⟩ => show win0_7.index t (1 : Fin 2) * 1024 + 1 * d.val = d.val; rw [e1]; omega

theorem index8 : ∀ t : Fin cfg0.N, win0_8.index t (0 : Fin 2) = 0 ∧ win0_8.index t (1 : Fin 2) = 0 :=
  (by decide +kernel : ∀ t : Fin grid0.N, _)

theorem block8 (t : Fin cfg0.N) (d : Fin 1024) :
    Gen.iblk m c 8 t (ix2 (0 : Fin 1) d : S1x1024.Idx) = Gen.V m c main_arg2 (ix2 (0 : Fin 1) d) := by
  obtain ⟨e0, e1⟩ := index8 t
  refine congrArg (Gen.V m c main_arg2) (funext fun x => Fin.ext ?_)
  match x with
  | ⟨0, _⟩ => show win0_8.index t (0 : Fin 2) * 1 + 1 * 0 = 0; omega
  | ⟨1, _⟩ => show win0_8.index t (1 : Fin 2) * 1024 + 1 * d.val = d.val; rw [e1]; omega

theorem index9 : ∀ t : Fin cfg0.N, win0_9.index t (0 : Fin 2) = t.val ∧ win0_9.index t (1 : Fin 2) = 0 :=
  (by decide +kernel : ∀ t : Fin grid0.N, _)

theorem block9 (t : Fin cfg0.N) (r : Fin 512) (d : Fin 1024) :
    Gen.iblk m c 9 t (ix2 r d : S512x1024.Idx) = Gen.V m c main_arg5 (ix2 (row t.val t.isLt r) d) := by
  obtain ⟨e0, e1⟩ := index9 t
  refine congrArg (Gen.V m c main_arg5) (funext fun x => Fin.ext ?_)
  match x with
  | ⟨0, _⟩ => show win0_9.index t (0 : Fin 2) * 512 + 1 * r.val = 512 * t.val + r.val; rw [e0]; omega
  | ⟨1, _⟩ => show win0_9.index t (1 : Fin 2) * 1024 + 1 * d.val = d.val; rw [e1]; omega

end Cert.Kernel4Ideal.Dgrad
end
end
-- ==== Proof.DgradInValue.lean ====
/-
  `dgrad_in`: what the three results' blocks hold after each grid point.
-/
module

public import proofs.«01_k».proof.Proof.DgradInEntries
public import proofs.«01_k».proof.Proof.DgradInBlocks
public import proofs.«01_k».proof.Proof.Blocks

@[expose] public section
set_option maxRecDepth 16384
noncomputable section
namespace Cert.Kernel4Ideal.Dgrad
open Cert.Kernel4Ideal Idealize.ShloMosaic Cert.Blocks
open Cert.Kernel2Ideal.Dgrad (rootOf normGrad)

variable (m : (ℓ : Loc nD τ sig) → Buf (Elt Ideal) ℓ) (c : Dev nD)

/-- The product of column `j` in the gradient of the projection's input. -/
def colTerm (b : Fin 4096) (d : Fin 1024) (j : Fin 3072) : EReal := mul (dproj m c (ix2 b j)) (Gen.V m c main_v6 (ix2 d j))

/-- The gradient of the projection's input. -/
def dh (b : Fin 4096) (d : Fin 1024) : EReal := ∑ j, colTerm m c b d j

/-- A row of the norm's input. -/
def inRow (b : Fin 4096) (k : Fin 1024) : EReal := Gen.V m c main_arg0 (ix2 b k)

/-- The scales of the norm. -/
def scales (k : Fin 1024) : EReal := Gen.V m c main_arg2 (ix2 (0 : Fin 1) k)

/-- The gradient that a point computes for its rows. -/
def grad (t : Fin cfg0.N) : Vec Ideal S512x1024 .f32 :=
  Gen.k0_pay6 (six0 (Gen.iblk m c 0 t) (Gen.iblk m c 1 t) (Gen.iblk m c 2 t) (Gen.iblk m c 3 t) (Gen.iblk m c 6 t)) (fifth (Gen.iblk m c 4 t) (Gen.iblk m c 6 t)) (Gen.iblk m c 5 t) (sixth (Gen.iblk m c 6 t))

variable {m c}

/-- One column group's product is its columns' share of the gradient. -/
theorem group (t : Fin cfg0.N) (x : Vec Ideal S512x512 .bf16) (o : ℕ) (ho : o + 512 ≤ 3072) (r : Fin 512) (d : Fin 1024)
    (hx : ∀ e : Fin 512, x (ix2 r e) = dproj m c (ix2 (row t.val t.isLt r) (⟨o + e.val, by omega⟩ : Fin 3072))) :
    groupSum x (Gen.iblk m c 6 t) o ho r d = ∑ e : Fin 512, pad (colTerm m c (row t.val t.isLt r) d) (o + e.val) := by
  refine Finset.sum_congr rfl fun e _ => ?_
  rw [pad_eq _ (⟨o + e.val, by omega⟩ : Fin 3072) rfl]
  exact congrArg₂ mul (hx e) (block6 m c t d _)

/-- A sum over 3072 columns, group by group. -/
theorem six (f : ℕ → EReal) : upto f 3072 = (∑ e : Fin 512, f (0 + e)) + (∑ e : Fin 512, f (512 + e)) + (∑ e : Fin 512, f (1024 + e)) + (∑ e : Fin 512, f (1536 + e))
    + (∑ e : Fin 512, f (2048 + e)) + ∑ e : Fin 512, f (2560 + e) := by
  have a1 : upto f 512 = upto f 0 + ∑ e : Fin 512, f (0 + e) := upto_add f 0 512
  have a2 : upto f 1024 = upto f 512 + ∑ e : Fin 512, f (512 + e) := upto_add f 512 512
  have a3 : upto f 1536 = upto f 1024 + ∑ e : Fin 512, f (1024 + e) := upto_add f 1024 512
  have a4 : upto f 2048 = upto f 1536 + ∑ e : Fin 512, f (1536 + e) := upto_add f 1536 512
  have a5 : upto f 2560 = upto f 2048 + ∑ e : Fin 512, f (2048 + e) := upto_add f 2048 512
  have a6 : upto f 3072 = upto f 2560 + ∑ e : Fin 512, f (2560 + e) := upto_add f 2560 512
  rw [a6, a5, a4, a3, a2, a1, upto_zero, zero_add]

/-- A point has the whole gradient of its rows. -/
theorem grad_eq (t : Fin cfg0.N) (r : Fin 512) (d : Fin 1024) : (grad m c t (ix2 r d) : EReal) = dh m c (row t.val t.isLt r) d := by
  unfold grad
  rw [grad_apply, six0_apply, fifth_apply, group t _ 0 _ r d (block0 m c t r), group t _ 512 _ r d (block1 m c t r), group t _ 1024 _ r d (block2 m c t r),
    group t _ 1536 _ r d (block3 m c t r), group t _ 2048 _ r d (block4 m c t r), group t _ 2560 _ r d (block5 m c t r), ← six, upto_pad]
  rfl

theorem inRow_eq (t : Fin cfg0.N) (r : Fin 512) : (fun k => (Gen.iblk m c 7 t (ix2 r k : S512x1024.Idx) : EReal)) = inRow m c (row t.val t.isLt r) :=
  funext fun k => block7 m c t r k

/-- The rows of point `t` in the sum for the shifts. -/
theorem shift_rows (t : Fin cfg0.N) (d : Fin 1024) :
    (∑ r : Fin 512, (grad m c t (ix2 r d) : EReal)) = ∑ r : Fin 512, pad (fun b => dh m c b d) (512 * t.val + r.val) :=
  Finset.sum_congr rfl fun r _ => by
    rw [pad_eq _ (row t.val t.isLt r) (show 512 * t.val + r.val = (row t.val t.isLt r).val from rfl)]
    exact grad_eq t r d

theorem shift (d : Fin 1024) : ∀ (n : ℕ) (hn : n < cfg0.N),
    ((Gen.outsAt0 m c n hn).2.2 (ix2 (0 : Fin 1) d) : EReal) = upto (pad fun b => dh m c b d) (512 * n + 512) := by
  intro n
  induction n with
  | zero =>
    intro hn
    rw [Gen.outsAt0_A m c ⟨0, hn⟩ rfl]
    dsimp only
    rw [out_A_shift, upto_add, upto_zero]
    refine (shift_apply _ _ _ _ _ d).trans ?_
    rw [zero_shift]
    exact congrArg _ (shift_rows ⟨0, hn⟩ d)
  | succ n ih =>
    intro hn
    have hN := points
    have hp := ih (Nat.lt_of_succ_lt hn)
    rw [Gen.outsAt0_B m c ⟨n + 1, hn⟩ (by dsimp only; omega)]
    dsimp only
    rw [out_B_shift, upto_add]
    refine (shift_apply _ _ _ _ _ d).trans ?_
    exact congrArg₂ (· + ·) (hp.trans (congrArg _ (by omega))) (shift_rows ⟨n + 1, hn⟩ d)

/-- The rows of point `t` in the sum for the scales. -/
theorem scale_rows (t : Fin cfg0.N) (d : Fin 1024) :
    (∑ r : Fin 512, mul (grad m c t (ix2 r d)) (mul (Gen.iblk m c 7 t (ix2 r d : S512x1024.Idx)) (rootOf fun k => Gen.iblk m c 7 t (ix2 r k : S512x1024.Idx))))
      = ∑ r : Fin 512, pad (fun b => dh m c b d * (inRow m c b d * rootOf (inRow m c b))) (512 * t.val + r.val) :=
  Finset.sum_congr rfl fun r _ => by
    rw [pad_eq _ (row t.val t.isLt r) (show 512 * t.val + r.val = (row t.val t.isLt r).val from rfl)]
    exact congrArg₂ mul (grad_eq t r d) (congrArg₂ mul (block7 m c t r d) (congrArg rootOf (inRow_eq t r)))

theorem scale (d : Fin 1024) : ∀ (n : ℕ) (hn : n < cfg0.N),
    ((Gen.outsAt0 m c n hn).2.1 (ix2 (0 : Fin 1) d) : EReal)
      = upto (pad fun b => dh m c b d * (inRow m c b d * rootOf (inRow m c b))) (512 * n + 512) := by
  intro n
  induction n with
  | zero =>
    intro hn
    rw [Gen.outsAt0_A m c ⟨0, hn⟩ rfl]
    dsimp only
    rw [out_A_scale, upto_add, upto_zero]
    refine (scale_apply _ _ _ _ _ _ d).trans ?_
    rw [zero_scale]
    exact congrArg _ (scale_rows ⟨0, hn⟩ d)
  | succ n ih =>
    intro hn
    have hN := points
    have hp := ih (Nat.lt_of_succ_lt hn)
    rw [Gen.outsAt0_B m c ⟨n + 1, hn⟩ (by dsimp only; omega)]
    dsimp only
    rw [out_B_scale, upto_add]
    refine (scale_apply _ _ _ _ _ _ d).trans ?_
    exact congrArg₂ (· + ·) (hp.trans (congrArg _ (by omega))) (scale_rows ⟨n + 1, hn⟩ d)

/-- What a point writes as the gradient of the norm's input. -/
theorem norm_rows (t : Fin cfg0.N) (r : Fin 512) (d : Fin 1024) :
    (Gen.k0_pay1 (grad m c t) (Gen.k0_pay7 (Gen.iblk m c 7 t)) (Gen.k0_pay8 (Gen.iblk m c 7 t)) (Gen.iblk m c 9 t) (Gen.iblk m c 8 t) (Scalar.ofBits .f32 0x3F800000#32) (ix2 r d) : EReal)
      = normGrad (Gen.V m c main_arg5 (ix2 (row t.val t.isLt r) d)) (dh m c (row t.val t.isLt r)) (scales m c) (inRow m c (row t.val t.isLt r)) d := by
  refine (out_apply _ _ _ _ r d).trans ?_
  have ea : (fun k => (grad m c t (ix2 r k) : EReal)) = dh m c (row t.val t.isLt r) := funext fun k => grad_eq t r k
  have eb : (fun k => (Gen.iblk m c 8 t (ix2 (0 : Fin 1) k : S1x1024.Idx) : EReal)) = scales m c := funext fun k => block8 m c t k
  have ec := inRow_eq (m := m) (c := c) t r
  have ed := block9 m c t r d
  exact congr (congr (congr (congrArg normGrad ed) ea) eb) ec ▸ rfl

theorem written (n : ℕ) (hn : n < cfg0.N) (r : Fin 512) (d : Fin 1024) :
    ((Gen.outsAt0 m c n hn).1 (ix2 r d) : EReal)
      = normGrad (Gen.V m c main_arg5 (ix2 (row n hn r) d)) (dh m c (row n hn r)) (scales m c) (inRow m c (row n hn r)) d := by
  by_cases h : n % 8 = 0
  · rw [Gen.outsAt0_A m c ⟨n, hn⟩ h]
    dsimp only
    rw [out_A]
    exact norm_rows ⟨n, hn⟩ r d
  · rw [Gen.outsAt0_B m c ⟨n, hn⟩ h]
    dsimp only
    rw [out_B]
    exact norm_rows ⟨n, hn⟩ r d

end Cert.Kernel4Ideal.Dgrad
end
end
-- ==== Proof.DgradInResults.lean ====
/-
  The three arrays that `dgrad_in` leaves: the norm's input gradient block by block, and the two sums over all rows, written
  once at the end.
-/
module

public import proofs.«01_k».proof.Proof.DgradInValue

@[expose] public section
set_option maxRecDepth 16384
noncomputable section
namespace Cert.Kernel4Ideal.Dgrad
open Cert.Kernel2Ideal.Dgrad (rootOf normGrad)
open Cert.Kernel4Ideal Idealize.ShloMosaic Idealize.ShloMosaic.TcCoe Idealize.SL.Sem Cert.Blocks

variable (m : (ℓ : Loc nD τ sig) → Buf (Elt Ideal) ℓ) (c : Dev nD)

/-- The gradient of the norm's input. -/
def inputGrad : Vec Ideal S4096x1024 .f32 := fun i =>
  normGrad (Gen.V m c main_arg5 (ix2 (n0 := 4096) (n1 := 1024) (i 0) (i 1))) (dh m c (i 0)) (scales m c) (inRow m c (i 0)) (i 1)

/-- The gradient of the scales. -/
def scaleGrad : Vec Ideal S1x1024 .f32 := fun i => ∑ b, dh m c b (i 1) * (inRow m c b (i 1) * rootOf (inRow m c b))

/-- The gradient of the shifts. -/
def shiftGrad : Vec Ideal S1x1024 .f32 := fun i => ∑ b, dh m c b (i 1)

theorem index10 : ∀ t : Fin cfg0.N, win0_10.index t (0 : Fin 2) = t.val ∧ win0_10.index t (1 : Fin 2) = 0 :=
  (by decide +kernel : ∀ t : Fin grid0.N, _)

theorem index11 : ∀ t : Fin cfg0.N, win0_11.index t (0 : Fin 2) = 0 ∧ win0_11.index t (1 : Fin 2) = 0 :=
  (by decide +kernel : ∀ t : Fin grid0.N, _)

theorem index12 : ∀ t : Fin cfg0.N, win0_12.index t (0 : Fin 2) = 0 ∧ win0_12.index t (1 : Fin 2) = 0 :=
  (by decide +kernel : ∀ t : Fin grid0.N, _)

theorem flushed_input (t : Fin cfg0.N) (hf : (cfg0.win 10).flush t = true) :
    (Gen.dats m 0 c).flushed 10 t = ((cfg0.win 10).blk t).view.read (Elt Ideal) (inputGrad m c) := by
  obtain ⟨e0, e1⟩ := index10 t
  rw [Value.flushed10]
  funext y
  refine Eq.trans (b := ((Gen.outsAt0 m c t.val t.isLt).1 (ix2 (n0 := 512) (n1 := 1024) (y 0) (y 1)) : EReal)) ?_ ?_
  · exact congrArg (Gen.outsAt0 m c t.val t.isLt).1 (funext fun a => match a with | ⟨0, _⟩ => rfl | ⟨1, _⟩ => rfl)
  refine (written t.val t.isLt (y 0) (y 1)).trans ?_
  have h0 : ((cfg0.win 10).blk t).view.emb y 0 = row t.val t.isLt (y 0) :=
    Fin.ext (by show win0_10.index t (0 : Fin 2) * 512 + 1 * (y 0).val = 512 * t.val + (y 0).val; rw [e0]; omega)
  have h1 : ((cfg0.win 10).blk t).view.emb y 1 = y 1 :=
    Fin.ext (by show win0_10.index t (1 : Fin 2) * 1024 + 1 * (y 1).val = (y 1).val; rw [e1]; omega)
  show _ = inputGrad m c (((cfg0.win 10).blk t).view.emb y)
  unfold inputGrad
  rw [h0, h1]

theorem final_input : (Gen.dats m 0 c).arrAt 10 cfg0.N = inputGrad m c :=
  (Gen.dats m 0 c).arrAt_eq_of_cover 10 _ (flushed_input m c) fun i => by
    have hN := points
    have h0 : (i 0).val < 4096 := (i 0).isLt
    have h1 : (i 1).val < 1024 := (i 1).isLt
    have ht : (i 0).val / 512 < cfg0.N := by omega
    obtain ⟨e0, e1⟩ := index10 ⟨_, ht⟩
    refine ⟨⟨_, ht⟩, Gen.flush0_10 _, ?_⟩
    show i ∈ ((View.whole main_v8_0).slice (win0_10.rect ⟨_, ht⟩)).set
    rw [View.set_slice_whole, Rect.mem_set_unit]
    intro a
    match a with
    | ⟨0, _⟩ => show win0_10.index ⟨_, ht⟩ (0 : Fin 2) * 512 ≤ (i 0).val ∧ (i 0).val < win0_10.index ⟨_, ht⟩ (0 : Fin 2) * 512 + 512; rw [e0]; dsimp only; omega
    | ⟨1, _⟩ => show win0_10.index ⟨_, ht⟩ (1 : Fin 2) * 1024 ≤ (i 1).val ∧ (i 1).val < win0_10.index ⟨_, ht⟩ (1 : Fin 2) * 1024 + 1024; rw [e1]; omega

theorem flushed_scale (t : Fin cfg0.N) (hf : (cfg0.win 11).flush t = true) :
    (Gen.dats m 0 c).flushed 11 t = ((cfg0.win 11).blk t).view.read (Elt Ideal) (scaleGrad m c) := by
  obtain ⟨e0, e1⟩ := index11 t
  have hm : t.val % 8 = 7 := (Gen.flush0_11 t).mp hf
  have hN := points
  have hlt := t.isLt
  rw [Value.flushed11]
  funext y
  have hy : (y 0).val < 1 := (y 0).isLt
  refine Eq.trans (b := ((Gen.outsAt0 m c t.val t.isLt).2.1 (ix2 (0 : Fin 1) (n1 := 1024) (y 1)) : EReal)) ?_ ?_
  · exact congrArg (Gen.outsAt0 m c t.val t.isLt).2.1 (funext fun a => match a with | ⟨0, _⟩ => Fin.ext (by show (y 0).val = 0; omega) | ⟨1, _⟩ => rfl)
  refine (scale (y 1) t.val t.isLt).trans ?_
  rw [show 512 * t.val + 512 = 4096 by omega, upto_pad]
  have h1 : ((cfg0.win 11).blk t).view.emb y 1 = y 1 :=
    Fin.ext (by show win0_11.index t (1 : Fin 2) * 1024 + 1 * (y 1).val = (y 1).val; rw [e1]; omega)
  show _ = scaleGrad m c (((cfg0.win 11).blk t).view.emb y)
  unfold scaleGrad
  rw [h1]

theorem final_scale : (Gen.dats m 0 c).arrAt 11 cfg0.N = scaleGrad m c :=
  (Gen.dats m 0 c).arrAt_eq_of_cover 11 _ (flushed_scale m c) fun i => by
    have hN := points
    have h0 : (i 0).val < 1 := (i 0).isLt
    have h1 : (i 1).val < 1024 := (i 1).isLt
    have ht : 7 < cfg0.N := by omega
    obtain ⟨e0, e1⟩ := index11 ⟨_, ht⟩
    refine ⟨⟨_, ht⟩, (Gen.flush0_11 _).mpr rfl, ?_⟩
    show i ∈ ((View.whole main_v8_1).slice (win0_11.rect ⟨_, ht⟩)).set
    rw [View.set_slice_whole, Rect.mem_set_unit]
    intro a
    match a with
    | ⟨0, _⟩ => show win0_11.index ⟨_, ht⟩ (0 : Fin 2) * 1 ≤ (i 0).val ∧ (i 0).val < win0_11.index ⟨_, ht⟩ (0 : Fin 2) * 1 + 1; rw [e0]; omega
    | ⟨1, _⟩ => show win0_11.index ⟨_, ht⟩ (1 : Fin 2) * 1024 ≤ (i 1).val ∧ (i 1).val < win0_11.index ⟨_, ht⟩ (1 : Fin 2) * 1024 + 1024; rw [e1]; omega

theorem flushed_shift (t : Fin cfg0.N) (hf : (cfg0.win 12).flush t = true) :
    (Gen.dats m 0 c).flushed 12 t = ((cfg0.win 12).blk t).view.read (Elt Ideal) (shiftGrad m c) := by
  obtain ⟨e0, e1⟩ := index12 t
  have hm : t.val % 8 = 7 := (Gen.flush0_12 t).mp hf
  have hN := points
  have hlt := t.isLt
  rw [Value.flushed12]
  funext y
  have hy : (y 0).val < 1 := (y 0).isLt
  refine Eq.trans (b := ((Gen.outsAt0 m c t.val t.isLt).2.2 (ix2 (0 : Fin 1) (n1 := 1024) (y 1)) : EReal)) ?_ ?_
  · exact congrArg (Gen.outsAt0 m c t.val t.isLt).2.2 (funext fun a => match a with | ⟨0, _⟩ => Fin.ext (by show (y 0).val = 0; omega) | ⟨1, _⟩ => rfl)
  refine (shift (y 1) t.val t.isLt).trans ?_
  rw [show 512 * t.val + 512 = 4096 by omega, upto_pad]
  have h1 : ((cfg0.win 12).blk t).view.emb y 1 = y 1 :=
    Fin.ext (by show win0_12.index t (1 : Fin 2) * 1024 + 1 * (y 1).val = (y 1).val; rw [e1]; omega)
  show _ = shiftGrad m c (((cfg0.win 12).blk t).view.emb y)
  unfold shiftGrad
  rw [h1]

theorem final_shift : (Gen.dats m 0 c).arrAt 12 cfg0.N = shiftGrad m c :=
  (Gen.dats m 0 c).arrAt_eq_of_cover 12 _ (flushed_shift m c) fun i => by
    have hN := points
    have h0 : (i 0).val < 1 := (i 0).isLt
    have h1 : (i 1).val < 1024 := (i 1).isLt
    have ht : 7 < cfg0.N := by omega
    obtain ⟨e0, e1⟩ := index12 ⟨_, ht⟩
    refine ⟨⟨_, ht⟩, (Gen.flush0_12 _).mpr rfl, ?_⟩
    show i ∈ ((View.whole main_v8_2).slice (win0_12.rect ⟨_, ht⟩)).set
    rw [View.set_slice_whole, Rect.mem_set_unit]
    intro a
    match a with
    | ⟨0, _⟩ => show win0_12.index ⟨_, ht⟩ (0 : Fin 2) * 1 ≤ (i 0).val ∧ (i 0).val < win0_12.index ⟨_, ht⟩ (0 : Fin 2) * 1 + 1; rw [e0]; omega
    | ⟨1, _⟩ => show win0_12.index ⟨_, ht⟩ (1 : Fin 2) * 1024 ≤ (i 1).val ∧ (i 1).val < win0_12.index ⟨_, ht⟩ (1 : Fin 2) * 1024 + 1024; rw [e1]; omega

end Cert.Kernel4Ideal.Dgrad
end
end
-- ==== Proof.DgradInReference.lean ====
/-
  The reference of `dgrad_in` read entry by entry: jax's gradient of the norm and the projection that follows it.
-/
module

public import proofs.«01_k».proof.Proof.Gen.Reference4Ideal.Run
public import Idealize.ShloMosaic.Lib.Pointwise
public import Idealize.ShloMosaic.Lib.Claim

@[expose] public section
set_option maxRecDepth 16384
noncomputable section
namespace Cert.Reference4Ideal.Dgrad
open Cert.Reference4Ideal Cert.Reference4Ideal.Gen Idealize.ShloMosaic

variable (x up : FVec Ideal S4096x1024 .f32) (sc : FVec Ideal S1x1024 .f32) (w : FVec Ideal S1024x3072 .f32) (du : FVec Ideal S4096x3072 .bf16)

/-- The norm's input under a leading axis of one. -/
def input : FVec Ideal S1x4096x1024 .f32 := broadcastInDim S1x4096x1024 ![1, 2] bcast_S4096x1024_S1x4096x1024_1_2 x

/-- The gradient of the projection's input. -/
def proj : FVec Ideal S1x4096x1024 .f32 :=
  Host.dotGeneral (φ₁ := .f32) (φ₂ := .f32) dot_S1x4096x3072_S1024x3072_S1x4096x1024_2_1_01_0_n_n none (broadcastInDim S1x4096x3072 ![1, 2] bcast_S4096x3072_S1x4096x3072_1_2 (extf .f32 du bitsLt_bf16_f32)) w

/-- Each row's mean square and the small constant. -/
def mean : FVec Ideal S1x4096x1 .f32 :=
  addf (Host.divf (broadcastInDim S1x4096x1 ![0, 1] bcast_S1x4096_S1x4096x1_0_1 (Host.reduceAdd (mulf (input x) (input x)) (constant S_ .f32 0x00000000#32) reducesTo_S1x4096x1024_S1x4096_d2 h_S_)) (broadcastInDim S1x4096x1 ![] bcast_S_S1x4096x1 (constant S_ .f32 0x44800000#32))) (broadcastInDim S1x4096x1 ![] bcast_S_S1x4096x1 (constant S_ .f32 0x358637BD#32))

/-- The gradient of the normalised row. -/
def norm : FVec Ideal S1x4096x1024 .f32 :=
  mulf (proj w du) (broadcastInDim S1x4096x1024 ![0, 1, 2] bcast_S1x1x1024_S1x4096x1024_0_1_2 (addf (broadcastInDim S1x1x1024 ![] bcast_S_S1x1x1024 (constant S_ .f32 0x3F800000#32)) (broadcastInDim S1x1x1024 ![0, 2] bcast_S1x1024_S1x1x1024_0_2 sc)))

/-- What comes back through the root to the mean square, over the row's length. -/
def through : FVec Ideal S1x4096x1 .f32 :=
  Host.divf (mulf (shapeCast S1x4096x1 (Host.reduceAdd (mulf (input x) (norm sc w du)) (constant S_ .f32 0x00000000#32) reducesTo_S1x4096x1024_S1x4096_d2 h_S_) shapeCasts_S1x4096_S1x4096x1) (mulf (broadcastInDim S1x4096x1 ![] bcast_S_S1x4096x1 (constant S_ .f32 0xBF000000#32)) (Host.divf (Host.rsqrt (mean x)) (mean x)))) (broadcastInDim S1x4096x1 ![] bcast_S_S1x4096x1 (constant S_ .f32 0x44800000#32))

def spread : FVec Ideal S1x4096x1024 .f32 :=
  broadcastInDim S1x4096x1024 ![0, 1] bcast_S1x4096_S1x4096x1024_0_1 (broadcastInDim S1x4096 ![1] bcast_S4096_S1x4096_1 (Host.reduceAdd (through x sc w du) (constant S_ .f32 0x00000000#32) reducesTo_S1x4096x1_S4096_d0_2 h_S_))

/-- The gradient of the norm's input. -/
def inputGrad : FVec Ideal S4096x1024 .f32 :=
  addf up (Host.reduceAdd (addf (addf (mulf (norm sc w du) (broadcastInDim S1x4096x1024 ![0, 1, 2] bcast_S1x4096x1_S1x4096x1024_0_1_2 (Host.rsqrt (mean x)))) (mulf (input x) (spread x sc w du))) (mulf (spread x sc w du) (input x))) (constant S_ .f32 0x00000000#32) reducesTo_S1x4096x1024_S4096x1024_d0 h_S_)

/-- The gradient of the scales. -/
def scaleGrad : FVec Ideal S1x1024 .f32 :=
  broadcastInDim S1x1024 ![1] bcast_S1024_S1x1024_1 (Host.reduceAdd (shapeCast S1x1x1024 (Host.reduceAdd (mulf (mulf (input x) (broadcastInDim S1x4096x1024 ![0, 1, 2] bcast_S1x4096x1_S1x4096x1024_0_1_2 (Host.rsqrt (mean x)))) (proj w du)) (constant S_ .f32 0x00000000#32) reducesTo_S1x4096x1024_S1x1024_d1 h_S_) shapeCasts_S1x1024_S1x1x1024) (constant S_ .f32 0x00000000#32) reducesTo_S1x1x1024_S1024_d0_1 h_S_)

/-- The gradient of the shifts. -/
def shiftGrad : FVec Ideal S1x1024 .f32 :=
  broadcastInDim S1x1024 ![1] bcast_S1024_S1x1024_1 (Host.reduceAdd (shapeCast S1x1x1024 (Host.reduceAdd (proj w du) (constant S_ .f32 0x00000000#32) reducesTo_S1x4096x1024_S1x1024_d1 h_S_) shapeCasts_S1x1024_S1x1x1024) (constant S_ .f32 0x00000000#32) reducesTo_S1x1x1024_S1024_d0_1 h_S_)

/-- The reference's first result is `inputGrad` of its arguments. -/
theorem res_eq (m : (ℓ : Loc nD τ sig) → Buf (Elt Ideal) ℓ) (c : Dev nD) :
    Value.res_main_v54 m c = inputGrad (m ((c.tc : Thread nD τ).loc main_arg0)) (m ((c.tc : Thread nD τ).loc main_arg5)) (m ((c.tc : Thread nD τ).loc main_arg2)) (m ((c.tc : Thread nD τ).loc main_arg3)) (m ((c.tc : Thread nD τ).loc main_arg4)) := rfl

/-- A sum over axes of one element reads that element. -/
theorem reduce_col (h : S1x4096x1.ReducesTo [0, 2] S4096) (v : S1x4096x1.Idx → EReal) (a : EReal) (n : Fin 4096) :
    Ideal.hostReduceAdd h v a (ix1 n) = a + v (ix3 (0 : Fin 1) n (0 : Fin 1)) := by
  have e : Finset.univ.filter (fun i => h.drop i = ix1 n) = {ix3 (0 : Fin 1) n (0 : Fin 1)} := by
    ext i
    simp only [Finset.mem_filter, Finset.mem_univ, true_and, Finset.mem_singleton]
    have hv : (h.drop i 0 : Nat) = i 1 := Shape.ReducesTo.drop_apply_val h i 0
    constructor
    · intro e
      rw [e] at hv
      have h0 : (i 0 : Nat) < 1 := (i 0).isLt
      have h2 : (i 2 : Nat) < 1 := (i 2).isLt
      funext a
      match a with
      | ⟨0, _⟩ => exact Fin.ext (by show (i 0 : Nat) = 0; omega)
      | ⟨1, _⟩ => exact Fin.ext hv.symm
      | ⟨2, _⟩ => exact Fin.ext (by show (i 2 : Nat) = 0; omega)
    · intro e
      subst e
      funext b
      match b with
      | ⟨0, _⟩ => exact Fin.ext hv
  show a + _ = _
  rw [e, Finset.sum_singleton]

theorem reduce_row (h : S1x1x1024.ReducesTo [0, 1] S1024) (v : S1x1x1024.Idx → EReal) (a : EReal) (n : Fin 1024) :
    Ideal.hostReduceAdd h v a (ix1 n) = a + v (ix3 (0 : Fin 1) (0 : Fin 1) n) := by
  have e : Finset.univ.filter (fun i => h.drop i = ix1 n) = {ix3 (0 : Fin 1) (0 : Fin 1) n} := by
    ext i
    simp only [Finset.mem_filter, Finset.mem_univ, true_and, Finset.mem_singleton]
    have hv : (h.drop i 0 : Nat) = i 2 := Shape.ReducesTo.drop_apply_val h i 0
    constructor
    · intro e
      rw [e] at hv
      have h0 : (i 0 : Nat) < 1 := (i 0).isLt
      have h1 : (i 1 : Nat) < 1 := (i 1).isLt
      funext a
      match a with
      | ⟨0, _⟩ => exact Fin.ext (by show (i 0 : Nat) = 0; omega)
      | ⟨1, _⟩ => exact Fin.ext (by show (i 1 : Nat) = 0; omega)
      | ⟨2, _⟩ => exact Fin.ext hv.symm
    · intro e
      subst e
      funext b
      match b with
      | ⟨0, _⟩ => exact Fin.ext hv
  show a + _ = _
  rw [e, Finset.sum_singleton]

theorem input_apply (n : Fin 4096) (d : Fin 1024) : input x (ix3 (0 : Fin 1) n d) = (x (ix2 n d) : EReal) := by
  unfold input; pointwise

theorem proj_apply (n : Fin 4096) (d : Fin 1024) : proj w du (ix3 (0 : Fin 1) n d) = ∑ j : Fin 3072, (du (ix2 n j) : EReal) * w (ix2 d j) := by
  unfold proj; pointwise

theorem mean_apply (n : Fin 4096) : mean x (ix3 (0 : Fin 1) n (0 : Fin 1))
    = Ideal.div (∑ k, (x (ix2 n k) : EReal) * x (ix2 n k)) (Ideal.ofBits FTy.f32 1149239296#32) + Ideal.ofBits FTy.f32 897988541#32 := by
  unfold mean; pointwise
  simp only [input_apply]

theorem norm_apply (n : Fin 4096) (d : Fin 1024) : norm sc w du (ix3 (0 : Fin 1) n d) = (proj w du (ix3 (0 : Fin 1) n d) : EReal) * (1 + sc (ix2 (0 : Fin 1) d)) := by
  unfold norm; pointwise

theorem through_apply (n : Fin 4096) : through x sc w du (ix3 (0 : Fin 1) n (0 : Fin 1))
    = Ideal.div ((∑ k, (x (ix2 n k) : EReal) * norm sc w du (ix3 (0 : Fin 1) n k))
        * (Ideal.ofBits FTy.f32 3204448256#32 * Ideal.div (Ideal.rsqrt (mean x (ix3 (0 : Fin 1) n (0 : Fin 1)))) (mean x (ix3 (0 : Fin 1) n (0 : Fin 1)))))
      (Ideal.ofBits FTy.f32 1149239296#32) := by
  unfold through; pointwise
  simp only [input_apply]

theorem spread_apply (n : Fin 4096) (d : Fin 1024) : spread x sc w du (ix3 (0 : Fin 1) n d) = (through x sc w du (ix3 (0 : Fin 1) n (0 : Fin 1)) : EReal) := by
  unfold spread; pointwise
  rw [reduce_col, zero_add]

theorem inputGrad_apply (n : Fin 4096) (d : Fin 1024) : inputGrad x up sc w du (ix2 n d)
    = (up (ix2 n d) : EReal) + (((norm sc w du (ix3 (0 : Fin 1) n d) : EReal) * Ideal.rsqrt (mean x (ix3 (0 : Fin 1) n (0 : Fin 1)))
        + x (ix2 n d) * through x sc w du (ix3 (0 : Fin 1) n (0 : Fin 1))) + through x sc w du (ix3 (0 : Fin 1) n (0 : Fin 1)) * x (ix2 n d)) := by
  unfold inputGrad; pointwise
  rw [Fin.sum_univ_one]
  simp only [input_apply, spread_apply]

/-- The last sum of a row's gradient is over axes of one element. -/
theorem last_row (v : FVec Ideal S1x1024 .f32) (d : Fin 1024) :
    broadcastInDim S1x1024 ![1] bcast_S1024_S1x1024_1 (Host.reduceAdd (shapeCast S1x1x1024 v shapeCasts_S1x1024_S1x1x1024) (constant S_ .f32 0x00000000#32) reducesTo_S1x1x1024_S1024_d0_1 h_S_) (ix2 (0 : Fin 1) d)
      = (v (ix2 (0 : Fin 1) d) : EReal) := by
  pointwise
  rw [reduce_row, zero_add]
  pointwise

theorem scaleGrad_apply (d : Fin 1024) : scaleGrad x w du (ix2 (0 : Fin 1) d)
    = ∑ n, (x (ix2 n d) : EReal) * Ideal.rsqrt (mean x (ix3 (0 : Fin 1) n (0 : Fin 1))) * proj w du (ix3 (0 : Fin 1) n d) := by
  unfold scaleGrad
  rw [last_row]
  pointwise
  simp only [input_apply]

theorem shiftGrad_apply (d : Fin 1024) : shiftGrad w du (ix2 (0 : Fin 1) d) = ∑ n, (proj w du (ix3 (0 : Fin 1) n d) : EReal) := by
  unfold shiftGrad
  rw [last_row]
  pointwise

end Cert.Reference4Ideal.Dgrad
end
end
-- ==== Proof.DgradInEquation.lean ====
/-
  `dgrad_in`: the kernel's three results are the reference's.
-/
module

public import proofs.«01_k».proof.Proof.DgradInResults
public import proofs.«01_k».proof.Proof.DgradInReference
public import proofs.«01_k».proof.Proof.NormGradient

@[expose] public section
set_option maxRecDepth 16384
noncomputable section
namespace Cert.Kernel4Ideal.Dgrad
open Cert.Kernel4Ideal Cert.Kernel4Ideal.Gen Idealize.ShloMosaic Cert.Blocks

variable {m : (ℓ : Loc nD τ sig) → Buf (Elt Ideal) ℓ} {c : Dev nD}

/-- The weights rounded to bf16, as the kernel takes them. -/
def rounded (w : FVec Ideal S1024x3072 .f32) : FVec Ideal S1024x3072 .bf16 := truncf .bf16 w bitsLt_bf16_f32

theorem v6_eq : Gen.V m c main_v6 = rounded (m (c, Proc.tc.devRef main_arg3)) := by
  unfold_abbrev_sides
  after_results_simp
  rfl

theorem x_eq : Gen.V m c main_arg0 = m (c, Proc.tc.devRef main_arg0) := by
  unfold_abbrev_sides
  after_results_simp

theorem sc_eq : Gen.V m c main_arg2 = m (c, Proc.tc.devRef main_arg2) := by
  unfold_abbrev_sides
  after_results_simp

theorem up_eq : Gen.V m c main_arg5 = m (c, Proc.tc.devRef main_arg5) := by
  unfold_abbrev_sides
  after_results_simp

/-- The kernel's gradient of the projection's input is the reference's. -/
theorem dh_eq {w : FVec Ideal S1024x3072 .f32} {du : FVec Ideal S4096x3072 .bf16} (hw : w = m (c, Proc.tc.devRef main_arg3)) (hdu : du = m (c, Proc.tc.devRef main_arg4))
    (b : Fin 4096) (d : Fin 1024) : dh m c b d = Cert.Reference4Ideal.Dgrad.proj w du (ix3 (0 : Fin 1) b d) := by
  rw [Cert.Reference4Ideal.Dgrad.proj_apply]
  refine Finset.sum_congr rfl fun j _ => ?_
  unfold colTerm dproj
  rw [v6_eq, ← hw, ← hdu]
  rfl

end Cert.Kernel4Ideal.Dgrad

namespace Cert.Equation
open Idealize.ShloMosaic Cert.Blocks

section
variable {m : (ℓ : Loc Kernel4Ideal.nD Kernel4Ideal.τ Kernel4Ideal.sig) → Buf (Elt Ideal) ℓ} {c : Dev Kernel4Ideal.nD}
    {x up : FVec Ideal Reference4Ideal.S4096x1024 .f32} {sc : FVec Ideal Reference4Ideal.S1x1024 .f32}
    {w : FVec Ideal Reference4Ideal.S1024x3072 .f32} {du : FVec Ideal Reference4Ideal.S4096x3072 .bf16}

theorem row_eq_in (hx : x = m (c, Proc.tc.devRef Kernel4Ideal.main_arg0)) (b : Fin 4096) : (fun k => (x (ix2 b k) : EReal)) = Kernel4Ideal.Dgrad.inRow m c b := by
  funext k
  unfold Kernel4Ideal.Dgrad.inRow
  rw [Kernel4Ideal.Dgrad.x_eq, ← hx]

theorem root_eq_in (hx : x = m (c, Proc.tc.devRef Kernel4Ideal.main_arg0)) (b : Fin 4096) :
    Reference4Ideal.Dgrad.mean x (ix3 (0 : Fin 1) b (0 : Fin 1)) = NormGradient.square (Kernel4Ideal.Dgrad.inRow m c b) := by
  rw [Reference4Ideal.Dgrad.mean_apply, ← row_eq_in hx]
  rfl

/-- The gradients of the shifts agree. -/
theorem dgrad_in_shift (hw : w = m (c, Proc.tc.devRef Kernel4Ideal.main_arg3)) (hdu : du = m (c, Proc.tc.devRef Kernel4Ideal.main_arg4)) :
    Reference4Ideal.Dgrad.shiftGrad w du = Kernel4Ideal.Dgrad.shiftGrad m c := by
  funext i
  have h0 : (i 0).val < 1 := (i 0).isLt
  have hi : i = ix2 (0 : Fin 1) (n1 := 1024) (i 1) := funext fun a => match a with | ⟨0, _⟩ => Fin.ext (by show (i 0).val = 0; omega) | ⟨1, _⟩ => rfl
  rw [hi]
  refine (Reference4Ideal.Dgrad.shiftGrad_apply w du (i 1)).trans (Finset.sum_congr rfl fun b _ => ?_)
  exact (Kernel4Ideal.Dgrad.dh_eq hw hdu b (i 1)).symm

/-- The gradients of the scales agree. -/
theorem dgrad_in_scale (hx : x = m (c, Proc.tc.devRef Kernel4Ideal.main_arg0)) (hw : w = m (c, Proc.tc.devRef Kernel4Ideal.main_arg3)) (hdu : du = m (c, Proc.tc.devRef Kernel4Ideal.main_arg4)) :
    Reference4Ideal.Dgrad.scaleGrad x w du = Kernel4Ideal.Dgrad.scaleGrad m c := by
  funext i
  have h0 : (i 0).val < 1 := (i 0).isLt
  have hi : i = ix2 (0 : Fin 1) (n1 := 1024) (i 1) := funext fun a => match a with | ⟨0, _⟩ => Fin.ext (by show (i 0).val = 0; omega) | ⟨1, _⟩ => rfl
  rw [hi]
  refine (Reference4Ideal.Dgrad.scaleGrad_apply x w du (i 1)).trans (Finset.sum_congr rfl fun b _ => ?_)
  rw [root_eq_in hx, ← NormGradient.rootOf_eq, mul_comm]
  refine congrArg₂ mul (Kernel4Ideal.Dgrad.dh_eq hw hdu b (i 1)).symm (congrArg₂ mul ?_ rfl)
  exact congrFun (row_eq_in hx b) (i 1)

theorem dgrad_in_input_entry (hx : x = m (c, Proc.tc.devRef Kernel4Ideal.main_arg0)) (hup : up = m (c, Proc.tc.devRef Kernel4Ideal.main_arg5)) (hsc : sc = m (c, Proc.tc.devRef Kernel4Ideal.main_arg2))
    (hw : w = m (c, Proc.tc.devRef Kernel4Ideal.main_arg3)) (hdu : du = m (c, Proc.tc.devRef Kernel4Ideal.main_arg4)) (b : Fin 4096) (d : Fin 1024) :
    Reference4Ideal.Dgrad.inputGrad x up sc w du (ix2 b d)
      = Kernel2Ideal.Dgrad.normGrad (Kernel4Ideal.Gen.V m c Kernel4Ideal.main_arg5 (ix2 b d)) (Kernel4Ideal.Dgrad.dh m c b) (Kernel4Ideal.Dgrad.scales m c) (Kernel4Ideal.Dgrad.inRow m c b) d := by
  have en : ∀ k, Reference4Ideal.Dgrad.norm sc w du (ix3 (0 : Fin 1) b k) = Kernel4Ideal.Dgrad.dh m c b k * (1 + Kernel4Ideal.Dgrad.scales m c k) := fun k => by
    rw [Reference4Ideal.Dgrad.norm_apply, ← Kernel4Ideal.Dgrad.dh_eq hw hdu]
    unfold Kernel4Ideal.Dgrad.scales
    rw [Kernel4Ideal.Dgrad.sc_eq, ← hsc]
  have ex : ∀ k, (x (ix2 b k) : EReal) = Kernel4Ideal.Dgrad.inRow m c b k := congrFun (row_eq_in hx b)
  refine (Reference4Ideal.Dgrad.inputGrad_apply x up sc w du b d).trans (Eq.trans ?_ (NormGradient.rule_eq _ _ _ _ _))
  unfold NormGradient.rule
  rw [Reference4Ideal.Dgrad.through_apply, root_eq_in hx]
  simp only [en, ex]
  rw [Kernel4Ideal.Dgrad.up_eq, ← hup]

/-- The gradients of the norm's input agree. -/
theorem dgrad_in_input (hx : x = m (c, Proc.tc.devRef Kernel4Ideal.main_arg0)) (hup : up = m (c, Proc.tc.devRef Kernel4Ideal.main_arg5)) (hsc : sc = m (c, Proc.tc.devRef Kernel4Ideal.main_arg2))
    (hw : w = m (c, Proc.tc.devRef Kernel4Ideal.main_arg3)) (hdu : du = m (c, Proc.tc.devRef Kernel4Ideal.main_arg4)) :
    Reference4Ideal.Dgrad.inputGrad x up sc w du = Kernel4Ideal.Dgrad.inputGrad m c := by
  funext i
  have hi : i = ix2 (n0 := 4096) (n1 := 1024) (i 0) (i 1) := funext fun a => match a with | ⟨0, _⟩ => rfl | ⟨1, _⟩ => rfl
  rw [hi]
  exact dgrad_in_input_entry hx hup hsc hw hdu (i 0) (i 1)
end

end Cert.Equation
end
end
-- ==== Proof.WgradInStores.lean ====
/-
  What an accumulator of 3072 columns holds after stores of 512 columns each.
-/
module

public import proofs.«01_k».proof.Proof.Gen.Kernel5Ideal.Frame
public import Idealize.ShloMosaic.Lib.Pointwise

@[expose] public section
set_option maxRecDepth 16384
noncomputable section
namespace Cert.Kernel5Ideal.Wgrad
open Cert.Kernel5Ideal Idealize.ShloMosaic Idealize.SL.Sem

theorem hz2 : (![0, 0] : Fin 2 → ℕ) = fun _ => 0 := funext fun a => by fin_cases a <;> rfl

section
variable {Val : EltTy → Type} [∀ e, Nonempty (Val e)] {e : EltTy}

/-- An entry in the columns that the last store wrote. -/
theorem canon_hit (o : ℕ) (inb : ∀ a, (![0, o] : Fin 2 → ℕ) a + S1024x512.size a ≤ S1024x3072.size a) (w : S1024x512.Idx → Val e)
    (L : List (View.Piece Val S1024x3072 e)) (r : Fin 1024) (k : Fin 512) (j : Fin 3072) (hj : j.val = o + k.val) :
    View.canon ((⟨Rect.unit (s := S1024x3072) ![0, o] S1024x512.size inb, w⟩ : View.Piece Val S1024x3072 e) :: L) (ix2 r j) = w (ix2 r k) := by
  have h : (ix2 r j : S1024x3072.Idx) = (Rect.unit (s := S1024x3072) ![0, o] S1024x512.size inb).emb (ix2 r k : S1024x512.Idx) := by
    funext a
    refine Fin.ext ?_
    match a with
    | ⟨0, _⟩ => show r.val = 0 + 1 * r.val; omega
    | ⟨1, _⟩ => show j.val = o + 1 * k.val; omega
  rw [h]
  exact View.canon_cons_emb (Rect.unit (s := S1024x3072) ![0, o] S1024x512.size inb) w L _

/-- An entry in other columns is as the earlier stores left it. -/
theorem canon_miss (o : ℕ) (inb : ∀ a, (![0, o] : Fin 2 → ℕ) a + S1024x512.size a ≤ S1024x3072.size a) (w : S1024x512.Idx → Val e)
    (L : List (View.Piece Val S1024x3072 e)) (r : Fin 1024) (j : Fin 3072) (hj : j.val < o ∨ o + 512 ≤ j.val) :
    View.canon ((⟨Rect.unit (s := S1024x3072) ![0, o] S1024x512.size inb, w⟩ : View.Piece Val S1024x3072 e) :: L) (ix2 r j) = View.canon L (ix2 r j) := by
  refine View.canon_cons_of_not_mem _ L fun h => ?_
  rw [Rect.mem_set_unit] at h
  have h1 : o ≤ j.val ∧ j.val < o + 512 := h 1
  omega

/-- Columns read after stores to other columns only, over a store of everything. -/
theorem read_later {sig : RefSig} {κ : Kind} {sp : Space} (v : View sig κ sp S1024x3072 e) (o : ℕ) (inb : ∀ a, (![0, o] : Fin 2 → ℕ) a + S1024x512.size a ≤ S1024x3072.size a)
    (whole : ∀ a, (![0, 0] : Fin 2 → ℕ) a + S1024x3072.size a ≤ S1024x3072.size a) (w : S1024x3072.Idx → Val e) (L : List (View.Piece Val S1024x3072 e))
    (hL : ∀ (r : Fin 1024) (j : Fin 3072), o ≤ j.val → View.canon (L ++ [⟨Rect.unit ![0, 0] S1024x3072.size whole, w⟩]) (ix2 r j) = w (ix2 r j)) :
    v.readCov (L ++ [⟨Rect.unit ![0, 0] S1024x3072.size whole, w⟩]) (Rect.unit (s := S1024x3072) ![0, o] S1024x512.size inb).toLoadRect = View.ld w (Rect.unit (s := S1024x3072) ![0, o] S1024x512.size inb) := by
  have hc : ∀ y : S1024x3072.Idx, ∃ p ∈ L ++ [(⟨Rect.unit (s := S1024x3072) ![0, 0] S1024x3072.size whole, w⟩ : View.Piece Val S1024x3072 e)], y ∈ p.1.set := fun y => by
    refine ⟨⟨Rect.unit (s := S1024x3072) ![0, 0] S1024x3072.size whole, w⟩, List.mem_append_right L (List.mem_singleton.2 rfl), ?_⟩
    exact View.mem_set_unit_zero (S := S1024x3072) hz2 whole y
  rw [View.readCov_eq_canon_ld v _ _ hc]
  funext x
  have hx : (Rect.unit (s := S1024x3072) ![0, o] S1024x512.size inb).emb x = (ix2 (n0 := 1024) (n1 := 3072) ((Rect.unit (s := S1024x3072) ![0, o] S1024x512.size inb).emb x 0) ((Rect.unit (s := S1024x3072) ![0, o] S1024x512.size inb).emb x 1) : S1024x3072.Idx) :=
    funext fun a => match a with | ⟨0, _⟩ => rfl | ⟨1, _⟩ => rfl
  show View.canon _ ((Rect.unit (s := S1024x3072) ![0, o] S1024x512.size inb).emb x) = w ((Rect.unit (s := S1024x3072) ![0, o] S1024x512.size inb).emb x)
  rw [hx]
  refine hL _ _ ?_
  show o ≤ o + 1 * (x 1).val
  omega
end

end Cert.Kernel5Ideal.Wgrad
end
end
-- ==== Proof.WgradInPoint.lean ====
/-
  The weight gradient of the input projection (`wgrad_in`): what each kind of grid point leaves in the accumulator, which a point
  updates in six column groups, and in the result.
-/
module

public import proofs.«01_k».proof.Proof.WgradInStores
public import Idealize.ShloMosaic.Lib.Pointwise

@[expose] public section
set_option maxRecDepth 16384
noncomputable section
namespace Cert.Kernel5Ideal.Wgrad
open Cert.Kernel5Ideal Idealize.ShloMosaic Idealize.SL.Sem

section
variable {F : FTy → Type} [FloatOps F]

/-- A point's six stores into the accumulator `acc`, over earlier ones. -/
def stores (x0 : Vec F S1024x1024 .bf16) (x1 x2 x3 x4 x5 x6 : Vec F S1024x512 .bf16) (acc : Vec F S1024x3072 .f32) (L : List (View.Piece (Elt F) S1024x3072 .f32)) :
    List (View.Piece (Elt F) S1024x3072 .f32) :=
  ⟨Rect.unit (s := S1024x3072) ![0, 2560] S1024x512.size Gen.inb_S1024x3072_S1024x512_0_2560, Gen.k0_pay9 (View.ld acc (Rect.unit (s := S1024x3072) ![0, 2560] S1024x512.size Gen.inb_S1024x3072_S1024x512_0_2560)) x0 x6⟩ ::    ⟨Rect.unit (s := S1024x3072) ![0, 2048] S1024x512.size Gen.inb_S1024x3072_S1024x512_0_2048, Gen.k0_pay8 (View.ld acc (Rect.unit (s := S1024x3072) ![0, 2048] S1024x512.size Gen.inb_S1024x3072_S1024x512_0_2048)) x0 x5⟩ ::    ⟨Rect.unit (s := S1024x3072) ![0, 1536] S1024x512.size Gen.inb_S1024x3072_S1024x512_0_1536, Gen.k0_pay7 (View.ld acc (Rect.unit (s := S1024x3072) ![0, 1536] S1024x512.size Gen.inb_S1024x3072_S1024x512_0_1536)) x0 x4⟩ ::    ⟨Rect.unit (s := S1024x3072) ![0, 1024] S1024x512.size Gen.inb_S1024x3072_S1024x512_0_1024, Gen.k0_pay6 (Gen.k0_pay5 (View.ld acc (Rect.unit (s := S1024x3072) ![0, 1024] S1024x512.size Gen.inb_S1024x3072_S1024x512_0_1024)) x0 x3)⟩ ::    ⟨Rect.unit (s := S1024x3072) ![0, 512] S1024x512.size Gen.inb_S1024x3072_S1024x512_0_512, Gen.k0_pay4 (View.ld acc (Rect.unit (s := S1024x3072) ![0, 512] S1024x512.size Gen.inb_S1024x3072_S1024x512_0_512)) x0 x2⟩ ::    ⟨Rect.unit (s := S1024x3072) ![0, 0] S1024x512.size Gen.inb_S1024x3072_S1024x512_0_0, Gen.k0_pay3 (View.ld acc (Rect.unit (s := S1024x3072) ![0, 0] S1024x512.size Gen.inb_S1024x3072_S1024x512_0_0)) x0 x1⟩ :: L

variable (c : Dev nD) (i : grid0.Coords) (arg1 : Memref sig .tc .vmem S1024x1024 .bf16) (harg1 : arg1.IsWhole)
  (arg2 : Memref sig .tc .vmem S1024x512 .bf16) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S1024x3072 .bf16) (harg8 : arg8.IsWhole)
  (arg9 : Memref sig .tc .vmem S1024x3072 .f32) (harg9 : arg9.IsWhole)
variable (x0 : Vec F S1024x1024 .bf16) (x1 x2 x3 x4 x5 x6 : Vec F S1024x512 .bf16) (xs0 : Vec F S1024x3072 .f32)

/-- The first point starts the accumulator with its own products. -/
theorem sout_A (hc0 : Gen.cond0_0 i) (hc1 : ¬Gen.cond0_1 i) :
    Gen.sout0_A_0 c i arg1 harg1 arg2 harg2 arg3 harg3 arg4 harg4 arg5 harg5 arg6 harg6 arg7 harg7 arg8 harg8 arg9 harg9 hc0 hc1 x0 x1 x2 x3 x4 x5 x6 = View.canon (stores x0 x1 x2 x3 x4 x5 x6 Gen.k0_pay2 [⟨Rect.unit (s := S1024x3072) ![0, 0] S1024x3072.size Gen.inb_S1024x3072_S1024x3072_0_0, Gen.k0_pay2 (F := F)⟩]) := by
  unfold Gen.sout0_A_0
  rw [View.read_writes_eq_canon _ _ _ (Gen.scover0_A_0 c i arg1 harg1 arg2 harg2 arg3 harg3 arg4 harg4 arg5 harg5 arg6 harg6 arg7 harg7 arg8 harg8 arg9 harg9 hc0 hc1 x0 x1 x2 x3 x4 x5 x6)]
  unfold Gen.kernelRun0_A
  dsimp only
  sl_unfold_words
  have h0 : ∀ w : Vec F S1024x3072 .f32, arg9.view.readCov ([] ++ [⟨Rect.unit (s := S1024x3072) ![0, 0] S1024x3072.size Gen.inb_S1024x3072_S1024x3072_0_0, w⟩]) (Rect.unit (s := S1024x3072) ![0, 0] S1024x512.size Gen.inb_S1024x3072_S1024x512_0_0).toLoadRect = View.ld w (Rect.unit (s := S1024x3072) ![0, 0] S1024x512.size Gen.inb_S1024x3072_S1024x512_0_0) := fun w =>
    read_later (e := .f32) arg9.view 0 _ Gen.inb_S1024x3072_S1024x3072_0_0 w [] fun r j _ => congrFun (View.canon_unit_zero hz2 _ _) _
  have h1 : ∀ (w : Vec F S1024x3072 .f32) (q0 : Vec F S1024x512 .f32), arg9.view.readCov ([⟨Rect.unit (s := S1024x3072) ![0, 0] S1024x512.size Gen.inb_S1024x3072_S1024x512_0_0, q0⟩] ++ [⟨Rect.unit (s := S1024x3072) ![0, 0] S1024x3072.size Gen.inb_S1024x3072_S1024x3072_0_0, w⟩]) (Rect.unit (s := S1024x3072) ![0, 512] S1024x512.size Gen.inb_S1024x3072_S1024x512_0_512).toLoadRect = View.ld w (Rect.unit (s := S1024x3072) ![0, 512] S1024x512.size Gen.inb_S1024x3072_S1024x512_0_512) := fun w q0 =>
    read_later (e := .f32) arg9.view 512 _ Gen.inb_S1024x3072_S1024x3072_0_0 w [⟨Rect.unit (s := S1024x3072) ![0, 0] S1024x512.size Gen.inb_S1024x3072_S1024x512_0_0, q0⟩] fun r j h => (canon_miss _ _ _ _ r j (by omega)).trans <| congrFun (View.canon_unit_zero hz2 _ _) _
  have h2 : ∀ (w : Vec F S1024x3072 .f32) (q0 q1 : Vec F S1024x512 .f32), arg9.view.readCov ([⟨Rect.unit (s := S1024x3072) ![0, 512] S1024x512.size Gen.inb_S1024x3072_S1024x512_0_512, q1⟩, ⟨Rect.unit (s := S1024x3072) ![0, 0] S1024x512.size Gen.inb_S1024x3072_S1024x512_0_0, q0⟩] ++ [⟨Rect.unit (s := S1024x3072) ![0, 0] S1024x3072.size Gen.inb_S1024x3072_S1024x3072_0_0, w⟩]) (Rect.unit (s := S1024x3072) ![0, 1024] S1024x512.size Gen.inb_S1024x3072_S1024x512_0_1024).toLoadRect = View.ld w (Rect.unit (s := S1024x3072) ![0, 1024] S1024x512.size Gen.inb_S1024x3072_S1024x512_0_1024) := fun w q0 q1 =>
    read_later (e := .f32) arg9.view 1024 _ Gen.inb_S1024x3072_S1024x3072_0_0 w [⟨Rect.unit (s := S1024x3072) ![0, 512] S1024x512.size Gen.inb_S1024x3072_S1024x512_0_512, q1⟩, ⟨Rect.unit (s := S1024x3072) ![0, 0] S1024x512.size Gen.inb_S1024x3072_S1024x512_0_0, q0⟩] fun r j h => (canon_miss _ _ _ _ r j (by omega)).trans <| (canon_miss _ _ _ _ r j (by omega)).trans <| congrFun (View.canon_unit_zero hz2 _ _) _
  have h3 : ∀ (w : Vec F S1024x3072 .f32) (q0 q1 q2 : Vec F S1024x512 .f32), arg9.view.readCov ([⟨Rect.unit (s := S1024x3072) ![0, 1024] S1024x512.size Gen.inb_S1024x3072_S1024x512_0_1024, q2⟩, ⟨Rect.unit (s := S1024x3072) ![0, 512] S1024x512.size Gen.inb_S1024x3072_S1024x512_0_512, q1⟩, ⟨Rect.unit (s := S1024x3072) ![0, 0] S1024x512.size Gen.inb_S1024x3072_S1024x512_0_0, q0⟩] ++ [⟨Rect.unit (s := S1024x3072) ![0, 0] S1024x3072.size Gen.inb_S1024x3072_S1024x3072_0_0, w⟩]) (Rect.unit (s := S1024x3072) ![0, 1536] S1024x512.size Gen.inb_S1024x3072_S1024x512_0_1536).toLoadRect = View.ld w (Rect.unit (s := S1024x3072) ![0, 1536] S1024x512.size Gen.inb_S1024x3072_S1024x512_0_1536) := fun w q0 q1 q2 =>
    read_later (e := .f32) arg9.view 1536 _ Gen.inb_S1024x3072_S1024x3072_0_0 w [⟨Rect.unit (s := S1024x3072) ![0, 1024] S1024x512.size Gen.inb_S1024x3072_S1024x512_0_1024, q2⟩, ⟨Rect.unit (s := S1024x3072) ![0, 512] S1024x512.size Gen.inb_S1024x3072_S1024x512_0_512, q1⟩, ⟨Rect.unit (s := S1024x3072) ![0, 0] S1024x512.size Gen.inb_S1024x3072_S1024x512_0_0, q0⟩] fun r j h => (canon_miss _ _ _ _ r j (by omega)).trans <| (canon_miss _ _ _ _ r j (by omega)).trans <| (canon_miss _ _ _ _ r j (by omega)).trans <| congrFun (View.canon_unit_zero hz2 _ _) _
  have h4 : ∀ (w : Vec F S1024x3072 .f32) (q0 q1 q2 q3 : Vec F S1024x512 .f32), arg9.view.readCov ([⟨Rect.unit (s := S1024x3072) ![0, 1536] S1024x512.size Gen.inb_S1024x3072_S1024x512_0_1536, q3⟩, ⟨Rect.unit (s := S1024x3072) ![0, 1024] S1024x512.size Gen.inb_S1024x3072_S1024x512_0_1024, q2⟩, ⟨Rect.unit (s := S1024x3072) ![0, 512] S1024x512.size Gen.inb_S1024x3072_S1024x512_0_512, q1⟩, ⟨Rect.unit (s := S1024x3072) ![0, 0] S1024x512.size Gen.inb_S1024x3072_S1024x512_0_0, q0⟩] ++ [⟨Rect.unit (s := S1024x3072) ![0, 0] S1024x3072.size Gen.inb_S1024x3072_S1024x3072_0_0, w⟩]) (Rect.unit (s := S1024x3072) ![0, 2048] S1024x512.size Gen.inb_S1024x3072_S1024x512_0_2048).toLoadRect = View.ld w (Rect.unit (s := S1024x3072) ![0, 2048] S1024x512.size Gen.inb_S1024x3072_S1024x512_0_2048) := fun w q0 q1 q2 q3 =>
    read_later (e := .f32) arg9.view 2048 _ Gen.inb_S1024x3072_S1024x3072_0_0 w [⟨Rect.unit (s := S1024x3072) ![0, 1536] S1024x512.size Gen.inb_S1024x3072_S1024x512_0_1536, q3⟩, ⟨Rect.unit (s := S1024x3072) ![0, 1024] S1024x512.size Gen.inb_S1024x3072_S1024x512_0_1024, q2⟩, ⟨Rect.unit (s := S1024x3072) ![0, 512] S1024x512.size Gen.inb_S1024x3072_S1024x512_0_512, q1⟩, ⟨Rect.unit (s := S1024x3072) ![0, 0] S1024x512.size Gen.inb_S1024x3072_S1024x512_0_0, q0⟩] fun r j h => (canon_miss _ _ _ _ r j (by omega)).trans <| (canon_miss _ _ _ _ r j (by omega)).trans <| (canon_miss _ _ _ _ r j (by omega)).trans <| (canon_miss _ _ _ _ r j (by omega)).trans <| congrFun (View.canon_unit_zero hz2 _ _) _
  have h5 : ∀ (w : Vec F S1024x3072 .f32) (q0 q1 q2 q3 q4 : Vec F S1024x512 .f32), arg9.view.readCov ([⟨Rect.unit (s := S1024x3072) ![0, 2048] S1024x512.size Gen.inb_S1024x3072_S1024x512_0_2048, q4⟩, ⟨Rect.unit (s := S1024x3072) ![0, 1536] S1024x512.size Gen.inb_S1024x3072_S1024x512_0_1536, q3⟩, ⟨Rect.unit (s := S1024x3072) ![0, 1024] S1024x512.size Gen.inb_S1024x3072_S1024x512_0_1024, q2⟩, ⟨Rect.unit (s := S1024x3072) ![0, 512] S1024x512.size Gen.inb_S1024x3072_S1024x512_0_512, q1⟩, ⟨Rect.unit (s := S1024x3072) ![0, 0] S1024x512.size Gen.inb_S1024x3072_S1024x512_0_0, q0⟩] ++ [⟨Rect.unit (s := S1024x3072) ![0, 0] S1024x3072.size Gen.inb_S1024x3072_S1024x3072_0_0, w⟩]) (Rect.unit (s := S1024x3072) ![0, 2560] S1024x512.size Gen.inb_S1024x3072_S1024x512_0_2560).toLoadRect = View.ld w (Rect.unit (s := S1024x3072) ![0, 2560] S1024x512.size Gen.inb_S1024x3072_S1024x512_0_2560) := fun w q0 q1 q2 q3 q4 =>
    read_later (e := .f32) arg9.view 2560 _ Gen.inb_S1024x3072_S1024x3072_0_0 w [⟨Rect.unit (s := S1024x3072) ![0, 2048] S1024x512.size Gen.inb_S1024x3072_S1024x512_0_2048, q4⟩, ⟨Rect.unit (s := S1024x3072) ![0, 1536] S1024x512.size Gen.inb_S1024x3072_S1024x512_0_1536, q3⟩, ⟨Rect.unit (s := S1024x3072) ![0, 1024] S1024x512.size Gen.inb_S1024x3072_S1024x512_0_1024, q2⟩, ⟨Rect.unit (s := S1024x3072) ![0, 512] S1024x512.size Gen.inb_S1024x3072_S1024x512_0_512, q1⟩, ⟨Rect.unit (s := S1024x3072) ![0, 0] S1024x512.size Gen.inb_S1024x3072_S1024x512_0_0, q0⟩] fun r j h => (canon_miss _ _ _ _ r j (by omega)).trans <| (canon_miss _ _ _ _ r j (by omega)).trans <| (canon_miss _ _ _ _ r j (by omega)).trans <| (canon_miss _ _ _ _ r j (by omega)).trans <| (canon_miss _ _ _ _ r j (by omega)).trans <| congrFun (View.canon_unit_zero hz2 _ _) _
  simp only [List.cons_append, List.nil_append] at h0 h1 h2 h3 h4 h5
  simp only [h0, h1, h2, h3, h4, h5, View.readAt_eq_ld, harg1.read_unread, harg2.read_unread, harg3.read_unread, harg4.read_unread, harg5.read_unread, harg6.read_unread, harg7.read_unread, harg9.read_unread, View.ld_unit_zero (S := S1024x1024) hz2, View.ld_unit_zero (S := S1024x512) hz2]
  rfl
/-- A later point adds its products. -/
theorem sout_B (hc0 : ¬Gen.cond0_0 i) (hc1 : ¬Gen.cond0_1 i) :
    Gen.sout0_B_0 c i arg1 harg1 arg2 harg2 arg3 harg3 arg4 harg4 arg5 harg5 arg6 harg6 arg7 harg7 arg8 harg8 arg9 harg9 hc0 hc1 x0 x1 x2 x3 x4 x5 x6 xs0 = View.canon (stores x0 x1 x2 x3 x4 x5 x6 xs0 []) := by
  unfold Gen.sout0_B_0
  rw [View.read_writes_eq_canon _ _ _ (Gen.scover0_B_0 c i arg1 harg1 arg2 harg2 arg3 harg3 arg4 harg4 arg5 harg5 arg6 harg6 arg7 harg7 arg8 harg8 arg9 harg9 hc0 hc1 x0 x1 x2 x3 x4 x5 x6 xs0)]
  unfold Gen.kernelRun0_B
  dsimp only
  sl_unfold_words
  simp only [View.readAt_eq_ld, harg1.read_unread, harg2.read_unread, harg3.read_unread, harg4.read_unread, harg5.read_unread, harg6.read_unread, harg7.read_unread, harg9.read_unread, View.ld_unit_zero (S := S1024x1024) hz2, View.ld_unit_zero (S := S1024x512) hz2]
  rfl
/-- The last point adds its products too … -/
theorem sout_C (hc0 : ¬Gen.cond0_0 i) (hc1 : Gen.cond0_1 i) :
    Gen.sout0_C_0 c i arg1 harg1 arg2 harg2 arg3 harg3 arg4 harg4 arg5 harg5 arg6 harg6 arg7 harg7 arg8 harg8 arg9 harg9 hc0 hc1 x0 x1 x2 x3 x4 x5 x6 xs0 = View.canon (stores x0 x1 x2 x3 x4 x5 x6 xs0 []) := by
  unfold Gen.sout0_C_0
  rw [View.read_writes_eq_canon _ _ _ (Gen.scover0_C_0 c i arg1 harg1 arg2 harg2 arg3 harg3 arg4 harg4 arg5 harg5 arg6 harg6 arg7 harg7 arg8 harg8 arg9 harg9 hc0 hc1 x0 x1 x2 x3 x4 x5 x6 xs0)]
  unfold Gen.kernelRun0_C
  dsimp only
  sl_unfold_words
  simp only [View.readAt_eq_ld, harg1.read_unread, harg2.read_unread, harg3.read_unread, harg4.read_unread, harg5.read_unread, harg6.read_unread, harg7.read_unread, harg9.read_unread, View.ld_unit_zero (S := S1024x1024) hz2, View.ld_unit_zero (S := S1024x512) hz2]
  rfl
/-- … and writes the rounded accumulator. -/
theorem out_C (hc0 : ¬Gen.cond0_0 i) (hc1 : Gen.cond0_1 i) :
    Gen.out0_C_7 c i arg1 harg1 arg2 harg2 arg3 harg3 arg4 harg4 arg5 harg5 arg6 harg6 arg7 harg7 arg8 harg8 arg9 harg9 hc0 hc1 x0 x1 x2 x3 x4 x5 x6 xs0 = Gen.k0_pay1 (View.canon (stores x0 x1 x2 x3 x4 x5 x6 xs0 [])) := by
  unfold Gen.out0_C_7
  rw [View.read_writes_eq_canon _ _ _ (Gen.cover0_C_7 c i arg1 harg1 arg2 harg2 arg3 harg3 arg4 harg4 arg5 harg5 arg6 harg6 arg7 harg7 arg8 harg8 arg9 harg9 hc0 hc1 x0 x1 x2 x3 x4 x5 x6 xs0)]
  unfold Gen.kernelRun0_C
  dsimp only
  sl_unfold_words
  rw [View.canon_unit_zero (S := S1024x3072) hz2]
  refine congrArg Gen.k0_pay1 ((View.readCov_eq_canon_ld arg9.view _ _ (Gen.scover0_C_0 c i arg1 harg1 arg2 harg2 arg3 harg3 arg4 harg4 arg5 harg5 arg6 harg6 arg7 harg7 arg8 harg8 arg9 harg9 hc0 hc1 x0 x1 x2 x3 x4 x5 x6 xs0)).trans ((View.ld_unit_zero (S := S1024x3072) hz2 _ _).trans ?_))
  unfold Gen.kernelRun0_C
  dsimp only
  sl_unfold_words
  simp only [View.readAt_eq_ld, harg1.read_unread, harg2.read_unread, harg3.read_unread, harg4.read_unread, harg5.read_unread, harg6.read_unread, harg7.read_unread, harg9.read_unread, View.ld_unit_zero (S := S1024x1024) hz2, View.ld_unit_zero (S := S1024x512) hz2]
  rfl
end

/-! ## The same, entry by entry over the extended reals -/

theorem zero_apply (r : Fin 1024) (j : Fin 3072) : (Gen.k0_pay2 (F := Ideal)) (ix2 r j) = (0 : EReal) := by
  unfold Gen.k0_pay2; pointwise

theorem out_apply (acc : Vec Ideal S1024x3072 .f32) (r : Fin 1024) (j : Fin 3072) : Gen.k0_pay1 acc (ix2 r j) = (acc (ix2 r j) : EReal) := by
  unfold Gen.k0_pay1; pointwise

section
variable (x0 : Vec Ideal S1024x1024 .bf16) (x1 x2 x3 x4 x5 x6 : Vec Ideal S1024x512 .bf16) (acc : Vec Ideal S1024x3072 .f32)
  (L : List (View.Piece (Elt Ideal) S1024x3072 .f32))

/-- An accumulator entry with a point's product added. -/
def added (x : Vec Ideal S1024x512 .bf16) (r : Fin 1024) (k : Fin 512) (j : Fin 3072) : EReal :=
  (acc (ix2 r j) : EReal) + ∑ n : Fin 1024, (x0 (ix2 n r) : EReal) * x (ix2 n k)

theorem entry0 (r : Fin 1024) (k : Fin 512) (j : Fin 3072) (hj : j.val = 0 + k.val) :
    (View.canon (stores x0 x1 x2 x3 x4 x5 x6 acc L) (ix2 r j) : EReal) = added x0 acc x1 r k j := by
  have hb : 0 + k.val < 3072 := by clear hj; omega
  obtain rfl : j = ⟨0 + k.val, hb⟩ := Fin.ext hj
  unfold stores
  rw [canon_miss 2560 _ _ _ r _ (by dsimp only; omega), canon_miss 2048 _ _ _ r _ (by dsimp only; omega), canon_miss 1536 _ _ _ r _ (by dsimp only; omega), canon_miss 1024 _ _ _ r _ (by dsimp only; omega), canon_miss 512 _ _ _ r _ (by dsimp only; omega), canon_hit 0 _ _ _ r k _ rfl]
  unfold Gen.k0_pay3 added
  pointwise

theorem entry1 (r : Fin 1024) (k : Fin 512) (j : Fin 3072) (hj : j.val = 512 + k.val) :
    (View.canon (stores x0 x1 x2 x3 x4 x5 x6 acc L) (ix2 r j) : EReal) = added x0 acc x2 r k j := by
  have hb : 512 + k.val < 3072 := by clear hj; omega
  obtain rfl : j = ⟨512 + k.val, hb⟩ := Fin.ext hj
  unfold stores
  rw [canon_miss 2560 _ _ _ r _ (by dsimp only; omega), canon_miss 2048 _ _ _ r _ (by dsimp only; omega), canon_miss 1536 _ _ _ r _ (by dsimp only; omega), canon_miss 1024 _ _ _ r _ (by dsimp only; omega), canon_hit 512 _ _ _ r k _ rfl]
  unfold Gen.k0_pay4 added
  pointwise

theorem entry2 (r : Fin 1024) (k : Fin 512) (j : Fin 3072) (hj : j.val = 1024 + k.val) :
    (View.canon (stores x0 x1 x2 x3 x4 x5 x6 acc L) (ix2 r j) : EReal) = added x0 acc x3 r k j := by
  have hb : 1024 + k.val < 3072 := by clear hj; omega
  obtain rfl : j = ⟨1024 + k.val, hb⟩ := Fin.ext hj
  unfold stores
  rw [canon_miss 2560 _ _ _ r _ (by dsimp only; omega), canon_miss 2048 _ _ _ r _ (by dsimp only; omega), canon_miss 1536 _ _ _ r _ (by dsimp only; omega), canon_hit 1024 _ _ _ r k _ rfl]
  unfold Gen.k0_pay6 Gen.k0_pay5 added
  pointwise

theorem entry3 (r : Fin 1024) (k : Fin 512) (j : Fin 3072) (hj : j.val = 1536 + k.val) :
    (View.canon (stores x0 x1 x2 x3 x4 x5 x6 acc L) (ix2 r j) : EReal) = added x0 acc x4 r k j := by
  have hb : 1536 + k.val < 3072 := by clear hj; omega
  obtain rfl : j = ⟨1536 + k.val, hb⟩ := Fin.ext hj
  unfold stores
  rw [canon_miss 2560 _ _ _ r _ (by dsimp only; omega), canon_miss 2048 _ _ _ r _ (by dsimp only; omega), canon_hit 1536 _ _ _ r k _ rfl]
  unfold Gen.k0_pay7 added
  pointwise

theorem entry4 (r : Fin 1024) (k : Fin 512) (j : Fin 3072) (hj : j.val = 2048 + k.val) :
    (View.canon (stores x0 x1 x2 x3 x4 x5 x6 acc L) (ix2 r j) : EReal) = added x0 acc x5 r k j := by
  have hb : 2048 + k.val < 3072 := by clear hj; omega
  obtain rfl : j = ⟨2048 + k.val, hb⟩ := Fin.ext hj
  unfold stores
  rw [canon_miss 2560 _ _ _ r _ (by dsimp only; omega), canon_hit 2048 _ _ _ r k _ rfl]
  unfold Gen.k0_pay8 added
  pointwise

theorem entry5 (r : Fin 1024) (k : Fin 512) (j : Fin 3072) (hj : j.val = 2560 + k.val) :
    (View.canon (stores x0 x1 x2 x3 x4 x5 x6 acc L) (ix2 r j) : EReal) = added x0 acc x6 r k j := by
  have hb : 2560 + k.val < 3072 := by clear hj; omega
  obtain rfl : j = ⟨2560 + k.val, hb⟩ := Fin.ext hj
  unfold stores
  rw [canon_hit 2560 _ _ _ r k _ rfl]
  unfold Gen.k0_pay9 added
  pointwise

end

end Cert.Kernel5Ideal.Wgrad
end
end
-- ==== Proof.WgradInBlocks.lean ====
/-
  The blocks that `wgrad_in`'s points read: 1024 rows of the projection's input and of six column groups of its gradient.
-/
module

public import proofs.«01_k».proof.Proof.Gen.Kernel5Ideal.Value
public import Idealize.ShloMosaic.Lib.Pointwise
public import Idealize.ShloMosaic.Lib.Claim

@[expose] public section
set_option maxRecDepth 16384
noncomputable section
namespace Cert.Kernel5Ideal.Wgrad
open Cert.Kernel5Ideal Cert.Kernel5Ideal.Gen Idealize.ShloMosaic

variable (m : (ℓ : Loc nD τ sig) → Buf (Elt Ideal) ℓ) (c : Dev nD)

theorem points : cfg0.N = 4 := Gen.N_0

/-- The array's row at a point's row `n`. -/
def row (t : ℕ) (ht : t < cfg0.N) (n : Fin 1024) : Fin 4096 := ⟨1024 * t + n.val, by have := points; omega⟩

/-- The projection's input. -/
def input : FVec Ideal S4096x1024 .bf16 := m (c, Proc.tc.devRef main_arg0)

/-- The projection's gradient. -/
def dproj : FVec Ideal S4096x3072 .bf16 := m (c, Proc.tc.devRef main_arg1)

/-- 512 columns of it, from column `o`. -/
def columns (o : ℕ) (h : S4096x3072.Slices ![0, o] S4096x512) : FVec Ideal S4096x512 .bf16 := extractStridedSlice S4096x512 ![0, o] (dproj m c) h

theorem columns_apply (o : ℕ) (ho : o + 512 ≤ 3072) (h : S4096x3072.Slices ![0, o] S4096x512) (b : Fin 4096) (e : Fin 512) (j : Fin 3072) (hj : j.val = o + e.val) :
    columns m c o h (ix2 b e) = dproj m c (ix2 b j) :=
  congrArg (dproj m c) (funext fun a => Fin.ext (match a with | ⟨0, _⟩ => Nat.zero_add _ | ⟨1, _⟩ => hj.symm))

/-- An entry of an array that is 512 columns of the gradient. -/
theorem of_columns {A : FVec Ideal S4096x512 .bf16} {o : ℕ} {h : S4096x3072.Slices ![0, o] S4096x512} (hA : A = columns m c o h) (ho : o + 512 ≤ 3072)
    (t : Fin cfg0.N) (n : Fin 1024) (e : Fin 512) (j : Fin 3072) (hj : j.val = o + e.val) (i : S4096x512.Idx)
    (h0 : (i 0).val = 1024 * t.val + n.val) (h1 : (i 1).val = e.val) : A i = dproj m c (ix2 (row t.val t.isLt n) j) := by
  have hi : i = ix2 (row t.val t.isLt n) e := funext fun a => Fin.ext (match a with | ⟨0, _⟩ => h0 | ⟨1, _⟩ => h1)
  rw [hi, hA]
  exact columns_apply m c o ho h _ e j hj

theorem index0 : ∀ t : Fin cfg0.N, win0_0.index t (0 : Fin 2) = t.val ∧ win0_0.index t (1 : Fin 2) = 0 :=
  (by decide +kernel : ∀ t : Fin grid0.N, _)

theorem block0 (t : Fin cfg0.N) (n d : Fin 1024) :
    Gen.iblk m c 0 t (ix2 n d : S1024x1024.Idx) = input m c (ix2 (row t.val t.isLt n) d) := by
  obtain ⟨e0, e1⟩ := index0 t
  refine congrArg (input m c) (funext fun x => Fin.ext ?_)
  match x with
  | ⟨0, _⟩ => show win0_0.index t (0 : Fin 2) * 1024 + 1 * n.val = 1024 * t.val + n.val; rw [e0]; omega
  | ⟨1, _⟩ => show win0_0.index t (1 : Fin 2) * 1024 + 1 * d.val = d.val; rw [e1]; omega

theorem v0_eq : Gen.V m c main_v0 = columns m c 0 slices_S4096x3072_S4096x512_0_0 := by
  unfold_abbrev_sides
  after_results_simp
  rfl

theorem index1 : ∀ t : Fin cfg0.N, win0_1.index t (0 : Fin 2) = t.val ∧ win0_1.index t (1 : Fin 2) = 0 :=
  (by decide +kernel : ∀ t : Fin grid0.N, _)

theorem block1 (t : Fin cfg0.N) (n : Fin 1024) (e : Fin 512) (j : Fin 3072) (hj : j.val = 0 + e.val) :
    Gen.iblk m c 1 t (ix2 n e : S1024x512.Idx) = dproj m c (ix2 (row t.val t.isLt n) j) := by
  obtain ⟨e0, e1⟩ := index1 t
  refine of_columns m c (v0_eq m c) (by omega) t n e j hj (((cfg0.win 1).blk t).view.emb (ix2 n e : S1024x512.Idx)) ?_ ?_
  · show win0_1.index t (0 : Fin 2) * 1024 + 1 * n.val = _; omega
  · show win0_1.index t (1 : Fin 2) * 512 + 1 * e.val = _; omega

theorem v1_eq : Gen.V m c main_v1 = columns m c 512 slices_S4096x3072_S4096x512_0_512 := by
  unfold_abbrev_sides
  after_results_simp
  rfl

theorem index2 : ∀ t : Fin cfg0.N, win0_2.index t (0 : Fin 2) = t.val ∧ win0_2.index t (1 : Fin 2) = 0 :=
  (by decide +kernel : ∀ t : Fin grid0.N, _)

theorem block2 (t : Fin cfg0.N) (n : Fin 1024) (e : Fin 512) (j : Fin 3072) (hj : j.val = 512 + e.val) :
    Gen.iblk m c 2 t (ix2 n e : S1024x512.Idx) = dproj m c (ix2 (row t.val t.isLt n) j) := by
  obtain ⟨e0, e1⟩ := index2 t
  refine of_columns m c (v1_eq m c) (by omega) t n e j hj (((cfg0.win 2).blk t).view.emb (ix2 n e : S1024x512.Idx)) ?_ ?_
  · show win0_2.index t (0 : Fin 2) * 1024 + 1 * n.val = _; omega
  · show win0_2.index t (1 : Fin 2) * 512 + 1 * e.val = _; omega

theorem v2_eq : Gen.V m c main_v2 = columns m c 1024 slices_S4096x3072_S4096x512_0_1024 := by
  unfold_abbrev_sides
  after_results_simp
  rfl

theorem index3 : ∀ t : Fin cfg0.N, win0_3.index t (0 : Fin 2) = t.val ∧ win0_3.index t (1 : Fin 2) = 0 :=
  (by decide +kernel : ∀ t : Fin grid0.N, _)

theorem block3 (t : Fin cfg0.N) (n : Fin 1024) (e : Fin 512) (j : Fin 3072) (hj : j.val = 1024 + e.val) :
    Gen.iblk m c 3 t (ix2 n e : S1024x512.Idx) = dproj m c (ix2 (row t.val t.isLt n) j) := by
  obtain ⟨e0, e1⟩ := index3 t
  refine of_columns m c (v2_eq m c) (by omega) t n e j hj (((cfg0.win 3).blk t).view.emb (ix2 n e : S1024x512.Idx)) ?_ ?_
  · show win0_3.index t (0 : Fin 2) * 1024 + 1 * n.val = _; omega
  · show win0_3.index t (1 : Fin 2) * 512 + 1 * e.val = _; omega

theorem v3_eq : Gen.V m c main_v3 = columns m c 1536 slices_S4096x3072_S4096x512_0_1536 := by
  unfold_abbrev_sides
  after_results_simp
  rfl

theorem index4 : ∀ t : Fin cfg0.N, win0_4.index t (0 : Fin 2) = t.val ∧ win0_4.index t (1 : Fin 2) = 0 :=
  (by decide +kernel : ∀ t : Fin grid0.N, _)

theorem block4 (t : Fin cfg0.N) (n : Fin 1024) (e : Fin 512) (j : Fin 3072) (hj : j.val = 1536 + e.val) :
    Gen.iblk m c 4 t (ix2 n e : S1024x512.Idx) = dproj m c (ix2 (row t.val t.isLt n) j) := by
  obtain ⟨e0, e1⟩ := index4 t
  refine of_columns m c (v3_eq m c) (by omega) t n e j hj (((cfg0.win 4).blk t).view.emb (ix2 n e : S1024x512.Idx)) ?_ ?_
  · show win0_4.index t (0 : Fin 2) * 1024 + 1 * n.val = _; omega
  · show win0_4.index t (1 : Fin 2) * 512 + 1 * e.val = _; omega

theorem v4_eq : Gen.V m c main_v4 = columns m c 2048 slices_S4096x3072_S4096x512_0_2048 := by
  unfold_abbrev_sides
  after_results_simp
  rfl

theorem index5 : ∀ t : Fin cfg0.N, win0_5.index t (0 : Fin 2) = t.val ∧ win0_5.index t (1 : Fin 2) = 0 :=
  (by decide +kernel : ∀ t : Fin grid0.N, _)

theorem block5 (t : Fin cfg0.N) (n : Fin 1024) (e : Fin 512) (j : Fin 3072) (hj : j.val = 2048 + e.val) :
    Gen.iblk m c 5 t (ix2 n e : S1024x512.Idx) = dproj m c (ix2 (row t.val t.isLt n) j) := by
  obtain ⟨e0, e1⟩ := index5 t
  refine of_columns m c (v4_eq m c) (by omega) t n e j hj (((cfg0.win 5).blk t).view.emb (ix2 n e : S1024x512.Idx)) ?_ ?_
  · show win0_5.index t (0 : Fin 2) * 1024 + 1 * n.val = _; omega
  · show win0_5.index t (1 : Fin 2) * 512 + 1 * e.val = _; omega

theorem v5_eq : Gen.V m c main_v5 = columns m c 2560 slices_S4096x3072_S4096x512_0_2560 := by
  unfold_abbrev_sides
  after_results_simp
  rfl

theorem index6 : ∀ t : Fin cfg0.N, win0_6.index t (0 : Fin 2) = t.val ∧ win0_6.index t (1 : Fin 2) = 0 :=
  (by decide +kernel : ∀ t : Fin grid0.N, _)

theorem block6 (t : Fin cfg0.N) (n : Fin 1024) (e : Fin 512) (j : Fin 3072) (hj : j.val = 2560 + e.val) :
    Gen.iblk m c 6 t (ix2 n e : S1024x512.Idx) = dproj m c (ix2 (row t.val t.isLt n) j) := by
  obtain ⟨e0, e1⟩ := index6 t
  refine of_columns m c (v5_eq m c) (by omega) t n e j hj (((cfg0.win 6).blk t).view.emb (ix2 n e : S1024x512.Idx)) ?_ ?_
  · show win0_6.index t (0 : Fin 2) * 1024 + 1 * n.val = _; omega
  · show win0_6.index t (1 : Fin 2) * 512 + 1 * e.val = _; omega

end Cert.Kernel5Ideal.Wgrad
end
end
-- ==== Proof.WgradInValue.lean ====
/-
  The weight gradient of the input projection (`wgrad_in`): the accumulator after each grid point is the sum over the rows read so
  far, and the result's array is the sum over all rows.
-/
module

public import proofs.«01_k».proof.Proof.WgradInPoint
public import proofs.«01_k».proof.Proof.WgradInBlocks
public import proofs.«01_k».proof.Proof.Blocks

@[expose] public section
set_option maxRecDepth 16384
noncomputable section
namespace Cert.Kernel5Ideal.Wgrad
open Cert.Kernel5Ideal Idealize.ShloMosaic Cert.Blocks

variable (m : (ℓ : Loc nD τ sig) → Buf (Elt Ideal) ℓ) (c : Dev nD)

/-- The product of row `n` in the gradient of weight `(r, j)`. -/
def rowTerm (r : Fin 1024) (j : Fin 3072) (n : Fin 4096) : EReal :=
  mul (input m c (ix2 n r)) (dproj m c (ix2 n j))

variable {m c}

/-- One point's products, in the column group that `x` is, continue the sum. -/
theorem added_step (t : Fin cfg0.N) (acc : Vec Ideal S1024x3072 .f32) (x : Vec Ideal S1024x512 .bf16) (r : Fin 1024) (k : Fin 512) (j : Fin 3072)
    (hacc : (acc (ix2 r j) : EReal) = upto (pad (rowTerm m c r j)) (1024 * t.val))
    (hx : ∀ n : Fin 1024, x (ix2 n k) = dproj m c (ix2 (row t.val t.isLt n) j)) :
    added (Gen.iblk m c 0 t) acc x r k j = upto (pad (rowTerm m c r j)) (1024 * t.val + 1024) := by
  rw [upto_add]
  unfold added
  refine congrArg₂ (· + ·) hacc (Finset.sum_congr rfl fun n _ => ?_)
  exact (congrArg₂ mul (block0 m c t n r) (hx n)).trans (pad_eq (rowTerm m c r j) (row t.val t.isLt n) rfl).symm

/-- One point adds its block of rows to the sum. -/
theorem step (t : Fin cfg0.N) (acc : Vec Ideal S1024x3072 .f32) (L : List (View.Piece (Elt Ideal) S1024x3072 .f32)) (r : Fin 1024) (j : Fin 3072)
    (hacc : (acc (ix2 r j) : EReal) = upto (pad (rowTerm m c r j)) (1024 * t.val)) :
    (View.canon (stores (Gen.iblk m c 0 t) (Gen.iblk m c 1 t) (Gen.iblk m c 2 t) (Gen.iblk m c 3 t) (Gen.iblk m c 4 t) (Gen.iblk m c 5 t) (Gen.iblk m c 6 t) acc L) (ix2 r j) : EReal)
      = upto (pad (rowTerm m c r j)) (1024 * t.val + 1024) := by
  have hj := j.isLt
  by_cases h0 : j.val < 512
  · exact (entry0 (Gen.iblk m c 0 t) (Gen.iblk m c 1 t) (Gen.iblk m c 2 t) (Gen.iblk m c 3 t) (Gen.iblk m c 4 t) (Gen.iblk m c 5 t) (Gen.iblk m c 6 t) acc L r ⟨j.val - 0, by omega⟩ j (by dsimp only; omega)).trans (added_step t acc _ r _ j hacc fun n => block1 m c t n _ j (by dsimp only; omega))
  by_cases h1 : j.val < 1024
  · exact (entry1 (Gen.iblk m c 0 t) (Gen.iblk m c 1 t) (Gen.iblk m c 2 t) (Gen.iblk m c 3 t) (Gen.iblk m c 4 t) (Gen.iblk m c 5 t) (Gen.iblk m c 6 t) acc L r ⟨j.val - 512, by omega⟩ j (by dsimp only; omega)).trans (added_step t acc _ r _ j hacc fun n => block2 m c t n _ j (by dsimp only; omega))
  by_cases h2 : j.val < 1536
  · exact (entry2 (Gen.iblk m c 0 t) (Gen.iblk m c 1 t) (Gen.iblk m c 2 t) (Gen.iblk m c 3 t) (Gen.iblk m c 4 t) (Gen.iblk m c 5 t) (Gen.iblk m c 6 t) acc L r ⟨j.val - 1024, by omega⟩ j (by dsimp only; omega)).trans (added_step t acc _ r _ j hacc fun n => block3 m c t n _ j (by dsimp only; omega))
  by_cases h3 : j.val < 2048
  · exact (entry3 (Gen.iblk m c 0 t) (Gen.iblk m c 1 t) (Gen.iblk m c 2 t) (Gen.iblk m c 3 t) (Gen.iblk m c 4 t) (Gen.iblk m c 5 t) (Gen.iblk m c 6 t) acc L r ⟨j.val - 1536, by omega⟩ j (by dsimp only; omega)).trans (added_step t acc _ r _ j hacc fun n => block4 m c t n _ j (by dsimp only; omega))
  by_cases h4 : j.val < 2560
  · exact (entry4 (Gen.iblk m c 0 t) (Gen.iblk m c 1 t) (Gen.iblk m c 2 t) (Gen.iblk m c 3 t) (Gen.iblk m c 4 t) (Gen.iblk m c 5 t) (Gen.iblk m c 6 t) acc L r ⟨j.val - 2048, by omega⟩ j (by dsimp only; omega)).trans (added_step t acc _ r _ j hacc fun n => block5 m c t n _ j (by dsimp only; omega))
  exact (entry5 (Gen.iblk m c 0 t) (Gen.iblk m c 1 t) (Gen.iblk m c 2 t) (Gen.iblk m c 3 t) (Gen.iblk m c 4 t) (Gen.iblk m c 5 t) (Gen.iblk m c 6 t) acc L r ⟨j.val - 2560, by omega⟩ j (by dsimp only; omega)).trans (added_step t acc _ r _ j hacc fun n => block6 m c t n _ j (by dsimp only; omega))

/-- The accumulator after point `n`. -/
theorem scratch (r : Fin 1024) (j : Fin 3072) : ∀ (n : ℕ) (hn : n < cfg0.N),
    ((Gen.outsAt0 m c n hn).2 (ix2 r j) : EReal) = upto (pad (rowTerm m c r j)) (1024 * n + 1024) := by
  have hN := points
  intro n
  induction n with
  | zero =>
    intro hn
    rw [Gen.outsAt0_A m c ⟨0, hn⟩ rfl (by dsimp only; omega)]
    dsimp only
    rw [sout_A]
    refine step ⟨0, hn⟩ _ _ r j ?_
    dsimp only
    rw [Nat.mul_zero, upto_zero]
    exact zero_apply r j
  | succ n ih =>
    intro hn
    have hp := ih (Nat.lt_of_succ_lt hn)
    rw [show 1024 * n + 1024 = 1024 * (n + 1) by omega] at hp
    by_cases h3 : (n + 1) % 4 = 3
    · rw [Gen.outsAt0_C m c ⟨n + 1, hn⟩ (by dsimp only; omega) h3]
      dsimp only
      rw [sout_C]
      exact step ⟨n + 1, hn⟩ _ _ r j hp
    · rw [Gen.outsAt0_B m c ⟨n + 1, hn⟩ (by dsimp only; omega) h3]
      dsimp only
      rw [sout_B]
      exact step ⟨n + 1, hn⟩ _ _ r j hp

/-- The result's array: each entry the sum over all rows. -/
theorem whole (r : Fin 1024) (j : Fin 3072) :
    (Value.G7 m c (ix2 r j) : EReal) = ∑ n, rowTerm m c r j n := by
  have hN := points
  have hp : Value.pt7Of (ix2 r j : S1024x3072.Idx) = 3 := by
    show 4 * (1 * (r.val / 1024 - 0) + 1 * (j.val / 3072 - 0)) + 3 = _
    omega
  have hlt : Value.pt7Of (ix2 r j : S1024x3072.Idx) < cfg0.N := by omega
  unfold Value.G7
  refine (dif_pos hlt).trans ?_
  rw [← Value.outsAt0_sweep m c _ hlt]
  generalize hq : Value.pt7Of (ix2 r j : S1024x3072.Idx) = q at hlt
  rw [hp] at hq
  subst hq
  have hl : Value.loc7Of (ix2 r j : S1024x3072.Idx) = ix2 r j := by
    funext a; match a with
    | ⟨0, _⟩ => exact Fin.ext (Nat.mod_eq_of_lt r.isLt)
    | ⟨1, _⟩ => exact Fin.ext (Nat.mod_eq_of_lt j.isLt)
  rw [hl]
  have hs := scratch (m := m) (c := c) r j 3 hlt
  rw [Gen.outsAt0_C m c ⟨3, hlt⟩ (by dsimp only; omega) rfl] at hs ⊢
  dsimp only at hs ⊢
  rw [sout_C] at hs
  rw [out_C]
  refine (out_apply _ r j).trans (hs.trans ?_)
  exact upto_pad _

end Cert.Kernel5Ideal.Wgrad
end
end
-- ==== Proof.WgradInEquation.lean ====
/-
  The weight gradient of the input projection: the kernel's result is the reference's, entry by entry the same sum over the rows.
-/
module

public import proofs.«01_k».proof.Proof.WgradInValue
public import proofs.«01_k».proof.Proof.Gen.Reference5Ideal.Run
public import Idealize.ShloMosaic.Lib.Pointwise

@[expose] public section
set_option maxRecDepth 16384
noncomputable section
namespace Cert.Reference5Ideal.Wgrad
open Cert.Reference5Ideal Cert.Reference5Ideal.Gen Idealize.ShloMosaic

/-- The reference's result. -/
def out (h : FVec Ideal S4096x1024 .bf16) (dproj : FVec Ideal S4096x3072 .bf16) : FVec Ideal S1024x3072 .bf16 :=
  truncf .bf16 (transpose S1024x3072 [1, 0] (Host.dotGeneral (φ₁ := .f32) (φ₂ := .f32) dot_S4096x3072_S4096x1024_S3072x1024_0_0_1_1_n_n none (extf .f32 dproj bitsLt_bf16_f32) (extf .f32 h bitsLt_bf16_f32)) transposes_S3072x1024_S1024x3072_1_0) bitsLt_bf16_f32

theorem out_apply (h : FVec Ideal S4096x1024 .bf16) (dproj : FVec Ideal S4096x3072 .bf16) (r : Fin 1024) (j : Fin 3072) :
    out h dproj (ix2 r j) = ∑ n : Fin 4096, (dproj (ix2 n j) : EReal) * h (ix2 n r) := by
  unfold out; pointwise

end Cert.Reference5Ideal.Wgrad

namespace Cert.Equation
open Idealize.ShloMosaic Cert.Blocks

/-- The two weight gradients are one array. -/
theorem wgrad_in {m : (ℓ : Loc Kernel5Ideal.nD Kernel5Ideal.τ Kernel5Ideal.sig) → Buf (Elt Ideal) ℓ} {c : Dev Kernel5Ideal.nD}
    {h : FVec Ideal Reference5Ideal.S4096x1024 .bf16} {dproj : FVec Ideal Reference5Ideal.S4096x3072 .bf16}
    (hh : h = m (c, Proc.tc.devRef Kernel5Ideal.main_arg0)) (hd : dproj = m (c, Proc.tc.devRef Kernel5Ideal.main_arg1)) :
    Reference5Ideal.Wgrad.out h dproj = Kernel5Ideal.Value.G7 m c := by
  funext i
  have hi : i = ix2 (n0 := 1024) (n1 := 3072) (i 0) (i 1) := funext fun a => match a with | ⟨0, _⟩ => rfl | ⟨1, _⟩ => rfl
  rw [hi]
  refine (Reference5Ideal.Wgrad.out_apply h dproj (i 0) (i 1)).trans (Eq.trans ?_ (Kernel5Ideal.Wgrad.whole (i 0) (i 1)).symm)
  refine Finset.sum_congr rfl fun n _ => ?_
  unfold Kernel5Ideal.Wgrad.rowTerm Kernel5Ideal.Wgrad.input Kernel5Ideal.Wgrad.dproj
  rw [← hh, ← hd]
  exact mul_comm _ _

end Cert.Equation
end
end
-- ==== Proof.WgradDownPoint.lean ====
/-
  The weight gradient of the down projection (`wgrad_down`): what each kind of grid point leaves in the accumulator and in the
  result's block, as values of the blocks it reads.
-/
module

public import proofs.«01_k».proof.Proof.Gen.Kernel6Ideal.Frame
public import Idealize.ShloMosaic.Lib.Pointwise

@[expose] public section
set_option maxRecDepth 16384
noncomputable section
namespace Cert.Kernel6Ideal.Wgrad
open Cert.Kernel6Ideal Idealize.ShloMosaic

theorem hz2 : (![0, 0] : Fin 2 → ℕ) = fun _ => 0 := funext fun a => by fin_cases a <;> rfl
theorem hz3 : (![0, 0, 0] : Fin 3 → ℕ) = fun _ => 0 := funext fun a => by fin_cases a <;> rfl

section
variable {F : FTy → Type} [FloatOps F]
variable (c : Dev nD) (i : grid0.Coords) (arg2 : Memref sig .tc .vmem S1x1024x704 .bf16) (harg2 : arg2.IsWhole)
  (arg3 : Memref sig .tc .vmem S1x1024x1024 .bf16) (harg3 : arg3.IsWhole) (arg4 : Memref sig .tc .vmem S1x704x1024 .bf16)
  (harg4 : arg4.IsWhole) (arg5 : Memref sig .tc .vmem S704x1024 .f32) (harg5 : arg5.IsWhole)
variable (x0 : Vec F S1x1024x704 .bf16) (x1 : Vec F S1x1024x1024 .bf16) (xs0 : Vec F S704x1024 .f32)

/-- The first point of a column group starts the accumulator with its own product. -/
theorem sout_A (hc0 : Gen.cond0_0 i) (hc1 : ¬Gen.cond0_1 i) :
    Gen.sout0_A_0 c i arg2 harg2 arg3 harg3 arg4 harg4 arg5 harg5 hc0 hc1 x0 x1 = Gen.k0_pay2 Gen.k0_pay1 x0 x1 := by
  unfold Gen.sout0_A_0
  rw [View.read_writes_eq_canon _ _ _ (Gen.scover0_A_0 c i arg2 harg2 arg3 harg3 arg4 harg4 arg5 harg5 hc0 hc1 x0 x1)]
  unfold Gen.kernelRun0_A
  dsimp only
  sl_unfold_words
  rw [View.canon_cons_unit_zero (S := S704x1024) hz2, View.readCov_unit_zero (S := S704x1024) _ hz2]
  simp only [View.readAt_eq_ld, harg2.read_unread, harg3.read_unread, View.ld_unit_zero (S := S1x1024x704) hz3, View.ld_unit_zero (S := S1x1024x1024) hz3]

/-- A later point adds its product to the accumulator. -/
theorem sout_B (hc0 : ¬Gen.cond0_0 i) (hc1 : ¬Gen.cond0_1 i) :
    Gen.sout0_B_0 c i arg2 harg2 arg3 harg3 arg4 harg4 arg5 harg5 hc0 hc1 x0 x1 xs0 = Gen.k0_pay2 xs0 x0 x1 := by
  unfold Gen.sout0_B_0
  rw [View.read_writes_eq_canon _ _ _ (Gen.scover0_B_0 c i arg2 harg2 arg3 harg3 arg4 harg4 arg5 harg5 hc0 hc1 x0 x1 xs0)]
  unfold Gen.kernelRun0_B
  dsimp only
  sl_unfold_words
  rw [View.canon_unit_zero hz2]
  simp only [View.readAt_eq_ld, harg2.read_unread, harg3.read_unread, harg5.read_unread, View.ld_unit_zero (S := S1x1024x704) hz3, View.ld_unit_zero (S := S1x1024x1024) hz3, View.ld_unit_zero (S := S704x1024) hz2]

/-- The last point adds its product too. -/
theorem sout_C (hc0 : ¬Gen.cond0_0 i) (hc1 : Gen.cond0_1 i) :
    Gen.sout0_C_0 c i arg2 harg2 arg3 harg3 arg4 harg4 arg5 harg5 hc0 hc1 x0 x1 xs0 = Gen.k0_pay2 xs0 x0 x1 := by
  unfold Gen.sout0_C_0
  rw [View.read_writes_eq_canon _ _ _ (Gen.scover0_C_0 c i arg2 harg2 arg3 harg3 arg4 harg4 arg5 harg5 hc0 hc1 x0 x1 xs0)]
  unfold Gen.kernelRun0_C
  dsimp only
  sl_unfold_words
  rw [View.canon_unit_zero hz2]
  simp only [View.readAt_eq_ld, harg2.read_unread, harg3.read_unread, harg5.read_unread, View.ld_unit_zero (S := S1x1024x704) hz3, View.ld_unit_zero (S := S1x1024x1024) hz3, View.ld_unit_zero (S := S704x1024) hz2]

/-- The last point of a column group writes the completed accumulator out. -/
theorem out_C (hc0 : ¬Gen.cond0_0 i) (hc1 : Gen.cond0_1 i) :
    Gen.out0_C_2 c i arg2 harg2 arg3 harg3 arg4 harg4 arg5 harg5 hc0 hc1 x0 x1 xs0 = Gen.k0_pay3 (Gen.k0_pay2 xs0 x0 x1) := by
  unfold Gen.out0_C_2
  rw [View.read_writes_eq_canon _ _ _ (Gen.cover0_C_2 c i arg2 harg2 arg3 harg3 arg4 harg4 arg5 harg5 hc0 hc1 x0 x1 xs0)]
  unfold Gen.kernelRun0_C
  dsimp only
  sl_unfold_words
  rw [View.canon_unit_zero hz3, View.readCov_unit_zero (S := S704x1024) _ hz2]
  simp only [View.readAt_eq_ld, harg2.read_unread, harg3.read_unread, harg5.read_unread, View.ld_unit_zero (S := S1x1024x704) hz3, View.ld_unit_zero (S := S1x1024x1024) hz3, View.ld_unit_zero (S := S704x1024) hz2]
end

/-- The zero block. -/
theorem zero_apply (r : Fin 704) (d : Fin 1024) : (Gen.k0_pay1 (F := Ideal)) (ix2 r d) = (0 : EReal) := by
  unfold Gen.k0_pay1; pointwise

/-- One product: the accumulator's entry and the sum over the block's rows. -/
theorem add_apply (acc : Vec Ideal S704x1024 .f32) (x0 : Vec Ideal S1x1024x704 .bf16) (x1 : Vec Ideal S1x1024x1024 .bf16) (r : Fin 704) (d : Fin 1024) :
    Gen.k0_pay2 acc x0 x1 (ix2 r d) = (acc (ix2 r d) : EReal) + ∑ n : Fin 1024, (x0 (ix3 0 n r) : EReal) * x1 (ix3 0 n d) := by
  unfold Gen.k0_pay2; pointwise

/-- The rounding to the result's format, over the extended reals. -/
theorem out_apply (acc : Vec Ideal S704x1024 .f32) (r : Fin 704) (d : Fin 1024) :
    Gen.k0_pay3 acc (ix3 (0 : Fin 1) r d) = (acc (ix2 r d) : EReal) := by
  unfold Gen.k0_pay3; pointwise

end Cert.Kernel6Ideal.Wgrad
end
end
-- ==== Proof.WgradDownValue.lean ====
/-
  The weight gradient of the down projection (`wgrad_down`): the accumulator after each grid point is the sum over the rows read so
  far, and the result's array is the sum over all rows.
-/
module

public import proofs.«01_k».proof.Proof.WgradDownPoint
public import proofs.«01_k».proof.Proof.Blocks
public import proofs.«01_k».proof.Proof.Gen.Kernel6Ideal.Value

@[expose] public section
set_option maxRecDepth 16384
noncomputable section
namespace Cert.Kernel6Ideal.Wgrad
open Cert.Kernel6Ideal Idealize.ShloMosaic Cert.Blocks

variable (m : (ℓ : Loc nD τ sig) → Buf (Elt Ideal) ℓ) (c : Dev nD)

theorem index0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)

/-- The point's block of the activations. -/
theorem block0 (t : Fin cfg0.N) (n : Fin 1024) (r : Fin 704) (g : Fin 4) (b : Fin 4096) (hg : g.val = t.val / 4)
    (hb : b.val = 1024 * (t.val % 4) + n.val) :
    Gen.iblk m c 0 t (ix3 (0 : Fin 1) n r : S1x1024x704.Idx) = Gen.V m c main_v1 (ix3 g b r) := by
  obtain ⟨e0, e1, e2⟩ := index0 t
  refine congrArg (Gen.V m c main_v1) (funext fun x => Fin.ext ?_)
  match x with
  | ⟨0, _⟩ =>
    show win0_0.index t (0 : Fin 3) * 1 + 1 * 0 = g.val
    omega
  | ⟨1, _⟩ =>
    show win0_0.index t (1 : Fin 3) * 1024 + 1 * n.val = b.val
    rw [e1]; omega
  | ⟨2, _⟩ =>
    show win0_0.index t (2 : Fin 3) * 704 + 1 * r.val = r.val
    rw [e2]; omega

theorem index1 : ∀ t : Fin cfg0.N, win0_1.index t (0 : Fin 3) = 0 ∧ win0_1.index t (1 : Fin 3) = t.val % 4 ∧ win0_1.index t (2 : Fin 3) = 0 :=
  (by decide +kernel : ∀ t : Fin grid0.N, _)

/-- The point's block of the output's gradient. -/
theorem block1 (t : Fin cfg0.N) (n : Fin 1024) (d : Fin 1024) (b : Fin 4096) (hb : b.val = 1024 * (t.val % 4) + n.val) :
    Gen.iblk m c 1 t (ix3 (0 : Fin 1) n d : S1x1024x1024.Idx) = Gen.V m c main_v2 (ix3 (0 : Fin 1) b d) := by
  obtain ⟨e0, e1, e2⟩ := index1 t
  refine congrArg (Gen.V m c main_v2) (funext fun x => Fin.ext ?_)
  match x with
  | ⟨0, _⟩ =>
    show win0_1.index t (0 : Fin 3) * 1 + 1 * 0 = 0
    omega
  | ⟨1, _⟩ =>
    show win0_1.index t (1 : Fin 3) * 1024 + 1 * n.val = b.val
    rw [e1]; omega
  | ⟨2, _⟩ =>
    show win0_1.index t (2 : Fin 3) * 1024 + 1 * d.val = d.val
    rw [e2]; omega

/-- The product of row `n` in the gradient of weight `(r, d)` of column group `g`. -/
def rowTerm (g : Fin 4) (r : Fin 704) (d : Fin 1024) (n : Fin 4096) : EReal :=
  mul (Gen.V m c main_v1 (ix3 g n r)) (Gen.V m c main_v2 (ix3 (0 : Fin 1) n d))

/-- The group's number at a point, as the array's first index. -/
def group (t : ℕ) (ht : t < cfg0.N) : Fin 4 := ⟨t / 4, by have hN : cfg0.N = 16 := Gen.N_0; omega⟩

variable {m c}

/-- One point adds its block of rows to the sum. -/
theorem step (t : Fin cfg0.N) (acc : Vec Ideal S704x1024 .f32) (r : Fin 704) (d : Fin 1024)
    (hacc : (acc (ix2 r d) : EReal) = upto (pad (rowTerm m c (group t.val t.isLt) r d)) (1024 * (t.val % 4))) :
    (Gen.k0_pay2 acc (Gen.iblk m c 0 t) (Gen.iblk m c 1 t) (ix2 r d) : EReal)
      = upto (pad (rowTerm m c (group t.val t.isLt) r d)) (1024 * (t.val % 4) + 1024) := by
  rw [upto_add]
  refine (add_apply _ _ _ r d).trans (congrArg₂ (· + ·) hacc (Finset.sum_congr rfl fun n _ => ?_))
  have hb : 1024 * (t.val % 4) + n.val < 4096 := by omega
  rw [pad_eq _ ⟨_, hb⟩ rfl]
  exact congrArg₂ mul (block0 m c t n r (group t.val t.isLt) ⟨_, hb⟩ rfl rfl) (block1 m c t n d ⟨_, hb⟩ rfl)

/-- The accumulator after point `n`. -/
theorem scratch (r : Fin 704) (d : Fin 1024) : ∀ (n : ℕ) (hn : n < cfg0.N),
    ((Gen.outsAt0 m c n hn).2 (ix2 r d) : EReal) = upto (pad (rowTerm m c (group n hn) r d)) (1024 * (n % 4) + 1024) := by
  have first : ∀ (n : ℕ) (hn : n < cfg0.N) (h0 : n % 4 = 0), ((Gen.outsAt0 m c n hn).2 (ix2 r d) : EReal) = upto (pad (rowTerm m c (group n hn) r d)) (1024 * (n % 4) + 1024) := by
    intro n hn h0
    rw [Gen.outsAt0_A m c ⟨n, hn⟩ h0 (by dsimp only; omega)]
    dsimp only
    rw [sout_A]
    refine step ⟨n, hn⟩ _ r d ?_
    dsimp only
    rw [h0, Nat.mul_zero, upto_zero]
    exact zero_apply r d
  intro n
  induction n with
  | zero => intro hn; exact first 0 hn rfl
  | succ n ih =>
    intro hn
    by_cases h0 : (n + 1) % 4 = 0
    · exact first _ hn h0
    · have hp := ih (Nat.lt_of_succ_lt hn)
      have e1 : group n (Nat.lt_of_succ_lt hn) = group (n + 1) hn := Fin.ext (by show n / 4 = (n + 1) / 4; omega)
      have e2 : 1024 * (n % 4) + 1024 = 1024 * ((n + 1) % 4) := by omega
      rw [e1, e2] at hp
      by_cases h3 : (n + 1) % 4 = 3
      · rw [Gen.outsAt0_C m c ⟨n + 1, hn⟩ h0 h3]
        dsimp only
        rw [sout_C]
        exact step ⟨n + 1, hn⟩ _ r d hp
      · rw [Gen.outsAt0_B m c ⟨n + 1, hn⟩ h0 h3]
        dsimp only
        rw [sout_B]
        exact step ⟨n + 1, hn⟩ _ r d hp

/-- The result's array: each entry the sum over all rows. -/
theorem whole (g : Fin 4) (r : Fin 704) (d : Fin 1024) :
    (Value.G2 m c (ix3 g r d) : EReal) = ∑ n, rowTerm m c g r d n := by
  have hN : cfg0.N = 16 := Gen.N_0
  have hp : Value.pt2Of (ix3 g r d : S4x704x1024.Idx) = 4 * g.val + 3 := by
    show 4 * (1 * (g.val / 1 - 0) + 1 * (r.val / 704 - 0) + 1 * (d.val / 1024 - 0)) + 3 = _
    omega
  have hlt : Value.pt2Of (ix3 g r d : S4x704x1024.Idx) < cfg0.N := by omega
  unfold Value.G2
  refine (dif_pos hlt).trans ?_
  rw [← Value.outsAt0_sweep m c _ hlt]
  generalize hq : Value.pt2Of (ix3 g r d : S4x704x1024.Idx) = q at hlt
  rw [hp] at hq
  subst hq
  have hl : Value.loc2Of (ix3 g r d : S4x704x1024.Idx) = ix3 (0 : Fin 1) r d := by
    funext a; match a with
    | ⟨0, _⟩ => exact Fin.ext (by show g.val % 1 = 0; omega)
    | ⟨1, _⟩ => exact Fin.ext (Nat.mod_eq_of_lt r.isLt)
    | ⟨2, _⟩ => exact Fin.ext (Nat.mod_eq_of_lt d.isLt)
  rw [hl]
  have hs := scratch (m := m) (c := c) r d (4 * g.val + 3) hlt
  rw [Gen.outsAt0_C m c ⟨4 * g.val + 3, hlt⟩ (by dsimp only; omega) (by dsimp only; omega)] at hs ⊢
  dsimp only at hs ⊢
  rw [sout_C] at hs
  rw [out_C]
  refine (out_apply _ r d).trans (hs.trans ?_)
  have e1 : group (4 * g.val + 3) hlt = g := Fin.ext (by show (4 * g.val + 3) / 4 = g.val; omega)
  have e2 : 1024 * ((4 * g.val + 3) % 4) + 1024 = 4096 := by omega
  rw [e1, e2, upto_pad]

end Cert.Kernel6Ideal.Wgrad
end
end
-- ==== Proof.WgradDownEquation.lean ====
/-
  The weight gradient of the down projection: the kernel's result is the reference's, entry by entry the same sum over the rows.
-/
module

public import proofs.«01_k».proof.Proof.WgradDownValue
public import proofs.«01_k».proof.Proof.Gen.Reference6Ideal.Run
public import Idealize.ShloMosaic.Lib.Pointwise
public import Idealize.ShloMosaic.Lib.Claim

@[expose] public section
set_option maxRecDepth 16384
noncomputable section
namespace Cert.Kernel6Ideal.Wgrad
open Cert.Kernel6Ideal Cert.Kernel6Ideal.Gen Idealize.ShloMosaic Cert.Blocks

variable {m : (ℓ : Loc nD τ sig) → Buf (Elt Ideal) ℓ} {c : Dev nD}

/-- The activations in column groups, as the kernel takes it. -/
def inGroups (x : FVec Ideal S4096x2816 .bf16) : FVec Ideal S4x4096x704 .bf16 :=
  transpose S4x4096x704 [1, 0, 2] (shapeCast S4096x4x704 x shapeCasts_S4096x2816_S4096x4x704) transposes_S4096x4x704_S4x4096x704_1_0_2

theorem v1_eq : Gen.V m c main_v1 = inGroups (m (c, Proc.tc.devRef main_arg0)) := by
  unfold_abbrev_sides
  after_results_simp
  rfl

theorem v2_eq : Gen.V m c main_v2 = shapeCast S1x4096x1024 (m (c, Proc.tc.devRef main_arg1) : FVec Ideal S4096x1024 .bf16) shapeCasts_S4096x1024_S1x4096x1024 := by
  unfold_abbrev_sides
  after_results_simp
  rfl

theorem inGroups_apply (x : FVec Ideal S4096x2816 .bf16) (g : Fin 4) (n : Fin 4096) (r : Fin 704) :
    inGroups x (ix3 g n r) = (x (ix2 n (⟨g.val * 704 + r.val, by omega⟩ : Fin 2816)) : EReal) := by
  unfold inGroups; pointwise

theorem flat_apply (x : FVec Ideal S4096x1024 .bf16) (n : Fin 4096) (d : Fin 1024) :
    shapeCast S1x4096x1024 x shapeCasts_S4096x1024_S1x4096x1024 (ix3 (0 : Fin 1) n d) = (x (ix2 n d) : EReal) := by
  pointwise

end Cert.Kernel6Ideal.Wgrad

namespace Cert.Reference6Ideal.Wgrad
open Cert.Reference6Ideal Cert.Reference6Ideal.Gen Idealize.ShloMosaic

/-- The reference's result. -/
def out (a : FVec Ideal S4096x2816 .bf16) (dff : FVec Ideal S4096x1024 .bf16) : FVec Ideal S4x704x1024 .bf16 :=
  truncf .bf16 (shapeCast S4x704x1024 (transpose S2816x1024 [1, 0] (Host.dotGeneral (φ₁ := .f32) (φ₂ := .f32) dot_S4096x1024_S4096x2816_S1024x2816_0_0_1_1_n_n none (extf .f32 dff bitsLt_bf16_f32) (extf .f32 a bitsLt_bf16_f32)) transposes_S1024x2816_S2816x1024_1_0) shapeCasts_S2816x1024_S4x704x1024) bitsLt_bf16_f32

theorem out_apply (a : FVec Ideal S4096x2816 .bf16) (dff : FVec Ideal S4096x1024 .bf16) (g : Fin 4) (r : Fin 704) (d : Fin 1024) :
    out a dff (ix3 g r d) = ∑ n : Fin 4096, (dff (ix2 n d) : EReal) * a (ix2 n (⟨g.val * 704 + r.val, by omega⟩ : Fin 2816)) := by
  unfold out; pointwise

end Cert.Reference6Ideal.Wgrad

namespace Cert.Equation
open Idealize.ShloMosaic Cert.Blocks

/-- The two weight gradients are one array. -/
theorem wgrad_down {m : (ℓ : Loc Kernel6Ideal.nD Kernel6Ideal.τ Kernel6Ideal.sig) → Buf (Elt Ideal) ℓ} {c : Dev Kernel6Ideal.nD}
    {a : FVec Ideal Reference6Ideal.S4096x2816 .bf16} {dff : FVec Ideal Reference6Ideal.S4096x1024 .bf16}
    (ha : a = m (c, Proc.tc.devRef Kernel6Ideal.main_arg0)) (hd : dff = m (c, Proc.tc.devRef Kernel6Ideal.main_arg1)) :
    Reference6Ideal.Wgrad.out a dff = Kernel6Ideal.Value.G2 m c := by
  funext i
  have hi : i = ix3 (n0 := 4) (n1 := 704) (n2 := 1024) (i 0) (i 1) (i 2) := funext fun a => match a with | ⟨0, _⟩ => rfl | ⟨1, _⟩ => rfl | ⟨2, _⟩ => rfl
  rw [hi]
  refine (Reference6Ideal.Wgrad.out_apply a dff (i 0) (i 1) (i 2)).trans (Eq.trans ?_ (Kernel6Ideal.Wgrad.whole (i 0) (i 1) (i 2)).symm)
  refine Finset.sum_congr rfl fun n _ => ?_
  unfold Kernel6Ideal.Wgrad.rowTerm
  rw [Kernel6Ideal.Wgrad.v1_eq, Kernel6Ideal.Wgrad.v2_eq, ← ha, ← hd]
  exact (mul_comm _ _).trans (congrArg₂ mul (Kernel6Ideal.Wgrad.inGroups_apply a (i 0) n (i 1)) (Kernel6Ideal.Wgrad.flat_apply dff n (i 2))).symm

end Cert.Equation
end
end
-- ==== Proof.DownPoint.lean ====
/-
  The down projection with the gate and the residual (`down`): what each kind of grid point leaves in the projection's block and in
  the layer's output, as values of the blocks it reads.
-/
module

public import proofs.«01_k».proof.Proof.Gen.Kernel7Ideal.Frame
public import Idealize.ShloMosaic.Lib.Pointwise

@[expose] public section
set_option maxRecDepth 16384
noncomputable section
namespace Cert.Kernel7Ideal.Down
open Cert.Kernel7Ideal Idealize.ShloMosaic

theorem hz2 : (![0, 0] : Fin 2 → ℕ) = fun _ => 0 := funext fun a => by fin_cases a <;> rfl
theorem hz3 : (![0, 0, 0] : Fin 3 → ℕ) = fun _ => 0 := funext fun a => by fin_cases a <;> rfl

section
variable {F : FTy → Type} [FloatOps F]
variable (c : Dev nD) (i : grid0.Coords) (arg2 : Memref sig .tc .vmem S1x1024x704 .bf16) (harg2 : arg2.IsWhole)
  (arg3 : Memref sig .tc .vmem S1x704x1024 .bf16) (harg3 : arg3.IsWhole) (arg4 : Memref sig .tc .vmem S1024x1024 .f32)
  (harg4 : arg4.IsWhole) (arg5 : Memref sig .tc .vmem S1x1024 .f32) (harg5 : arg5.IsWhole)
  (arg6 : Memref sig .tc .vmem S1024x1024 .f32) (harg6 : arg6.IsWhole) (arg7 : Memref sig .tc .vmem S1024x1024 .f32) (harg7 : arg7.IsWhole)
variable (x0 : Vec F S1x1024x704 .bf16) (x1 : Vec F S1x704x1024 .bf16) (x2 : Vec F S1024x1024 .f32) (x3 : Vec F S1x1024 .f32) (xo4 : Vec F S1024x1024 .f32)

/-- The first point of a block of rows starts the projection with its own product. -/
theorem out_A (hc0 : Gen.cond0_0 i) (hc1 : ¬Gen.cond0_1 i) (hc2 : ¬Gen.cond0_2 i) :
    Gen.out0_A_4 c i arg2 harg2 arg3 harg3 arg4 harg4 arg5 harg5 arg6 harg6 arg7 harg7 hc0 hc1 hc2 x0 x1 x2 x3 = Gen.k0_pay1 x0 x1 := by
  unfold Gen.out0_A_4
  rw [View.read_writes_eq_canon _ _ _ (Gen.cover0_A_4 c i arg2 harg2 arg3 harg3 arg4 harg4 arg5 harg5 arg6 harg6 arg7 harg7 hc0 hc1 hc2 x0 x1 x2 x3)]
  unfold Gen.kernelRun0_A
  dsimp only
  sl_unfold_words
  rw [View.canon_unit_zero hz2]
  simp only [View.readAt_eq_ld, harg2.read_unread, harg3.read_unread, View.ld_unit_zero (S := S1x1024x704) hz3, View.ld_unit_zero (S := S1x704x1024) hz3]

/-- A later point adds its product. -/
theorem out_B (hc0 : ¬Gen.cond0_0 i) (hc1 : Gen.cond0_1 i) (hc2 : ¬Gen.cond0_2 i) :
    Gen.out0_B_4 c i arg2 harg2 arg3 harg3 arg4 harg4 arg5 harg5 arg6 harg6 arg7 harg7 hc0 hc1 hc2 x0 x1 x2 x3 xo4 = Gen.k0_pay2 x0 x1 xo4 := by
  unfold Gen.out0_B_4
  rw [View.read_writes_eq_canon _ _ _ (Gen.cover0_B_4 c i arg2 harg2 arg3 harg3 arg4 harg4 arg5 harg5 arg6 harg6 arg7 harg7 hc0 hc1 hc2 x0 x1 x2 x3 xo4)]
  unfold Gen.kernelRun0_B
  dsimp only
  sl_unfold_words
  rw [View.canon_unit_zero hz2]
  simp only [View.readAt_eq_ld, harg2.read_unread, harg3.read_unread, harg6.read_unread, View.ld_unit_zero (S := S1x1024x704) hz3, View.ld_unit_zero (S := S1x704x1024) hz3, View.ld_unit_zero (S := S1024x1024) hz2]

section
variable (hc0 : ¬Gen.cond0_0 i) (hc1 : Gen.cond0_1 i) (hc2 : Gen.cond0_2 i)

/-- The last point adds its product too … -/
theorem out_C :
    Gen.out0_C_4 c i arg2 harg2 arg3 harg3 arg4 harg4 arg5 harg5 arg6 harg6 arg7 harg7 hc0 hc1 hc2 x0 x1 x2 x3 xo4 = Gen.k0_pay2 x0 x1 xo4 := by
  unfold Gen.out0_C_4
  rw [View.read_writes_eq_canon _ _ _ (Gen.cover0_C_4 c i arg2 harg2 arg3 harg3 arg4 harg4 arg5 harg5 arg6 harg6 arg7 harg7 hc0 hc1 hc2 x0 x1 x2 x3 xo4)]
  unfold Gen.kernelRun0_C
  dsimp only
  sl_unfold_words
  rw [View.canon_unit_zero hz2]
  simp only [View.readAt_eq_ld, harg2.read_unread, harg3.read_unread, harg6.read_unread, View.ld_unit_zero (S := S1x1024x704) hz3, View.ld_unit_zero (S := S1x704x1024) hz3, View.ld_unit_zero (S := S1024x1024) hz2]

/-- … and writes the layer's output. -/
theorem out_C_layer :
    Gen.out0_C_5 c i arg2 harg2 arg3 harg3 arg4 harg4 arg5 harg5 arg6 harg6 arg7 harg7 hc0 hc1 hc2 x0 x1 x2 x3 xo4 = Gen.k0_pay3 x2 x3 (Gen.k0_pay2 x0 x1 xo4) := by
  unfold Gen.out0_C_5
  rw [View.read_writes_eq_canon _ _ _ (Gen.cover0_C_5 c i arg2 harg2 arg3 harg3 arg4 harg4 arg5 harg5 arg6 harg6 arg7 harg7 hc0 hc1 hc2 x0 x1 x2 x3 xo4)]
  unfold Gen.kernelRun0_C
  dsimp only
  sl_unfold_words
  rw [View.canon_unit_zero hz2]
  simp only [View.readCov_unit_zero (S := S1024x1024) _ hz2, View.readAt_eq_ld, harg2.read_unread, harg3.read_unread, harg4.read_unread, harg5.read_unread, harg6.read_unread, View.ld_unit_zero (S := S1x1024x704) hz3, View.ld_unit_zero (S := S1x704x1024) hz3, View.ld_unit_zero (S := S1024x1024) hz2, View.ld_unit_zero (S := S1x1024) hz2]
end
end

/-! ## The same, entry by entry over the extended reals -/

theorem start_apply (x0 : Vec Ideal S1x1024x704 .bf16) (x1 : Vec Ideal S1x704x1024 .bf16) (r d : Fin 1024) :
    Gen.k0_pay1 x0 x1 (ix2 r d) = ∑ k : Fin 704, (x0 (ix3 0 r k) : EReal) * x1 (ix3 0 k d) := by
  unfold Gen.k0_pay1; pointwise

theorem add_apply (x0 : Vec Ideal S1x1024x704 .bf16) (x1 : Vec Ideal S1x704x1024 .bf16) (acc : Vec Ideal S1024x1024 .f32) (r d : Fin 1024) :
    Gen.k0_pay2 x0 x1 acc (ix2 r d) = (acc (ix2 r d) : EReal) + ∑ k : Fin 704, (x0 (ix3 0 r k) : EReal) * x1 (ix3 0 k d) := by
  unfold Gen.k0_pay2 Gen.k0_pay1; pointwise

theorem layer_apply (x : Vec Ideal S1024x1024 .f32) (gate : Vec Ideal S1x1024 .f32) (f : Vec Ideal S1024x1024 .f32) (r d : Fin 1024) :
    Gen.k0_pay3 x gate f (ix2 r d) = (x (ix2 r d) : EReal) + gate (ix2 (0 : Fin 1) d) * f (ix2 r d) := by
  unfold Gen.k0_pay3; pointwise

end Cert.Kernel7Ideal.Down
end
end
-- ==== Proof.DownValue.lean ====
/-
  The down projection (`down`): its block after each grid point is the sum over the column groups read so far, and the two results'
  arrays are the projection and the layer's output.
-/
module

public import proofs.«01_k».proof.Proof.DownPoint
public import proofs.«01_k».proof.Proof.Blocks
public import proofs.«01_k».proof.Proof.Gen.Kernel7Ideal.Value

@[expose] public section
set_option maxRecDepth 16384
noncomputable section
namespace Cert.Kernel7Ideal.Down
open Cert.Kernel7Ideal Idealize.ShloMosaic Idealize.ShloMosaic.TcCoe Idealize.SL.Sem Cert.Blocks

variable (m : (ℓ : Loc nD τ sig) → Buf (Elt Ideal) ℓ) (c : Dev nD)

theorem points : cfg0.N = 16 := Gen.N_0

/-- The array's row at a point's row `r`. -/
def row (n : ℕ) (hn : n < cfg0.N) (r : Fin 1024) : Fin 4096 := ⟨1024 * (n / 4) + r.val, by have := points; omega⟩

/-! ## The blocks a point reads -/

theorem index0 : ∀ t : Fin cfg0.N, win0_0.index t (0 : Fin 3) = t.val % 4 ∧ win0_0.index t (1 : Fin 3) = t.val / 4 ∧ win0_0.index t (2 : Fin 3) = 0 :=
  (by decide +kernel : ∀ t : Fin grid0.N, _)

theorem block0 (t : Fin cfg0.N) (r : Fin 1024) (k : Fin 704) (g : Fin 4) (hg : g.val = t.val % 4) :
    Gen.iblk m c 0 t (ix3 (0 : Fin 1) r k : S1x1024x704.Idx) = Gen.V m c main_v1 (ix3 g (row t.val t.isLt r) k) := by
  obtain ⟨e0, e1, e2⟩ := index0 t
  refine congrArg (Gen.V m c main_v1) (funext fun x => Fin.ext ?_)
  match x with
  | ⟨0, _⟩ => show win0_0.index t (0 : Fin 3) * 1 + 1 * 0 = g.val; omega
  | ⟨1, _⟩ => show win0_0.index t (1 : Fin 3) * 1024 + 1 * r.val = 1024 * (t.val / 4) + r.val; rw [e1]; omega
  | ⟨2, _⟩ => show win0_0.index t (2 : Fin 3) * 704 + 1 * k.val = k.val; rw [e2]; omega

theorem index1 : ∀ t : Fin cfg0.N, win0_1.index t (0 : Fin 3) = t.val % 4 ∧ win0_1.index t (1 : Fin 3) = 0 ∧ win0_1.index t (2 : Fin 3) = 0 :=
  (by decide +kernel : ∀ t : Fin grid0.N, _)

theorem block1 (t : Fin cfg0.N) (k : Fin 704) (d : Fin 1024) (g : Fin 4) (hg : g.val = t.val % 4) :
    Gen.iblk m c 1 t (ix3 (0 : Fin 1) k d : S1x704x1024.Idx) = Gen.V m c main_v3 (ix3 g k d) := by
  obtain ⟨e0, e1, e2⟩ := index1 t
  refine congrArg (Gen.V m c main_v3) (funext fun x => Fin.ext ?_)
  match x with
  | ⟨0, _⟩ => show win0_1.index t (0 : Fin 3) * 1 + 1 * 0 = g.val; omega
  | ⟨1, _⟩ => show win0_1.index t (1 : Fin 3) * 704 + 1 * k.val = k.val; rw [e1]; omega
  | ⟨2, _⟩ => show win0_1.index t (2 : Fin 3) * 1024 + 1 * d.val = d.val; rw [e2]; omega

theorem index2 : ∀ t : Fin cfg0.N, win0_2.index t (0 : Fin 2) = t.val / 4 ∧ win0_2.index t (1 : Fin 2) = 0 :=
  (by decide +kernel : ∀ t : Fin grid0.N, _)

theorem block2 (t : Fin cfg0.N) (r d : Fin 1024) :
    Gen.iblk m c 2 t (ix2 r d : S1024x1024.Idx) = Gen.V m c main_arg2 (ix2 (row t.val t.isLt r) d) := by
  obtain ⟨e0, e1⟩ := index2 t
  refine congrArg (Gen.V m c main_arg2) (funext fun x => Fin.ext ?_)
  match x with
  | ⟨0, _⟩ => show win0_2.index t (0 : Fin 2) * 1024 + 1 * r.val = 1024 * (t.val / 4) + r.val; rw [e0]; omega
  | ⟨1, _⟩ => show win0_2.index t (1 : Fin 2) * 1024 + 1 * d.val = d.val; rw [e1]; omega

theorem index3 : ∀ t : Fin cfg0.N, win0_3.index t (0 : Fin 2) = 0 ∧ win0_3.index t (1 : Fin 2) = 0 :=
  (by decide +kernel : ∀ t : Fin grid0.N, _)

theorem block3 (t : Fin cfg0.N) (d : Fin 1024) :
    Gen.iblk m c 3 t (ix2 (0 : Fin 1) d : S1x1024.Idx) = Gen.V m c main_arg3 (ix2 (0 : Fin 1) d) := by
  obtain ⟨e0, e1⟩ := index3 t
  refine congrArg (Gen.V m c main_arg3) (funext fun x => Fin.ext ?_)
  match x with
  | ⟨0, _⟩ => show win0_3.index t (0 : Fin 2) * 1 + 1 * 0 = 0; omega
  | ⟨1, _⟩ => show win0_3.index t (1 : Fin 2) * 1024 + 1 * d.val = d.val; rw [e1]; omega

/-! ## The projection -/

/-- An entry of the layer's output: the residual and the gated projection. -/
def residual (x g f : EReal) : EReal := x + g * f

/-- The product of column `j` in the projection, with the columns in four groups. -/
def colTerm (b : Fin 4096) (d : Fin 1024) (j : Fin 2816) : EReal :=
  mul (Gen.V m c main_v1 (ix3 (⟨j.val / 704, by omega⟩ : Fin 4) b (⟨j.val % 704, by omega⟩ : Fin 704)))
    (Gen.V m c main_v3 (ix3 (⟨j.val / 704, by omega⟩ : Fin 4) (⟨j.val % 704, by omega⟩ : Fin 704) d))

/-- The projection. -/
def proj (b : Fin 4096) (d : Fin 1024) : EReal := ∑ j, colTerm m c b d j

variable {m c}

/-- A point's product is the next group of columns. -/
theorem product (t : Fin cfg0.N) (r d : Fin 1024) :
    ∑ k : Fin 704, mul (Gen.iblk m c 0 t (ix3 (0 : Fin 1) r k : S1x1024x704.Idx)) (Gen.iblk m c 1 t (ix3 (0 : Fin 1) k d : S1x704x1024.Idx))
      = ∑ k : Fin 704, pad (colTerm m c (row t.val t.isLt r) d) (704 * (t.val % 4) + k.val) := by
  refine Finset.sum_congr rfl fun k _ => ?_
  have hb : 704 * (t.val % 4) + k.val < 2816 := by omega
  rw [pad_eq _ ⟨_, hb⟩ rfl]
  have e1 : (⟨(704 * (t.val % 4) + k.val) / 704, by omega⟩ : Fin 4) = ⟨t.val % 4, by omega⟩ := Fin.ext (by dsimp only; omega)
  have e2 : (⟨(704 * (t.val % 4) + k.val) % 704, by omega⟩ : Fin 704) = k := Fin.ext (by dsimp only; omega)
  unfold colTerm
  dsimp only
  rw [e1, e2]
  exact congrArg₂ mul (block0 m c t r k _ rfl) (block1 m c t k d _ rfl)

theorem start (t : Fin cfg0.N) (h : t.val % 4 = 0) (r d : Fin 1024) :
    (Gen.k0_pay1 (Gen.iblk m c 0 t) (Gen.iblk m c 1 t) (ix2 r d) : EReal)
      = upto (pad (colTerm m c (row t.val t.isLt r) d)) (704 * (t.val % 4) + 704) := by
  rw [upto_add]
  refine (start_apply _ _ r d).trans ((product t r d).trans ?_)
  rw [h, Nat.mul_zero, upto_zero, zero_add]

theorem step (t : Fin cfg0.N) (acc : Vec Ideal S1024x1024 .f32) (r d : Fin 1024)
    (hacc : (acc (ix2 r d) : EReal) = upto (pad (colTerm m c (row t.val t.isLt r) d)) (704 * (t.val % 4))) :
    (Gen.k0_pay2 (Gen.iblk m c 0 t) (Gen.iblk m c 1 t) acc (ix2 r d) : EReal)
      = upto (pad (colTerm m c (row t.val t.isLt r) d)) (704 * (t.val % 4) + 704) := by
  rw [upto_add]
  exact (add_apply _ _ _ r d).trans (congrArg₂ (· + ·) hacc (product t r d))

/-- The projection's block after point `n`. -/
theorem partly (r d : Fin 1024) : ∀ (n : ℕ) (hn : n < cfg0.N),
    ((Gen.outsAt0 m c n hn).1 (ix2 r d) : EReal) = upto (pad (colTerm m c (row n hn r) d)) (704 * (n % 4) + 704) := by
  have first : ∀ (n : ℕ) (hn : n < cfg0.N) (h0 : n % 4 = 0), ((Gen.outsAt0 m c n hn).1 (ix2 r d) : EReal) = upto (pad (colTerm m c (row n hn r) d)) (704 * (n % 4) + 704) := by
    intro n hn h0
    rw [Gen.outsAt0_A m c ⟨n, hn⟩ h0 (by dsimp only; omega) (by dsimp only; omega)]
    dsimp only
    rw [out_A]
    exact start ⟨n, hn⟩ h0 r d
  intro n
  induction n with
  | zero => intro hn; exact first 0 hn rfl
  | succ n ih =>
    intro hn
    by_cases h0 : (n + 1) % 4 = 0
    · exact first _ hn h0
    · have hp := ih (Nat.lt_of_succ_lt hn)
      have e1 : row n (Nat.lt_of_succ_lt hn) r = row (n + 1) hn r := Fin.ext (by show 1024 * (n / 4) + r.val = 1024 * ((n + 1) / 4) + r.val; omega)
      have e2 : 704 * (n % 4) + 704 = 704 * ((n + 1) % 4) := by omega
      rw [e1, e2] at hp
      by_cases h3 : (n + 1) % 4 = 3
      · rw [Gen.outsAt0_C m c ⟨n + 1, hn⟩ h0 (by dsimp only; omega) h3]
        dsimp only
        rw [out_C]
        exact step ⟨n + 1, hn⟩ _ r d hp
      · rw [Gen.outsAt0_B m c ⟨n + 1, hn⟩ h0 (by dsimp only; omega) h3]
        dsimp only
        rw [out_B]
        exact step ⟨n + 1, hn⟩ _ r d hp

theorem written (n : ℕ) (hn : n < cfg0.N) (h : n % 4 = 3) (r d : Fin 1024) :
    ((Gen.outsAt0 m c n hn).1 (ix2 r d) : EReal) = proj m c (row n hn r) d := by
  rw [partly, show 704 * (n % 4) + 704 = 2816 by omega, upto_pad]
  rfl

/-- The layer's output, written by the last point of each block of rows. -/
theorem written_layer (n : ℕ) (hn : n < cfg0.N) (h : n % 4 = 3) (r d : Fin 1024) :
    ((Gen.outsAt0 m c n hn).2 (ix2 r d) : EReal)
      = residual (Gen.V m c main_arg2 (ix2 (row n hn r) d)) (Gen.V m c main_arg3 (ix2 (0 : Fin 1) d)) (proj m c (row n hn r) d) := by
  have hw := written (m := m) (c := c) n hn h r d
  rw [Gen.outsAt0_C m c ⟨n, hn⟩ (by dsimp only; omega) (by dsimp only; omega) h] at hw ⊢
  dsimp only at hw ⊢
  rw [out_C] at hw
  rw [out_C_layer]
  refine (layer_apply _ _ _ r d).trans ?_
  rw [hw]
  exact congrArg₂ (residual · · (proj m c (row n hn r) d)) (block2 m c ⟨n, hn⟩ r d) (block3 m c ⟨n, hn⟩ d)

/-! ## The result arrays -/

variable (m c)

/-- The projection's array. -/
def projArray : Vec Ideal S4096x1024 .f32 := fun i => proj m c (i 0) (i 1)

/-- The layer's output. -/
def layerArray : Vec Ideal S4096x1024 .f32 := fun i =>
  residual (Gen.V m c main_arg2 (ix2 (n0 := 4096) (n1 := 1024) (i 0) (i 1))) (Gen.V m c main_arg3 (ix2 (n0 := 1) (n1 := 1024) 0 (i 1))) (proj m c (i 0) (i 1))

theorem index4 : ∀ t : Fin cfg0.N, win0_4.index t (0 : Fin 2) = t.val / 4 ∧ win0_4.index t (1 : Fin 2) = 0 :=
  (by decide +kernel : ∀ t : Fin grid0.N, _)

theorem index5 : ∀ t : Fin cfg0.N, win0_5.index t (0 : Fin 2) = t.val / 4 ∧ win0_5.index t (1 : Fin 2) = 0 :=
  (by decide +kernel : ∀ t : Fin grid0.N, _)

theorem flushed_proj (t : Fin cfg0.N) (hf : (cfg0.win 4).flush t = true) :
    (Gen.dats m 0 c).flushed 4 t = ((cfg0.win 4).blk t).view.read (Elt Ideal) (projArray m c) := by
  obtain ⟨e0, e1⟩ := index4 t
  rw [Value.flushed4]
  funext y
  refine Eq.trans (b := ((Gen.outsAt0 m c t.val t.isLt).1 (ix2 (n0 := 1024) (n1 := 1024) (y 0) (y 1)) : EReal)) ?_ ?_
  · exact congrArg (Gen.outsAt0 m c t.val t.isLt).1 (funext fun a => match a with | ⟨0, _⟩ => rfl | ⟨1, _⟩ => rfl)
  refine (written t.val t.isLt ((Gen.flush0_4 t).mp hf) (y 0) (y 1)).trans ?_
  have h0 : ((cfg0.win 4).blk t).view.emb y 0 = row t.val t.isLt (y 0) :=
    Fin.ext (by show win0_4.index t (0 : Fin 2) * 1024 + 1 * (y 0).val = 1024 * (t.val / 4) + (y 0).val; rw [e0]; omega)
  have h1 : ((cfg0.win 4).blk t).view.emb y 1 = y 1 :=
    Fin.ext (by show win0_4.index t (1 : Fin 2) * 1024 + 1 * (y 1).val = (y 1).val; rw [e1]; omega)
  show _ = projArray m c (((cfg0.win 4).blk t).view.emb y)
  unfold projArray
  rw [h0, h1]

theorem final_proj : (Gen.dats m 0 c).arrAt 4 cfg0.N = projArray m c :=
  (Gen.dats m 0 c).arrAt_eq_of_cover 4 _ (flushed_proj m c) fun i => by
    have hN := points
    have h0 : (i 0).val < 4096 := (i 0).isLt
    have h1 : (i 1).val < 1024 := (i 1).isLt
    have ht : 4 * ((i 0).val / 1024) + 3 < cfg0.N := by omega
    obtain ⟨e0, e1⟩ := index4 ⟨_, ht⟩
    refine ⟨⟨_, ht⟩, (Gen.flush0_4 _).mpr (by dsimp only; omega), ?_⟩
    show i ∈ ((View.whole main_v4_0).slice (win0_4.rect ⟨_, ht⟩)).set
    rw [View.set_slice_whole, Rect.mem_set_unit]
    intro a
    match a with
    | ⟨0, _⟩ => show win0_4.index ⟨_, ht⟩ (0 : Fin 2) * 1024 ≤ (i 0).val ∧ (i 0).val < win0_4.index ⟨_, ht⟩ (0 : Fin 2) * 1024 + 1024; rw [e0]; dsimp only; omega
    | ⟨1, _⟩ => show win0_4.index ⟨_, ht⟩ (1 : Fin 2) * 1024 ≤ (i 1).val ∧ (i 1).val < win0_4.index ⟨_, ht⟩ (1 : Fin 2) * 1024 + 1024; rw [e1]; omega

theorem flushed_layer (t : Fin cfg0.N) (hf : (cfg0.win 5).flush t = true) :
    (Gen.dats m 0 c).flushed 5 t = ((cfg0.win 5).blk t).view.read (Elt Ideal) (layerArray m c) := by
  obtain ⟨e0, e1⟩ := index5 t
  rw [Value.flushed5]
  funext y
  refine Eq.trans (b := ((Gen.outsAt0 m c t.val t.isLt).2 (ix2 (n0 := 1024) (n1 := 1024) (y 0) (y 1)) : EReal)) ?_ ?_
  · exact congrArg (Gen.outsAt0 m c t.val t.isLt).2 (funext fun a => match a with | ⟨0, _⟩ => rfl | ⟨1, _⟩ => rfl)
  refine (written_layer t.val t.isLt ((Gen.flush0_5 t).mp hf) (y 0) (y 1)).trans ?_
  have h0 : ((cfg0.win 5).blk t).view.emb y 0 = row t.val t.isLt (y 0) :=
    Fin.ext (by show win0_5.index t (0 : Fin 2) * 1024 + 1 * (y 0).val = 1024 * (t.val / 4) + (y 0).val; rw [e0]; omega)
  have h1 : ((cfg0.win 5).blk t).view.emb y 1 = y 1 :=
    Fin.ext (by show win0_5.index t (1 : Fin 2) * 1024 + 1 * (y 1).val = (y 1).val; rw [e1]; omega)
  show _ = layerArray m c (((cfg0.win 5).blk t).view.emb y)
  unfold layerArray
  rw [h0, h1]

theorem final_layer : (Gen.dats m 0 c).arrAt 5 cfg0.N = layerArray m c :=
  (Gen.dats m 0 c).arrAt_eq_of_cover 5 _ (flushed_layer m c) fun i => by
    have hN := points
    have h0 : (i 0).val < 4096 := (i 0).isLt
    have h1 : (i 1).val < 1024 := (i 1).isLt
    have ht : 4 * ((i 0).val / 1024) + 3 < cfg0.N := by omega
    obtain ⟨e0, e1⟩ := index5 ⟨_, ht⟩
    refine ⟨⟨_, ht⟩, (Gen.flush0_5 _).mpr (by dsimp only; omega), ?_⟩
    show i ∈ ((View.whole main_v4_1).slice (win0_5.rect ⟨_, ht⟩)).set
    rw [View.set_slice_whole, Rect.mem_set_unit]
    intro a
    match a with
    | ⟨0, _⟩ => show win0_5.index ⟨_, ht⟩ (0 : Fin 2) * 1024 ≤ (i 0).val ∧ (i 0).val < win0_5.index ⟨_, ht⟩ (0 : Fin 2) * 1024 + 1024; rw [e0]; dsimp only; omega
    | ⟨1, _⟩ => show win0_5.index ⟨_, ht⟩ (1 : Fin 2) * 1024 ≤ (i 1).val ∧ (i 1).val < win0_5.index ⟨_, ht⟩ (1 : Fin 2) * 1024 + 1024; rw [e1]; omega

end Cert.Kernel7Ideal.Down
end
end
-- ==== Proof.DownEquation.lean ====
/-
  `down`: the kernel's two results are the reference's.
-/
module

public import proofs.«01_k».proof.Proof.DownValue
public import proofs.«01_k».proof.Proof.Gen.Reference7Ideal.Run
public import Idealize.ShloMosaic.Lib.Pointwise
public import Idealize.ShloMosaic.Lib.Claim

@[expose] public section
set_option maxRecDepth 16384
noncomputable section
namespace Cert.Kernel7Ideal.Down
open Cert.Kernel7Ideal Cert.Kernel7Ideal.Gen Idealize.ShloMosaic Cert.Blocks

variable {m : (ℓ : Loc nD τ sig) → Buf (Elt Ideal) ℓ} {c : Dev nD}

/-- The activations in column groups, as the kernel takes them. -/
def inGroups (a : FVec Ideal S4096x2816 .bf16) : FVec Ideal S4x4096x704 .bf16 :=
  transpose S4x4096x704 [1, 0, 2] (shapeCast S4096x4x704 a shapeCasts_S4096x2816_S4096x4x704) transposes_S4096x4x704_S4x4096x704_1_0_2

/-- The weights in row groups. -/
def weightGroups (w : FVec Ideal S2816x1024 .f32) : FVec Ideal S4x704x1024 .bf16 :=
  shapeCast S4x704x1024 (truncf .bf16 w bitsLt_bf16_f32) shapeCasts_S2816x1024_S4x704x1024

theorem v1_eq : Gen.V m c main_v1 = inGroups (m (c, Proc.tc.devRef main_arg0)) := by
  unfold_abbrev_sides
  after_results_simp
  rfl

theorem v3_eq : Gen.V m c main_v3 = weightGroups (m (c, Proc.tc.devRef main_arg1)) := by
  unfold_abbrev_sides
  after_results_simp
  rfl

theorem x_eq : Gen.V m c main_arg2 = m (c, Proc.tc.devRef main_arg2) := by
  unfold_abbrev_sides
  after_results_simp

theorem gate_eq : Gen.V m c main_arg3 = m (c, Proc.tc.devRef main_arg3) := by
  unfold_abbrev_sides
  after_results_simp

theorem inGroups_apply (a : FVec Ideal S4096x2816 .bf16) (g : Fin 4) (n : Fin 4096) (r : Fin 704) :
    inGroups a (ix3 g n r) = (a (ix2 n (⟨g.val * 704 + r.val, by omega⟩ : Fin 2816)) : EReal) := by
  unfold inGroups; pointwise

theorem weightGroups_apply (w : FVec Ideal S2816x1024 .f32) (g : Fin 4) (r : Fin 704) (d : Fin 1024) :
    weightGroups w (ix3 g r d) = (w (ix2 (⟨g.val * 704 + r.val, by omega⟩ : Fin 2816) d) : EReal) := by
  unfold weightGroups; pointwise

end Cert.Kernel7Ideal.Down

namespace Cert.Reference7Ideal.Down
open Cert.Reference7Ideal Cert.Reference7Ideal.Gen Idealize.ShloMosaic

/-- The reference's projection. -/
def proj (a : FVec Ideal S4096x2816 .bf16) (w : FVec Ideal S2816x1024 .f32) : FVec Ideal S4096x1024 .f32 :=
  Host.dotGeneral (φ₁ := .f32) (φ₂ := .f32) dot_S4096x2816_S2816x1024_S4096x1024_1_0_0_1_n_n none (extf .f32 a bitsLt_bf16_f32) w

/-- The reference's output of the layer. -/
def layer (a : FVec Ideal S4096x2816 .bf16) (w : FVec Ideal S2816x1024 .f32) (x : FVec Ideal S4096x1024 .f32) (gate : FVec Ideal S1x1024 .f32) : FVec Ideal S4096x1024 .f32 :=
  shapeCast S4096x1024 (addf (broadcastInDim S1x4096x1024 ![1, 2] bcast_S4096x1024_S1x4096x1024_1_2 x) (mulf (broadcastInDim S1x4096x1024 ![0, 1, 2] bcast_S1x1x1024_S1x4096x1024_0_1_2 (broadcastInDim S1x1x1024 ![0, 2] bcast_S1x1024_S1x1x1024_0_2 gate)) (broadcastInDim S1x4096x1024 ![1, 2] bcast_S4096x1024_S1x4096x1024_1_2 (proj a w)))) shapeCasts_S1x4096x1024_S4096x1024

theorem proj_apply (a : FVec Ideal S4096x2816 .bf16) (w : FVec Ideal S2816x1024 .f32) (b : Fin 4096) (d : Fin 1024) :
    proj a w (ix2 b d) = ∑ j : Fin 2816, (a (ix2 b j) : EReal) * w (ix2 j d) := by
  unfold proj; pointwise

theorem layer_apply (a : FVec Ideal S4096x2816 .bf16) (w : FVec Ideal S2816x1024 .f32) (x : FVec Ideal S4096x1024 .f32) (gate : FVec Ideal S1x1024 .f32) (b : Fin 4096) (d : Fin 1024) :
    layer a w x gate (ix2 b d) = (x (ix2 b d) : EReal) + gate (ix2 (0 : Fin 1) d) * proj a w (ix2 b d) := by
  unfold layer; pointwise

end Cert.Reference7Ideal.Down

namespace Cert.Equation
open Idealize.ShloMosaic Cert.Blocks

section
variable {m : (ℓ : Loc Kernel7Ideal.nD Kernel7Ideal.τ Kernel7Ideal.sig) → Buf (Elt Ideal) ℓ} {c : Dev Kernel7Ideal.nD}
    {a : FVec Ideal Reference7Ideal.S4096x2816 .bf16} {w : FVec Ideal Reference7Ideal.S2816x1024 .f32}
    {x : FVec Ideal Reference7Ideal.S4096x1024 .f32} {gate : FVec Ideal Reference7Ideal.S1x1024 .f32}

theorem down_entry (ha : a = m (c, Proc.tc.devRef Kernel7Ideal.main_arg0)) (hw : w = m (c, Proc.tc.devRef Kernel7Ideal.main_arg1))
    (b : Fin 4096) (d : Fin 1024) : Reference7Ideal.Down.proj a w (ix2 b d) = Kernel7Ideal.Down.proj m c b d := by
  rw [Reference7Ideal.Down.proj_apply]
  refine Finset.sum_congr rfl fun j _ => ?_
  unfold Kernel7Ideal.Down.colTerm
  rw [Kernel7Ideal.Down.v1_eq, Kernel7Ideal.Down.v3_eq, ← ha, ← hw]
  have e : (⟨j.val / 704 * 704 + j.val % 704, by omega⟩ : Fin 2816) = j := Fin.ext (by dsimp only; omega)
  refine (congrArg₂ mul ((Kernel7Ideal.Down.inGroups_apply a _ b _).trans ?_) ((Kernel7Ideal.Down.weightGroups_apply w _ _ d).trans ?_)).symm
  · exact congrArg (fun j => a (ix2 b j)) e
  · exact congrArg (fun j => w (ix2 j d)) e

/-- The projections agree. -/
theorem down_proj (ha : a = m (c, Proc.tc.devRef Kernel7Ideal.main_arg0)) (hw : w = m (c, Proc.tc.devRef Kernel7Ideal.main_arg1)) :
    Reference7Ideal.Down.proj a w = Kernel7Ideal.Down.projArray m c := by
  funext i
  have hi : i = ix2 (n0 := 4096) (n1 := 1024) (i 0) (i 1) := funext fun a => match a with | ⟨0, _⟩ => rfl | ⟨1, _⟩ => rfl
  rw [hi]
  exact down_entry ha hw (i 0) (i 1)

theorem down_layer_entry (ha : a = m (c, Proc.tc.devRef Kernel7Ideal.main_arg0)) (hw : w = m (c, Proc.tc.devRef Kernel7Ideal.main_arg1))
    (hx : x = m (c, Proc.tc.devRef Kernel7Ideal.main_arg2)) (hg : gate = m (c, Proc.tc.devRef Kernel7Ideal.main_arg3)) (b : Fin 4096) (d : Fin 1024) :
    Reference7Ideal.Down.layer a w x gate (ix2 b d)
      = Kernel7Ideal.Down.residual (Kernel7Ideal.Gen.V m c Kernel7Ideal.main_arg2 (ix2 b d)) (Kernel7Ideal.Gen.V m c Kernel7Ideal.main_arg3 (ix2 (0 : Fin 1) d)) (Kernel7Ideal.Down.proj m c b d) := by
  unfold Kernel7Ideal.Down.residual
  rw [Reference7Ideal.Down.layer_apply, down_entry ha hw, Kernel7Ideal.Down.x_eq, Kernel7Ideal.Down.gate_eq, ← hx, ← hg]

/-- The layer's outputs agree. -/
theorem down_layer (ha : a = m (c, Proc.tc.devRef Kernel7Ideal.main_arg0)) (hw : w = m (c, Proc.tc.devRef Kernel7Ideal.main_arg1))
    (hx : x = m (c, Proc.tc.devRef Kernel7Ideal.main_arg2)) (hg : gate = m (c, Proc.tc.devRef Kernel7Ideal.main_arg3)) :
    Reference7Ideal.Down.layer a w x gate = Kernel7Ideal.Down.layerArray m c := by
  funext i
  have hi : i = ix2 (n0 := 4096) (n1 := 1024) (i 0) (i 1) := funext fun a => match a with | ⟨0, _⟩ => rfl | ⟨1, _⟩ => rfl
  rw [hi]
  exact down_layer_entry ha hw hx hg (i 0) (i 1)
end

end Cert.Equation
end
end
-- ==== Proof.lean ====
/-
  The proof of `Cert.Claim`. The kernels, their idealizations and the references run and leave the machine quiet. From finite
  arguments the attention's gradients of queries, keys and values are its reference's, and from any arguments so are the gradients
  of the up projection, the input projection and the norms before them, the weight gradient of the down projection, and the forward
  down projection.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.FiniteArgs
public import proofs.«01_k».proof.Proof.Equation
public import proofs.«01_k».proof.Proof.Gen.Kernel2.Frame
public import proofs.«01_k».proof.Proof.Gen.Kernel2Ideal.Value
public import proofs.«01_k».proof.Proof.Gen.Reference2Ideal.Run
public import proofs.«01_k».proof.Proof.DgradUpEquation
public import proofs.«01_k».proof.Proof.Gen.Kernel3.Frame
public import proofs.«01_k».proof.Proof.Gen.Kernel3Ideal.Value
public import proofs.«01_k».proof.Proof.Gen.Reference3Ideal.Run
public import proofs.«01_k».proof.Proof.WgradUpEquation
public import proofs.«01_k».proof.Proof.Gen.Kernel4.Frame
public import proofs.«01_k».proof.Proof.Gen.Kernel4Ideal.Value
public import proofs.«01_k».proof.Proof.Gen.Reference4Ideal.Run
public import proofs.«01_k».proof.Proof.DgradInEquation
public import proofs.«01_k».proof.Proof.Gen.Kernel5.Frame
public import proofs.«01_k».proof.Proof.Gen.Kernel5Ideal.Value
public import proofs.«01_k».proof.Proof.Gen.Reference5Ideal.Run
public import proofs.«01_k».proof.Proof.WgradInEquation
public import proofs.«01_k».proof.Proof.Gen.Kernel6.Frame
public import proofs.«01_k».proof.Proof.Gen.Kernel6Ideal.Value
public import proofs.«01_k».proof.Proof.Gen.Reference6Ideal.Run
public import proofs.«01_k».proof.Proof.WgradDownEquation
public import proofs.«01_k».proof.Proof.Gen.Kernel7.Frame
public import proofs.«01_k».proof.Proof.Gen.Kernel7Ideal.Value
public import proofs.«01_k».proof.Proof.Gen.Reference7Ideal.Run
public import proofs.«01_k».proof.Proof.DownEquation
public import Idealize.ShloMosaic.Adequacy
public import Idealize.ShloMosaic.Init

@[expose] public section

noncomputable section

namespace Cert.Proof

open Idealize.ShloMosaic Idealize.SL.Sem

/-- The reference runs, keeps its arguments and declares no semaphore. -/
theorem frame_reference : Cert.quiescent_ReferenceIdeal := fun m ρ _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Value.run m ρ)

/-- The kernel's gradients, from finite arguments, are the reference's. -/
theorem gradients : Cert.algebraic_KernelIdeal_ReferenceIdeal_pre_finite := fun m ρ m' ρ' hpre hagree => by
  have hF := fun c => Attn.finite_of_pre _ _ (hpre c)
  refine ⟨fun c => Cert.KernelIdeal.Value.G5 m c, fun c => Cert.KernelIdeal.Value.G6 m c, fun c => Cert.KernelIdeal.Value.G7 m c,
    Cert.KernelIdeal.Value.run m ρ, ?_⟩
  refine (θ_run Cert.ReferenceIdeal.defs _ _).mono (fun r h c => ?_) (Cert.ReferenceIdeal.Value.run m' ρ')
  obtain ⟨hq, hk, hv, hargs⟩ := h c
  exact ⟨hq.trans (Equation.queries (m := m) (c := c) (hagree c).1 (hagree c).2 (hF c)),
    hk.trans (Equation.keys (m := m) (c := c) (hagree c).1 (hagree c).2 (hF c)),
    hv.trans (Equation.values (m := m) (c := c) (hagree c).1 (hagree c).2 (hF c)), hargs⟩

/-! ## The input gradient of the up projection and of the norm before it -/

theorem frame_reference2 : Cert.quiescent_Reference2Ideal := fun m ρ _ =>
  (θ_run Cert.Reference2Ideal.defs _ _).mono
    (fun r h => ⟨fun c => (h c).2.2.2, sem_eq_zero_of_no_sems (by decide) r.2⟩)
    (Cert.Reference2Ideal.Value.run m ρ)

theorem dgrad_up : Cert.algebraic_Kernel2Ideal_Reference2Ideal := fun m ρ m' ρ' _ hagree => by
  refine ⟨fun c => Cert.Kernel2Ideal.Dgrad.inputGrad m c, fun c => Cert.Kernel2Ideal.Dgrad.scaleGrad m c, fun c => Cert.Kernel2Ideal.Dgrad.shiftGrad m c, ?_, ?_⟩
  · refine (θ_run Cert.Kernel2Ideal.defs _ _).mono (fun r h c => ?_) (Cert.Kernel2Ideal.Value.run_blocks m ρ)
    obtain ⟨hx, hs, hf, hargs⟩ := h c
    exact ⟨hx.trans (Cert.Kernel2Ideal.Dgrad.final_input m c), hs.trans (Cert.Kernel2Ideal.Dgrad.final_scale m c), hf.trans (Cert.Kernel2Ideal.Dgrad.final_shift m c), hargs⟩
  · refine (θ_run Cert.Reference2Ideal.defs _ _).mono (fun r h c => ?_) (Cert.Reference2Ideal.Value.run m' ρ')
    obtain ⟨hx, hs, hf, hargs⟩ := h c
    obtain ⟨a0, _, a2, a3, a4, a5⟩ := hagree c
    exact ⟨hx.trans ((Cert.Reference2Ideal.Dgrad.res_eq m' c).trans (Equation.dgrad_input (m := m) (c := c) a0 a5 a2 a3 a4)),
      hs.trans (Equation.dgrad_scale (m := m) (c := c) a0 a3 a4), hf.trans (Equation.dgrad_shift (m := m) (c := c) a3 a4), hargs⟩

/-! ## The weight gradient of the up projection -/

theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

theorem wgrad_up : Cert.algebraic_Kernel3Ideal_Reference3Ideal := fun m ρ m' ρ' _ hagree => by
  refine ⟨fun c => Cert.Kernel3Ideal.Value.G2 m c, Cert.Kernel3Ideal.Value.run m ρ, ?_⟩
  refine (θ_run Cert.Reference3Ideal.defs _ _).mono (fun r h c => ?_) (Cert.Reference3Ideal.Value.run m' ρ')
  exact ⟨(h c).1.trans (Equation.wgrad_up (m := m) (c := c) (hagree c).1 (hagree c).2), (h c).2⟩

/-! ## The input gradient of the input projection and of the norm before it -/

theorem frame_reference4 : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run m ρ)

theorem dgrad_in : Cert.algebraic_Kernel4Ideal_Reference4Ideal := fun m ρ m' ρ' _ hagree => by
  refine ⟨fun c => Cert.Kernel4Ideal.Dgrad.inputGrad m c, fun c => Cert.Kernel4Ideal.Dgrad.scaleGrad m c, fun c => Cert.Kernel4Ideal.Dgrad.shiftGrad m c, ?_, ?_⟩
  · refine (θ_run Cert.Kernel4Ideal.defs _ _).mono (fun r h c => ?_) (Cert.Kernel4Ideal.Value.run_blocks m ρ)
    obtain ⟨hx, hs, hf, hargs⟩ := h c
    exact ⟨hx.trans (Cert.Kernel4Ideal.Dgrad.final_input m c), hs.trans (Cert.Kernel4Ideal.Dgrad.final_scale m c), hf.trans (Cert.Kernel4Ideal.Dgrad.final_shift m c), hargs⟩
  · refine (θ_run Cert.Reference4Ideal.defs _ _).mono (fun r h c => ?_) (Cert.Reference4Ideal.Value.run m' ρ')
    obtain ⟨hx, hs, hf, hargs⟩ := h c
    obtain ⟨a0, _, a2, a3, a4, a5⟩ := hagree c
    exact ⟨hx.trans ((Cert.Reference4Ideal.Dgrad.res_eq m' c).trans (Equation.dgrad_in_input (m := m) (c := c) a0 a5 a2 a3 a4)),
      hs.trans (Equation.dgrad_in_scale (m := m) (c := c) a0 a3 a4), hf.trans (Equation.dgrad_in_shift (m := m) (c := c) a3 a4), hargs⟩

/-! ## The weight gradient of the input projection -/

theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

theorem wgrad_in : Cert.algebraic_Kernel5Ideal_Reference5Ideal := fun m ρ m' ρ' _ hagree => by
  refine ⟨fun c => Cert.Kernel5Ideal.Value.G7 m c, Cert.Kernel5Ideal.Value.run m ρ, ?_⟩
  refine (θ_run Cert.Reference5Ideal.defs _ _).mono (fun r h c => ?_) (Cert.Reference5Ideal.Value.run m' ρ')
  exact ⟨(h c).1.trans (Equation.wgrad_in (m := m) (c := c) (hagree c).1 (hagree c).2), (h c).2⟩

/-! ## The weight gradient of the down projection -/

theorem frame_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run m ρ)

theorem wgrad_down : Cert.algebraic_Kernel6Ideal_Reference6Ideal := fun m ρ m' ρ' _ hagree => by
  refine ⟨fun c => Cert.Kernel6Ideal.Value.G2 m c, Cert.Kernel6Ideal.Value.run m ρ, ?_⟩
  refine (θ_run Cert.Reference6Ideal.defs _ _).mono (fun r h c => ?_) (Cert.Reference6Ideal.Value.run m' ρ')
  exact ⟨(h c).1.trans (Equation.wgrad_down (m := m) (c := c) (hagree c).1 (hagree c).2), (h c).2⟩

/-! ## The down projection and the layer's output -/

theorem frame_reference7 : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run m ρ)

theorem down : Cert.algebraic_Kernel7Ideal_Reference7Ideal := fun m ρ m' ρ' _ hagree => by
  refine ⟨fun c => Cert.Kernel7Ideal.Down.projArray m c, fun c => Cert.Kernel7Ideal.Down.layerArray m c, ?_, ?_⟩
  · refine (θ_run Cert.Kernel7Ideal.defs _ _).mono (fun r h c => ?_) (Cert.Kernel7Ideal.Value.run_blocks m ρ)
    obtain ⟨hp, hl, hargs⟩ := h c
    exact ⟨hp.trans (Cert.Kernel7Ideal.Down.final_proj m c), hl.trans (Cert.Kernel7Ideal.Down.final_layer m c), hargs⟩
  · refine (θ_run Cert.Reference7Ideal.defs _ _).mono (fun r h c => ?_) (Cert.Reference7Ideal.Value.run m' ρ')
    obtain ⟨hp, hl, hargs⟩ := h c
    obtain ⟨a0, a1, a2, a3⟩ := hagree c
    exact ⟨hp.trans (Equation.down_proj (m := m) (c := c) a0 a1), hl.trans (Equation.down_layer (m := m) (c := c) a0 a1 a2 a3), hargs⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, inferInstance,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    trivial, gradients, trivial, dgrad_up, trivial, wgrad_up, trivial, dgrad_in, trivial, wgrad_in, trivial, wgrad_down, trivial, down⟩

end Cert.Proof

end
